-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11)
      ∧ r.2.mem ((c.tc : Thread Cert.Inproj.nD Cert.Inproj.τ).loc Cert.Inproj.main_arg12) = m ((c.tc : Thread Cert.Inproj.nD Cert.Inproj.τ).loc Cert.Inproj.main_arg12)
      ∧ r.2.mem ((c.tc : Thread Cert.Inproj.nD Cert.Inproj.τ).loc Cert.Inproj.main_arg13) = m ((c.tc : Thread Cert.Inproj.nD Cert.Inproj.τ).loc Cert.Inproj.main_arg13)
      ∧ r.2.mem ((c.tc : Thread Cert.Inproj.nD Cert.Inproj.τ).loc Cert.Inproj.main_arg14) = m ((c.tc : Thread Cert.Inproj.nD Cert.Inproj.τ).loc Cert.Inproj.main_arg14)
      ∧ r.2.mem ((c.tc : Thread Cert.Inproj.nD Cert.Inproj.τ).loc Cert.Inproj.main_arg15) = m ((c.tc : Thread Cert.Inproj.nD Cert.Inproj.τ).loc Cert.Inproj.main_arg15)
      ∧ r.2.mem ((c.tc : Thread Cert.Inproj.nD Cert.Inproj.τ).loc Cert.Inproj.main_arg16) = m ((c.tc : Thread Cert.Inproj.nD Cert.Inproj.τ).loc Cert.Inproj.main_arg16)
      ∧ r.2.mem ((c.tc : Thread Cert.Inproj.nD Cert.Inproj.τ).loc Cert.Inproj.main_arg17) = m ((c.tc : Thread Cert.Inproj.nD Cert.Inproj.τ).loc Cert.Inproj.main_arg17)
      ∧ r.2.mem ((c.tc : Thread Cert.Inproj.nD Cert.Inproj.τ).loc Cert.Inproj.main_arg18) = m ((c.tc : Thread Cert.Inproj.nD Cert.Inproj.τ).loc Cert.Inproj.main_arg18))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
      ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13)
      ∧ r.2.mem ((c.tc : Thread Cert.InprojIdeal.nD Cert.InprojIdeal.τ).loc Cert.InprojIdeal.main_arg14) = m ((c.tc : Thread Cert.InprojIdeal.nD Cert.InprojIdeal.τ).loc Cert.InprojIdeal.main_arg14)
      ∧ r.2.mem ((c.tc : Thread Cert.InprojIdeal.nD Cert.InprojIdeal.τ).loc Cert.InprojIdeal.main_arg15) = m ((c.tc : Thread Cert.InprojIdeal.nD Cert.InprojIdeal.τ).loc Cert.InprojIdeal.main_arg15)
      ∧ r.2.mem ((c.tc : Thread Cert.InprojIdeal.nD Cert.InprojIdeal.τ).loc Cert.InprojIdeal.main_arg16) = m ((c.tc : Thread Cert.InprojIdeal.nD Cert.InprojIdeal.τ).loc Cert.InprojIdeal.main_arg16)
      ∧ r.2.mem ((c.tc : Thread Cert.InprojIdeal.nD Cert.InprojIdeal.τ).loc Cert.InprojIdeal.main_arg17) = m ((c.tc : Thread Cert.InprojIdeal.nD Cert.InprojIdeal.τ).loc Cert.InprojIdeal.main_arg17)
      ∧ r.2.mem ((c.tc : Thread Cert.InprojIdeal.nD Cert.InprojIdeal.τ).loc Cert.InprojIdeal.main_arg18) = m ((c.tc : Thread Cert.InprojIdeal.nD Cert.InprojIdeal.τ).loc Cert.InprojIdeal.main_arg18))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10)
      ∧ r.2.mem ((c.tc : Thread Cert.InprojRefIdeal.nD Cert.InprojRefIdeal.τ).loc Cert.InprojRefIdeal.main_arg11) = m ((c.tc : Thread Cert.InprojRefIdeal.nD Cert.InprojRefIdeal.τ).loc Cert.InprojRefIdeal.main_arg11)
      ∧ r.2.mem ((c.tc : Thread Cert.InprojRefIdeal.nD Cert.InprojRefIdeal.τ).loc Cert.InprojRefIdeal.main_arg12) = m ((c.tc : Thread Cert.InprojRefIdeal.nD Cert.InprojRefIdeal.τ).loc Cert.InprojRefIdeal.main_arg12)
      ∧ r.2.mem ((c.tc : Thread Cert.InprojRefIdeal.nD Cert.InprojRefIdeal.τ).loc Cert.InprojRefIdeal.main_arg13) = m ((c.tc : Thread Cert.InprojRefIdeal.nD Cert.InprojRefIdeal.τ).loc Cert.InprojRefIdeal.main_arg13)
      ∧ r.2.mem ((c.tc : Thread Cert.InprojRefIdeal.nD Cert.InprojRefIdeal.τ).loc Cert.InprojRefIdeal.main_arg14) = m ((c.tc : Thread Cert.InprojRefIdeal.nD Cert.InprojRefIdeal.τ).loc Cert.InprojRefIdeal.main_arg14)
      ∧ r.2.mem ((c.tc : Thread Cert.InprojRefIdeal.nD Cert.InprojRefIdeal.τ).loc Cert.InprojRefIdeal.main_arg15) = m ((c.tc : Thread Cert.InprojRefIdeal.nD Cert.InprojRefIdeal.τ).loc Cert.InprojRefIdeal.main_arg15)
      ∧ r.2.mem ((c.tc : Thread Cert.InprojRefIdeal.nD Cert.InprojRefIdeal.τ).loc Cert.InprojRefIdeal.main_arg16) = m ((c.tc : Thread Cert.InprojRefIdeal.nD Cert.InprojRefIdeal.τ).loc Cert.InprojRefIdeal.main_arg16)
      ∧ r.2.mem ((c.tc : Thread Cert.InprojRefIdeal.nD Cert.InprojRefIdeal.τ).loc Cert.InprojRefIdeal.main_arg17) = m ((c.tc : Thread Cert.InprojRefIdeal.nD Cert.InprojRefIdeal.τ).loc Cert.InprojRefIdeal.main_arg17)
      ∧ r.2.mem ((c.tc : Thread Cert.InprojRefIdeal.nD Cert.InprojRefIdeal.τ).loc Cert.InprojRefIdeal.main_arg18) = m ((c.tc : Thread Cert.InprojRefIdeal.nD Cert.InprojRefIdeal.τ).loc Cert.InprojRefIdeal.main_arg18))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)) →
    ∃ (v0 : (c : Dev Cert.OutprojIdeal.nD) → Buf (Elt Ideal) ((c.tc : Thread Cert.OutprojIdeal.nD Cert.OutprojIdeal.τ).loc Cert.OutprojIdeal.main_v0)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v17) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)
      ∧ m' ((c.tc : Thread Cert.InprojRefIdeal.nD Cert.InprojRefIdeal.τ).loc Cert.InprojRefIdeal.main_arg9) = m ((c.tc : Thread Cert.InprojIdeal.nD Cert.InprojIdeal.τ).loc Cert.InprojIdeal.main_arg9)
      ∧ m' ((c.tc : Thread Cert.InprojRefIdeal.nD Cert.InprojRefIdeal.τ).loc Cert.InprojRefIdeal.main_arg10) = m ((c.tc : Thread Cert.InprojIdeal.nD Cert.InprojIdeal.τ).loc Cert.InprojIdeal.main_arg10)
      ∧ m' ((c.tc : Thread Cert.InprojRefIdeal.nD Cert.InprojRefIdeal.τ).loc Cert.InprojRefIdeal.main_arg11) = m ((c.tc : Thread Cert.InprojIdeal.nD Cert.InprojIdeal.τ).loc Cert.InprojIdeal.main_arg11)
      ∧ m' ((c.tc : Thread Cert.InprojRefIdeal.nD Cert.InprojRefIdeal.τ).loc Cert.InprojRefIdeal.main_arg12) = m ((c.tc : Thread Cert.InprojIdeal.nD Cert.InprojIdeal.τ).loc Cert.InprojIdeal.main_arg12)
      ∧ m' ((c.tc : Thread Cert.InprojRefIdeal.nD Cert.InprojRefIdeal.τ).loc Cert.InprojRefIdeal.main_arg13) = m ((c.tc : Thread Cert.InprojIdeal.nD Cert.InprojIdeal.τ).loc Cert.InprojIdeal.main_arg13)
      ∧ m' ((c.tc : Thread Cert.InprojRefIdeal.nD Cert.InprojRefIdeal.τ).loc Cert.InprojRefIdeal.main_arg14) = m ((c.tc : Thread Cert.InprojIdeal.nD Cert.InprojIdeal.τ).loc Cert.InprojIdeal.main_arg14)
      ∧ m' ((c.tc : Thread Cert.InprojRefIdeal.nD Cert.InprojRefIdeal.τ).loc Cert.InprojRefIdeal.main_arg15) = m ((c.tc : Thread Cert.InprojIdeal.nD Cert.InprojIdeal.τ).loc Cert.InprojIdeal.main_arg15)
      ∧ m' ((c.tc : Thread Cert.InprojRefIdeal.nD Cert.InprojRefIdeal.τ).loc Cert.InprojRefIdeal.main_arg16) = m ((c.tc : Thread Cert.InprojIdeal.nD Cert.InprojIdeal.τ).loc Cert.InprojIdeal.main_arg16)
      ∧ m' ((c.tc : Thread Cert.InprojRefIdeal.nD Cert.InprojRefIdeal.τ).loc Cert.InprojRefIdeal.main_arg17) = m ((c.tc : Thread Cert.InprojIdeal.nD Cert.InprojIdeal.τ).loc Cert.InprojIdeal.main_arg17)
      ∧ m' ((c.tc : Thread Cert.InprojRefIdeal.nD Cert.InprojRefIdeal.τ).loc Cert.InprojRefIdeal.main_arg18) = m ((c.tc : Thread Cert.InprojIdeal.nD Cert.InprojIdeal.τ).loc Cert.InprojIdeal.main_arg18)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)) (v2 : (c : Dev Cert.InprojIdeal.nD) → Buf (Elt Ideal) ((c.tc : Thread Cert.InprojIdeal.nD Cert.InprojIdeal.τ).loc Cert.InprojIdeal.main_v0_2)) (v3 : (c : Dev Cert.InprojIdeal.nD) → Buf (Elt Ideal) ((c.tc : Thread Cert.InprojIdeal.nD Cert.InprojIdeal.τ).loc Cert.InprojIdeal.main_v0_3)) (v4 : (c : Dev Cert.InprojIdeal.nD) → Buf (Elt Ideal) ((c.tc : Thread Cert.InprojIdeal.nD Cert.InprojIdeal.τ).loc Cert.InprojIdeal.main_v0_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_v0_2) = v2 c
          ∧ r.2.mem ((c.tc : Thread Cert.InprojIdeal.nD Cert.InprojIdeal.τ).loc Cert.InprojIdeal.main_v0_3) = v3 c
          ∧ r.2.mem ((c.tc : Thread Cert.InprojIdeal.nD Cert.InprojIdeal.τ).loc Cert.InprojIdeal.main_v0_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
          ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
          ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
          ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13)
          ∧ r.2.mem ((c.tc : Thread Cert.InprojIdeal.nD Cert.InprojIdeal.τ).loc Cert.InprojIdeal.main_arg14) = m ((c.tc : Thread Cert.InprojIdeal.nD Cert.InprojIdeal.τ).loc Cert.InprojIdeal.main_arg14)
          ∧ r.2.mem ((c.tc : Thread Cert.InprojIdeal.nD Cert.InprojIdeal.τ).loc Cert.InprojIdeal.main_arg15) = m ((c.tc : Thread Cert.InprojIdeal.nD Cert.InprojIdeal.τ).loc Cert.InprojIdeal.main_arg15)
          ∧ r.2.mem ((c.tc : Thread Cert.InprojIdeal.nD Cert.InprojIdeal.τ).loc Cert.InprojIdeal.main_arg16) = m ((c.tc : Thread Cert.InprojIdeal.nD Cert.InprojIdeal.τ).loc Cert.InprojIdeal.main_arg16)
          ∧ r.2.mem ((c.tc : Thread Cert.InprojIdeal.nD Cert.InprojIdeal.τ).loc Cert.InprojIdeal.main_arg17) = m ((c.tc : Thread Cert.InprojIdeal.nD Cert.InprojIdeal.τ).loc Cert.InprojIdeal.main_arg17)
          ∧ r.2.mem ((c.tc : Thread Cert.InprojIdeal.nD Cert.InprojIdeal.τ).loc Cert.InprojIdeal.main_arg18) = m ((c.tc : Thread Cert.InprojIdeal.nD Cert.InprojIdeal.τ).loc Cert.InprojIdeal.main_arg18))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v93) = v0 c
          ∧ r.2.mem ((c.tc : Thread Cert.InprojRefIdeal.nD Cert.InprojRefIdeal.τ).loc Cert.InprojRefIdeal.main_v94) = v1 c
          ∧ r.2.mem ((c.tc : Thread Cert.InprojRefIdeal.nD Cert.InprojRefIdeal.τ).loc Cert.InprojRefIdeal.main_v96) = v2 c
          ∧ r.2.mem ((c.tc : Thread Cert.InprojRefIdeal.nD Cert.InprojRefIdeal.τ).loc Cert.InprojRefIdeal.main_v98) = v3 c
          ∧ r.2.mem ((c.tc : Thread Cert.InprojRefIdeal.nD Cert.InprojRefIdeal.τ).loc Cert.InprojRefIdeal.main_v100) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8)
          ∧ r.2.mem ((c.tc : Thread Cert.InprojRefIdeal.nD Cert.InprojRefIdeal.τ).loc Cert.InprojRefIdeal.main_arg9) = m' ((c.tc : Thread Cert.InprojRefIdeal.nD Cert.InprojRefIdeal.τ).loc Cert.InprojRefIdeal.main_arg9)
          ∧ r.2.mem ((c.tc : Thread Cert.InprojRefIdeal.nD Cert.InprojRefIdeal.τ).loc Cert.InprojRefIdeal.main_arg10) = m' ((c.tc : Thread Cert.InprojRefIdeal.nD Cert.InprojRefIdeal.τ).loc Cert.InprojRefIdeal.main_arg10)
          ∧ r.2.mem ((c.tc : Thread Cert.InprojRefIdeal.nD Cert.InprojRefIdeal.τ).loc Cert.InprojRefIdeal.main_arg11) = m' ((c.tc : Thread Cert.InprojRefIdeal.nD Cert.InprojRefIdeal.τ).loc Cert.InprojRefIdeal.main_arg11)
          ∧ r.2.mem ((c.tc : Thread Cert.InprojRefIdeal.nD Cert.InprojRefIdeal.τ).loc Cert.InprojRefIdeal.main_arg12) = m' ((c.tc : Thread Cert.InprojRefIdeal.nD Cert.InprojRefIdeal.τ).loc Cert.InprojRefIdeal.main_arg12)
          ∧ r.2.mem ((c.tc : Thread Cert.InprojRefIdeal.nD Cert.InprojRefIdeal.τ).loc Cert.InprojRefIdeal.main_arg13) = m' ((c.tc : Thread Cert.InprojRefIdeal.nD Cert.InprojRefIdeal.τ).loc Cert.InprojRefIdeal.main_arg13)
          ∧ r.2.mem ((c.tc : Thread Cert.InprojRefIdeal.nD Cert.InprojRefIdeal.τ).loc Cert.InprojRefIdeal.main_arg14) = m' ((c.tc : Thread Cert.InprojRefIdeal.nD Cert.InprojRefIdeal.τ).loc Cert.InprojRefIdeal.main_arg14)
          ∧ r.2.mem ((c.tc : Thread Cert.InprojRefIdeal.nD Cert.InprojRefIdeal.τ).loc Cert.InprojRefIdeal.main_arg15) = m' ((c.tc : Thread Cert.InprojRefIdeal.nD Cert.InprojRefIdeal.τ).loc Cert.InprojRefIdeal.main_arg15)
          ∧ r.2.mem ((c.tc : Thread Cert.InprojRefIdeal.nD Cert.InprojRefIdeal.τ).loc Cert.InprojRefIdeal.main_arg16) = m' ((c.tc : Thread Cert.InprojRefIdeal.nD Cert.InprojRefIdeal.τ).loc Cert.InprojRefIdeal.main_arg16)
          ∧ r.2.mem ((c.tc : Thread Cert.InprojRefIdeal.nD Cert.InprojRefIdeal.τ).loc Cert.InprojRefIdeal.main_arg17) = m' ((c.tc : Thread Cert.InprojRefIdeal.nD Cert.InprojRefIdeal.τ).loc Cert.InprojRefIdeal.main_arg17)
          ∧ r.2.mem ((c.tc : Thread Cert.InprojRefIdeal.nD Cert.InprojRefIdeal.τ).loc Cert.InprojRefIdeal.main_arg18) = m' ((c.tc : Thread Cert.InprojRefIdeal.nD Cert.InprojRefIdeal.τ).loc Cert.InprojRefIdeal.main_arg18))

def Claim : Prop :=
  ∃ (hKernel : Cert.Kernel.Facts) (hKernelIdeal : Cert.KernelIdeal.Facts) (hReferenceIdeal : Cert.ReferenceIdeal.Facts) (hOutproj : Cert.Outproj.Facts) (hOutprojIdeal : Cert.OutprojIdeal.Facts) (hOutprojRefIdeal : Cert.OutprojRefIdeal.Facts) (hInproj : Cert.Inproj.Facts) (hInprojIdeal : Cert.InprojIdeal.Facts) (hInprojRefIdeal : Cert.InprojRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Inproj (hInproj := hInproj)
    ∧ quiescent_InprojIdeal (hInprojIdeal := hInprojIdeal)
    ∧ quiescent_InprojRefIdeal (hInprojRefIdeal := hInprojRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Outproj_OutprojIdeal
    ∧ algebraic_OutprojIdeal_OutprojRefIdeal (hOutprojIdeal := hOutprojIdeal) (hOutprojRefIdeal := hOutprojRefIdeal)
    ∧ preserves_Inproj_InprojIdeal
    ∧ algebraic_InprojIdeal_InprojRefIdeal (hInprojIdeal := hInprojIdeal) (hInprojRefIdeal := hInprojRefIdeal)
-- ==== Pre_finite.lean ====
abbrev S4x16384x256 : Shape := ⟨3, ![4, 16384, 256]⟩
abbrev S4x256x16384 : Shape := ⟨3, ![4, 256, 16384]⟩
abbrev S4x16384x128 : Shape := ⟨3, ![4, 16384, 128]⟩
abbrev S16384x512 : Shape := ⟨2, ![16384, 512]⟩
abbrev S_ : Shape := ⟨0, ![]⟩

class Facts : Prop where
  bcast_S_S4x16384x256 : S_.BroadcastsInDim S4x16384x256 (![] : Fin 0 → Fin S4x16384x256.rank)
  transposes_S4x256x16384_S4x16384x256_0_2_1 : S4x256x16384.Transposes [0, 2, 1] S4x16384x256

variable [Facts]

def fn {F : FTy → Type} [FloatOps F] (main_arg0 : FVec F S4x16384x256 .bf16) (main_arg1 : FVec F S4x256x16384 .bf16) (main_arg2 : FVec F S4x16384x128 .bf16) (main_arg3 : FVec F S16384x512 .bf16) : IVec S4x16384x256 1 :=
  let main_v0 : FVec F S4x16384x256 .bf16 := Host.absf main_arg0
  let main_cst : FVec F S_ .bf16 := constant S_ .bf16 0x7F80#16
  let main_v1 : FVec F S4x16384x256 .bf16 := broadcastInDim S4x16384x256 ![] bcast_S_S4x16384x256 main_cst
  let main_v2 : IVec S4x16384x256 1 := cmpf .olt main_v0 main_v1
  let main_v3 : FVec F S4x16384x256 .bf16 := (transpose S4x16384x256 [0, 2, 1] · transposes_S4x256x16384_S4x16384x256_0_2_1) main_arg1
  let main_v4 : FVec F S4x16384x256 .bf16 := Host.absf main_v3
  let main_cst_0 : FVec F S_ .bf16 := constant S_ .bf16 0x7F80#16
  let main_v5 : FVec F S4x16384x256 .bf16 := broadcastInDim S4x16384x256 ![] bcast_S_S4x16384x256 main_cst_0
  let main_v6 : IVec S4x16384x256 1 := cmpf .olt main_v4 main_v5
  let main_v7 : IVec S4x16384x256 1 := andi main_v2 main_v6
  main_v7
-- ==== Kernel.lean ====
abbrev S4x16384x256 : Shape := ⟨3, ![4, 16384, 256]⟩
abbrev S4x256x16384 : Shape := ⟨3, ![4, 256, 16384]⟩
abbrev S4x16384x128 : Shape := ⟨3, ![4, 16384, 128]⟩
abbrev S16384x512 : Shape := ⟨2, ![16384, 512]⟩
abbrev S128 : Shape := ⟨1, ![128]⟩
abbrev S_ : Shape := ⟨0, ![]⟩
abbrev S1x1024x256 : Shape := ⟨3, ![1, 1024, 256]⟩
abbrev S1x256x16384 : Shape := ⟨3, ![1, 256, 16384]⟩
abbrev S1x16384x256 : Shape := ⟨3, ![1, 16384, 256]⟩
abbrev S1024x128 : Shape := ⟨2, ![1024, 128]⟩
abbrev S1024x512 : Shape := ⟨2, ![1024, 512]⟩
abbrev S1024x256 : Shape := ⟨2, ![1024, 256]⟩
abbrev S1x256x512 : Shape := ⟨3, ![1, 256, 512]⟩
abbrev S256x512 : Shape := ⟨2, ![256, 512]⟩
abbrev S1024 : Shape := ⟨1, ![1024]⟩
abbrev S1024x1 : Shape := ⟨2, ![1024, 1]⟩
abbrev S1x512x256 : Shape := ⟨3, ![1, 512, 256]⟩
abbrev S512x256 : Shape := ⟨2, ![512, 256]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S4x16384x256, .bf16⟩
  | .hbm, ⟨1, _⟩ => ⟨S4x256x16384, .bf16⟩
  | .hbm, ⟨2, _⟩ => ⟨S4x16384x128, .bf16⟩
  | .hbm, ⟨3, _⟩ => ⟨S16384x512, .bf16⟩
  | .hbm, ⟨4, _⟩ => ⟨S128, .i32⟩
  | .hbm, ⟨5, _⟩ => ⟨S_, .i32⟩
  | .hbm, ⟨6, _⟩ => ⟨S128, .i32⟩
  | .hbm, ⟨7, _⟩ => ⟨S128, .i1⟩
  | .hbm, ⟨8, _⟩ => ⟨S128, .bf16⟩
  | .hbm, ⟨9, _⟩ => ⟨S4x16384x128, .bf16⟩
  | .hbm, ⟨10, _⟩ => ⟨S4x16384x256, .bf16⟩
  | .hbm, ⟨11, _⟩ => ⟨S16384x512, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x256x16384, .bf16⟩
  | .local _ .vmem, ⟨5, _⟩ => ⟨S1x256x16384, .bf16⟩
  | .local _ .vmem, ⟨6, _⟩ => ⟨S1x16384x256, .bf16⟩
  | .local _ .vmem, ⟨7, _⟩ => ⟨S1x16384x256, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1024x512, .f32⟩
  | .local _ .vmem, ⟨13, _⟩ => ⟨S1024x512, .f32⟩
  | .local _ .vmem, ⟨14, _⟩ => ⟨S1024x128, .f32⟩
  | .local _ .vmem, ⟨15, _⟩ => ⟨S1024x256, .f32⟩
  | _, _ => ⟨S4x16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_4 : BitVec 32 := 0#32
  let v10 : BitVec 1 := Scalar.cmpi .ne v9 c0_i32_4
  v10

def k0_mult1 : BitVec 32 :=
  let c0_i32_139 : BitVec 32 := 0#32
  c0_i32_139
@[reducible] def k0_t1_loop (i : grid0.Coords) : Scf.Loop 32 :=
  let c0_i32_20 : BitVec 32 := 0#32
  let c0_i32_18 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let v47 : BitVec 32 := Scalar.addi c0_i32_18 v46
  let v48 : BitVec 32 := Scalar.subi v47 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_22 : BitVec 32 := 1#32
  ⟨c0_i32_20, v52, c1_i32_22⟩
def k0_mult2 (i : grid0.Coords) (k0_t1 : Fin (k0_t1_loop i).trips) : BitVec 32 :=
  let c2_i32_141 : BitVec 32 := 2#32
  let c4_i32_139 : BitVec 32 := 4#32
  let c0_i32_20 : BitVec 32 := 0#32
  let c1_i32_22 : BitVec 32 := 1#32
  let arg12 : BitVec 32 := Scf.iv c0_i32_20 c1_i32_22 k0_t1
  let v314 : BitVec 32 := Scalar.muli c4_i32_139 arg12
  let c0_i32_140 : BitVec 32 := 0#32
  let v315 : BitVec 32 := Scalar.addi v314 c0_i32_140
  let v316 : BitVec 32 := Scalar.muli c2_i32_141 v315
  let c1_i32_142 : BitVec 32 := 1#32
  let v317 : BitVec 32 := Scalar.addi v316 c1_i32_142
  let c512_i32_143 : BitVec 32 := 512#32
  let v318 : BitVec 32 := Scalar.muli v317 c512_i32_143
  v318
def k0_off1 (i : grid0.Coords) (k0_t1 : Fin (k0_t1_loop i).trips) (c0_i32_140 : BitVec 32) (c1_i32_142 : BitVec 32) : Fin 3 → Nat :=
  let c0_147 : Index := 0#32
  let c0_148 : Index := 0#32
  let c2_i32_141 : BitVec 32 := 2#32
  let c4_i32_139 : BitVec 32 := 4#32
  let c0_i32_20 : BitVec 32 := 0#32
  let c1_i32_22 : BitVec 32 := 1#32
  let arg12 : BitVec 32 := Scf.iv c0_i32_20 c1_i32_22 k0_t1
  let v314 : BitVec 32 := Scalar.muli c4_i32_139 arg12
  let v315 : BitVec 32 := Scalar.addi v314 c0_i32_140
  let v316 : BitVec 32 := Scalar.muli c2_i32_141 v315
  let v317 : BitVec 32 := Scalar.addi v316 c1_i32_142
  let c512_i32_143 : BitVec 32 := 512#32
  let v318 : BitVec 32 := Scalar.muli v317 c512_i32_143
  let v319 : BitVec 32 := v318
  let v322 : Index := Scalar.indexCast v319
  ![0, 0, v322.toNat]
def k0_mult3 (i : grid0.Coords) (k0_t1 : Fin (k0_t1_loop i).trips) : BitVec 32 :=
  let c2_i32_141 : BitVec 32 := 2#32
  let c4_i32_139 : BitVec 32 := 4#32
  let c0_i32_20 : BitVec 32 := 0#32
  let c1_i32_22 : BitVec 32 := 1#32
  let arg12 : BitVec 32 := Scf.iv c0_i32_20 c1_i32_22 k0_t1
  let v314 : BitVec 32 := Scalar.muli c4_i32_139 arg12
  let c0_i32_140 : BitVec 32 := 0#32
  let v315 : BitVec 32 := Scalar.addi v314 c0_i32_140
  let v316 : BitVec 32 := Scalar.muli c2_i32_141 v315
  let c512_i32_154 : BitVec 32 := 512#32
  let v330 : BitVec 32 := Scalar.muli v316 c512_i32_154
  v330
def k0_off2 (i : grid0.Coords) (k0_t1 : Fin (k0_t1_loop i).trips) (c0_i32_140 : BitVec 32) : Fin 3 → Nat :=
  let c0_158 : Index := 0#32
  let c2_i32_141 : BitVec 32 := 2#32
  let c4_i32_139 : BitVec 32 := 4#32
  let c0_i32_20 : BitVec 32 := 0#32
  let c1_i32_22 : BitVec 32 := 1#32
  let arg12 : BitVec 32 := Scf.iv c0_i32_20 c1_i32_22 k0_t1
  let v314 : BitVec 32 := Scalar.muli c4_i32_139 arg12
  let v315 : BitVec 32 := Scalar.addi v314 c0_i32_140
  let v316 : BitVec 32 := Scalar.muli c2_i32_141 v315
  let c512_i32_154 : BitVec 32 := 512#32
  let v330 : BitVec 32 := Scalar.muli v316 c512_i32_154
  let v331 : BitVec 32 := v330
  let v359 : Index := Scalar.indexCast v331
  let c0_159 : Index := 0#32
  ![0, v359.toNat, 0]
def k0_mult4 (i : grid0.Coords) (k0_t1 : Fin (k0_t1_loop i).trips) : BitVec 32 :=
  let c2_i32_141 : BitVec 32 := 2#32
  let c4_i32_139 : BitVec 32 := 4#32
  let c0_i32_20 : BitVec 32 := 0#32
  let c1_i32_22 : BitVec 32 := 1#32
  let arg12 : BitVec 32 := Scf.iv c0_i32_20 c1_i32_22 k0_t1
  let v314 : BitVec 32 := Scalar.muli c4_i32_139 arg12
  let c0_i32_140 : BitVec 32 := 0#32
  let v315 : BitVec 32 := Scalar.addi v314 c0_i32_140
  let v316 : BitVec 32 := Scalar.muli c2_i32_141 v315
  let c2_i32_167 : BitVec 32 := 2#32
  let v373 : BitVec 32 := Scalar.addi v316 c2_i32_167
  let c512_i32_168 : BitVec 32 := 512#32
  let v374 : BitVec 32 := Scalar.muli v373 c512_i32_168
  v374
def k0_mult5 (i : grid0.Coords) (k0_t1 : Fin (k0_t1_loop i).trips) : BitVec 32 :=
  let c2_i32_141 : BitVec 32 := 2#32
  let c4_i32_139 : BitVec 32 := 4#32
  let c0_i32_20 : BitVec 32 := 0#32
  let c1_i32_22 : BitVec 32 := 1#32
  let arg12 : BitVec 32 := Scf.iv c0_i32_20 c1_i32_22 k0_t1
  let v314 : BitVec 32 := Scalar.muli c4_i32_139 arg12
  let c0_i32_140 : BitVec 32 := 0#32
  let v315 : BitVec 32 := Scalar.addi v314 c0_i32_140
  let v316 : BitVec 32 := Scalar.muli c2_i32_141 v315
  let c1_i32_177 : BitVec 32 := 1#32
  let v385 : BitVec 32 := Scalar.addi v316 c1_i32_177
  let c512_i32_180 : BitVec 32 := 512#32
  let v387 : BitVec 32 := Scalar.muli v385 c512_i32_180
  v387
def k0_off3 (i : grid0.Coords) (k0_t1 : Fin (k0_t1_loop i).trips) (c0_i32_140 : BitVec 32) : Fin 3 → Nat :=
  let c0_184 : Index := 0#32
  let c2_i32_141 : BitVec 32 := 2#32
  let c4_i32_139 : BitVec 32 := 4#32
  let c0_i32_20 : BitVec 32 := 0#32
  let c1_i32_22 : BitVec 32 := 1#32
  let arg12 : BitVec 32 := Scf.iv c0_i32_20 c1_i32_22 k0_t1
  let v314 : BitVec 32 := Scalar.muli c4_i32_139 arg12
  let v315 : BitVec 32 := Scalar.addi v314 c0_i32_140
  let v316 : BitVec 32 := Scalar.muli c2_i32_141 v315
  let c1_i32_177 : BitVec 32 := 1#32
  let v385 : BitVec 32 := Scalar.addi v316 c1_i32_177
  let c512_i32_180 : BitVec 32 := 512#32
  let v387 : BitVec 32 := Scalar.muli v385 c512_i32_180
  let v388 : BitVec 32 := v387
  let v416 : Index := Scalar.indexCast v388
  let c0_185 : Index := 0#32
  ![0, v416.toNat, 0]
def k0_mult6 (i : grid0.Coords) (k0_t1 : Fin (k0_t1_loop i).trips) : BitVec 32 :=
  let c2_i32_195 : BitVec 32 := 2#32
  let c4_i32_193 : BitVec 32 := 4#32
  let c0_i32_20 : BitVec 32 := 0#32
  let c1_i32_22 : BitVec 32 := 1#32
  let arg12 : BitVec 32 := Scf.iv c0_i32_20 c1_i32_22 k0_t1
  let v430 : BitVec 32 := Scalar.muli c4_i32_193 arg12
  let c1_i32_194 : BitVec 32 := 1#32
  let v431 : BitVec 32 := Scalar.addi v430 c1_i32_194
  let v432 : BitVec 32 := Scalar.muli c2_i32_195 v431
  let c1_i32_196 : BitVec 32 := 1#32
  let v433 : BitVec 32 := Scalar.addi v432 c1_i32_196
  let c512_i32_197 : BitVec 32 := 512#32
  let v434 : BitVec 32 := Scalar.muli v433 c512_i32_197
  v434
def k0_mult7 (i : grid0.Coords) (k0_t1 : Fin (k0_t1_loop i).trips) : BitVec 32 :=
  let c2_i32_195 : BitVec 32 := 2#32
  let c4_i32_193 : BitVec 32 := 4#32
  let c0_i32_20 : BitVec 32 := 0#32
  let c1_i32_22 : BitVec 32 := 1#32
  let arg12 : BitVec 32 := Scf.iv c0_i32_20 c1_i32_22 k0_t1
  let v430 : BitVec 32 := Scalar.muli c4_i32_193 arg12
  let c1_i32_194 : BitVec 32 := 1#32
  let v431 : BitVec 32 := Scalar.addi v430 c1_i32_194
  let v432 : BitVec 32 := Scalar.muli c2_i32_195 v431
  let c512_i32_208 : BitVec 32 := 512#32
  let v446 : BitVec 32 := Scalar.muli v432 c512_i32_208
  v446
def k0_mult8 (i : grid0.Coords) (k0_t1 : Fin (k0_t1_loop i).trips) : BitVec 32 :=
  let c2_i32_195 : BitVec 32 := 2#32
  let c4_i32_193 : BitVec 32 := 4#32
  let c0_i32_20 : BitVec 32 := 0#32
  let c1_i32_22 : BitVec 32 := 1#32
  let arg12 : BitVec 32 := Scf.iv c0_i32_20 c1_i32_22 k0_t1
  let v430 : BitVec 32 := Scalar.muli c4_i32_193 arg12
  let c1_i32_194 : BitVec 32 := 1#32
  let v431 : BitVec 32 := Scalar.addi v430 c1_i32_194
  let v432 : BitVec 32 := Scalar.muli c2_i32_195 v431
  let c2_i32_221 : BitVec 32 := 2#32
  let v489 : BitVec 32 := Scalar.addi v432 c2_i32_221
  let c512_i32_222 : BitVec 32 := 512#32
  let v490 : BitVec 32 := Scalar.muli v489 c512_i32_222
  v490
def k0_mult9 (i : grid0.Coords) (k0_t1 : Fin (k0_t1_loop i).trips) : BitVec 32 :=
  let c2_i32_195 : BitVec 32 := 2#32
  let c4_i32_193 : BitVec 32 := 4#32
  let c0_i32_20 : BitVec 32 := 0#32
  let c1_i32_22 : BitVec 32 := 1#32
  let arg12 : BitVec 32 := Scf.iv c0_i32_20 c1_i32_22 k0_t1
  let v430 : BitVec 32 := Scalar.muli c4_i32_193 arg12
  let c1_i32_194 : BitVec 32 := 1#32
  let v431 : BitVec 32 := Scalar.addi v430 c1_i32_194
  let v432 : BitVec 32 := Scalar.muli c2_i32_195 v431
  let c1_i32_231 : BitVec 32 := 1#32
  let v501 : BitVec 32 := Scalar.addi v432 c1_i32_231
  let c512_i32_234 : BitVec 32 := 512#32
  let v503 : BitVec 32 := Scalar.muli v501 c512_i32_234
  v503
def k0_mult10 (i : grid0.Coords) (k0_t1 : Fin (k0_t1_loop i).trips) : BitVec 32 :=
  let c2_i32_249 : BitVec 32 := 2#32
  let c4_i32_247 : BitVec 32 := 4#32
  let c0_i32_20 : BitVec 32 := 0#32
  let c1_i32_22 : BitVec 32 := 1#32
  let arg12 : BitVec 32 := Scf.iv c0_i32_20 c1_i32_22 k0_t1
  let v546 : BitVec 32 := Scalar.muli c4_i32_247 arg12
  let c2_i32_248 : BitVec 32 := 2#32
  let v547 : BitVec 32 := Scalar.addi v546 c2_i32_248
  let v548 : BitVec 32 := Scalar.muli c2_i32_249 v547
  let c1_i32_250 : BitVec 32 := 1#32
  let v549 : BitVec 32 := Scalar.addi v548 c1_i32_250
  let c512_i32_251 : BitVec 32 := 512#32
  let v550 : BitVec 32 := Scalar.muli v549 c512_i32_251
  v550
def k0_mult11 (i : grid0.Coords) (k0_t1 : Fin (k0_t1_loop i).trips) : BitVec 32 :=
  let c2_i32_249 : BitVec 32 := 2#32
  let c4_i32_247 : BitVec 32 := 4#32
  let c0_i32_20 : BitVec 32 := 0#32
  let c1_i32_22 : BitVec 32 := 1#32
  let arg12 : BitVec 32 := Scf.iv c0_i32_20 c1_i32_22 k0_t1
  let v546 : BitVec 32 := Scalar.muli c4_i32_247 arg12
  let c2_i32_248 : BitVec 32 := 2#32
  let v547 : BitVec 32 := Scalar.addi v546 c2_i32_248
  let v548 : BitVec 32 := Scalar.muli c2_i32_249 v547
  let c512_i32_262 : BitVec 32 := 512#32
  let v562 : BitVec 32 := Scalar.muli v548 c512_i32_262
  v562
def k0_mult12 (i : grid0.Coords) (k0_t1 : Fin (k0_t1_loop i).trips) : BitVec 32 :=
  let c2_i32_249 : BitVec 32 := 2#32
  let c4_i32_247 : BitVec 32 := 4#32
  let c0_i32_20 : BitVec 32 := 0#32
  let c1_i32_22 : BitVec 32 := 1#32
  let arg12 : BitVec 32 := Scf.iv c0_i32_20 c1_i32_22 k0_t1
  let v546 : BitVec 32 := Scalar.muli c4_i32_247 arg12
  let c2_i32_248 : BitVec 32 := 2#32
  let v547 : BitVec 32 := Scalar.addi v546 c2_i32_248
  let v548 : BitVec 32 := Scalar.muli c2_i32_249 v547
  let c2_i32_275 : BitVec 32 := 2#32
  let v605 : BitVec 32 := Scalar.addi v548 c2_i32_275
  let c512_i32_276 : BitVec 32 := 512#32
  let v606 : BitVec 32 := Scalar.muli v605 c512_i32_276
  v606
def k0_mult13 (i : grid0.Coords) (k0_t1 : Fin (k0_t1_loop i).trips) : BitVec 32 :=
  let c2_i32_249 : BitVec 32 := 2#32
  let c4_i32_247 : BitVec 32 := 4#32
  let c0_i32_20 : BitVec 32 := 0#32
  let c1_i32_22 : BitVec 32 := 1#32
  let arg12 : BitVec 32 := Scf.iv c0_i32_20 c1_i32_22 k0_t1
  let v546 : BitVec 32 := Scalar.muli c4_i32_247 arg12
  let c2_i32_248 : BitVec 32 := 2#32
  let v547 : BitVec 32 := Scalar.addi v546 c2_i32_248
  let v548 : BitVec 32 := Scalar.muli c2_i32_249 v547
  let c1_i32_285 : BitVec 32 := 1#32
  let v617 : BitVec 32 := Scalar.addi v548 c1_i32_285
  let c512_i32_288 : BitVec 32 := 512#32
  let v619 : BitVec 32 := Scalar.muli v617 c512_i32_288
  v619
def k0_mult14 (i : grid0.Coords) (k0_t1 : Fin (k0_t1_loop i).trips) : BitVec 32 :=
  let c2_i32_302 : BitVec 32 := 2#32
  let c4_i32_301 : BitVec 32 := 4#32
  let c0_i32_20 : BitVec 32 := 0#32
  let c1_i32_22 : BitVec 32 := 1#32
  let arg12 : BitVec 32 := Scf.iv c0_i32_20 c1_i32_22 k0_t1
  let v662 : BitVec 32 := Scalar.muli c4_i32_301 arg12
  let c3_i32 : BitVec 32 := 3#32
  let v663 : BitVec 32 := Scalar.addi v662 c3_i32
  let v664 : BitVec 32 := Scalar.muli c2_i32_302 v663
  let c1_i32_303 : BitVec 32 := 1#32
  let v665 : BitVec 32 := Scalar.addi v664 c1_i32_303
  let c512_i32_304 : BitVec 32 := 512#32
  let v666 : BitVec 32 := Scalar.muli v665 c512_i32_304
  v666
def k0_mult15 (i : grid0.Coords) (k0_t1 : Fin (k0_t1_loop i).trips) : BitVec 32 :=
  let c2_i32_302 : BitVec 32 := 2#32
  let c4_i32_301 : BitVec 32 := 4#32
  let c0_i32_20 : BitVec 32 := 0#32
  let c1_i32_22 : BitVec 32 := 1#32
  let arg12 : BitVec 32 := Scf.iv c0_i32_20 c1_i32_22 k0_t1
  let v662 : BitVec 32 := Scalar.muli c4_i32_301 arg12
  let c3_i32 : BitVec 32 := 3#32
  let v663 : BitVec 32 := Scalar.addi v662 c3_i32
  let v664 : BitVec 32 := Scalar.muli c2_i32_302 v663
  let c512_i32_315 : BitVec 32 := 512#32
  let v678 : BitVec 32 := Scalar.muli v664 c512_i32_315
  v678
def k0_mult16 (i : grid0.Coords) (k0_t1 : Fin (k0_t1_loop i).trips) : BitVec 32 :=
  let c2_i32_302 : BitVec 32 := 2#32
  let c4_i32_301 : BitVec 32 := 4#32
  let c0_i32_20 : BitVec 32 := 0#32
  let c1_i32_22 : BitVec 32 := 1#32
  let arg12 : BitVec 32 := Scf.iv c0_i32_20 c1_i32_22 k0_t1
  let v662 : BitVec 32 := Scalar.muli c4_i32_301 arg12
  let c3_i32 : BitVec 32 := 3#32
  let v663 : BitVec 32 := Scalar.addi v662 c3_i32
  let v664 : BitVec 32 := Scalar.muli c2_i32_302 v663
  let c2_i32_328 : BitVec 32 := 2#32
  let v721 : BitVec 32 := Scalar.addi v664 c2_i32_328
  let c512_i32_329 : BitVec 32 := 512#32
  let v722 : BitVec 32 := Scalar.muli v721 c512_i32_329
  v722
def k0_mult17 (i : grid0.Coords) (k0_t1 : Fin (k0_t1_loop i).trips) : BitVec 32 :=
  let c2_i32_302 : BitVec 32 := 2#32
  let c4_i32_301 : BitVec 32 := 4#32
  let c0_i32_20 : BitVec 32 := 0#32
  let c1_i32_22 : BitVec 32 := 1#32
  let arg12 : BitVec 32 := Scf.iv c0_i32_20 c1_i32_22 k0_t1
  let v662 : BitVec 32 := Scalar.muli c4_i32_301 arg12
  let c3_i32 : BitVec 32 := 3#32
  let v663 : BitVec 32 := Scalar.addi v662 c3_i32
  let v664 : BitVec 32 := Scalar.muli c2_i32_302 v663
  let c1_i32_338 : BitVec 32 := 1#32
  let v733 : BitVec 32 := Scalar.addi v664 c1_i32_338
  let c512_i32_341 : BitVec 32 := 512#32
  let v735 : BitVec 32 := Scalar.muli v733 c512_i32_341
  v735
@[reducible] def k0_t2_loop (i : grid0.Coords) : Scf.Loop 32 :=
  let c0_i32_20 : BitVec 32 := 0#32
  let c0_i32_18 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let v47 : BitVec 32 := Scalar.addi c0_i32_18 v46
  let v48 : BitVec 32 := Scalar.subi v47 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let v49 : BitVec 32 := Scalar.addi c0_i32_20 v48
  let c1_i32_23 : BitVec 32 := 1#32
  ⟨v52, v49, c1_i32_23⟩
def k0_mult18 (i : grid0.Coords) (k0_t2 : Fin (k0_t2_loop i).trips) : BitVec 32 :=
  let c2_i32_141 : BitVec 32 := 2#32
  let c4_i32_139 : BitVec 32 := 4#32
  let c0_i32_20 : BitVec 32 := 0#32
  let c0_i32_18 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let v47 : BitVec 32 := Scalar.addi c0_i32_18 v46
  let v48 : BitVec 32 := Scalar.subi v47 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_23 : BitVec 32 := 1#32
  let arg12 : BitVec 32 := Scf.iv v52 c1_i32_23 k0_t2
  let v314 : BitVec 32 := Scalar.muli c4_i32_139 arg12
  let c0_i32_140 : BitVec 32 := 0#32
  let v315 : BitVec 32 := Scalar.addi v314 c0_i32_140
  let v316 : BitVec 32 := Scalar.muli c2_i32_141 v315
  let c1_i32_142 : BitVec 32 := 1#32
  let v317 : BitVec 32 := Scalar.addi v316 c1_i32_142
  let c512_i32_143 : BitVec 32 := 512#32
  let v318 : BitVec 32 := Scalar.muli v317 c512_i32_143
  v318
def k0_off4 (i : grid0.Coords) (k0_t2 : Fin (k0_t2_loop i).trips) (c0_i32_140 : BitVec 32) (c1_i32_142 : BitVec 32) : Fin 3 → Nat :=
  let c0_147 : Index := 0#32
  let c0_148 : Index := 0#32
  let c2_i32_141 : BitVec 32 := 2#32
  let c4_i32_139 : BitVec 32 := 4#32
  let c0_i32_20 : BitVec 32 := 0#32
  let c0_i32_18 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let v47 : BitVec 32 := Scalar.addi c0_i32_18 v46
  let v48 : BitVec 32 := Scalar.subi v47 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_23 : BitVec 32 := 1#32
  let arg12 : BitVec 32 := Scf.iv v52 c1_i32_23 k0_t2
  let v314 : BitVec 32 := Scalar.muli c4_i32_139 arg12
  let v315 : BitVec 32 := Scalar.addi v314 c0_i32_140
  let v316 : BitVec 32 := Scalar.muli c2_i32_141 v315
  let v317 : BitVec 32 := Scalar.addi v316 c1_i32_142
  let c512_i32_143 : BitVec 32 := 512#32
  let v318 : BitVec 32 := Scalar.muli v317 c512_i32_143
  let v319 : BitVec 32 := v318
  let v322 : Index := Scalar.indexCast v319
  ![0, 0, v322.toNat]
def k0_mult19 (i : grid0.Coords) (k0_t2 : Fin (k0_t2_loop i).trips) : BitVec 32 :=
  let c2_i32_141 : BitVec 32 := 2#32
  let c4_i32_139 : BitVec 32 := 4#32
  let c0_i32_20 : BitVec 32 := 0#32
  let c0_i32_18 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let v47 : BitVec 32 := Scalar.addi c0_i32_18 v46
  let v48 : BitVec 32 := Scalar.subi v47 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_23 : BitVec 32 := 1#32
  let arg12 : BitVec 32 := Scf.iv v52 c1_i32_23 k0_t2
  let v314 : BitVec 32 := Scalar.muli c4_i32_139 arg12
  let c0_i32_140 : BitVec 32 := 0#32
  let v315 : BitVec 32 := Scalar.addi v314 c0_i32_140
  let v316 : BitVec 32 := Scalar.muli c2_i32_141 v315
  let c512_i32_154 : BitVec 32 := 512#32
  let v330 : BitVec 32 := Scalar.muli v316 c512_i32_154
  v330
def k0_off5 (i : grid0.Coords) (k0_t2 : Fin (k0_t2_loop i).trips) (c0_i32_140 : BitVec 32) : Fin 3 → Nat :=
  let c0_158 : Index := 0#32
  let c2_i32_141 : BitVec 32 := 2#32
  let c4_i32_139 : BitVec 32 := 4#32
  let c0_i32_20 : BitVec 32 := 0#32
  let c0_i32_18 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let v47 : BitVec 32 := Scalar.addi c0_i32_18 v46
  let v48 : BitVec 32 := Scalar.subi v47 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_23 : BitVec 32 := 1#32
  let arg12 : BitVec 32 := Scf.iv v52 c1_i32_23 k0_t2
  let v314 : BitVec 32 := Scalar.muli c4_i32_139 arg12
  let v315 : BitVec 32 := Scalar.addi v314 c0_i32_140
  let v316 : BitVec 32 := Scalar.muli c2_i32_141 v315
  let c512_i32_154 : BitVec 32 := 512#32
  let v330 : BitVec 32 := Scalar.muli v316 c512_i32_154
  let v331 : BitVec 32 := v330
  let v359 : Index := Scalar.indexCast v331
  let c0_159 : Index := 0#32
  ![0, v359.toNat, 0]
def k0_mult20 (i : grid0.Coords) (k0_t2 : Fin (k0_t2_loop i).trips) : BitVec 32 :=
  let c2_i32_141 : BitVec 32 := 2#32
  let c4_i32_139 : BitVec 32 := 4#32
  let c0_i32_20 : BitVec 32 := 0#32
  let c0_i32_18 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let v47 : BitVec 32 := Scalar.addi c0_i32_18 v46
  let v48 : BitVec 32 := Scalar.subi v47 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_23 : BitVec 32 := 1#32
  let arg12 : BitVec 32 := Scf.iv v52 c1_i32_23 k0_t2
  let v314 : BitVec 32 := Scalar.muli c4_i32_139 arg12
  let c0_i32_140 : BitVec 32 := 0#32
  let v315 : BitVec 32 := Scalar.addi v314 c0_i32_140
  let v316 : BitVec 32 := Scalar.muli c2_i32_141 v315
  let c2_i32_167 : BitVec 32 := 2#32
  let v373 : BitVec 32 := Scalar.addi v316 c2_i32_167
  let c512_i32_168 : BitVec 32 := 512#32
  let v374 : BitVec 32 := Scalar.muli v373 c512_i32_168
  v374
def k0_mult21 (i : grid0.Coords) (k0_t2 : Fin (k0_t2_loop i).trips) : BitVec 32 :=
  let c2_i32_141 : BitVec 32 := 2#32
  let c4_i32_139 : BitVec 32 := 4#32
  let c0_i32_20 : BitVec 32 := 0#32
  let c0_i32_18 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let v47 : BitVec 32 := Scalar.addi c0_i32_18 v46
  let v48 : BitVec 32 := Scalar.subi v47 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_23 : BitVec 32 := 1#32
  let arg12 : BitVec 32 := Scf.iv v52 c1_i32_23 k0_t2
  let v314 : BitVec 32 := Scalar.muli c4_i32_139 arg12
  let c0_i32_140 : BitVec 32 := 0#32
  let v315 : BitVec 32 := Scalar.addi v314 c0_i32_140
  let v316 : BitVec 32 := Scalar.muli c2_i32_141 v315
  let c1_i32_177 : BitVec 32 := 1#32
  let v385 : BitVec 32 := Scalar.addi v316 c1_i32_177
  let c512_i32_180 : BitVec 32 := 512#32
  let v387 : BitVec 32 := Scalar.muli v385 c512_i32_180
  v387
def k0_off6 (i : grid0.Coords) (k0_t2 : Fin (k0_t2_loop i).trips) (c0_i32_140 : BitVec 32) : Fin 3 → Nat :=
  let c0_184 : Index := 0#32
  let c2_i32_141 : BitVec 32 := 2#32
  let c4_i32_139 : BitVec 32 := 4#32
  let c0_i32_20 : BitVec 32 := 0#32
  let c0_i32_18 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let v47 : BitVec 32 := Scalar.addi c0_i32_18 v46
  let v48 : BitVec 32 := Scalar.subi v47 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_23 : BitVec 32 := 1#32
  let arg12 : BitVec 32 := Scf.iv v52 c1_i32_23 k0_t2
  let v314 : BitVec 32 := Scalar.muli c4_i32_139 arg12
  let v315 : BitVec 32 := Scalar.addi v314 c0_i32_140
  let v316 : BitVec 32 := Scalar.muli c2_i32_141 v315
  let c1_i32_177 : BitVec 32 := 1#32
  let v385 : BitVec 32 := Scalar.addi v316 c1_i32_177
  let c512_i32_180 : BitVec 32 := 512#32
  let v387 : BitVec 32 := Scalar.muli v385 c512_i32_180
  let v388 : BitVec 32 := v387
  let v416 : Index := Scalar.indexCast v388
  let c0_185 : Index := 0#32
  ![0, v416.toNat, 0]
def k0_mult22 (i : grid0.Coords) (k0_t2 : Fin (k0_t2_loop i).trips) : BitVec 32 :=
  let c2_i32_195 : BitVec 32 := 2#32
  let c4_i32_193 : BitVec 32 := 4#32
  let c0_i32_20 : BitVec 32 := 0#32
  let c0_i32_18 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let v47 : BitVec 32 := Scalar.addi c0_i32_18 v46
  let v48 : BitVec 32 := Scalar.subi v47 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_23 : BitVec 32 := 1#32
  let arg12 : BitVec 32 := Scf.iv v52 c1_i32_23 k0_t2
  let v430 : BitVec 32 := Scalar.muli c4_i32_193 arg12
  let c1_i32_194 : BitVec 32 := 1#32
  let v431 : BitVec 32 := Scalar.addi v430 c1_i32_194
  let v432 : BitVec 32 := Scalar.muli c2_i32_195 v431
  let c1_i32_196 : BitVec 32 := 1#32
  let v433 : BitVec 32 := Scalar.addi v432 c1_i32_196
  let c512_i32_197 : BitVec 32 := 512#32
  let v434 : BitVec 32 := Scalar.muli v433 c512_i32_197
  v434
def k0_mult23 (i : grid0.Coords) (k0_t2 : Fin (k0_t2_loop i).trips) : BitVec 32 :=
  let c2_i32_195 : BitVec 32 := 2#32
  let c4_i32_193 : BitVec 32 := 4#32
  let c0_i32_20 : BitVec 32 := 0#32
  let c0_i32_18 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let v47 : BitVec 32 := Scalar.addi c0_i32_18 v46
  let v48 : BitVec 32 := Scalar.subi v47 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_23 : BitVec 32 := 1#32
  let arg12 : BitVec 32 := Scf.iv v52 c1_i32_23 k0_t2
  let v430 : BitVec 32 := Scalar.muli c4_i32_193 arg12
  let c1_i32_194 : BitVec 32 := 1#32
  let v431 : BitVec 32 := Scalar.addi v430 c1_i32_194
  let v432 : BitVec 32 := Scalar.muli c2_i32_195 v431
  let c512_i32_208 : BitVec 32 := 512#32
  let v446 : BitVec 32 := Scalar.muli v432 c512_i32_208
  v446
def k0_mult24 (i : grid0.Coords) (k0_t2 : Fin (k0_t2_loop i).trips) : BitVec 32 :=
  let c2_i32_195 : BitVec 32 := 2#32
  let c4_i32_193 : BitVec 32 := 4#32
  let c0_i32_20 : BitVec 32 := 0#32
  let c0_i32_18 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let v47 : BitVec 32 := Scalar.addi c0_i32_18 v46
  let v48 : BitVec 32 := Scalar.subi v47 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_23 : BitVec 32 := 1#32
  let arg12 : BitVec 32 := Scf.iv v52 c1_i32_23 k0_t2
  let v430 : BitVec 32 := Scalar.muli c4_i32_193 arg12
  let c1_i32_194 : BitVec 32 := 1#32
  let v431 : BitVec 32 := Scalar.addi v430 c1_i32_194
  let v432 : BitVec 32 := Scalar.muli c2_i32_195 v431
  let c2_i32_221 : BitVec 32 := 2#32
  let v489 : BitVec 32 := Scalar.addi v432 c2_i32_221
  let c512_i32_222 : BitVec 32 := 512#32
  let v490 : BitVec 32 := Scalar.muli v489 c512_i32_222
  v490
def k0_mult25 (i : grid0.Coords) (k0_t2 : Fin (k0_t2_loop i).trips) : BitVec 32 :=
  let c2_i32_195 : BitVec 32 := 2#32
  let c4_i32_193 : BitVec 32 := 4#32
  let c0_i32_20 : BitVec 32 := 0#32
  let c0_i32_18 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let v47 : BitVec 32 := Scalar.addi c0_i32_18 v46
  let v48 : BitVec 32 := Scalar.subi v47 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_23 : BitVec 32 := 1#32
  let arg12 : BitVec 32 := Scf.iv v52 c1_i32_23 k0_t2
  let v430 : BitVec 32 := Scalar.muli c4_i32_193 arg12
  let c1_i32_194 : BitVec 32 := 1#32
  let v431 : BitVec 32 := Scalar.addi v430 c1_i32_194
  let v432 : BitVec 32 := Scalar.muli c2_i32_195 v431
  let c1_i32_231 : BitVec 32 := 1#32
  let v501 : BitVec 32 := Scalar.addi v432 c1_i32_231
  let c512_i32_234 : BitVec 32 := 512#32
  let v503 : BitVec 32 := Scalar.muli v501 c512_i32_234
  v503
def k0_mult26 (i : grid0.Coords) (k0_t2 : Fin (k0_t2_loop i).trips) : BitVec 32 :=
  let c2_i32_249 : BitVec 32 := 2#32
  let c4_i32_247 : BitVec 32 := 4#32
  let c0_i32_20 : BitVec 32 := 0#32
  let c0_i32_18 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let v47 : BitVec 32 := Scalar.addi c0_i32_18 v46
  let v48 : BitVec 32 := Scalar.subi v47 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_23 : BitVec 32 := 1#32
  let arg12 : BitVec 32 := Scf.iv v52 c1_i32_23 k0_t2
  let v546 : BitVec 32 := Scalar.muli c4_i32_247 arg12
  let c2_i32_248 : BitVec 32 := 2#32
  let v547 : BitVec 32 := Scalar.addi v546 c2_i32_248
  let v548 : BitVec 32 := Scalar.muli c2_i32_249 v547
  let c1_i32_250 : BitVec 32 := 1#32
  let v549 : BitVec 32 := Scalar.addi v548 c1_i32_250
  let c512_i32_251 : BitVec 32 := 512#32
  let v550 : BitVec 32 := Scalar.muli v549 c512_i32_251
  v550
def k0_mult27 (i : grid0.Coords) (k0_t2 : Fin (k0_t2_loop i).trips) : BitVec 32 :=
  let c2_i32_249 : BitVec 32 := 2#32
  let c4_i32_247 : BitVec 32 := 4#32
  let c0_i32_20 : BitVec 32 := 0#32
  let c0_i32_18 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let v47 : BitVec 32 := Scalar.addi c0_i32_18 v46
  let v48 : BitVec 32 := Scalar.subi v47 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_23 : BitVec 32 := 1#32
  let arg12 : BitVec 32 := Scf.iv v52 c1_i32_23 k0_t2
  let v546 : BitVec 32 := Scalar.muli c4_i32_247 arg12
  let c2_i32_248 : BitVec 32 := 2#32
  let v547 : BitVec 32 := Scalar.addi v546 c2_i32_248
  let v548 : BitVec 32 := Scalar.muli c2_i32_249 v547
  let c512_i32_262 : BitVec 32 := 512#32
  let v562 : BitVec 32 := Scalar.muli v548 c512_i32_262
  v562
def k0_mult28 (i : grid0.Coords) (k0_t2 : Fin (k0_t2_loop i).trips) : BitVec 32 :=
  let c2_i32_249 : BitVec 32 := 2#32
  let c4_i32_247 : BitVec 32 := 4#32
  let c0_i32_20 : BitVec 32 := 0#32
  let c0_i32_18 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let v47 : BitVec 32 := Scalar.addi c0_i32_18 v46
  let v48 : BitVec 32 := Scalar.subi v47 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_23 : BitVec 32 := 1#32
  let arg12 : BitVec 32 := Scf.iv v52 c1_i32_23 k0_t2
  let v546 : BitVec 32 := Scalar.muli c4_i32_247 arg12
  let c2_i32_248 : BitVec 32 := 2#32
  let v547 : BitVec 32 := Scalar.addi v546 c2_i32_248
  let v548 : BitVec 32 := Scalar.muli c2_i32_249 v547
  let c2_i32_275 : BitVec 32 := 2#32
  let v605 : BitVec 32 := Scalar.addi v548 c2_i32_275
  let c512_i32_276 : BitVec 32 := 512#32
  let v606 : BitVec 32 := Scalar.muli v605 c512_i32_276
  v606
def k0_mult29 (i : grid0.Coords) (k0_t2 : Fin (k0_t2_loop i).trips) : BitVec 32 :=
  let c2_i32_249 : BitVec 32 := 2#32
  let c4_i32_247 : BitVec 32 := 4#32
  let c0_i32_20 : BitVec 32 := 0#32
  let c0_i32_18 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let v47 : BitVec 32 := Scalar.addi c0_i32_18 v46
  let v48 : BitVec 32 := Scalar.subi v47 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_23 : BitVec 32 := 1#32
  let arg12 : BitVec 32 := Scf.iv v52 c1_i32_23 k0_t2
  let v546 : BitVec 32 := Scalar.muli c4_i32_247 arg12
  let c2_i32_248 : BitVec 32 := 2#32
  let v547 : BitVec 32 := Scalar.addi v546 c2_i32_248
  let v548 : BitVec 32 := Scalar.muli c2_i32_249 v547
  let c1_i32_285 : BitVec 32 := 1#32
  let v617 : BitVec 32 := Scalar.addi v548 c1_i32_285
  let c512_i32_288 : BitVec 32 := 512#32
  let v619 : BitVec 32 := Scalar.muli v617 c512_i32_288
  v619
def k0_mult30 (i : grid0.Coords) (k0_t2 : Fin (k0_t2_loop i).trips) : BitVec 32 :=
  let c2_i32_302 : BitVec 32 := 2#32
  let c4_i32_301 : BitVec 32 := 4#32
  let c0_i32_20 : BitVec 32 := 0#32
  let c0_i32_18 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let v47 : BitVec 32 := Scalar.addi c0_i32_18 v46
  let v48 : BitVec 32 := Scalar.subi v47 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_23 : BitVec 32 := 1#32
  let arg12 : BitVec 32 := Scf.iv v52 c1_i32_23 k0_t2
  let v662 : BitVec 32 := Scalar.muli c4_i32_301 arg12
  let c3_i32 : BitVec 32 := 3#32
  let v663 : BitVec 32 := Scalar.addi v662 c3_i32
  let v664 : BitVec 32 := Scalar.muli c2_i32_302 v663
  let c1_i32_303 : BitVec 32 := 1#32
  let v665 : BitVec 32 := Scalar.addi v664 c1_i32_303
  let c512_i32_304 : BitVec 32 := 512#32
  let v666 : BitVec 32 := Scalar.muli v665 c512_i32_304
  v666
def k0_mult31 (i : grid0.Coords) (k0_t2 : Fin (k0_t2_loop i).trips) : BitVec 32 :=
  let c2_i32_302 : BitVec 32 := 2#32
  let c4_i32_301 : BitVec 32 := 4#32
  let c0_i32_20 : BitVec 32 := 0#32
  let c0_i32_18 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let v47 : BitVec 32 := Scalar.addi c0_i32_18 v46
  let v48 : BitVec 32 := Scalar.subi v47 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_23 : BitVec 32 := 1#32
  let arg12 : BitVec 32 := Scf.iv v52 c1_i32_23 k0_t2
  let v662 : BitVec 32 := Scalar.muli c4_i32_301 arg12
  let c3_i32 : BitVec 32 := 3#32
  let v663 : BitVec 32 := Scalar.addi v662 c3_i32
  let v664 : BitVec 32 := Scalar.muli c2_i32_302 v663
  let c512_i32_315 : BitVec 32 := 512#32
  let v678 : BitVec 32 := Scalar.muli v664 c512_i32_315
  v678
def k0_mult32 (i : grid0.Coords) (k0_t2 : Fin (k0_t2_loop i).trips) : BitVec 32 :=
  let c2_i32_302 : BitVec 32 := 2#32
  let c4_i32_301 : BitVec 32 := 4#32
  let c0_i32_20 : BitVec 32 := 0#32
  let c0_i32_18 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let v47 : BitVec 32 := Scalar.addi c0_i32_18 v46
  let v48 : BitVec 32 := Scalar.subi v47 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_23 : BitVec 32 := 1#32
  let arg12 : BitVec 32 := Scf.iv v52 c1_i32_23 k0_t2
  let v662 : BitVec 32 := Scalar.muli c4_i32_301 arg12
  let c3_i32 : BitVec 32 := 3#32
  let v663 : BitVec 32 := Scalar.addi v662 c3_i32
  let v664 : BitVec 32 := Scalar.muli c2_i32_302 v663
  let c2_i32_328 : BitVec 32 := 2#32
  let v721 : BitVec 32 := Scalar.addi v664 c2_i32_328
  let c512_i32_329 : BitVec 32 := 512#32
  let v722 : BitVec 32 := Scalar.muli v721 c512_i32_329
  v722
def k0_mult33 (i : grid0.Coords) (k0_t2 : Fin (k0_t2_loop i).trips) : BitVec 32 :=
  let c2_i32_302 : BitVec 32 := 2#32
  let c4_i32_301 : BitVec 32 := 4#32
  let c0_i32_20 : BitVec 32 := 0#32
  let c0_i32_18 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let v47 : BitVec 32 := Scalar.addi c0_i32_18 v46
  let v48 : BitVec 32 := Scalar.subi v47 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_23 : BitVec 32 := 1#32
  let arg12 : BitVec 32 := Scf.iv v52 c1_i32_23 k0_t2
  let v662 : BitVec 32 := Scalar.muli c4_i32_301 arg12
  let c3_i32 : BitVec 32 := 3#32
  let v663 : BitVec 32 := Scalar.addi v662 c3_i32
  let v664 : BitVec 32 := Scalar.muli c2_i32_302 v663
  let c1_i32_338 : BitVec 32 := 1#32
  let v733 : BitVec 32 := Scalar.addi v664 c1_i32_338
  let c512_i32_341 : BitVec 32 := 512#32
  let v735 : BitVec 32 := Scalar.muli v733 c512_i32_341
  v735
@[reducible] def k0_t3_loop (i : grid0.Coords) : Scf.Loop 32 :=
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c0_i32_41 : BitVec 32 := 0#32
  let v91 : BitVec 1 := Scalar.cmpi .sgt v54 c0_i32_41
  let v92 : BitVec 32 := Scalar.extui v91
  let c0_i32_42 : BitVec 32 := 0#32
  let v93 : BitVec 1 := Scalar.cmpi .slt v54 c0_i32_42
  let v94 : BitVec 32 := Scalar.extui v93
  let v95 : BitVec 32 := Scalar.subi v92 v94
  let c2_i32_40 : BitVec 32 := 2#32
  let c0_i32_43 : BitVec 32 := 0#32
  let v96 : BitVec 1 := Scalar.cmpi .sgt c2_i32_40 c0_i32_43
  let v97 : BitVec 32 := Scalar.extui v96
  let c0_i32_44 : BitVec 32 := 0#32
  let v98 : BitVec 1 := Scalar.cmpi .slt c2_i32_40 c0_i32_44
  let v99 : BitVec 32 := Scalar.extui v98
  let v100 : BitVec 32 := Scalar.subi v97 v99
  let v101 : BitVec 1 := Scalar.cmpi .ne v95 v100
  let v102 : BitVec 32 := Scalar.remsi v54 c2_i32_40
  let c0_i32_45 : BitVec 32 := 0#32
  let v103 : BitVec 1 := Scalar.cmpi .ne v102 c0_i32_45
  let v104 : BitVec 1 := Scalar.andi v101 v103
  let v90 : BitVec 32 := Scalar.divsi v54 c2_i32_40
  let c1_i32_46 : BitVec 32 := 1#32
  let v105 : BitVec 32 := Scalar.subi v90 c1_i32_46
  let v106 : BitVec 32 := Scalar.select v104 v105 v90
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let v107 : BitVec 32 := Scalar.addi v106 v72
  let v108 : BitVec 32 := Scalar.subi v107 v89
  let c1_i32_48 : BitVec 32 := 1#32
  let v110 : BitVec 32 := Scalar.divsi v108 c1_i32_48
  let v111 : BitVec 32 := Scalar.muli v110 c1_i32_48
  let v112 : BitVec 32 := Scalar.addi v89 v111
  let c1_i32_49 : BitVec 32 := 1#32
  ⟨v89, v112, c1_i32_49⟩
def k0_mult34 (i : grid0.Coords) (k0_t3 : Fin (k0_t3_loop i).trips) : BitVec 32 :=
  let c2_i32_141 : BitVec 32 := 2#32
  let c2_i32_139 : BitVec 32 := 2#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c1_i32_49 : BitVec 32 := 1#32
  let arg12 : BitVec 32 := Scf.iv v89 c1_i32_49 k0_t3
  let v314 : BitVec 32 := Scalar.muli c2_i32_139 arg12
  let c0_i32_140 : BitVec 32 := 0#32
  let v315 : BitVec 32 := Scalar.addi v314 c0_i32_140
  let v316 : BitVec 32 := Scalar.muli c2_i32_141 v315
  let c1_i32_142 : BitVec 32 := 1#32
  let v317 : BitVec 32 := Scalar.addi v316 c1_i32_142
  let c512_i32_143 : BitVec 32 := 512#32
  let v318 : BitVec 32 := Scalar.muli v317 c512_i32_143
  v318
def k0_off7 (i : grid0.Coords) (k0_t3 : Fin (k0_t3_loop i).trips) (c0_i32_140 : BitVec 32) (c1_i32_142 : BitVec 32) : Fin 3 → Nat :=
  let c0_147 : Index := 0#32
  let c0_148 : Index := 0#32
  let c2_i32_141 : BitVec 32 := 2#32
  let c2_i32_139 : BitVec 32 := 2#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c1_i32_49 : BitVec 32 := 1#32
  let arg12 : BitVec 32 := Scf.iv v89 c1_i32_49 k0_t3
  let v314 : BitVec 32 := Scalar.muli c2_i32_139 arg12
  let v315 : BitVec 32 := Scalar.addi v314 c0_i32_140
  let v316 : BitVec 32 := Scalar.muli c2_i32_141 v315
  let v317 : BitVec 32 := Scalar.addi v316 c1_i32_142
  let c512_i32_143 : BitVec 32 := 512#32
  let v318 : BitVec 32 := Scalar.muli v317 c512_i32_143
  let v319 : BitVec 32 := v318
  let v322 : Index := Scalar.indexCast v319
  ![0, 0, v322.toNat]
def k0_mult35 (i : grid0.Coords) (k0_t3 : Fin (k0_t3_loop i).trips) : BitVec 32 :=
  let c2_i32_141 : BitVec 32 := 2#32
  let c2_i32_139 : BitVec 32 := 2#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c1_i32_49 : BitVec 32 := 1#32
  let arg12 : BitVec 32 := Scf.iv v89 c1_i32_49 k0_t3
  let v314 : BitVec 32 := Scalar.muli c2_i32_139 arg12
  let c0_i32_140 : BitVec 32 := 0#32
  let v315 : BitVec 32 := Scalar.addi v314 c0_i32_140
  let v316 : BitVec 32 := Scalar.muli c2_i32_141 v315
  let c512_i32_154 : BitVec 32 := 512#32
  let v330 : BitVec 32 := Scalar.muli v316 c512_i32_154
  v330
def k0_off8 (i : grid0.Coords) (k0_t3 : Fin (k0_t3_loop i).trips) (c0_i32_140 : BitVec 32) : Fin 3 → Nat :=
  let c0_158 : Index := 0#32
  let c2_i32_141 : BitVec 32 := 2#32
  let c2_i32_139 : BitVec 32 := 2#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c1_i32_49 : BitVec 32 := 1#32
  let arg12 : BitVec 32 := Scf.iv v89 c1_i32_49 k0_t3
  let v314 : BitVec 32 := Scalar.muli c2_i32_139 arg12
  let v315 : BitVec 32 := Scalar.addi v314 c0_i32_140
  let v316 : BitVec 32 := Scalar.muli c2_i32_141 v315
  let c512_i32_154 : BitVec 32 := 512#32
  let v330 : BitVec 32 := Scalar.muli v316 c512_i32_154
  let v331 : BitVec 32 := v330
  let v359 : Index := Scalar.indexCast v331
  let c0_159 : Index := 0#32
  ![0, v359.toNat, 0]
def k0_mult36 (i : grid0.Coords) (k0_t3 : Fin (k0_t3_loop i).trips) : BitVec 32 :=
  let c2_i32_141 : BitVec 32 := 2#32
  let c2_i32_139 : BitVec 32 := 2#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c1_i32_49 : BitVec 32 := 1#32
  let arg12 : BitVec 32 := Scf.iv v89 c1_i32_49 k0_t3
  let v314 : BitVec 32 := Scalar.muli c2_i32_139 arg12
  let c0_i32_140 : BitVec 32 := 0#32
  let v315 : BitVec 32 := Scalar.addi v314 c0_i32_140
  let v316 : BitVec 32 := Scalar.muli c2_i32_141 v315
  let c2_i32_167 : BitVec 32 := 2#32
  let v373 : BitVec 32 := Scalar.addi v316 c2_i32_167
  let c512_i32_168 : BitVec 32 := 512#32
  let v374 : BitVec 32 := Scalar.muli v373 c512_i32_168
  v374
def k0_mult37 (i : grid0.Coords) (k0_t3 : Fin (k0_t3_loop i).trips) : BitVec 32 :=
  let c2_i32_141 : BitVec 32 := 2#32
  let c2_i32_139 : BitVec 32 := 2#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c1_i32_49 : BitVec 32 := 1#32
  let arg12 : BitVec 32 := Scf.iv v89 c1_i32_49 k0_t3
  let v314 : BitVec 32 := Scalar.muli c2_i32_139 arg12
  let c0_i32_140 : BitVec 32 := 0#32
  let v315 : BitVec 32 := Scalar.addi v314 c0_i32_140
  let v316 : BitVec 32 := Scalar.muli c2_i32_141 v315
  let c1_i32_177 : BitVec 32 := 1#32
  let v385 : BitVec 32 := Scalar.addi v316 c1_i32_177
  let c512_i32_180 : BitVec 32 := 512#32
  let v387 : BitVec 32 := Scalar.muli v385 c512_i32_180
  v387
def k0_off9 (i : grid0.Coords) (k0_t3 : Fin (k0_t3_loop i).trips) (c0_i32_140 : BitVec 32) : Fin 3 → Nat :=
  let c0_184 : Index := 0#32
  let c2_i32_141 : BitVec 32 := 2#32
  let c2_i32_139 : BitVec 32 := 2#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c1_i32_49 : BitVec 32 := 1#32
  let arg12 : BitVec 32 := Scf.iv v89 c1_i32_49 k0_t3
  let v314 : BitVec 32 := Scalar.muli c2_i32_139 arg12
  let v315 : BitVec 32 := Scalar.addi v314 c0_i32_140
  let v316 : BitVec 32 := Scalar.muli c2_i32_141 v315
  let c1_i32_177 : BitVec 32 := 1#32
  let v385 : BitVec 32 := Scalar.addi v316 c1_i32_177
  let c512_i32_180 : BitVec 32 := 512#32
  let v387 : BitVec 32 := Scalar.muli v385 c512_i32_180
  let v388 : BitVec 32 := v387
  let v416 : Index := Scalar.indexCast v388
  let c0_185 : Index := 0#32
  ![0, v416.toNat, 0]
def k0_mult38 (i : grid0.Coords) (k0_t3 : Fin (k0_t3_loop i).trips) : BitVec 32 :=
  let c2_i32_195 : BitVec 32 := 2#32
  let c2_i32_193 : BitVec 32 := 2#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c1_i32_49 : BitVec 32 := 1#32
  let arg12 : BitVec 32 := Scf.iv v89 c1_i32_49 k0_t3
  let v430 : BitVec 32 := Scalar.muli c2_i32_193 arg12
  let c1_i32_194 : BitVec 32 := 1#32
  let v431 : BitVec 32 := Scalar.addi v430 c1_i32_194
  let v432 : BitVec 32 := Scalar.muli c2_i32_195 v431
  let c1_i32_196 : BitVec 32 := 1#32
  let v433 : BitVec 32 := Scalar.addi v432 c1_i32_196
  let c512_i32_197 : BitVec 32 := 512#32
  let v434 : BitVec 32 := Scalar.muli v433 c512_i32_197
  v434
def k0_mult39 (i : grid0.Coords) (k0_t3 : Fin (k0_t3_loop i).trips) : BitVec 32 :=
  let c2_i32_195 : BitVec 32 := 2#32
  let c2_i32_193 : BitVec 32 := 2#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c1_i32_49 : BitVec 32 := 1#32
  let arg12 : BitVec 32 := Scf.iv v89 c1_i32_49 k0_t3
  let v430 : BitVec 32 := Scalar.muli c2_i32_193 arg12
  let c1_i32_194 : BitVec 32 := 1#32
  let v431 : BitVec 32 := Scalar.addi v430 c1_i32_194
  let v432 : BitVec 32 := Scalar.muli c2_i32_195 v431
  let c512_i32_208 : BitVec 32 := 512#32
  let v446 : BitVec 32 := Scalar.muli v432 c512_i32_208
  v446
def k0_mult40 (i : grid0.Coords) (k0_t3 : Fin (k0_t3_loop i).trips) : BitVec 32 :=
  let c2_i32_195 : BitVec 32 := 2#32
  let c2_i32_193 : BitVec 32 := 2#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c1_i32_49 : BitVec 32 := 1#32
  let arg12 : BitVec 32 := Scf.iv v89 c1_i32_49 k0_t3
  let v430 : BitVec 32 := Scalar.muli c2_i32_193 arg12
  let c1_i32_194 : BitVec 32 := 1#32
  let v431 : BitVec 32 := Scalar.addi v430 c1_i32_194
  let v432 : BitVec 32 := Scalar.muli c2_i32_195 v431
  let c2_i32_221 : BitVec 32 := 2#32
  let v489 : BitVec 32 := Scalar.addi v432 c2_i32_221
  let c512_i32_222 : BitVec 32 := 512#32
  let v490 : BitVec 32 := Scalar.muli v489 c512_i32_222
  v490
def k0_mult41 (i : grid0.Coords) (k0_t3 : Fin (k0_t3_loop i).trips) : BitVec 32 :=
  let c2_i32_195 : BitVec 32 := 2#32
  let c2_i32_193 : BitVec 32 := 2#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c1_i32_49 : BitVec 32 := 1#32
  let arg12 : BitVec 32 := Scf.iv v89 c1_i32_49 k0_t3
  let v430 : BitVec 32 := Scalar.muli c2_i32_193 arg12
  let c1_i32_194 : BitVec 32 := 1#32
  let v431 : BitVec 32 := Scalar.addi v430 c1_i32_194
  let v432 : BitVec 32 := Scalar.muli c2_i32_195 v431
  let c1_i32_231 : BitVec 32 := 1#32
  let v501 : BitVec 32 := Scalar.addi v432 c1_i32_231
  let c512_i32_234 : BitVec 32 := 512#32
  let v503 : BitVec 32 := Scalar.muli v501 c512_i32_234
  v503
@[reducible] def k0_t4_loop (i : grid0.Coords) : Scf.Loop 32 :=
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c0_i32_41 : BitVec 32 := 0#32
  let v91 : BitVec 1 := Scalar.cmpi .sgt v54 c0_i32_41
  let v92 : BitVec 32 := Scalar.extui v91
  let c0_i32_42 : BitVec 32 := 0#32
  let v93 : BitVec 1 := Scalar.cmpi .slt v54 c0_i32_42
  let v94 : BitVec 32 := Scalar.extui v93
  let v95 : BitVec 32 := Scalar.subi v92 v94
  let c2_i32_40 : BitVec 32 := 2#32
  let c0_i32_43 : BitVec 32 := 0#32
  let v96 : BitVec 1 := Scalar.cmpi .sgt c2_i32_40 c0_i32_43
  let v97 : BitVec 32 := Scalar.extui v96
  let c0_i32_44 : BitVec 32 := 0#32
  let v98 : BitVec 1 := Scalar.cmpi .slt c2_i32_40 c0_i32_44
  let v99 : BitVec 32 := Scalar.extui v98
  let v100 : BitVec 32 := Scalar.subi v97 v99
  let v101 : BitVec 1 := Scalar.cmpi .ne v95 v100
  let v102 : BitVec 32 := Scalar.remsi v54 c2_i32_40
  let c0_i32_45 : BitVec 32 := 0#32
  let v103 : BitVec 1 := Scalar.cmpi .ne v102 c0_i32_45
  let v104 : BitVec 1 := Scalar.andi v101 v103
  let v90 : BitVec 32 := Scalar.divsi v54 c2_i32_40
  let c1_i32_46 : BitVec 32 := 1#32
  let v105 : BitVec 32 := Scalar.subi v90 c1_i32_46
  let v106 : BitVec 32 := Scalar.select v104 v105 v90
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let v107 : BitVec 32 := Scalar.addi v106 v72
  let v108 : BitVec 32 := Scalar.subi v107 v89
  let c1_i32_48 : BitVec 32 := 1#32
  let v110 : BitVec 32 := Scalar.divsi v108 c1_i32_48
  let v111 : BitVec 32 := Scalar.muli v110 c1_i32_48
  let v112 : BitVec 32 := Scalar.addi v89 v111
  let v109 : BitVec 32 := Scalar.addi v89 v108
  let c1_i32_50 : BitVec 32 := 1#32
  ⟨v112, v109, c1_i32_50⟩
def k0_mult42 (i : grid0.Coords) (k0_t4 : Fin (k0_t4_loop i).trips) : BitVec 32 :=
  let c2_i32_141 : BitVec 32 := 2#32
  let c2_i32_139 : BitVec 32 := 2#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c0_i32_41 : BitVec 32 := 0#32
  let v91 : BitVec 1 := Scalar.cmpi .sgt v54 c0_i32_41
  let v92 : BitVec 32 := Scalar.extui v91
  let c0_i32_42 : BitVec 32 := 0#32
  let v93 : BitVec 1 := Scalar.cmpi .slt v54 c0_i32_42
  let v94 : BitVec 32 := Scalar.extui v93
  let v95 : BitVec 32 := Scalar.subi v92 v94
  let c2_i32_40 : BitVec 32 := 2#32
  let c0_i32_43 : BitVec 32 := 0#32
  let v96 : BitVec 1 := Scalar.cmpi .sgt c2_i32_40 c0_i32_43
  let v97 : BitVec 32 := Scalar.extui v96
  let c0_i32_44 : BitVec 32 := 0#32
  let v98 : BitVec 1 := Scalar.cmpi .slt c2_i32_40 c0_i32_44
  let v99 : BitVec 32 := Scalar.extui v98
  let v100 : BitVec 32 := Scalar.subi v97 v99
  let v101 : BitVec 1 := Scalar.cmpi .ne v95 v100
  let v102 : BitVec 32 := Scalar.remsi v54 c2_i32_40
  let c0_i32_45 : BitVec 32 := 0#32
  let v103 : BitVec 1 := Scalar.cmpi .ne v102 c0_i32_45
  let v104 : BitVec 1 := Scalar.andi v101 v103
  let v90 : BitVec 32 := Scalar.divsi v54 c2_i32_40
  let c1_i32_46 : BitVec 32 := 1#32
  let v105 : BitVec 32 := Scalar.subi v90 c1_i32_46
  let v106 : BitVec 32 := Scalar.select v104 v105 v90
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let v107 : BitVec 32 := Scalar.addi v106 v72
  let v108 : BitVec 32 := Scalar.subi v107 v89
  let c1_i32_48 : BitVec 32 := 1#32
  let v110 : BitVec 32 := Scalar.divsi v108 c1_i32_48
  let v111 : BitVec 32 := Scalar.muli v110 c1_i32_48
  let v112 : BitVec 32 := Scalar.addi v89 v111
  let c1_i32_50 : BitVec 32 := 1#32
  let arg12 : BitVec 32 := Scf.iv v112 c1_i32_50 k0_t4
  let v314 : BitVec 32 := Scalar.muli c2_i32_139 arg12
  let c0_i32_140 : BitVec 32 := 0#32
  let v315 : BitVec 32 := Scalar.addi v314 c0_i32_140
  let v316 : BitVec 32 := Scalar.muli c2_i32_141 v315
  let c1_i32_142 : BitVec 32 := 1#32
  let v317 : BitVec 32 := Scalar.addi v316 c1_i32_142
  let c512_i32_143 : BitVec 32 := 512#32
  let v318 : BitVec 32 := Scalar.muli v317 c512_i32_143
  v318
def k0_off10 (i : grid0.Coords) (k0_t4 : Fin (k0_t4_loop i).trips) (c0_i32_140 : BitVec 32) (c1_i32_142 : BitVec 32) : Fin 3 → Nat :=
  let c0_147 : Index := 0#32
  let c0_148 : Index := 0#32
  let c2_i32_141 : BitVec 32 := 2#32
  let c2_i32_139 : BitVec 32 := 2#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c0_i32_41 : BitVec 32 := 0#32
  let v91 : BitVec 1 := Scalar.cmpi .sgt v54 c0_i32_41
  let v92 : BitVec 32 := Scalar.extui v91
  let c0_i32_42 : BitVec 32 := 0#32
  let v93 : BitVec 1 := Scalar.cmpi .slt v54 c0_i32_42
  let v94 : BitVec 32 := Scalar.extui v93
  let v95 : BitVec 32 := Scalar.subi v92 v94
  let c2_i32_40 : BitVec 32 := 2#32
  let c0_i32_43 : BitVec 32 := 0#32
  let v96 : BitVec 1 := Scalar.cmpi .sgt c2_i32_40 c0_i32_43
  let v97 : BitVec 32 := Scalar.extui v96
  let c0_i32_44 : BitVec 32 := 0#32
  let v98 : BitVec 1 := Scalar.cmpi .slt c2_i32_40 c0_i32_44
  let v99 : BitVec 32 := Scalar.extui v98
  let v100 : BitVec 32 := Scalar.subi v97 v99
  let v101 : BitVec 1 := Scalar.cmpi .ne v95 v100
  let v102 : BitVec 32 := Scalar.remsi v54 c2_i32_40
  let c0_i32_45 : BitVec 32 := 0#32
  let v103 : BitVec 1 := Scalar.cmpi .ne v102 c0_i32_45
  let v104 : BitVec 1 := Scalar.andi v101 v103
  let v90 : BitVec 32 := Scalar.divsi v54 c2_i32_40
  let c1_i32_46 : BitVec 32 := 1#32
  let v105 : BitVec 32 := Scalar.subi v90 c1_i32_46
  let v106 : BitVec 32 := Scalar.select v104 v105 v90
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let v107 : BitVec 32 := Scalar.addi v106 v72
  let v108 : BitVec 32 := Scalar.subi v107 v89
  let c1_i32_48 : BitVec 32 := 1#32
  let v110 : BitVec 32 := Scalar.divsi v108 c1_i32_48
  let v111 : BitVec 32 := Scalar.muli v110 c1_i32_48
  let v112 : BitVec 32 := Scalar.addi v89 v111
  let c1_i32_50 : BitVec 32 := 1#32
  let arg12 : BitVec 32 := Scf.iv v112 c1_i32_50 k0_t4
  let v314 : BitVec 32 := Scalar.muli c2_i32_139 arg12
  let v315 : BitVec 32 := Scalar.addi v314 c0_i32_140
  let v316 : BitVec 32 := Scalar.muli c2_i32_141 v315
  let v317 : BitVec 32 := Scalar.addi v316 c1_i32_142
  let c512_i32_143 : BitVec 32 := 512#32
  let v318 : BitVec 32 := Scalar.muli v317 c512_i32_143
  let v319 : BitVec 32 := v318
  let v322 : Index := Scalar.indexCast v319
  ![0, 0, v322.toNat]
def k0_mult43 (i : grid0.Coords) (k0_t4 : Fin (k0_t4_loop i).trips) : BitVec 32 :=
  let c2_i32_141 : BitVec 32 := 2#32
  let c2_i32_139 : BitVec 32 := 2#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c0_i32_41 : BitVec 32 := 0#32
  let v91 : BitVec 1 := Scalar.cmpi .sgt v54 c0_i32_41
  let v92 : BitVec 32 := Scalar.extui v91
  let c0_i32_42 : BitVec 32 := 0#32
  let v93 : BitVec 1 := Scalar.cmpi .slt v54 c0_i32_42
  let v94 : BitVec 32 := Scalar.extui v93
  let v95 : BitVec 32 := Scalar.subi v92 v94
  let c2_i32_40 : BitVec 32 := 2#32
  let c0_i32_43 : BitVec 32 := 0#32
  let v96 : BitVec 1 := Scalar.cmpi .sgt c2_i32_40 c0_i32_43
  let v97 : BitVec 32 := Scalar.extui v96
  let c0_i32_44 : BitVec 32 := 0#32
  let v98 : BitVec 1 := Scalar.cmpi .slt c2_i32_40 c0_i32_44
  let v99 : BitVec 32 := Scalar.extui v98
  let v100 : BitVec 32 := Scalar.subi v97 v99
  let v101 : BitVec 1 := Scalar.cmpi .ne v95 v100
  let v102 : BitVec 32 := Scalar.remsi v54 c2_i32_40
  let c0_i32_45 : BitVec 32 := 0#32
  let v103 : BitVec 1 := Scalar.cmpi .ne v102 c0_i32_45
  let v104 : BitVec 1 := Scalar.andi v101 v103
  let v90 : BitVec 32 := Scalar.divsi v54 c2_i32_40
  let c1_i32_46 : BitVec 32 := 1#32
  let v105 : BitVec 32 := Scalar.subi v90 c1_i32_46
  let v106 : BitVec 32 := Scalar.select v104 v105 v90
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let v107 : BitVec 32 := Scalar.addi v106 v72
  let v108 : BitVec 32 := Scalar.subi v107 v89
  let c1_i32_48 : BitVec 32 := 1#32
  let v110 : BitVec 32 := Scalar.divsi v108 c1_i32_48
  let v111 : BitVec 32 := Scalar.muli v110 c1_i32_48
  let v112 : BitVec 32 := Scalar.addi v89 v111
  let c1_i32_50 : BitVec 32 := 1#32
  let arg12 : BitVec 32 := Scf.iv v112 c1_i32_50 k0_t4
  let v314 : BitVec 32 := Scalar.muli c2_i32_139 arg12
  let c0_i32_140 : BitVec 32 := 0#32
  let v315 : BitVec 32 := Scalar.addi v314 c0_i32_140
  let v316 : BitVec 32 := Scalar.muli c2_i32_141 v315
  let c512_i32_154 : BitVec 32 := 512#32
  let v330 : BitVec 32 := Scalar.muli v316 c512_i32_154
  v330
def k0_off11 (i : grid0.Coords) (k0_t4 : Fin (k0_t4_loop i).trips) (c0_i32_140 : BitVec 32) : Fin 3 → Nat :=
  let c0_158 : Index := 0#32
  let c2_i32_141 : BitVec 32 := 2#32
  let c2_i32_139 : BitVec 32 := 2#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c0_i32_41 : BitVec 32 := 0#32
  let v91 : BitVec 1 := Scalar.cmpi .sgt v54 c0_i32_41
  let v92 : BitVec 32 := Scalar.extui v91
  let c0_i32_42 : BitVec 32 := 0#32
  let v93 : BitVec 1 := Scalar.cmpi .slt v54 c0_i32_42
  let v94 : BitVec 32 := Scalar.extui v93
  let v95 : BitVec 32 := Scalar.subi v92 v94
  let c2_i32_40 : BitVec 32 := 2#32
  let c0_i32_43 : BitVec 32 := 0#32
  let v96 : BitVec 1 := Scalar.cmpi .sgt c2_i32_40 c0_i32_43
  let v97 : BitVec 32 := Scalar.extui v96
  let c0_i32_44 : BitVec 32 := 0#32
  let v98 : BitVec 1 := Scalar.cmpi .slt c2_i32_40 c0_i32_44
  let v99 : BitVec 32 := Scalar.extui v98
  let v100 : BitVec 32 := Scalar.subi v97 v99
  let v101 : BitVec 1 := Scalar.cmpi .ne v95 v100
  let v102 : BitVec 32 := Scalar.remsi v54 c2_i32_40
  let c0_i32_45 : BitVec 32 := 0#32
  let v103 : BitVec 1 := Scalar.cmpi .ne v102 c0_i32_45
  let v104 : BitVec 1 := Scalar.andi v101 v103
  let v90 : BitVec 32 := Scalar.divsi v54 c2_i32_40
  let c1_i32_46 : BitVec 32 := 1#32
  let v105 : BitVec 32 := Scalar.subi v90 c1_i32_46
  let v106 : BitVec 32 := Scalar.select v104 v105 v90
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let v107 : BitVec 32 := Scalar.addi v106 v72
  let v108 : BitVec 32 := Scalar.subi v107 v89
  let c1_i32_48 : BitVec 32 := 1#32
  let v110 : BitVec 32 := Scalar.divsi v108 c1_i32_48
  let v111 : BitVec 32 := Scalar.muli v110 c1_i32_48
  let v112 : BitVec 32 := Scalar.addi v89 v111
  let c1_i32_50 : BitVec 32 := 1#32
  let arg12 : BitVec 32 := Scf.iv v112 c1_i32_50 k0_t4
  let v314 : BitVec 32 := Scalar.muli c2_i32_139 arg12
  let v315 : BitVec 32 := Scalar.addi v314 c0_i32_140
  let v316 : BitVec 32 := Scalar.muli c2_i32_141 v315
  let c512_i32_154 : BitVec 32 := 512#32
  let v330 : BitVec 32 := Scalar.muli v316 c512_i32_154
  let v331 : BitVec 32 := v330
  let v359 : Index := Scalar.indexCast v331
  let c0_159 : Index := 0#32
  ![0, v359.toNat, 0]
def k0_mult44 (i : grid0.Coords) (k0_t4 : Fin (k0_t4_loop i).trips) : BitVec 32 :=
  let c2_i32_141 : BitVec 32 := 2#32
  let c2_i32_139 : BitVec 32 := 2#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c0_i32_41 : BitVec 32 := 0#32
  let v91 : BitVec 1 := Scalar.cmpi .sgt v54 c0_i32_41
  let v92 : BitVec 32 := Scalar.extui v91
  let c0_i32_42 : BitVec 32 := 0#32
  let v93 : BitVec 1 := Scalar.cmpi .slt v54 c0_i32_42
  let v94 : BitVec 32 := Scalar.extui v93
  let v95 : BitVec 32 := Scalar.subi v92 v94
  let c2_i32_40 : BitVec 32 := 2#32
  let c0_i32_43 : BitVec 32 := 0#32
  let v96 : BitVec 1 := Scalar.cmpi .sgt c2_i32_40 c0_i32_43
  let v97 : BitVec 32 := Scalar.extui v96
  let c0_i32_44 : BitVec 32 := 0#32
  let v98 : BitVec 1 := Scalar.cmpi .slt c2_i32_40 c0_i32_44
  let v99 : BitVec 32 := Scalar.extui v98
  let v100 : BitVec 32 := Scalar.subi v97 v99
  let v101 : BitVec 1 := Scalar.cmpi .ne v95 v100
  let v102 : BitVec 32 := Scalar.remsi v54 c2_i32_40
  let c0_i32_45 : BitVec 32 := 0#32
  let v103 : BitVec 1 := Scalar.cmpi .ne v102 c0_i32_45
  let v104 : BitVec 1 := Scalar.andi v101 v103
  let v90 : BitVec 32 := Scalar.divsi v54 c2_i32_40
  let c1_i32_46 : BitVec 32 := 1#32
  let v105 : BitVec 32 := Scalar.subi v90 c1_i32_46
  let v106 : BitVec 32 := Scalar.select v104 v105 v90
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let v107 : BitVec 32 := Scalar.addi v106 v72
  let v108 : BitVec 32 := Scalar.subi v107 v89
  let c1_i32_48 : BitVec 32 := 1#32
  let v110 : BitVec 32 := Scalar.divsi v108 c1_i32_48
  let v111 : BitVec 32 := Scalar.muli v110 c1_i32_48
  let v112 : BitVec 32 := Scalar.addi v89 v111
  let c1_i32_50 : BitVec 32 := 1#32
  let arg12 : BitVec 32 := Scf.iv v112 c1_i32_50 k0_t4
  let v314 : BitVec 32 := Scalar.muli c2_i32_139 arg12
  let c0_i32_140 : BitVec 32 := 0#32
  let v315 : BitVec 32 := Scalar.addi v314 c0_i32_140
  let v316 : BitVec 32 := Scalar.muli c2_i32_141 v315
  let c2_i32_167 : BitVec 32 := 2#32
  let v373 : BitVec 32 := Scalar.addi v316 c2_i32_167
  let c512_i32_168 : BitVec 32 := 512#32
  let v374 : BitVec 32 := Scalar.muli v373 c512_i32_168
  v374
def k0_mult45 (i : grid0.Coords) (k0_t4 : Fin (k0_t4_loop i).trips) : BitVec 32 :=
  let c2_i32_141 : BitVec 32 := 2#32
  let c2_i32_139 : BitVec 32 := 2#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c0_i32_41 : BitVec 32 := 0#32
  let v91 : BitVec 1 := Scalar.cmpi .sgt v54 c0_i32_41
  let v92 : BitVec 32 := Scalar.extui v91
  let c0_i32_42 : BitVec 32 := 0#32
  let v93 : BitVec 1 := Scalar.cmpi .slt v54 c0_i32_42
  let v94 : BitVec 32 := Scalar.extui v93
  let v95 : BitVec 32 := Scalar.subi v92 v94
  let c2_i32_40 : BitVec 32 := 2#32
  let c0_i32_43 : BitVec 32 := 0#32
  let v96 : BitVec 1 := Scalar.cmpi .sgt c2_i32_40 c0_i32_43
  let v97 : BitVec 32 := Scalar.extui v96
  let c0_i32_44 : BitVec 32 := 0#32
  let v98 : BitVec 1 := Scalar.cmpi .slt c2_i32_40 c0_i32_44
  let v99 : BitVec 32 := Scalar.extui v98
  let v100 : BitVec 32 := Scalar.subi v97 v99
  let v101 : BitVec 1 := Scalar.cmpi .ne v95 v100
  let v102 : BitVec 32 := Scalar.remsi v54 c2_i32_40
  let c0_i32_45 : BitVec 32 := 0#32
  let v103 : BitVec 1 := Scalar.cmpi .ne v102 c0_i32_45
  let v104 : BitVec 1 := Scalar.andi v101 v103
  let v90 : BitVec 32 := Scalar.divsi v54 c2_i32_40
  let c1_i32_46 : BitVec 32 := 1#32
  let v105 : BitVec 32 := Scalar.subi v90 c1_i32_46
  let v106 : BitVec 32 := Scalar.select v104 v105 v90
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let v107 : BitVec 32 := Scalar.addi v106 v72
  let v108 : BitVec 32 := Scalar.subi v107 v89
  let c1_i32_48 : BitVec 32 := 1#32
  let v110 : BitVec 32 := Scalar.divsi v108 c1_i32_48
  let v111 : BitVec 32 := Scalar.muli v110 c1_i32_48
  let v112 : BitVec 32 := Scalar.addi v89 v111
  let c1_i32_50 : BitVec 32 := 1#32
  let arg12 : BitVec 32 := Scf.iv v112 c1_i32_50 k0_t4
  let v314 : BitVec 32 := Scalar.muli c2_i32_139 arg12
  let c0_i32_140 : BitVec 32 := 0#32
  let v315 : BitVec 32 := Scalar.addi v314 c0_i32_140
  let v316 : BitVec 32 := Scalar.muli c2_i32_141 v315
  let c1_i32_177 : BitVec 32 := 1#32
  let v385 : BitVec 32 := Scalar.addi v316 c1_i32_177
  let c512_i32_180 : BitVec 32 := 512#32
  let v387 : BitVec 32 := Scalar.muli v385 c512_i32_180
  v387
def k0_off12 (i : grid0.Coords) (k0_t4 : Fin (k0_t4_loop i).trips) (c0_i32_140 : BitVec 32) : Fin 3 → Nat :=
  let c0_184 : Index := 0#32
  let c2_i32_141 : BitVec 32 := 2#32
  let c2_i32_139 : BitVec 32 := 2#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c0_i32_41 : BitVec 32 := 0#32
  let v91 : BitVec 1 := Scalar.cmpi .sgt v54 c0_i32_41
  let v92 : BitVec 32 := Scalar.extui v91
  let c0_i32_42 : BitVec 32 := 0#32
  let v93 : BitVec 1 := Scalar.cmpi .slt v54 c0_i32_42
  let v94 : BitVec 32 := Scalar.extui v93
  let v95 : BitVec 32 := Scalar.subi v92 v94
  let c2_i32_40 : BitVec 32 := 2#32
  let c0_i32_43 : BitVec 32 := 0#32
  let v96 : BitVec 1 := Scalar.cmpi .sgt c2_i32_40 c0_i32_43
  let v97 : BitVec 32 := Scalar.extui v96
  let c0_i32_44 : BitVec 32 := 0#32
  let v98 : BitVec 1 := Scalar.cmpi .slt c2_i32_40 c0_i32_44
  let v99 : BitVec 32 := Scalar.extui v98
  let v100 : BitVec 32 := Scalar.subi v97 v99
  let v101 : BitVec 1 := Scalar.cmpi .ne v95 v100
  let v102 : BitVec 32 := Scalar.remsi v54 c2_i32_40
  let c0_i32_45 : BitVec 32 := 0#32
  let v103 : BitVec 1 := Scalar.cmpi .ne v102 c0_i32_45
  let v104 : BitVec 1 := Scalar.andi v101 v103
  let v90 : BitVec 32 := Scalar.divsi v54 c2_i32_40
  let c1_i32_46 : BitVec 32 := 1#32
  let v105 : BitVec 32 := Scalar.subi v90 c1_i32_46
  let v106 : BitVec 32 := Scalar.select v104 v105 v90
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let v107 : BitVec 32 := Scalar.addi v106 v72
  let v108 : BitVec 32 := Scalar.subi v107 v89
  let c1_i32_48 : BitVec 32 := 1#32
  let v110 : BitVec 32 := Scalar.divsi v108 c1_i32_48
  let v111 : BitVec 32 := Scalar.muli v110 c1_i32_48
  let v112 : BitVec 32 := Scalar.addi v89 v111
  let c1_i32_50 : BitVec 32 := 1#32
  let arg12 : BitVec 32 := Scf.iv v112 c1_i32_50 k0_t4
  let v314 : BitVec 32 := Scalar.muli c2_i32_139 arg12
  let v315 : BitVec 32 := Scalar.addi v314 c0_i32_140
  let v316 : BitVec 32 := Scalar.muli c2_i32_141 v315
  let c1_i32_177 : BitVec 32 := 1#32
  let v385 : BitVec 32 := Scalar.addi v316 c1_i32_177
  let c512_i32_180 : BitVec 32 := 512#32
  let v387 : BitVec 32 := Scalar.muli v385 c512_i32_180
  let v388 : BitVec 32 := v387
  let v416 : Index := Scalar.indexCast v388
  let c0_185 : Index := 0#32
  ![0, v416.toNat, 0]
def k0_mult46 (i : grid0.Coords) (k0_t4 : Fin (k0_t4_loop i).trips) : BitVec 32 :=
  let c2_i32_195 : BitVec 32 := 2#32
  let c2_i32_193 : BitVec 32 := 2#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c0_i32_41 : BitVec 32 := 0#32
  let v91 : BitVec 1 := Scalar.cmpi .sgt v54 c0_i32_41
  let v92 : BitVec 32 := Scalar.extui v91
  let c0_i32_42 : BitVec 32 := 0#32
  let v93 : BitVec 1 := Scalar.cmpi .slt v54 c0_i32_42
  let v94 : BitVec 32 := Scalar.extui v93
  let v95 : BitVec 32 := Scalar.subi v92 v94
  let c2_i32_40 : BitVec 32 := 2#32
  let c0_i32_43 : BitVec 32 := 0#32
  let v96 : BitVec 1 := Scalar.cmpi .sgt c2_i32_40 c0_i32_43
  let v97 : BitVec 32 := Scalar.extui v96
  let c0_i32_44 : BitVec 32 := 0#32
  let v98 : BitVec 1 := Scalar.cmpi .slt c2_i32_40 c0_i32_44
  let v99 : BitVec 32 := Scalar.extui v98
  let v100 : BitVec 32 := Scalar.subi v97 v99
  let v101 : BitVec 1 := Scalar.cmpi .ne v95 v100
  let v102 : BitVec 32 := Scalar.remsi v54 c2_i32_40
  let c0_i32_45 : BitVec 32 := 0#32
  let v103 : BitVec 1 := Scalar.cmpi .ne v102 c0_i32_45
  let v104 : BitVec 1 := Scalar.andi v101 v103
  let v90 : BitVec 32 := Scalar.divsi v54 c2_i32_40
  let c1_i32_46 : BitVec 32 := 1#32
  let v105 : BitVec 32 := Scalar.subi v90 c1_i32_46
  let v106 : BitVec 32 := Scalar.select v104 v105 v90
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let v107 : BitVec 32 := Scalar.addi v106 v72
  let v108 : BitVec 32 := Scalar.subi v107 v89
  let c1_i32_48 : BitVec 32 := 1#32
  let v110 : BitVec 32 := Scalar.divsi v108 c1_i32_48
  let v111 : BitVec 32 := Scalar.muli v110 c1_i32_48
  let v112 : BitVec 32 := Scalar.addi v89 v111
  let c1_i32_50 : BitVec 32 := 1#32
  let arg12 : BitVec 32 := Scf.iv v112 c1_i32_50 k0_t4
  let v430 : BitVec 32 := Scalar.muli c2_i32_193 arg12
  let c1_i32_194 : BitVec 32 := 1#32
  let v431 : BitVec 32 := Scalar.addi v430 c1_i32_194
  let v432 : BitVec 32 := Scalar.muli c2_i32_195 v431
  let c1_i32_196 : BitVec 32 := 1#32
  let v433 : BitVec 32 := Scalar.addi v432 c1_i32_196
  let c512_i32_197 : BitVec 32 := 512#32
  let v434 : BitVec 32 := Scalar.muli v433 c512_i32_197
  v434
def k0_mult47 (i : grid0.Coords) (k0_t4 : Fin (k0_t4_loop i).trips) : BitVec 32 :=
  let c2_i32_195 : BitVec 32 := 2#32
  let c2_i32_193 : BitVec 32 := 2#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c0_i32_41 : BitVec 32 := 0#32
  let v91 : BitVec 1 := Scalar.cmpi .sgt v54 c0_i32_41
  let v92 : BitVec 32 := Scalar.extui v91
  let c0_i32_42 : BitVec 32 := 0#32
  let v93 : BitVec 1 := Scalar.cmpi .slt v54 c0_i32_42
  let v94 : BitVec 32 := Scalar.extui v93
  let v95 : BitVec 32 := Scalar.subi v92 v94
  let c2_i32_40 : BitVec 32 := 2#32
  let c0_i32_43 : BitVec 32 := 0#32
  let v96 : BitVec 1 := Scalar.cmpi .sgt c2_i32_40 c0_i32_43
  let v97 : BitVec 32 := Scalar.extui v96
  let c0_i32_44 : BitVec 32 := 0#32
  let v98 : BitVec 1 := Scalar.cmpi .slt c2_i32_40 c0_i32_44
  let v99 : BitVec 32 := Scalar.extui v98
  let v100 : BitVec 32 := Scalar.subi v97 v99
  let v101 : BitVec 1 := Scalar.cmpi .ne v95 v100
  let v102 : BitVec 32 := Scalar.remsi v54 c2_i32_40
  let c0_i32_45 : BitVec 32 := 0#32
  let v103 : BitVec 1 := Scalar.cmpi .ne v102 c0_i32_45
  let v104 : BitVec 1 := Scalar.andi v101 v103
  let v90 : BitVec 32 := Scalar.divsi v54 c2_i32_40
  let c1_i32_46 : BitVec 32 := 1#32
  let v105 : BitVec 32 := Scalar.subi v90 c1_i32_46
  let v106 : BitVec 32 := Scalar.select v104 v105 v90
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let v107 : BitVec 32 := Scalar.addi v106 v72
  let v108 : BitVec 32 := Scalar.subi v107 v89
  let c1_i32_48 : BitVec 32 := 1#32
  let v110 : BitVec 32 := Scalar.divsi v108 c1_i32_48
  let v111 : BitVec 32 := Scalar.muli v110 c1_i32_48
  let v112 : BitVec 32 := Scalar.addi v89 v111
  let c1_i32_50 : BitVec 32 := 1#32
  let arg12 : BitVec 32 := Scf.iv v112 c1_i32_50 k0_t4
  let v430 : BitVec 32 := Scalar.muli c2_i32_193 arg12
  let c1_i32_194 : BitVec 32 := 1#32
  let v431 : BitVec 32 := Scalar.addi v430 c1_i32_194
  let v432 : BitVec 32 := Scalar.muli c2_i32_195 v431
  let c512_i32_208 : BitVec 32 := 512#32
  let v446 : BitVec 32 := Scalar.muli v432 c512_i32_208
  v446
def k0_mult48 (i : grid0.Coords) (k0_t4 : Fin (k0_t4_loop i).trips) : BitVec 32 :=
  let c2_i32_195 : BitVec 32 := 2#32
  let c2_i32_193 : BitVec 32 := 2#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c0_i32_41 : BitVec 32 := 0#32
  let v91 : BitVec 1 := Scalar.cmpi .sgt v54 c0_i32_41
  let v92 : BitVec 32 := Scalar.extui v91
  let c0_i32_42 : BitVec 32 := 0#32
  let v93 : BitVec 1 := Scalar.cmpi .slt v54 c0_i32_42
  let v94 : BitVec 32 := Scalar.extui v93
  let v95 : BitVec 32 := Scalar.subi v92 v94
  let c2_i32_40 : BitVec 32 := 2#32
  let c0_i32_43 : BitVec 32 := 0#32
  let v96 : BitVec 1 := Scalar.cmpi .sgt c2_i32_40 c0_i32_43
  let v97 : BitVec 32 := Scalar.extui v96
  let c0_i32_44 : BitVec 32 := 0#32
  let v98 : BitVec 1 := Scalar.cmpi .slt c2_i32_40 c0_i32_44
  let v99 : BitVec 32 := Scalar.extui v98
  let v100 : BitVec 32 := Scalar.subi v97 v99
  let v101 : BitVec 1 := Scalar.cmpi .ne v95 v100
  let v102 : BitVec 32 := Scalar.remsi v54 c2_i32_40
  let c0_i32_45 : BitVec 32 := 0#32
  let v103 : BitVec 1 := Scalar.cmpi .ne v102 c0_i32_45
  let v104 : BitVec 1 := Scalar.andi v101 v103
  let v90 : BitVec 32 := Scalar.divsi v54 c2_i32_40
  let c1_i32_46 : BitVec 32 := 1#32
  let v105 : BitVec 32 := Scalar.subi v90 c1_i32_46
  let v106 : BitVec 32 := Scalar.select v104 v105 v90
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let v107 : BitVec 32 := Scalar.addi v106 v72
  let v108 : BitVec 32 := Scalar.subi v107 v89
  let c1_i32_48 : BitVec 32 := 1#32
  let v110 : BitVec 32 := Scalar.divsi v108 c1_i32_48
  let v111 : BitVec 32 := Scalar.muli v110 c1_i32_48
  let v112 : BitVec 32 := Scalar.addi v89 v111
  let c1_i32_50 : BitVec 32 := 1#32
  let arg12 : BitVec 32 := Scf.iv v112 c1_i32_50 k0_t4
  let v430 : BitVec 32 := Scalar.muli c2_i32_193 arg12
  let c1_i32_194 : BitVec 32 := 1#32
  let v431 : BitVec 32 := Scalar.addi v430 c1_i32_194
  let v432 : BitVec 32 := Scalar.muli c2_i32_195 v431
  let c2_i32_221 : BitVec 32 := 2#32
  let v489 : BitVec 32 := Scalar.addi v432 c2_i32_221
  let c512_i32_222 : BitVec 32 := 512#32
  let v490 : BitVec 32 := Scalar.muli v489 c512_i32_222
  v490
def k0_mult49 (i : grid0.Coords) (k0_t4 : Fin (k0_t4_loop i).trips) : BitVec 32 :=
  let c2_i32_195 : BitVec 32 := 2#32
  let c2_i32_193 : BitVec 32 := 2#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let c0_i32_34 : BitVec 32 := 0#32
  let v74 : BitVec 1 := Scalar.cmpi .sgt v54 c0_i32_34
  let v75 : BitVec 32 := Scalar.extui v74
  let c0_i32_35 : BitVec 32 := 0#32
  let v76 : BitVec 1 := Scalar.cmpi .slt v54 c0_i32_35
  let v77 : BitVec 32 := Scalar.extui v76
  let v78 : BitVec 32 := Scalar.subi v75 v77
  let c2_i32_33 : BitVec 32 := 2#32
  let c0_i32_36 : BitVec 32 := 0#32
  let v79 : BitVec 1 := Scalar.cmpi .sgt c2_i32_33 c0_i32_36
  let v80 : BitVec 32 := Scalar.extui v79
  let c0_i32_37 : BitVec 32 := 0#32
  let v81 : BitVec 1 := Scalar.cmpi .slt c2_i32_33 c0_i32_37
  let v82 : BitVec 32 := Scalar.extui v81
  let v83 : BitVec 32 := Scalar.subi v80 v82
  let v84 : BitVec 1 := Scalar.cmpi .ne v78 v83
  let v85 : BitVec 32 := Scalar.remsi v54 c2_i32_33
  let c0_i32_38 : BitVec 32 := 0#32
  let v86 : BitVec 1 := Scalar.cmpi .ne v85 c0_i32_38
  let v87 : BitVec 1 := Scalar.andi v84 v86
  let v73 : BitVec 32 := Scalar.divsi v54 c2_i32_33
  let c1_i32_39 : BitVec 32 := 1#32
  let v88 : BitVec 32 := Scalar.subi v73 c1_i32_39
  let v89 : BitVec 32 := Scalar.select v87 v88 v73
  let c0_i32_41 : BitVec 32 := 0#32
  let v91 : BitVec 1 := Scalar.cmpi .sgt v54 c0_i32_41
  let v92 : BitVec 32 := Scalar.extui v91
  let c0_i32_42 : BitVec 32 := 0#32
  let v93 : BitVec 1 := Scalar.cmpi .slt v54 c0_i32_42
  let v94 : BitVec 32 := Scalar.extui v93
  let v95 : BitVec 32 := Scalar.subi v92 v94
  let c2_i32_40 : BitVec 32 := 2#32
  let c0_i32_43 : BitVec 32 := 0#32
  let v96 : BitVec 1 := Scalar.cmpi .sgt c2_i32_40 c0_i32_43
  let v97 : BitVec 32 := Scalar.extui v96
  let c0_i32_44 : BitVec 32 := 0#32
  let v98 : BitVec 1 := Scalar.cmpi .slt c2_i32_40 c0_i32_44
  let v99 : BitVec 32 := Scalar.extui v98
  let v100 : BitVec 32 := Scalar.subi v97 v99
  let v101 : BitVec 1 := Scalar.cmpi .ne v95 v100
  let v102 : BitVec 32 := Scalar.remsi v54 c2_i32_40
  let c0_i32_45 : BitVec 32 := 0#32
  let v103 : BitVec 1 := Scalar.cmpi .ne v102 c0_i32_45
  let v104 : BitVec 1 := Scalar.andi v101 v103
  let v90 : BitVec 32 := Scalar.divsi v54 c2_i32_40
  let c1_i32_46 : BitVec 32 := 1#32
  let v105 : BitVec 32 := Scalar.subi v90 c1_i32_46
  let v106 : BitVec 32 := Scalar.select v104 v105 v90
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let v107 : BitVec 32 := Scalar.addi v106 v72
  let v108 : BitVec 32 := Scalar.subi v107 v89
  let c1_i32_48 : BitVec 32 := 1#32
  let v110 : BitVec 32 := Scalar.divsi v108 c1_i32_48
  let v111 : BitVec 32 := Scalar.muli v110 c1_i32_48
  let v112 : BitVec 32 := Scalar.addi v89 v111
  let c1_i32_50 : BitVec 32 := 1#32
  let arg12 : BitVec 32 := Scf.iv v112 c1_i32_50 k0_t4
  let v430 : BitVec 32 := Scalar.muli c2_i32_193 arg12
  let c1_i32_194 : BitVec 32 := 1#32
  let v431 : BitVec 32 := Scalar.addi v430 c1_i32_194
  let v432 : BitVec 32 := Scalar.muli c2_i32_195 v431
  let c1_i32_231 : BitVec 32 := 1#32
  let v501 : BitVec 32 := Scalar.addi v432 c1_i32_231
  let c512_i32_234 : BitVec 32 := 512#32
  let v503 : BitVec 32 := Scalar.muli v501 c512_i32_234
  v503
@[reducible] def k0_t5_loop (i : grid0.Coords) : Scf.Loop 32 :=
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let c2_i32_51 : BitVec 32 := 2#32
  let v113 : BitVec 32 := Scalar.muli v72 c2_i32_51
  let v114 : BitVec 32 := Scalar.addi v54 v113
  let c0_i32_60 : BitVec 32 := 0#32
  let v134 : BitVec 1 := Scalar.cmpi .sgt v114 c0_i32_60
  let v135 : BitVec 32 := Scalar.extui v134
  let c0_i32_61 : BitVec 32 := 0#32
  let v136 : BitVec 1 := Scalar.cmpi .slt v114 c0_i32_61
  let v137 : BitVec 32 := Scalar.extui v136
  let v138 : BitVec 32 := Scalar.subi v135 v137
  let c1_i32_59 : BitVec 32 := 1#32
  let c0_i32_62 : BitVec 32 := 0#32
  let v139 : BitVec 1 := Scalar.cmpi .sgt c1_i32_59 c0_i32_62
  let v140 : BitVec 32 := Scalar.extui v139
  let c0_i32_63 : BitVec 32 := 0#32
  let v141 : BitVec 1 := Scalar.cmpi .slt c1_i32_59 c0_i32_63
  let v142 : BitVec 32 := Scalar.extui v141
  let v143 : BitVec 32 := Scalar.subi v140 v142
  let v144 : BitVec 1 := Scalar.cmpi .ne v138 v143
  let v145 : BitVec 32 := Scalar.remsi v114 c1_i32_59
  let c0_i32_64 : BitVec 32 := 0#32
  let v146 : BitVec 1 := Scalar.cmpi .ne v145 c0_i32_64
  let v147 : BitVec 1 := Scalar.andi v144 v146
  let v133 : BitVec 32 := Scalar.divsi v114 c1_i32_59
  let c1_i32_65 : BitVec 32 := 1#32
  let v148 : BitVec 32 := Scalar.subi v133 c1_i32_65
  let v149 : BitVec 32 := Scalar.select v147 v148 v133
  let c0_i32_67 : BitVec 32 := 0#32
  let v151 : BitVec 1 := Scalar.cmpi .sgt v114 c0_i32_67
  let v152 : BitVec 32 := Scalar.extui v151
  let c0_i32_68 : BitVec 32 := 0#32
  let v153 : BitVec 1 := Scalar.cmpi .slt v114 c0_i32_68
  let v154 : BitVec 32 := Scalar.extui v153
  let v155 : BitVec 32 := Scalar.subi v152 v154
  let c1_i32_66 : BitVec 32 := 1#32
  let c0_i32_69 : BitVec 32 := 0#32
  let v156 : BitVec 1 := Scalar.cmpi .sgt c1_i32_66 c0_i32_69
  let v157 : BitVec 32 := Scalar.extui v156
  let c0_i32_70 : BitVec 32 := 0#32
  let v158 : BitVec 1 := Scalar.cmpi .slt c1_i32_66 c0_i32_70
  let v159 : BitVec 32 := Scalar.extui v158
  let v160 : BitVec 32 := Scalar.subi v157 v159
  let v161 : BitVec 1 := Scalar.cmpi .ne v155 v160
  let v162 : BitVec 32 := Scalar.remsi v114 c1_i32_66
  let c0_i32_71 : BitVec 32 := 0#32
  let v163 : BitVec 1 := Scalar.cmpi .ne v162 c0_i32_71
  let v164 : BitVec 1 := Scalar.andi v161 v163
  let v150 : BitVec 32 := Scalar.divsi v114 c1_i32_66
  let c1_i32_72 : BitVec 32 := 1#32
  let v165 : BitVec 32 := Scalar.subi v150 c1_i32_72
  let v166 : BitVec 32 := Scalar.select v164 v165 v150
  let v115 : BitVec 32 := Scalar.subi v28 v114
  let c0_i32_53 : BitVec 32 := 0#32
  let v117 : BitVec 1 := Scalar.cmpi .sgt v115 c0_i32_53
  let v118 : BitVec 32 := Scalar.extui v117
  let c0_i32_54 : BitVec 32 := 0#32
  let v119 : BitVec 1 := Scalar.cmpi .slt v115 c0_i32_54
  let v120 : BitVec 32 := Scalar.extui v119
  let v121 : BitVec 32 := Scalar.subi v118 v120
  let c1_i32_52 : BitVec 32 := 1#32
  let c0_i32_55 : BitVec 32 := 0#32
  let v122 : BitVec 1 := Scalar.cmpi .sgt c1_i32_52 c0_i32_55
  let v123 : BitVec 32 := Scalar.extui v122
  let c0_i32_56 : BitVec 32 := 0#32
  let v124 : BitVec 1 := Scalar.cmpi .slt c1_i32_52 c0_i32_56
  let v125 : BitVec 32 := Scalar.extui v124
  let v126 : BitVec 32 := Scalar.subi v123 v125
  let v127 : BitVec 1 := Scalar.cmpi .ne v121 v126
  let v128 : BitVec 32 := Scalar.remsi v115 c1_i32_52
  let c0_i32_57 : BitVec 32 := 0#32
  let v129 : BitVec 1 := Scalar.cmpi .ne v128 c0_i32_57
  let v130 : BitVec 1 := Scalar.andi v127 v129
  let v116 : BitVec 32 := Scalar.divsi v115 c1_i32_52
  let c1_i32_58 : BitVec 32 := 1#32
  let v131 : BitVec 32 := Scalar.subi v116 c1_i32_58
  let v132 : BitVec 32 := Scalar.select v130 v131 v116
  let v167 : BitVec 32 := Scalar.addi v166 v132
  let v168 : BitVec 32 := Scalar.subi v167 v149
  let c1_i32_74 : BitVec 32 := 1#32
  let v170 : BitVec 32 := Scalar.divsi v168 c1_i32_74
  let v171 : BitVec 32 := Scalar.muli v170 c1_i32_74
  let v172 : BitVec 32 := Scalar.addi v149 v171
  let c1_i32_75 : BitVec 32 := 1#32
  ⟨v149, v172, c1_i32_75⟩
def k0_mult50 (i : grid0.Coords) (k0_t5 : Fin (k0_t5_loop i).trips) : BitVec 32 :=
  let c2_i32_141 : BitVec 32 := 2#32
  let c1_i32_139 : BitVec 32 := 1#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let c2_i32_51 : BitVec 32 := 2#32
  let v113 : BitVec 32 := Scalar.muli v72 c2_i32_51
  let v114 : BitVec 32 := Scalar.addi v54 v113
  let c0_i32_60 : BitVec 32 := 0#32
  let v134 : BitVec 1 := Scalar.cmpi .sgt v114 c0_i32_60
  let v135 : BitVec 32 := Scalar.extui v134
  let c0_i32_61 : BitVec 32 := 0#32
  let v136 : BitVec 1 := Scalar.cmpi .slt v114 c0_i32_61
  let v137 : BitVec 32 := Scalar.extui v136
  let v138 : BitVec 32 := Scalar.subi v135 v137
  let c1_i32_59 : BitVec 32 := 1#32
  let c0_i32_62 : BitVec 32 := 0#32
  let v139 : BitVec 1 := Scalar.cmpi .sgt c1_i32_59 c0_i32_62
  let v140 : BitVec 32 := Scalar.extui v139
  let c0_i32_63 : BitVec 32 := 0#32
  let v141 : BitVec 1 := Scalar.cmpi .slt c1_i32_59 c0_i32_63
  let v142 : BitVec 32 := Scalar.extui v141
  let v143 : BitVec 32 := Scalar.subi v140 v142
  let v144 : BitVec 1 := Scalar.cmpi .ne v138 v143
  let v145 : BitVec 32 := Scalar.remsi v114 c1_i32_59
  let c0_i32_64 : BitVec 32 := 0#32
  let v146 : BitVec 1 := Scalar.cmpi .ne v145 c0_i32_64
  let v147 : BitVec 1 := Scalar.andi v144 v146
  let v133 : BitVec 32 := Scalar.divsi v114 c1_i32_59
  let c1_i32_65 : BitVec 32 := 1#32
  let v148 : BitVec 32 := Scalar.subi v133 c1_i32_65
  let v149 : BitVec 32 := Scalar.select v147 v148 v133
  let c1_i32_75 : BitVec 32 := 1#32
  let arg12 : BitVec 32 := Scf.iv v149 c1_i32_75 k0_t5
  let v314 : BitVec 32 := Scalar.muli c1_i32_139 arg12
  let c0_i32_140 : BitVec 32 := 0#32
  let v315 : BitVec 32 := Scalar.addi v314 c0_i32_140
  let v316 : BitVec 32 := Scalar.muli c2_i32_141 v315
  let c1_i32_142 : BitVec 32 := 1#32
  let v317 : BitVec 32 := Scalar.addi v316 c1_i32_142
  let c512_i32_143 : BitVec 32 := 512#32
  let v318 : BitVec 32 := Scalar.muli v317 c512_i32_143
  v318
def k0_off13 (i : grid0.Coords) (k0_t5 : Fin (k0_t5_loop i).trips) (c1_i32_142 : BitVec 32) : Fin 3 → Nat :=
  let c0_147 : Index := 0#32
  let c0_148 : Index := 0#32
  let c2_i32_141 : BitVec 32 := 2#32
  let c1_i32_139 : BitVec 32 := 1#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let c2_i32_51 : BitVec 32 := 2#32
  let v113 : BitVec 32 := Scalar.muli v72 c2_i32_51
  let v114 : BitVec 32 := Scalar.addi v54 v113
  let c0_i32_60 : BitVec 32 := 0#32
  let v134 : BitVec 1 := Scalar.cmpi .sgt v114 c0_i32_60
  let v135 : BitVec 32 := Scalar.extui v134
  let c0_i32_61 : BitVec 32 := 0#32
  let v136 : BitVec 1 := Scalar.cmpi .slt v114 c0_i32_61
  let v137 : BitVec 32 := Scalar.extui v136
  let v138 : BitVec 32 := Scalar.subi v135 v137
  let c1_i32_59 : BitVec 32 := 1#32
  let c0_i32_62 : BitVec 32 := 0#32
  let v139 : BitVec 1 := Scalar.cmpi .sgt c1_i32_59 c0_i32_62
  let v140 : BitVec 32 := Scalar.extui v139
  let c0_i32_63 : BitVec 32 := 0#32
  let v141 : BitVec 1 := Scalar.cmpi .slt c1_i32_59 c0_i32_63
  let v142 : BitVec 32 := Scalar.extui v141
  let v143 : BitVec 32 := Scalar.subi v140 v142
  let v144 : BitVec 1 := Scalar.cmpi .ne v138 v143
  let v145 : BitVec 32 := Scalar.remsi v114 c1_i32_59
  let c0_i32_64 : BitVec 32 := 0#32
  let v146 : BitVec 1 := Scalar.cmpi .ne v145 c0_i32_64
  let v147 : BitVec 1 := Scalar.andi v144 v146
  let v133 : BitVec 32 := Scalar.divsi v114 c1_i32_59
  let c1_i32_65 : BitVec 32 := 1#32
  let v148 : BitVec 32 := Scalar.subi v133 c1_i32_65
  let v149 : BitVec 32 := Scalar.select v147 v148 v133
  let c1_i32_75 : BitVec 32 := 1#32
  let arg12 : BitVec 32 := Scf.iv v149 c1_i32_75 k0_t5
  let v314 : BitVec 32 := Scalar.muli c1_i32_139 arg12
  let c0_i32_140 : BitVec 32 := 0#32
  let v315 : BitVec 32 := Scalar.addi v314 c0_i32_140
  let v316 : BitVec 32 := Scalar.muli c2_i32_141 v315
  let v317 : BitVec 32 := Scalar.addi v316 c1_i32_142
  let c512_i32_143 : BitVec 32 := 512#32
  let v318 : BitVec 32 := Scalar.muli v317 c512_i32_143
  let v319 : BitVec 32 := v318
  let v322 : Index := Scalar.indexCast v319
  ![0, 0, v322.toNat]
def k0_mult51 (i : grid0.Coords) (k0_t5 : Fin (k0_t5_loop i).trips) : BitVec 32 :=
  let c2_i32_141 : BitVec 32 := 2#32
  let c1_i32_139 : BitVec 32 := 1#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let c2_i32_51 : BitVec 32 := 2#32
  let v113 : BitVec 32 := Scalar.muli v72 c2_i32_51
  let v114 : BitVec 32 := Scalar.addi v54 v113
  let c0_i32_60 : BitVec 32 := 0#32
  let v134 : BitVec 1 := Scalar.cmpi .sgt v114 c0_i32_60
  let v135 : BitVec 32 := Scalar.extui v134
  let c0_i32_61 : BitVec 32 := 0#32
  let v136 : BitVec 1 := Scalar.cmpi .slt v114 c0_i32_61
  let v137 : BitVec 32 := Scalar.extui v136
  let v138 : BitVec 32 := Scalar.subi v135 v137
  let c1_i32_59 : BitVec 32 := 1#32
  let c0_i32_62 : BitVec 32 := 0#32
  let v139 : BitVec 1 := Scalar.cmpi .sgt c1_i32_59 c0_i32_62
  let v140 : BitVec 32 := Scalar.extui v139
  let c0_i32_63 : BitVec 32 := 0#32
  let v141 : BitVec 1 := Scalar.cmpi .slt c1_i32_59 c0_i32_63
  let v142 : BitVec 32 := Scalar.extui v141
  let v143 : BitVec 32 := Scalar.subi v140 v142
  let v144 : BitVec 1 := Scalar.cmpi .ne v138 v143
  let v145 : BitVec 32 := Scalar.remsi v114 c1_i32_59
  let c0_i32_64 : BitVec 32 := 0#32
  let v146 : BitVec 1 := Scalar.cmpi .ne v145 c0_i32_64
  let v147 : BitVec 1 := Scalar.andi v144 v146
  let v133 : BitVec 32 := Scalar.divsi v114 c1_i32_59
  let c1_i32_65 : BitVec 32 := 1#32
  let v148 : BitVec 32 := Scalar.subi v133 c1_i32_65
  let v149 : BitVec 32 := Scalar.select v147 v148 v133
  let c1_i32_75 : BitVec 32 := 1#32
  let arg12 : BitVec 32 := Scf.iv v149 c1_i32_75 k0_t5
  let v314 : BitVec 32 := Scalar.muli c1_i32_139 arg12
  let c0_i32_140 : BitVec 32 := 0#32
  let v315 : BitVec 32 := Scalar.addi v314 c0_i32_140
  let v316 : BitVec 32 := Scalar.muli c2_i32_141 v315
  let c512_i32_154 : BitVec 32 := 512#32
  let v330 : BitVec 32 := Scalar.muli v316 c512_i32_154
  v330
def k0_off14 (i : grid0.Coords) (k0_t5 : Fin (k0_t5_loop i).trips) : Fin 3 → Nat :=
  let c0_158 : Index := 0#32
  let c2_i32_141 : BitVec 32 := 2#32
  let c1_i32_139 : BitVec 32 := 1#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let c2_i32_51 : BitVec 32 := 2#32
  let v113 : BitVec 32 := Scalar.muli v72 c2_i32_51
  let v114 : BitVec 32 := Scalar.addi v54 v113
  let c0_i32_60 : BitVec 32 := 0#32
  let v134 : BitVec 1 := Scalar.cmpi .sgt v114 c0_i32_60
  let v135 : BitVec 32 := Scalar.extui v134
  let c0_i32_61 : BitVec 32 := 0#32
  let v136 : BitVec 1 := Scalar.cmpi .slt v114 c0_i32_61
  let v137 : BitVec 32 := Scalar.extui v136
  let v138 : BitVec 32 := Scalar.subi v135 v137
  let c1_i32_59 : BitVec 32 := 1#32
  let c0_i32_62 : BitVec 32 := 0#32
  let v139 : BitVec 1 := Scalar.cmpi .sgt c1_i32_59 c0_i32_62
  let v140 : BitVec 32 := Scalar.extui v139
  let c0_i32_63 : BitVec 32 := 0#32
  let v141 : BitVec 1 := Scalar.cmpi .slt c1_i32_59 c0_i32_63
  let v142 : BitVec 32 := Scalar.extui v141
  let v143 : BitVec 32 := Scalar.subi v140 v142
  let v144 : BitVec 1 := Scalar.cmpi .ne v138 v143
  let v145 : BitVec 32 := Scalar.remsi v114 c1_i32_59
  let c0_i32_64 : BitVec 32 := 0#32
  let v146 : BitVec 1 := Scalar.cmpi .ne v145 c0_i32_64
  let v147 : BitVec 1 := Scalar.andi v144 v146
  let v133 : BitVec 32 := Scalar.divsi v114 c1_i32_59
  let c1_i32_65 : BitVec 32 := 1#32
  let v148 : BitVec 32 := Scalar.subi v133 c1_i32_65
  let v149 : BitVec 32 := Scalar.select v147 v148 v133
  let c1_i32_75 : BitVec 32 := 1#32
  let arg12 : BitVec 32 := Scf.iv v149 c1_i32_75 k0_t5
  let v314 : BitVec 32 := Scalar.muli c1_i32_139 arg12
  let c0_i32_140 : BitVec 32 := 0#32
  let v315 : BitVec 32 := Scalar.addi v314 c0_i32_140
  let v316 : BitVec 32 := Scalar.muli c2_i32_141 v315
  let c512_i32_154 : BitVec 32 := 512#32
  let v330 : BitVec 32 := Scalar.muli v316 c512_i32_154
  let v331 : BitVec 32 := v330
  let v359 : Index := Scalar.indexCast v331
  let c0_159 : Index := 0#32
  ![0, v359.toNat, 0]
def k0_mult52 (i : grid0.Coords) (k0_t5 : Fin (k0_t5_loop i).trips) : BitVec 32 :=
  let c2_i32_141 : BitVec 32 := 2#32
  let c1_i32_139 : BitVec 32 := 1#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let c2_i32_51 : BitVec 32 := 2#32
  let v113 : BitVec 32 := Scalar.muli v72 c2_i32_51
  let v114 : BitVec 32 := Scalar.addi v54 v113
  let c0_i32_60 : BitVec 32 := 0#32
  let v134 : BitVec 1 := Scalar.cmpi .sgt v114 c0_i32_60
  let v135 : BitVec 32 := Scalar.extui v134
  let c0_i32_61 : BitVec 32 := 0#32
  let v136 : BitVec 1 := Scalar.cmpi .slt v114 c0_i32_61
  let v137 : BitVec 32 := Scalar.extui v136
  let v138 : BitVec 32 := Scalar.subi v135 v137
  let c1_i32_59 : BitVec 32 := 1#32
  let c0_i32_62 : BitVec 32 := 0#32
  let v139 : BitVec 1 := Scalar.cmpi .sgt c1_i32_59 c0_i32_62
  let v140 : BitVec 32 := Scalar.extui v139
  let c0_i32_63 : BitVec 32 := 0#32
  let v141 : BitVec 1 := Scalar.cmpi .slt c1_i32_59 c0_i32_63
  let v142 : BitVec 32 := Scalar.extui v141
  let v143 : BitVec 32 := Scalar.subi v140 v142
  let v144 : BitVec 1 := Scalar.cmpi .ne v138 v143
  let v145 : BitVec 32 := Scalar.remsi v114 c1_i32_59
  let c0_i32_64 : BitVec 32 := 0#32
  let v146 : BitVec 1 := Scalar.cmpi .ne v145 c0_i32_64
  let v147 : BitVec 1 := Scalar.andi v144 v146
  let v133 : BitVec 32 := Scalar.divsi v114 c1_i32_59
  let c1_i32_65 : BitVec 32 := 1#32
  let v148 : BitVec 32 := Scalar.subi v133 c1_i32_65
  let v149 : BitVec 32 := Scalar.select v147 v148 v133
  let c1_i32_75 : BitVec 32 := 1#32
  let arg12 : BitVec 32 := Scf.iv v149 c1_i32_75 k0_t5
  let v314 : BitVec 32 := Scalar.muli c1_i32_139 arg12
  let c0_i32_140 : BitVec 32 := 0#32
  let v315 : BitVec 32 := Scalar.addi v314 c0_i32_140
  let v316 : BitVec 32 := Scalar.muli c2_i32_141 v315
  let c2_i32_167 : BitVec 32 := 2#32
  let v373 : BitVec 32 := Scalar.addi v316 c2_i32_167
  let c512_i32_168 : BitVec 32 := 512#32
  let v374 : BitVec 32 := Scalar.muli v373 c512_i32_168
  v374
def k0_mult53 (i : grid0.Coords) (k0_t5 : Fin (k0_t5_loop i).trips) : BitVec 32 :=
  let c2_i32_141 : BitVec 32 := 2#32
  let c1_i32_139 : BitVec 32 := 1#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let c2_i32_51 : BitVec 32 := 2#32
  let v113 : BitVec 32 := Scalar.muli v72 c2_i32_51
  let v114 : BitVec 32 := Scalar.addi v54 v113
  let c0_i32_60 : BitVec 32 := 0#32
  let v134 : BitVec 1 := Scalar.cmpi .sgt v114 c0_i32_60
  let v135 : BitVec 32 := Scalar.extui v134
  let c0_i32_61 : BitVec 32 := 0#32
  let v136 : BitVec 1 := Scalar.cmpi .slt v114 c0_i32_61
  let v137 : BitVec 32 := Scalar.extui v136
  let v138 : BitVec 32 := Scalar.subi v135 v137
  let c1_i32_59 : BitVec 32 := 1#32
  let c0_i32_62 : BitVec 32 := 0#32
  let v139 : BitVec 1 := Scalar.cmpi .sgt c1_i32_59 c0_i32_62
  let v140 : BitVec 32 := Scalar.extui v139
  let c0_i32_63 : BitVec 32 := 0#32
  let v141 : BitVec 1 := Scalar.cmpi .slt c1_i32_59 c0_i32_63
  let v142 : BitVec 32 := Scalar.extui v141
  let v143 : BitVec 32 := Scalar.subi v140 v142
  let v144 : BitVec 1 := Scalar.cmpi .ne v138 v143
  let v145 : BitVec 32 := Scalar.remsi v114 c1_i32_59
  let c0_i32_64 : BitVec 32 := 0#32
  let v146 : BitVec 1 := Scalar.cmpi .ne v145 c0_i32_64
  let v147 : BitVec 1 := Scalar.andi v144 v146
  let v133 : BitVec 32 := Scalar.divsi v114 c1_i32_59
  let c1_i32_65 : BitVec 32 := 1#32
  let v148 : BitVec 32 := Scalar.subi v133 c1_i32_65
  let v149 : BitVec 32 := Scalar.select v147 v148 v133
  let c1_i32_75 : BitVec 32 := 1#32
  let arg12 : BitVec 32 := Scf.iv v149 c1_i32_75 k0_t5
  let v314 : BitVec 32 := Scalar.muli c1_i32_139 arg12
  let c0_i32_140 : BitVec 32 := 0#32
  let v315 : BitVec 32 := Scalar.addi v314 c0_i32_140
  let v316 : BitVec 32 := Scalar.muli c2_i32_141 v315
  let c1_i32_177 : BitVec 32 := 1#32
  let v385 : BitVec 32 := Scalar.addi v316 c1_i32_177
  let c512_i32_180 : BitVec 32 := 512#32
  let v387 : BitVec 32 := Scalar.muli v385 c512_i32_180
  v387
def k0_off15 (i : grid0.Coords) (k0_t5 : Fin (k0_t5_loop i).trips) : Fin 3 → Nat :=
  let c0_184 : Index := 0#32
  let c2_i32_141 : BitVec 32 := 2#32
  let c1_i32_139 : BitVec 32 := 1#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let c2_i32_51 : BitVec 32 := 2#32
  let v113 : BitVec 32 := Scalar.muli v72 c2_i32_51
  let v114 : BitVec 32 := Scalar.addi v54 v113
  let c0_i32_60 : BitVec 32 := 0#32
  let v134 : BitVec 1 := Scalar.cmpi .sgt v114 c0_i32_60
  let v135 : BitVec 32 := Scalar.extui v134
  let c0_i32_61 : BitVec 32 := 0#32
  let v136 : BitVec 1 := Scalar.cmpi .slt v114 c0_i32_61
  let v137 : BitVec 32 := Scalar.extui v136
  let v138 : BitVec 32 := Scalar.subi v135 v137
  let c1_i32_59 : BitVec 32 := 1#32
  let c0_i32_62 : BitVec 32 := 0#32
  let v139 : BitVec 1 := Scalar.cmpi .sgt c1_i32_59 c0_i32_62
  let v140 : BitVec 32 := Scalar.extui v139
  let c0_i32_63 : BitVec 32 := 0#32
  let v141 : BitVec 1 := Scalar.cmpi .slt c1_i32_59 c0_i32_63
  let v142 : BitVec 32 := Scalar.extui v141
  let v143 : BitVec 32 := Scalar.subi v140 v142
  let v144 : BitVec 1 := Scalar.cmpi .ne v138 v143
  let v145 : BitVec 32 := Scalar.remsi v114 c1_i32_59
  let c0_i32_64 : BitVec 32 := 0#32
  let v146 : BitVec 1 := Scalar.cmpi .ne v145 c0_i32_64
  let v147 : BitVec 1 := Scalar.andi v144 v146
  let v133 : BitVec 32 := Scalar.divsi v114 c1_i32_59
  let c1_i32_65 : BitVec 32 := 1#32
  let v148 : BitVec 32 := Scalar.subi v133 c1_i32_65
  let v149 : BitVec 32 := Scalar.select v147 v148 v133
  let c1_i32_75 : BitVec 32 := 1#32
  let arg12 : BitVec 32 := Scf.iv v149 c1_i32_75 k0_t5
  let v314 : BitVec 32 := Scalar.muli c1_i32_139 arg12
  let c0_i32_140 : BitVec 32 := 0#32
  let v315 : BitVec 32 := Scalar.addi v314 c0_i32_140
  let v316 : BitVec 32 := Scalar.muli c2_i32_141 v315
  let c1_i32_177 : BitVec 32 := 1#32
  let v385 : BitVec 32 := Scalar.addi v316 c1_i32_177
  let c512_i32_180 : BitVec 32 := 512#32
  let v387 : BitVec 32 := Scalar.muli v385 c512_i32_180
  let v388 : BitVec 32 := v387
  let v416 : Index := Scalar.indexCast v388
  let c0_185 : Index := 0#32
  ![0, v416.toNat, 0]
@[reducible] def k0_t6_loop (i : grid0.Coords) : Scf.Loop 32 :=
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let c2_i32_51 : BitVec 32 := 2#32
  let v113 : BitVec 32 := Scalar.muli v72 c2_i32_51
  let v114 : BitVec 32 := Scalar.addi v54 v113
  let c0_i32_60 : BitVec 32 := 0#32
  let v134 : BitVec 1 := Scalar.cmpi .sgt v114 c0_i32_60
  let v135 : BitVec 32 := Scalar.extui v134
  let c0_i32_61 : BitVec 32 := 0#32
  let v136 : BitVec 1 := Scalar.cmpi .slt v114 c0_i32_61
  let v137 : BitVec 32 := Scalar.extui v136
  let v138 : BitVec 32 := Scalar.subi v135 v137
  let c1_i32_59 : BitVec 32 := 1#32
  let c0_i32_62 : BitVec 32 := 0#32
  let v139 : BitVec 1 := Scalar.cmpi .sgt c1_i32_59 c0_i32_62
  let v140 : BitVec 32 := Scalar.extui v139
  let c0_i32_63 : BitVec 32 := 0#32
  let v141 : BitVec 1 := Scalar.cmpi .slt c1_i32_59 c0_i32_63
  let v142 : BitVec 32 := Scalar.extui v141
  let v143 : BitVec 32 := Scalar.subi v140 v142
  let v144 : BitVec 1 := Scalar.cmpi .ne v138 v143
  let v145 : BitVec 32 := Scalar.remsi v114 c1_i32_59
  let c0_i32_64 : BitVec 32 := 0#32
  let v146 : BitVec 1 := Scalar.cmpi .ne v145 c0_i32_64
  let v147 : BitVec 1 := Scalar.andi v144 v146
  let v133 : BitVec 32 := Scalar.divsi v114 c1_i32_59
  let c1_i32_65 : BitVec 32 := 1#32
  let v148 : BitVec 32 := Scalar.subi v133 c1_i32_65
  let v149 : BitVec 32 := Scalar.select v147 v148 v133
  let c0_i32_67 : BitVec 32 := 0#32
  let v151 : BitVec 1 := Scalar.cmpi .sgt v114 c0_i32_67
  let v152 : BitVec 32 := Scalar.extui v151
  let c0_i32_68 : BitVec 32 := 0#32
  let v153 : BitVec 1 := Scalar.cmpi .slt v114 c0_i32_68
  let v154 : BitVec 32 := Scalar.extui v153
  let v155 : BitVec 32 := Scalar.subi v152 v154
  let c1_i32_66 : BitVec 32 := 1#32
  let c0_i32_69 : BitVec 32 := 0#32
  let v156 : BitVec 1 := Scalar.cmpi .sgt c1_i32_66 c0_i32_69
  let v157 : BitVec 32 := Scalar.extui v156
  let c0_i32_70 : BitVec 32 := 0#32
  let v158 : BitVec 1 := Scalar.cmpi .slt c1_i32_66 c0_i32_70
  let v159 : BitVec 32 := Scalar.extui v158
  let v160 : BitVec 32 := Scalar.subi v157 v159
  let v161 : BitVec 1 := Scalar.cmpi .ne v155 v160
  let v162 : BitVec 32 := Scalar.remsi v114 c1_i32_66
  let c0_i32_71 : BitVec 32 := 0#32
  let v163 : BitVec 1 := Scalar.cmpi .ne v162 c0_i32_71
  let v164 : BitVec 1 := Scalar.andi v161 v163
  let v150 : BitVec 32 := Scalar.divsi v114 c1_i32_66
  let c1_i32_72 : BitVec 32 := 1#32
  let v165 : BitVec 32 := Scalar.subi v150 c1_i32_72
  let v166 : BitVec 32 := Scalar.select v164 v165 v150
  let v115 : BitVec 32 := Scalar.subi v28 v114
  let c0_i32_53 : BitVec 32 := 0#32
  let v117 : BitVec 1 := Scalar.cmpi .sgt v115 c0_i32_53
  let v118 : BitVec 32 := Scalar.extui v117
  let c0_i32_54 : BitVec 32 := 0#32
  let v119 : BitVec 1 := Scalar.cmpi .slt v115 c0_i32_54
  let v120 : BitVec 32 := Scalar.extui v119
  let v121 : BitVec 32 := Scalar.subi v118 v120
  let c1_i32_52 : BitVec 32 := 1#32
  let c0_i32_55 : BitVec 32 := 0#32
  let v122 : BitVec 1 := Scalar.cmpi .sgt c1_i32_52 c0_i32_55
  let v123 : BitVec 32 := Scalar.extui v122
  let c0_i32_56 : BitVec 32 := 0#32
  let v124 : BitVec 1 := Scalar.cmpi .slt c1_i32_52 c0_i32_56
  let v125 : BitVec 32 := Scalar.extui v124
  let v126 : BitVec 32 := Scalar.subi v123 v125
  let v127 : BitVec 1 := Scalar.cmpi .ne v121 v126
  let v128 : BitVec 32 := Scalar.remsi v115 c1_i32_52
  let c0_i32_57 : BitVec 32 := 0#32
  let v129 : BitVec 1 := Scalar.cmpi .ne v128 c0_i32_57
  let v130 : BitVec 1 := Scalar.andi v127 v129
  let v116 : BitVec 32 := Scalar.divsi v115 c1_i32_52
  let c1_i32_58 : BitVec 32 := 1#32
  let v131 : BitVec 32 := Scalar.subi v116 c1_i32_58
  let v132 : BitVec 32 := Scalar.select v130 v131 v116
  let v167 : BitVec 32 := Scalar.addi v166 v132
  let v168 : BitVec 32 := Scalar.subi v167 v149
  let c1_i32_74 : BitVec 32 := 1#32
  let v170 : BitVec 32 := Scalar.divsi v168 c1_i32_74
  let v171 : BitVec 32 := Scalar.muli v170 c1_i32_74
  let v172 : BitVec 32 := Scalar.addi v149 v171
  let v169 : BitVec 32 := Scalar.addi v149 v168
  let c1_i32_76 : BitVec 32 := 1#32
  ⟨v172, v169, c1_i32_76⟩
def k0_mult54 (i : grid0.Coords) (k0_t6 : Fin (k0_t6_loop i).trips) : BitVec 32 :=
  let c2_i32_141 : BitVec 32 := 2#32
  let c1_i32_139 : BitVec 32 := 1#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let c2_i32_51 : BitVec 32 := 2#32
  let v113 : BitVec 32 := Scalar.muli v72 c2_i32_51
  let v114 : BitVec 32 := Scalar.addi v54 v113
  let c0_i32_60 : BitVec 32 := 0#32
  let v134 : BitVec 1 := Scalar.cmpi .sgt v114 c0_i32_60
  let v135 : BitVec 32 := Scalar.extui v134
  let c0_i32_61 : BitVec 32 := 0#32
  let v136 : BitVec 1 := Scalar.cmpi .slt v114 c0_i32_61
  let v137 : BitVec 32 := Scalar.extui v136
  let v138 : BitVec 32 := Scalar.subi v135 v137
  let c1_i32_59 : BitVec 32 := 1#32
  let c0_i32_62 : BitVec 32 := 0#32
  let v139 : BitVec 1 := Scalar.cmpi .sgt c1_i32_59 c0_i32_62
  let v140 : BitVec 32 := Scalar.extui v139
  let c0_i32_63 : BitVec 32 := 0#32
  let v141 : BitVec 1 := Scalar.cmpi .slt c1_i32_59 c0_i32_63
  let v142 : BitVec 32 := Scalar.extui v141
  let v143 : BitVec 32 := Scalar.subi v140 v142
  let v144 : BitVec 1 := Scalar.cmpi .ne v138 v143
  let v145 : BitVec 32 := Scalar.remsi v114 c1_i32_59
  let c0_i32_64 : BitVec 32 := 0#32
  let v146 : BitVec 1 := Scalar.cmpi .ne v145 c0_i32_64
  let v147 : BitVec 1 := Scalar.andi v144 v146
  let v133 : BitVec 32 := Scalar.divsi v114 c1_i32_59
  let c1_i32_65 : BitVec 32 := 1#32
  let v148 : BitVec 32 := Scalar.subi v133 c1_i32_65
  let v149 : BitVec 32 := Scalar.select v147 v148 v133
  let c0_i32_67 : BitVec 32 := 0#32
  let v151 : BitVec 1 := Scalar.cmpi .sgt v114 c0_i32_67
  let v152 : BitVec 32 := Scalar.extui v151
  let c0_i32_68 : BitVec 32 := 0#32
  let v153 : BitVec 1 := Scalar.cmpi .slt v114 c0_i32_68
  let v154 : BitVec 32 := Scalar.extui v153
  let v155 : BitVec 32 := Scalar.subi v152 v154
  let c1_i32_66 : BitVec 32 := 1#32
  let c0_i32_69 : BitVec 32 := 0#32
  let v156 : BitVec 1 := Scalar.cmpi .sgt c1_i32_66 c0_i32_69
  let v157 : BitVec 32 := Scalar.extui v156
  let c0_i32_70 : BitVec 32 := 0#32
  let v158 : BitVec 1 := Scalar.cmpi .slt c1_i32_66 c0_i32_70
  let v159 : BitVec 32 := Scalar.extui v158
  let v160 : BitVec 32 := Scalar.subi v157 v159
  let v161 : BitVec 1 := Scalar.cmpi .ne v155 v160
  let v162 : BitVec 32 := Scalar.remsi v114 c1_i32_66
  let c0_i32_71 : BitVec 32 := 0#32
  let v163 : BitVec 1 := Scalar.cmpi .ne v162 c0_i32_71
  let v164 : BitVec 1 := Scalar.andi v161 v163
  let v150 : BitVec 32 := Scalar.divsi v114 c1_i32_66
  let c1_i32_72 : BitVec 32 := 1#32
  let v165 : BitVec 32 := Scalar.subi v150 c1_i32_72
  let v166 : BitVec 32 := Scalar.select v164 v165 v150
  let v115 : BitVec 32 := Scalar.subi v28 v114
  let c0_i32_53 : BitVec 32 := 0#32
  let v117 : BitVec 1 := Scalar.cmpi .sgt v115 c0_i32_53
  let v118 : BitVec 32 := Scalar.extui v117
  let c0_i32_54 : BitVec 32 := 0#32
  let v119 : BitVec 1 := Scalar.cmpi .slt v115 c0_i32_54
  let v120 : BitVec 32 := Scalar.extui v119
  let v121 : BitVec 32 := Scalar.subi v118 v120
  let c1_i32_52 : BitVec 32 := 1#32
  let c0_i32_55 : BitVec 32 := 0#32
  let v122 : BitVec 1 := Scalar.cmpi .sgt c1_i32_52 c0_i32_55
  let v123 : BitVec 32 := Scalar.extui v122
  let c0_i32_56 : BitVec 32 := 0#32
  let v124 : BitVec 1 := Scalar.cmpi .slt c1_i32_52 c0_i32_56
  let v125 : BitVec 32 := Scalar.extui v124
  let v126 : BitVec 32 := Scalar.subi v123 v125
  let v127 : BitVec 1 := Scalar.cmpi .ne v121 v126
  let v128 : BitVec 32 := Scalar.remsi v115 c1_i32_52
  let c0_i32_57 : BitVec 32 := 0#32
  let v129 : BitVec 1 := Scalar.cmpi .ne v128 c0_i32_57
  let v130 : BitVec 1 := Scalar.andi v127 v129
  let v116 : BitVec 32 := Scalar.divsi v115 c1_i32_52
  let c1_i32_58 : BitVec 32 := 1#32
  let v131 : BitVec 32 := Scalar.subi v116 c1_i32_58
  let v132 : BitVec 32 := Scalar.select v130 v131 v116
  let v167 : BitVec 32 := Scalar.addi v166 v132
  let v168 : BitVec 32 := Scalar.subi v167 v149
  let c1_i32_74 : BitVec 32 := 1#32
  let v170 : BitVec 32 := Scalar.divsi v168 c1_i32_74
  let v171 : BitVec 32 := Scalar.muli v170 c1_i32_74
  let v172 : BitVec 32 := Scalar.addi v149 v171
  let c1_i32_76 : BitVec 32 := 1#32
  let arg12 : BitVec 32 := Scf.iv v172 c1_i32_76 k0_t6
  let v314 : BitVec 32 := Scalar.muli c1_i32_139 arg12
  let c0_i32_140 : BitVec 32 := 0#32
  let v315 : BitVec 32 := Scalar.addi v314 c0_i32_140
  let v316 : BitVec 32 := Scalar.muli c2_i32_141 v315
  let c1_i32_142 : BitVec 32 := 1#32
  let v317 : BitVec 32 := Scalar.addi v316 c1_i32_142
  let c512_i32_143 : BitVec 32 := 512#32
  let v318 : BitVec 32 := Scalar.muli v317 c512_i32_143
  v318
def k0_off16 (i : grid0.Coords) (k0_t6 : Fin (k0_t6_loop i).trips) (c1_i32_142 : BitVec 32) : Fin 3 → Nat :=
  let c0_147 : Index := 0#32
  let c0_148 : Index := 0#32
  let c2_i32_141 : BitVec 32 := 2#32
  let c1_i32_139 : BitVec 32 := 1#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let c2_i32_51 : BitVec 32 := 2#32
  let v113 : BitVec 32 := Scalar.muli v72 c2_i32_51
  let v114 : BitVec 32 := Scalar.addi v54 v113
  let c0_i32_60 : BitVec 32 := 0#32
  let v134 : BitVec 1 := Scalar.cmpi .sgt v114 c0_i32_60
  let v135 : BitVec 32 := Scalar.extui v134
  let c0_i32_61 : BitVec 32 := 0#32
  let v136 : BitVec 1 := Scalar.cmpi .slt v114 c0_i32_61
  let v137 : BitVec 32 := Scalar.extui v136
  let v138 : BitVec 32 := Scalar.subi v135 v137
  let c1_i32_59 : BitVec 32 := 1#32
  let c0_i32_62 : BitVec 32 := 0#32
  let v139 : BitVec 1 := Scalar.cmpi .sgt c1_i32_59 c0_i32_62
  let v140 : BitVec 32 := Scalar.extui v139
  let c0_i32_63 : BitVec 32 := 0#32
  let v141 : BitVec 1 := Scalar.cmpi .slt c1_i32_59 c0_i32_63
  let v142 : BitVec 32 := Scalar.extui v141
  let v143 : BitVec 32 := Scalar.subi v140 v142
  let v144 : BitVec 1 := Scalar.cmpi .ne v138 v143
  let v145 : BitVec 32 := Scalar.remsi v114 c1_i32_59
  let c0_i32_64 : BitVec 32 := 0#32
  let v146 : BitVec 1 := Scalar.cmpi .ne v145 c0_i32_64
  let v147 : BitVec 1 := Scalar.andi v144 v146
  let v133 : BitVec 32 := Scalar.divsi v114 c1_i32_59
  let c1_i32_65 : BitVec 32 := 1#32
  let v148 : BitVec 32 := Scalar.subi v133 c1_i32_65
  let v149 : BitVec 32 := Scalar.select v147 v148 v133
  let c0_i32_67 : BitVec 32 := 0#32
  let v151 : BitVec 1 := Scalar.cmpi .sgt v114 c0_i32_67
  let v152 : BitVec 32 := Scalar.extui v151
  let c0_i32_68 : BitVec 32 := 0#32
  let v153 : BitVec 1 := Scalar.cmpi .slt v114 c0_i32_68
  let v154 : BitVec 32 := Scalar.extui v153
  let v155 : BitVec 32 := Scalar.subi v152 v154
  let c1_i32_66 : BitVec 32 := 1#32
  let c0_i32_69 : BitVec 32 := 0#32
  let v156 : BitVec 1 := Scalar.cmpi .sgt c1_i32_66 c0_i32_69
  let v157 : BitVec 32 := Scalar.extui v156
  let c0_i32_70 : BitVec 32 := 0#32
  let v158 : BitVec 1 := Scalar.cmpi .slt c1_i32_66 c0_i32_70
  let v159 : BitVec 32 := Scalar.extui v158
  let v160 : BitVec 32 := Scalar.subi v157 v159
  let v161 : BitVec 1 := Scalar.cmpi .ne v155 v160
  let v162 : BitVec 32 := Scalar.remsi v114 c1_i32_66
  let c0_i32_71 : BitVec 32 := 0#32
  let v163 : BitVec 1 := Scalar.cmpi .ne v162 c0_i32_71
  let v164 : BitVec 1 := Scalar.andi v161 v163
  let v150 : BitVec 32 := Scalar.divsi v114 c1_i32_66
  let c1_i32_72 : BitVec 32 := 1#32
  let v165 : BitVec 32 := Scalar.subi v150 c1_i32_72
  let v166 : BitVec 32 := Scalar.select v164 v165 v150
  let v115 : BitVec 32 := Scalar.subi v28 v114
  let c0_i32_53 : BitVec 32 := 0#32
  let v117 : BitVec 1 := Scalar.cmpi .sgt v115 c0_i32_53
  let v118 : BitVec 32 := Scalar.extui v117
  let c0_i32_54 : BitVec 32 := 0#32
  let v119 : BitVec 1 := Scalar.cmpi .slt v115 c0_i32_54
  let v120 : BitVec 32 := Scalar.extui v119
  let v121 : BitVec 32 := Scalar.subi v118 v120
  let c1_i32_52 : BitVec 32 := 1#32
  let c0_i32_55 : BitVec 32 := 0#32
  let v122 : BitVec 1 := Scalar.cmpi .sgt c1_i32_52 c0_i32_55
  let v123 : BitVec 32 := Scalar.extui v122
  let c0_i32_56 : BitVec 32 := 0#32
  let v124 : BitVec 1 := Scalar.cmpi .slt c1_i32_52 c0_i32_56
  let v125 : BitVec 32 := Scalar.extui v124
  let v126 : BitVec 32 := Scalar.subi v123 v125
  let v127 : BitVec 1 := Scalar.cmpi .ne v121 v126
  let v128 : BitVec 32 := Scalar.remsi v115 c1_i32_52
  let c0_i32_57 : BitVec 32 := 0#32
  let v129 : BitVec 1 := Scalar.cmpi .ne v128 c0_i32_57
  let v130 : BitVec 1 := Scalar.andi v127 v129
  let v116 : BitVec 32 := Scalar.divsi v115 c1_i32_52
  let c1_i32_58 : BitVec 32 := 1#32
  let v131 : BitVec 32 := Scalar.subi v116 c1_i32_58
  let v132 : BitVec 32 := Scalar.select v130 v131 v116
  let v167 : BitVec 32 := Scalar.addi v166 v132
  let v168 : BitVec 32 := Scalar.subi v167 v149
  let c1_i32_74 : BitVec 32 := 1#32
  let v170 : BitVec 32 := Scalar.divsi v168 c1_i32_74
  let v171 : BitVec 32 := Scalar.muli v170 c1_i32_74
  let v172 : BitVec 32 := Scalar.addi v149 v171
  let c1_i32_76 : BitVec 32 := 1#32
  let arg12 : BitVec 32 := Scf.iv v172 c1_i32_76 k0_t6
  let v314 : BitVec 32 := Scalar.muli c1_i32_139 arg12
  let c0_i32_140 : BitVec 32 := 0#32
  let v315 : BitVec 32 := Scalar.addi v314 c0_i32_140
  let v316 : BitVec 32 := Scalar.muli c2_i32_141 v315
  let v317 : BitVec 32 := Scalar.addi v316 c1_i32_142
  let c512_i32_143 : BitVec 32 := 512#32
  let v318 : BitVec 32 := Scalar.muli v317 c512_i32_143
  let v319 : BitVec 32 := v318
  let v322 : Index := Scalar.indexCast v319
  ![0, 0, v322.toNat]
def k0_mult55 (i : grid0.Coords) (k0_t6 : Fin (k0_t6_loop i).trips) : BitVec 32 :=
  let c2_i32_141 : BitVec 32 := 2#32
  let c1_i32_139 : BitVec 32 := 1#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let c2_i32_51 : BitVec 32 := 2#32
  let v113 : BitVec 32 := Scalar.muli v72 c2_i32_51
  let v114 : BitVec 32 := Scalar.addi v54 v113
  let c0_i32_60 : BitVec 32 := 0#32
  let v134 : BitVec 1 := Scalar.cmpi .sgt v114 c0_i32_60
  let v135 : BitVec 32 := Scalar.extui v134
  let c0_i32_61 : BitVec 32 := 0#32
  let v136 : BitVec 1 := Scalar.cmpi .slt v114 c0_i32_61
  let v137 : BitVec 32 := Scalar.extui v136
  let v138 : BitVec 32 := Scalar.subi v135 v137
  let c1_i32_59 : BitVec 32 := 1#32
  let c0_i32_62 : BitVec 32 := 0#32
  let v139 : BitVec 1 := Scalar.cmpi .sgt c1_i32_59 c0_i32_62
  let v140 : BitVec 32 := Scalar.extui v139
  let c0_i32_63 : BitVec 32 := 0#32
  let v141 : BitVec 1 := Scalar.cmpi .slt c1_i32_59 c0_i32_63
  let v142 : BitVec 32 := Scalar.extui v141
  let v143 : BitVec 32 := Scalar.subi v140 v142
  let v144 : BitVec 1 := Scalar.cmpi .ne v138 v143
  let v145 : BitVec 32 := Scalar.remsi v114 c1_i32_59
  let c0_i32_64 : BitVec 32 := 0#32
  let v146 : BitVec 1 := Scalar.cmpi .ne v145 c0_i32_64
  let v147 : BitVec 1 := Scalar.andi v144 v146
  let v133 : BitVec 32 := Scalar.divsi v114 c1_i32_59
  let c1_i32_65 : BitVec 32 := 1#32
  let v148 : BitVec 32 := Scalar.subi v133 c1_i32_65
  let v149 : BitVec 32 := Scalar.select v147 v148 v133
  let c0_i32_67 : BitVec 32 := 0#32
  let v151 : BitVec 1 := Scalar.cmpi .sgt v114 c0_i32_67
  let v152 : BitVec 32 := Scalar.extui v151
  let c0_i32_68 : BitVec 32 := 0#32
  let v153 : BitVec 1 := Scalar.cmpi .slt v114 c0_i32_68
  let v154 : BitVec 32 := Scalar.extui v153
  let v155 : BitVec 32 := Scalar.subi v152 v154
  let c1_i32_66 : BitVec 32 := 1#32
  let c0_i32_69 : BitVec 32 := 0#32
  let v156 : BitVec 1 := Scalar.cmpi .sgt c1_i32_66 c0_i32_69
  let v157 : BitVec 32 := Scalar.extui v156
  let c0_i32_70 : BitVec 32 := 0#32
  let v158 : BitVec 1 := Scalar.cmpi .slt c1_i32_66 c0_i32_70
  let v159 : BitVec 32 := Scalar.extui v158
  let v160 : BitVec 32 := Scalar.subi v157 v159
  let v161 : BitVec 1 := Scalar.cmpi .ne v155 v160
  let v162 : BitVec 32 := Scalar.remsi v114 c1_i32_66
  let c0_i32_71 : BitVec 32 := 0#32
  let v163 : BitVec 1 := Scalar.cmpi .ne v162 c0_i32_71
  let v164 : BitVec 1 := Scalar.andi v161 v163
  let v150 : BitVec 32 := Scalar.divsi v114 c1_i32_66
  let c1_i32_72 : BitVec 32 := 1#32
  let v165 : BitVec 32 := Scalar.subi v150 c1_i32_72
  let v166 : BitVec 32 := Scalar.select v164 v165 v150
  let v115 : BitVec 32 := Scalar.subi v28 v114
  let c0_i32_53 : BitVec 32 := 0#32
  let v117 : BitVec 1 := Scalar.cmpi .sgt v115 c0_i32_53
  let v118 : BitVec 32 := Scalar.extui v117
  let c0_i32_54 : BitVec 32 := 0#32
  let v119 : BitVec 1 := Scalar.cmpi .slt v115 c0_i32_54
  let v120 : BitVec 32 := Scalar.extui v119
  let v121 : BitVec 32 := Scalar.subi v118 v120
  let c1_i32_52 : BitVec 32 := 1#32
  let c0_i32_55 : BitVec 32 := 0#32
  let v122 : BitVec 1 := Scalar.cmpi .sgt c1_i32_52 c0_i32_55
  let v123 : BitVec 32 := Scalar.extui v122
  let c0_i32_56 : BitVec 32 := 0#32
  let v124 : BitVec 1 := Scalar.cmpi .slt c1_i32_52 c0_i32_56
  let v125 : BitVec 32 := Scalar.extui v124
  let v126 : BitVec 32 := Scalar.subi v123 v125
  let v127 : BitVec 1 := Scalar.cmpi .ne v121 v126
  let v128 : BitVec 32 := Scalar.remsi v115 c1_i32_52
  let c0_i32_57 : BitVec 32 := 0#32
  let v129 : BitVec 1 := Scalar.cmpi .ne v128 c0_i32_57
  let v130 : BitVec 1 := Scalar.andi v127 v129
  let v116 : BitVec 32 := Scalar.divsi v115 c1_i32_52
  let c1_i32_58 : BitVec 32 := 1#32
  let v131 : BitVec 32 := Scalar.subi v116 c1_i32_58
  let v132 : BitVec 32 := Scalar.select v130 v131 v116
  let v167 : BitVec 32 := Scalar.addi v166 v132
  let v168 : BitVec 32 := Scalar.subi v167 v149
  let c1_i32_74 : BitVec 32 := 1#32
  let v170 : BitVec 32 := Scalar.divsi v168 c1_i32_74
  let v171 : BitVec 32 := Scalar.muli v170 c1_i32_74
  let v172 : BitVec 32 := Scalar.addi v149 v171
  let c1_i32_76 : BitVec 32 := 1#32
  let arg12 : BitVec 32 := Scf.iv v172 c1_i32_76 k0_t6
  let v314 : BitVec 32 := Scalar.muli c1_i32_139 arg12
  let c0_i32_140 : BitVec 32 := 0#32
  let v315 : BitVec 32 := Scalar.addi v314 c0_i32_140
  let v316 : BitVec 32 := Scalar.muli c2_i32_141 v315
  let c512_i32_154 : BitVec 32 := 512#32
  let v330 : BitVec 32 := Scalar.muli v316 c512_i32_154
  v330
def k0_off17 (i : grid0.Coords) (k0_t6 : Fin (k0_t6_loop i).trips) : Fin 3 → Nat :=
  let c0_158 : Index := 0#32
  let c2_i32_141 : BitVec 32 := 2#32
  let c1_i32_139 : BitVec 32 := 1#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let c2_i32_51 : BitVec 32 := 2#32
  let v113 : BitVec 32 := Scalar.muli v72 c2_i32_51
  let v114 : BitVec 32 := Scalar.addi v54 v113
  let c0_i32_60 : BitVec 32 := 0#32
  let v134 : BitVec 1 := Scalar.cmpi .sgt v114 c0_i32_60
  let v135 : BitVec 32 := Scalar.extui v134
  let c0_i32_61 : BitVec 32 := 0#32
  let v136 : BitVec 1 := Scalar.cmpi .slt v114 c0_i32_61
  let v137 : BitVec 32 := Scalar.extui v136
  let v138 : BitVec 32 := Scalar.subi v135 v137
  let c1_i32_59 : BitVec 32 := 1#32
  let c0_i32_62 : BitVec 32 := 0#32
  let v139 : BitVec 1 := Scalar.cmpi .sgt c1_i32_59 c0_i32_62
  let v140 : BitVec 32 := Scalar.extui v139
  let c0_i32_63 : BitVec 32 := 0#32
  let v141 : BitVec 1 := Scalar.cmpi .slt c1_i32_59 c0_i32_63
  let v142 : BitVec 32 := Scalar.extui v141
  let v143 : BitVec 32 := Scalar.subi v140 v142
  let v144 : BitVec 1 := Scalar.cmpi .ne v138 v143
  let v145 : BitVec 32 := Scalar.remsi v114 c1_i32_59
  let c0_i32_64 : BitVec 32 := 0#32
  let v146 : BitVec 1 := Scalar.cmpi .ne v145 c0_i32_64
  let v147 : BitVec 1 := Scalar.andi v144 v146
  let v133 : BitVec 32 := Scalar.divsi v114 c1_i32_59
  let c1_i32_65 : BitVec 32 := 1#32
  let v148 : BitVec 32 := Scalar.subi v133 c1_i32_65
  let v149 : BitVec 32 := Scalar.select v147 v148 v133
  let c0_i32_67 : BitVec 32 := 0#32
  let v151 : BitVec 1 := Scalar.cmpi .sgt v114 c0_i32_67
  let v152 : BitVec 32 := Scalar.extui v151
  let c0_i32_68 : BitVec 32 := 0#32
  let v153 : BitVec 1 := Scalar.cmpi .slt v114 c0_i32_68
  let v154 : BitVec 32 := Scalar.extui v153
  let v155 : BitVec 32 := Scalar.subi v152 v154
  let c1_i32_66 : BitVec 32 := 1#32
  let c0_i32_69 : BitVec 32 := 0#32
  let v156 : BitVec 1 := Scalar.cmpi .sgt c1_i32_66 c0_i32_69
  let v157 : BitVec 32 := Scalar.extui v156
  let c0_i32_70 : BitVec 32 := 0#32
  let v158 : BitVec 1 := Scalar.cmpi .slt c1_i32_66 c0_i32_70
  let v159 : BitVec 32 := Scalar.extui v158
  let v160 : BitVec 32 := Scalar.subi v157 v159
  let v161 : BitVec 1 := Scalar.cmpi .ne v155 v160
  let v162 : BitVec 32 := Scalar.remsi v114 c1_i32_66
  let c0_i32_71 : BitVec 32 := 0#32
  let v163 : BitVec 1 := Scalar.cmpi .ne v162 c0_i32_71
  let v164 : BitVec 1 := Scalar.andi v161 v163
  let v150 : BitVec 32 := Scalar.divsi v114 c1_i32_66
  let c1_i32_72 : BitVec 32 := 1#32
  let v165 : BitVec 32 := Scalar.subi v150 c1_i32_72
  let v166 : BitVec 32 := Scalar.select v164 v165 v150
  let v115 : BitVec 32 := Scalar.subi v28 v114
  let c0_i32_53 : BitVec 32 := 0#32
  let v117 : BitVec 1 := Scalar.cmpi .sgt v115 c0_i32_53
  let v118 : BitVec 32 := Scalar.extui v117
  let c0_i32_54 : BitVec 32 := 0#32
  let v119 : BitVec 1 := Scalar.cmpi .slt v115 c0_i32_54
  let v120 : BitVec 32 := Scalar.extui v119
  let v121 : BitVec 32 := Scalar.subi v118 v120
  let c1_i32_52 : BitVec 32 := 1#32
  let c0_i32_55 : BitVec 32 := 0#32
  let v122 : BitVec 1 := Scalar.cmpi .sgt c1_i32_52 c0_i32_55
  let v123 : BitVec 32 := Scalar.extui v122
  let c0_i32_56 : BitVec 32 := 0#32
  let v124 : BitVec 1 := Scalar.cmpi .slt c1_i32_52 c0_i32_56
  let v125 : BitVec 32 := Scalar.extui v124
  let v126 : BitVec 32 := Scalar.subi v123 v125
  let v127 : BitVec 1 := Scalar.cmpi .ne v121 v126
  let v128 : BitVec 32 := Scalar.remsi v115 c1_i32_52
  let c0_i32_57 : BitVec 32 := 0#32
  let v129 : BitVec 1 := Scalar.cmpi .ne v128 c0_i32_57
  let v130 : BitVec 1 := Scalar.andi v127 v129
  let v116 : BitVec 32 := Scalar.divsi v115 c1_i32_52
  let c1_i32_58 : BitVec 32 := 1#32
  let v131 : BitVec 32 := Scalar.subi v116 c1_i32_58
  let v132 : BitVec 32 := Scalar.select v130 v131 v116
  let v167 : BitVec 32 := Scalar.addi v166 v132
  let v168 : BitVec 32 := Scalar.subi v167 v149
  let c1_i32_74 : BitVec 32 := 1#32
  let v170 : BitVec 32 := Scalar.divsi v168 c1_i32_74
  let v171 : BitVec 32 := Scalar.muli v170 c1_i32_74
  let v172 : BitVec 32 := Scalar.addi v149 v171
  let c1_i32_76 : BitVec 32 := 1#32
  let arg12 : BitVec 32 := Scf.iv v172 c1_i32_76 k0_t6
  let v314 : BitVec 32 := Scalar.muli c1_i32_139 arg12
  let c0_i32_140 : BitVec 32 := 0#32
  let v315 : BitVec 32 := Scalar.addi v314 c0_i32_140
  let v316 : BitVec 32 := Scalar.muli c2_i32_141 v315
  let c512_i32_154 : BitVec 32 := 512#32
  let v330 : BitVec 32 := Scalar.muli v316 c512_i32_154
  let v331 : BitVec 32 := v330
  let v359 : Index := Scalar.indexCast v331
  let c0_159 : Index := 0#32
  ![0, v359.toNat, 0]
def k0_mult56 (i : grid0.Coords) (k0_t6 : Fin (k0_t6_loop i).trips) : BitVec 32 :=
  let c2_i32_141 : BitVec 32 := 2#32
  let c1_i32_139 : BitVec 32 := 1#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let c2_i32_51 : BitVec 32 := 2#32
  let v113 : BitVec 32 := Scalar.muli v72 c2_i32_51
  let v114 : BitVec 32 := Scalar.addi v54 v113
  let c0_i32_60 : BitVec 32 := 0#32
  let v134 : BitVec 1 := Scalar.cmpi .sgt v114 c0_i32_60
  let v135 : BitVec 32 := Scalar.extui v134
  let c0_i32_61 : BitVec 32 := 0#32
  let v136 : BitVec 1 := Scalar.cmpi .slt v114 c0_i32_61
  let v137 : BitVec 32 := Scalar.extui v136
  let v138 : BitVec 32 := Scalar.subi v135 v137
  let c1_i32_59 : BitVec 32 := 1#32
  let c0_i32_62 : BitVec 32 := 0#32
  let v139 : BitVec 1 := Scalar.cmpi .sgt c1_i32_59 c0_i32_62
  let v140 : BitVec 32 := Scalar.extui v139
  let c0_i32_63 : BitVec 32 := 0#32
  let v141 : BitVec 1 := Scalar.cmpi .slt c1_i32_59 c0_i32_63
  let v142 : BitVec 32 := Scalar.extui v141
  let v143 : BitVec 32 := Scalar.subi v140 v142
  let v144 : BitVec 1 := Scalar.cmpi .ne v138 v143
  let v145 : BitVec 32 := Scalar.remsi v114 c1_i32_59
  let c0_i32_64 : BitVec 32 := 0#32
  let v146 : BitVec 1 := Scalar.cmpi .ne v145 c0_i32_64
  let v147 : BitVec 1 := Scalar.andi v144 v146
  let v133 : BitVec 32 := Scalar.divsi v114 c1_i32_59
  let c1_i32_65 : BitVec 32 := 1#32
  let v148 : BitVec 32 := Scalar.subi v133 c1_i32_65
  let v149 : BitVec 32 := Scalar.select v147 v148 v133
  let c0_i32_67 : BitVec 32 := 0#32
  let v151 : BitVec 1 := Scalar.cmpi .sgt v114 c0_i32_67
  let v152 : BitVec 32 := Scalar.extui v151
  let c0_i32_68 : BitVec 32 := 0#32
  let v153 : BitVec 1 := Scalar.cmpi .slt v114 c0_i32_68
  let v154 : BitVec 32 := Scalar.extui v153
  let v155 : BitVec 32 := Scalar.subi v152 v154
  let c1_i32_66 : BitVec 32 := 1#32
  let c0_i32_69 : BitVec 32 := 0#32
  let v156 : BitVec 1 := Scalar.cmpi .sgt c1_i32_66 c0_i32_69
  let v157 : BitVec 32 := Scalar.extui v156
  let c0_i32_70 : BitVec 32 := 0#32
  let v158 : BitVec 1 := Scalar.cmpi .slt c1_i32_66 c0_i32_70
  let v159 : BitVec 32 := Scalar.extui v158
  let v160 : BitVec 32 := Scalar.subi v157 v159
  let v161 : BitVec 1 := Scalar.cmpi .ne v155 v160
  let v162 : BitVec 32 := Scalar.remsi v114 c1_i32_66
  let c0_i32_71 : BitVec 32 := 0#32
  let v163 : BitVec 1 := Scalar.cmpi .ne v162 c0_i32_71
  let v164 : BitVec 1 := Scalar.andi v161 v163
  let v150 : BitVec 32 := Scalar.divsi v114 c1_i32_66
  let c1_i32_72 : BitVec 32 := 1#32
  let v165 : BitVec 32 := Scalar.subi v150 c1_i32_72
  let v166 : BitVec 32 := Scalar.select v164 v165 v150
  let v115 : BitVec 32 := Scalar.subi v28 v114
  let c0_i32_53 : BitVec 32 := 0#32
  let v117 : BitVec 1 := Scalar.cmpi .sgt v115 c0_i32_53
  let v118 : BitVec 32 := Scalar.extui v117
  let c0_i32_54 : BitVec 32 := 0#32
  let v119 : BitVec 1 := Scalar.cmpi .slt v115 c0_i32_54
  let v120 : BitVec 32 := Scalar.extui v119
  let v121 : BitVec 32 := Scalar.subi v118 v120
  let c1_i32_52 : BitVec 32 := 1#32
  let c0_i32_55 : BitVec 32 := 0#32
  let v122 : BitVec 1 := Scalar.cmpi .sgt c1_i32_52 c0_i32_55
  let v123 : BitVec 32 := Scalar.extui v122
  let c0_i32_56 : BitVec 32 := 0#32
  let v124 : BitVec 1 := Scalar.cmpi .slt c1_i32_52 c0_i32_56
  let v125 : BitVec 32 := Scalar.extui v124
  let v126 : BitVec 32 := Scalar.subi v123 v125
  let v127 : BitVec 1 := Scalar.cmpi .ne v121 v126
  let v128 : BitVec 32 := Scalar.remsi v115 c1_i32_52
  let c0_i32_57 : BitVec 32 := 0#32
  let v129 : BitVec 1 := Scalar.cmpi .ne v128 c0_i32_57
  let v130 : BitVec 1 := Scalar.andi v127 v129
  let v116 : BitVec 32 := Scalar.divsi v115 c1_i32_52
  let c1_i32_58 : BitVec 32 := 1#32
  let v131 : BitVec 32 := Scalar.subi v116 c1_i32_58
  let v132 : BitVec 32 := Scalar.select v130 v131 v116
  let v167 : BitVec 32 := Scalar.addi v166 v132
  let v168 : BitVec 32 := Scalar.subi v167 v149
  let c1_i32_74 : BitVec 32 := 1#32
  let v170 : BitVec 32 := Scalar.divsi v168 c1_i32_74
  let v171 : BitVec 32 := Scalar.muli v170 c1_i32_74
  let v172 : BitVec 32 := Scalar.addi v149 v171
  let c1_i32_76 : BitVec 32 := 1#32
  let arg12 : BitVec 32 := Scf.iv v172 c1_i32_76 k0_t6
  let v314 : BitVec 32 := Scalar.muli c1_i32_139 arg12
  let c0_i32_140 : BitVec 32 := 0#32
  let v315 : BitVec 32 := Scalar.addi v314 c0_i32_140
  let v316 : BitVec 32 := Scalar.muli c2_i32_141 v315
  let c2_i32_167 : BitVec 32 := 2#32
  let v373 : BitVec 32 := Scalar.addi v316 c2_i32_167
  let c512_i32_168 : BitVec 32 := 512#32
  let v374 : BitVec 32 := Scalar.muli v373 c512_i32_168
  v374
def k0_mult57 (i : grid0.Coords) (k0_t6 : Fin (k0_t6_loop i).trips) : BitVec 32 :=
  let c2_i32_141 : BitVec 32 := 2#32
  let c1_i32_139 : BitVec 32 := 1#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let c2_i32_51 : BitVec 32 := 2#32
  let v113 : BitVec 32 := Scalar.muli v72 c2_i32_51
  let v114 : BitVec 32 := Scalar.addi v54 v113
  let c0_i32_60 : BitVec 32 := 0#32
  let v134 : BitVec 1 := Scalar.cmpi .sgt v114 c0_i32_60
  let v135 : BitVec 32 := Scalar.extui v134
  let c0_i32_61 : BitVec 32 := 0#32
  let v136 : BitVec 1 := Scalar.cmpi .slt v114 c0_i32_61
  let v137 : BitVec 32 := Scalar.extui v136
  let v138 : BitVec 32 := Scalar.subi v135 v137
  let c1_i32_59 : BitVec 32 := 1#32
  let c0_i32_62 : BitVec 32 := 0#32
  let v139 : BitVec 1 := Scalar.cmpi .sgt c1_i32_59 c0_i32_62
  let v140 : BitVec 32 := Scalar.extui v139
  let c0_i32_63 : BitVec 32 := 0#32
  let v141 : BitVec 1 := Scalar.cmpi .slt c1_i32_59 c0_i32_63
  let v142 : BitVec 32 := Scalar.extui v141
  let v143 : BitVec 32 := Scalar.subi v140 v142
  let v144 : BitVec 1 := Scalar.cmpi .ne v138 v143
  let v145 : BitVec 32 := Scalar.remsi v114 c1_i32_59
  let c0_i32_64 : BitVec 32 := 0#32
  let v146 : BitVec 1 := Scalar.cmpi .ne v145 c0_i32_64
  let v147 : BitVec 1 := Scalar.andi v144 v146
  let v133 : BitVec 32 := Scalar.divsi v114 c1_i32_59
  let c1_i32_65 : BitVec 32 := 1#32
  let v148 : BitVec 32 := Scalar.subi v133 c1_i32_65
  let v149 : BitVec 32 := Scalar.select v147 v148 v133
  let c0_i32_67 : BitVec 32 := 0#32
  let v151 : BitVec 1 := Scalar.cmpi .sgt v114 c0_i32_67
  let v152 : BitVec 32 := Scalar.extui v151
  let c0_i32_68 : BitVec 32 := 0#32
  let v153 : BitVec 1 := Scalar.cmpi .slt v114 c0_i32_68
  let v154 : BitVec 32 := Scalar.extui v153
  let v155 : BitVec 32 := Scalar.subi v152 v154
  let c1_i32_66 : BitVec 32 := 1#32
  let c0_i32_69 : BitVec 32 := 0#32
  let v156 : BitVec 1 := Scalar.cmpi .sgt c1_i32_66 c0_i32_69
  let v157 : BitVec 32 := Scalar.extui v156
  let c0_i32_70 : BitVec 32 := 0#32
  let v158 : BitVec 1 := Scalar.cmpi .slt c1_i32_66 c0_i32_70
  let v159 : BitVec 32 := Scalar.extui v158
  let v160 : BitVec 32 := Scalar.subi v157 v159
  let v161 : BitVec 1 := Scalar.cmpi .ne v155 v160
  let v162 : BitVec 32 := Scalar.remsi v114 c1_i32_66
  let c0_i32_71 : BitVec 32 := 0#32
  let v163 : BitVec 1 := Scalar.cmpi .ne v162 c0_i32_71
  let v164 : BitVec 1 := Scalar.andi v161 v163
  let v150 : BitVec 32 := Scalar.divsi v114 c1_i32_66
  let c1_i32_72 : BitVec 32 := 1#32
  let v165 : BitVec 32 := Scalar.subi v150 c1_i32_72
  let v166 : BitVec 32 := Scalar.select v164 v165 v150
  let v115 : BitVec 32 := Scalar.subi v28 v114
  let c0_i32_53 : BitVec 32 := 0#32
  let v117 : BitVec 1 := Scalar.cmpi .sgt v115 c0_i32_53
  let v118 : BitVec 32 := Scalar.extui v117
  let c0_i32_54 : BitVec 32 := 0#32
  let v119 : BitVec 1 := Scalar.cmpi .slt v115 c0_i32_54
  let v120 : BitVec 32 := Scalar.extui v119
  let v121 : BitVec 32 := Scalar.subi v118 v120
  let c1_i32_52 : BitVec 32 := 1#32
  let c0_i32_55 : BitVec 32 := 0#32
  let v122 : BitVec 1 := Scalar.cmpi .sgt c1_i32_52 c0_i32_55
  let v123 : BitVec 32 := Scalar.extui v122
  let c0_i32_56 : BitVec 32 := 0#32
  let v124 : BitVec 1 := Scalar.cmpi .slt c1_i32_52 c0_i32_56
  let v125 : BitVec 32 := Scalar.extui v124
  let v126 : BitVec 32 := Scalar.subi v123 v125
  let v127 : BitVec 1 := Scalar.cmpi .ne v121 v126
  let v128 : BitVec 32 := Scalar.remsi v115 c1_i32_52
  let c0_i32_57 : BitVec 32 := 0#32
  let v129 : BitVec 1 := Scalar.cmpi .ne v128 c0_i32_57
  let v130 : BitVec 1 := Scalar.andi v127 v129
  let v116 : BitVec 32 := Scalar.divsi v115 c1_i32_52
  let c1_i32_58 : BitVec 32 := 1#32
  let v131 : BitVec 32 := Scalar.subi v116 c1_i32_58
  let v132 : BitVec 32 := Scalar.select v130 v131 v116
  let v167 : BitVec 32 := Scalar.addi v166 v132
  let v168 : BitVec 32 := Scalar.subi v167 v149
  let c1_i32_74 : BitVec 32 := 1#32
  let v170 : BitVec 32 := Scalar.divsi v168 c1_i32_74
  let v171 : BitVec 32 := Scalar.muli v170 c1_i32_74
  let v172 : BitVec 32 := Scalar.addi v149 v171
  let c1_i32_76 : BitVec 32 := 1#32
  let arg12 : BitVec 32 := Scf.iv v172 c1_i32_76 k0_t6
  let v314 : BitVec 32 := Scalar.muli c1_i32_139 arg12
  let c0_i32_140 : BitVec 32 := 0#32
  let v315 : BitVec 32 := Scalar.addi v314 c0_i32_140
  let v316 : BitVec 32 := Scalar.muli c2_i32_141 v315
  let c1_i32_177 : BitVec 32 := 1#32
  let v385 : BitVec 32 := Scalar.addi v316 c1_i32_177
  let c512_i32_180 : BitVec 32 := 512#32
  let v387 : BitVec 32 := Scalar.muli v385 c512_i32_180
  v387
def k0_off18 (i : grid0.Coords) (k0_t6 : Fin (k0_t6_loop i).trips) : Fin 3 → Nat :=
  let c0_184 : Index := 0#32
  let c2_i32_141 : BitVec 32 := 2#32
  let c1_i32_139 : BitVec 32 := 1#32
  let c0_i32_25 : BitVec 32 := 0#32
  let c2_i32 : BitVec 32 := 2#32
  let arg1 : BitVec 32 := BitVec.ofNat 32 (i 1).val
  let v11 : BitVec 32 := Scalar.muli c2_i32 arg1
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32_5 : BitVec 32 := 2#32
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v11 c2_i32_5
  let c0_i32_10 : BitVec 32 := 0#32
  let v25 : BitVec 1 := Scalar.cmpi .ne v24 c0_i32_10
  let v26 : BitVec 1 := Scalar.andi v23 v25
  let v12 : BitVec 32 := Scalar.divsi v11 c2_i32_5
  let c1_i32 : BitVec 32 := 1#32
  let v27 : BitVec 32 := Scalar.subi v12 c1_i32
  let v28 : BitVec 32 := Scalar.select v26 v27 v12
  let c0_i32_11 : BitVec 32 := 0#32
  let v29 : BitVec 32 := Scalar.subi v28 c0_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v29 c4_i32
  let c0_i32_16 : BitVec 32 := 0#32
  let v43 : BitVec 1 := Scalar.cmpi .ne v42 c0_i32_16
  let v44 : BitVec 1 := Scalar.andi v41 v43
  let v30 : BitVec 32 := Scalar.divsi v29 c4_i32
  let c1_i32_17 : BitVec 32 := 1#32
  let v45 : BitVec 32 := Scalar.subi v30 c1_i32_17
  let v46 : BitVec 32 := Scalar.select v44 v45 v30
  let c4_i32_24 : BitVec 32 := 4#32
  let v53 : BitVec 32 := Scalar.muli v46 c4_i32_24
  let v54 : BitVec 32 := Scalar.addi c0_i32_25 v53
  let v55 : BitVec 32 := Scalar.subi v28 v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c2_i32_26 : BitVec 32 := 2#32
  let c0_i32_29 : BitVec 32 := 0#32
  let v62 : BitVec 1 := Scalar.cmpi .sgt c2_i32_26 c0_i32_29
  let v63 : BitVec 32 := Scalar.extui v62
  let c0_i32_30 : BitVec 32 := 0#32
  let v64 : BitVec 1 := Scalar.cmpi .slt c2_i32_26 c0_i32_30
  let v65 : BitVec 32 := Scalar.extui v64
  let v66 : BitVec 32 := Scalar.subi v63 v65
  let v67 : BitVec 1 := Scalar.cmpi .ne v61 v66
  let v68 : BitVec 32 := Scalar.remsi v55 c2_i32_26
  let c0_i32_31 : BitVec 32 := 0#32
  let v69 : BitVec 1 := Scalar.cmpi .ne v68 c0_i32_31
  let v70 : BitVec 1 := Scalar.andi v67 v69
  let v56 : BitVec 32 := Scalar.divsi v55 c2_i32_26
  let c1_i32_32 : BitVec 32 := 1#32
  let v71 : BitVec 32 := Scalar.subi v56 c1_i32_32
  let v72 : BitVec 32 := Scalar.select v70 v71 v56
  let c2_i32_51 : BitVec 32 := 2#32
  let v113 : BitVec 32 := Scalar.muli v72 c2_i32_51
  let v114 : BitVec 32 := Scalar.addi v54 v113
  let c0_i32_60 : BitVec 32 := 0#32
  let v134 : BitVec 1 := Scalar.cmpi .sgt v114 c0_i32_60
  let v135 : BitVec 32 := Scalar.extui v134
  let c0_i32_61 : BitVec 32 := 0#32
  let v136 : BitVec 1 := Scalar.cmpi .slt v114 c0_i32_61
  let v137 : BitVec 32 := Scalar.extui v136
  let v138 : BitVec 32 := Scalar.subi v135 v137
  let c1_i32_59 : BitVec 32 := 1#32
  let c0_i32_62 : BitVec 32 := 0#32
  let v139 : BitVec 1 := Scalar.cmpi .sgt c1_i32_59 c0_i32_62
  let v140 : BitVec 32 := Scalar.extui v139
  let c0_i32_63 : BitVec 32 := 0#32
  let v141 : BitVec 1 := Scalar.cmpi .slt c1_i32_59 c0_i32_63
  let v142 : BitVec 32 := Scalar.extui v141
  let v143 : BitVec 32 := Scalar.subi v140 v142
  let v144 : BitVec 1 := Scalar.cmpi .ne v138 v143
  let v145 : BitVec 32 := Scalar.remsi v114 c1_i32_59
  let c0_i32_64 : BitVec 32 := 0#32
  let v146 : BitVec 1 := Scalar.cmpi .ne v145 c0_i32_64
  let v147 : BitVec 1 := Scalar.andi v144 v146
  let v133 : BitVec 32 := Scalar.divsi v114 c1_i32_59
  let c1_i32_65 : BitVec 32 := 1#32
  let v148 : BitVec 32 := Scalar.subi v133 c1_i32_65
  let v149 : BitVec 32 := Scalar.select v147 v148 v133
  let c0_i32_67 : BitVec 32 := 0#32
  let v151 : BitVec 1 := Scalar.cmpi .sgt v114 c0_i32_67
  let v152 : BitVec 32 := Scalar.extui v151
  let c0_i32_68 : BitVec 32 := 0#32
  let v153 : BitVec 1 := Scalar.cmpi .slt v114 c0_i32_68
  let v154 : BitVec 32 := Scalar.extui v153
  let v155 : BitVec 32 := Scalar.subi v152 v154
  let c1_i32_66 : BitVec 32 := 1#32
  let c0_i32_69 : BitVec 32 := 0#32
  let v156 : BitVec 1 := Scalar.cmpi .sgt c1_i32_66 c0_i32_69
  let v157 : BitVec 32 := Scalar.extui v156
  let c0_i32_70 : BitVec 32 := 0#32
  let v158 : BitVec 1 := Scalar.cmpi .slt c1_i32_66 c0_i32_70
  let v159 : BitVec 32 := Scalar.extui v158
  let v160 : BitVec 32 := Scalar.subi v157 v159
  let v161 : BitVec 1 := Scalar.cmpi .ne v155 v160
  let v162 : BitVec 32 := Scalar.remsi v114 c1_i32_66
  let c0_i32_71 : BitVec 32 := 0#32
  let v163 : BitVec 1 := Scalar.cmpi .ne v162 c0_i32_71
  let v164 : BitVec 1 := Scalar.andi v161 v163
  let v150 : BitVec 32 := Scalar.divsi v114 c1_i32_66
  let c1_i32_72 : BitVec 32 := 1#32
  let v165 : BitVec 32 := Scalar.subi v150 c1_i32_72
  let v166 : BitVec 32 := Scalar.select v164 v165 v150
  let v115 : BitVec 32 := Scalar.subi v28 v114
  let c0_i32_53 : BitVec 32 := 0#32
  let v117 : BitVec 1 := Scalar.cmpi .sgt v115 c0_i32_53
  let v118 : BitVec 32 := Scalar.extui v117
  let c0_i32_54 : BitVec 32 := 0#32
  let v119 : BitVec 1 := Scalar.cmpi .slt v115 c0_i32_54
  let v120 : BitVec 32 := Scalar.extui v119
  let v121 : BitVec 32 := Scalar.subi v118 v120
  let c1_i32_52 : BitVec 32 := 1#32
  let c0_i32_55 : BitVec 32 := 0#32
  let v122 : BitVec 1 := Scalar.cmpi .sgt c1_i32_52 c0_i32_55
  let v123 : BitVec 32 := Scalar.extui v122
  let c0_i32_56 : BitVec 32 := 0#32
  let v124 : BitVec 1 := Scalar.cmpi .slt c1_i32_52 c0_i32_56
  let v125 : BitVec 32 := Scalar.extui v124
  let v126 : BitVec 32 := Scalar.subi v123 v125
  let v127 : BitVec 1 := Scalar.cmpi .ne v121 v126
  let v128 : BitVec 32 := Scalar.remsi v115 c1_i32_52
  let c0_i32_57 : BitVec 32 := 0#32
  let v129 : BitVec 1 := Scalar.cmpi .ne v128 c0_i32_57
  let v130 : BitVec 1 := Scalar.andi v127 v129
  let v116 : BitVec 32 := Scalar.divsi v115 c1_i32_52
  let c1_i32_58 : BitVec 32 := 1#32
  let v131 : BitVec 32 := Scalar.subi v116 c1_i32_58
  let v132 : BitVec 32 := Scalar.select v130 v131 v116
  let v167 : BitVec 32 := Scalar.addi v166 v132
  let v168 : BitVec 32 := Scalar.subi v167 v149
  let c1_i32_74 : BitVec 32 := 1#32
  let v170 : BitVec 32 := Scalar.divsi v168 c1_i32_74
  let v171 : BitVec 32 := Scalar.muli v170 c1_i32_74
  let v172 : BitVec 32 := Scalar.addi v149 v171
  let c1_i32_76 : BitVec 32 := 1#32
  let arg12 : BitVec 32 := Scf.iv v172 c1_i32_76 k0_t6
  let v314 : BitVec 32 := Scalar.muli c1_i32_139 arg12
  let c0_i32_140 : BitVec 32 := 0#32
  let v315 : BitVec 32 := Scalar.addi v314 c0_i32_140
  let v316 : BitVec 32 := Scalar.muli c2_i32_141 v315
  let c1_i32_177 : BitVec 32 := 1#32
  let v385 : BitVec 32 := Scalar.addi v316 c1_i32_177
  let c512_i32_180 : BitVec 32 := 512#32
  let v387 : BitVec 32 := Scalar.muli v385 c512_i32_180
  let v388 : BitVec 32 := v387
  let v416 : Index := Scalar.indexCast v388
  let c0_185 : Index := 0#32
  ![0, v416.toNat, 0]
def k0_mult58 (i : grid0.Coords) : BitVec 32 :=
  let c2_i32 : BitVec 32 := 2#32
  let arg1 : BitVec 32 := BitVec.ofNat 32 (i 1).val
  let v11 : BitVec 32 := Scalar.muli c2_i32 arg1
  let c0_i32_77 : BitVec 32 := 0#32
  let v173 : BitVec 32 := Scalar.addi v11 c0_i32_77
  let c1_i32_78 : BitVec 32 := 1#32
  let v174 : BitVec 32 := Scalar.addi v173 c1_i32_78
  let c512_i32 : BitVec 32 := 512#32
  let v175 : BitVec 32 := Scalar.muli v174 c512_i32
  v175
def k0_off19 (i : grid0.Coords) : Fin 3 → Nat :=
  let c0_81 : Index := 0#32
  let c0_82 : Index := 0#32
  let c2_i32 : BitVec 32 := 2#32
  let arg1 : BitVec 32 := BitVec.ofNat 32 (i 1).val
  let v11 : BitVec 32 := Scalar.muli c2_i32 arg1
  let c0_i32_77 : BitVec 32 := 0#32
  let v173 : BitVec 32 := Scalar.addi v11 c0_i32_77
  let c1_i32_78 : BitVec 32 := 1#32
  let v174 : BitVec 32 := Scalar.addi v173 c1_i32_78
  let c512_i32 : BitVec 32 := 512#32
  let v175 : BitVec 32 := Scalar.muli v174 c512_i32
  let v176 : BitVec 32 := v175
  let v179 : Index := Scalar.indexCast v176
  ![0, 0, v179.toNat]
def k0_mult59 (i : grid0.Coords) : BitVec 32 :=
  let c2_i32 : BitVec 32 := 2#32
  let arg1 : BitVec 32 := BitVec.ofNat 32 (i 1).val
  let v11 : BitVec 32 := Scalar.muli c2_i32 arg1
  let c0_i32_86 : BitVec 32 := 0#32
  let v186 : BitVec 32 := Scalar.addi v11 c0_i32_86
  let c512_i32_89 : BitVec 32 := 512#32
  let v188 : BitVec 32 := Scalar.muli v186 c512_i32_89
  v188
def k0_off20 (i : grid0.Coords) (c0_i32_86 : BitVec 32) : Fin 3 → Nat :=
  let c0_96 : Index := 0#32
  let c2_i32 : BitVec 32 := 2#32
  let arg1 : BitVec 32 := BitVec.ofNat 32 (i 1).val
  let v11 : BitVec 32 := Scalar.muli c2_i32 arg1
  let v186 : BitVec 32 := Scalar.addi v11 c0_i32_86
  let c512_i32_89 : BitVec 32 := 512#32
  let v188 : BitVec 32 := Scalar.muli v186 c512_i32_89
  let v189 : BitVec 32 := v188
  let v226 : Index := Scalar.indexCast v189
  let c0_97 : Index := 0#32
  ![0, v226.toNat, 0]
def k0_mult60 (i : grid0.Coords) : BitVec 32 :=
  let c2_i32 : BitVec 32 := 2#32
  let arg1 : BitVec 32 := BitVec.ofNat 32 (i 1).val
  let v11 : BitVec 32 := Scalar.muli c2_i32 arg1
  let c1_i32_114 : BitVec 32 := 1#32
  let v248 : BitVec 32 := Scalar.addi v11 c1_i32_114
  let c512_i32_117 : BitVec 32 := 512#32
  let v250 : BitVec 32 := Scalar.muli v248 c512_i32_117
  v250
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16384x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x16384x256 : Shape := ⟨3, ![4, 16384, 256]⟩
abbrev S4x256x16384 : Shape := ⟨3, ![4, 256, 16384]⟩
abbrev S4x16384x128 : Shape := ⟨3, ![4, 16384, 128]⟩
abbrev S16384x512 : Shape := ⟨2, ![16384, 512]⟩
abbrev S4x16384x16384 : Shape := ⟨3, ![4, 16384, 16384]⟩
abbrev S16384 : Shape := ⟨1, ![16384]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S_ : Shape := ⟨0, ![]⟩
abbrev S4x16384 : Shape := ⟨2, ![4, 16384]⟩
abbrev S4x16384x1 : Shape := ⟨3, ![4, 16384, 1]⟩
abbrev S4x128x16384 : Shape := ⟨3, ![4, 128, 16384]⟩
abbrev S16384x4x128 : Shape := ⟨3, ![16384, 4, 128]⟩

abbrev nBuf : Space → Nat
  | .hbm => 49
  | .vmem => 0
  | .smem => 0
  | _ => 0

abbrev bufTy : (tb : Table) → Fin (tcTables nBuf tb) → BufTy
  | .hbm, ⟨0, _⟩ => ⟨S4x16384x256, .bf16⟩
  | .hbm, ⟨1, _⟩ => ⟨S4x256x16384, .bf16⟩
  | .hbm, ⟨2, _⟩ => ⟨S4x16384x128, .bf16⟩
  | .hbm, ⟨3, _⟩ => ⟨S16384x512, .bf16⟩
  | .hbm, ⟨4, _⟩ => ⟨S4x16384x256, .f32⟩
  | .hbm, ⟨5, _⟩ => ⟨S4x256x16384, .f32⟩
  | .hbm, ⟨6, _⟩ => ⟨S4x16384x16384, .f32⟩
  | .hbm, ⟨7, _⟩ => ⟨S16384, .i32⟩
  | .hbm, ⟨8, _⟩ => ⟨S1x1x16384, .i32⟩
  | .hbm, ⟨9, _⟩ => ⟨S1x16384x1, .i32⟩
  | .hbm, ⟨10, _⟩ => ⟨S1x16384x16384, .i32⟩
  | .hbm, ⟨11, _⟩ => ⟨S1x16384x16384, .i32⟩
  | .hbm, ⟨12, _⟩ => ⟨S1x16384x16384, .i1⟩
  | .hbm, ⟨13, _⟩ => ⟨S_, .f32⟩
  | .hbm, ⟨14, _⟩ => ⟨S_, .f32⟩
  | .hbm, ⟨15, _⟩ => ⟨S4x16384x16384, .i1⟩
  | .hbm, ⟨16, _⟩ => ⟨S4x16384x16384, .f32⟩
  | .hbm, ⟨17, _⟩ => ⟨S4x16384x16384, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4x16384, .f32⟩
  | .hbm, ⟨22, _⟩ => ⟨S4x16384x1, .f32⟩
  | .hbm, ⟨23, _⟩ => ⟨S4x16384x16384, .f32⟩
  | .hbm, ⟨24, _⟩ => ⟨S4x16384x16384, .f32⟩
  | .hbm, ⟨25, _⟩ => ⟨S4x16384x16384, .f32⟩
  | .hbm, ⟨26, _⟩ => ⟨S4x16384x16384, .f32⟩
  | .hbm, ⟨27, _⟩ => ⟨S4x16384x16384, .f32⟩
  | .hbm, ⟨28, _⟩ => ⟨S_, .f32⟩
  | .hbm, ⟨29, _⟩ => ⟨S4x16384, .f32⟩
  | .hbm, ⟨30, _⟩ => ⟨S4x16384x1, .f32⟩
  | .hbm, ⟨31, _⟩ => ⟨S4x16384x16384, .f32⟩
  | .hbm, ⟨32, _⟩ => ⟨S4x16384x16384, .f32⟩
  | .hbm, ⟨33, _⟩ => ⟨S4x16384x128, .f32⟩
  | .hbm, ⟨34, _⟩ => ⟨S4x128x16384, .f32⟩
  | .hbm, ⟨35, _⟩ => ⟨S16384x4x128, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S_, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .bf16⟩
  | _, _ => ⟨S4x16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]
-- ==== Outproj.lean ====
abbrev S16384x512 : Shape := ⟨2, ![16384, 512]⟩
abbrev S2x2048x1024 : Shape := ⟨3, ![2, 2048, 1024]⟩
abbrev S16384x1024 : Shape := ⟨2, ![16384, 1024]⟩
abbrev S1x1024 : Shape := ⟨2, ![1, 1024]⟩
abbrev S1024x512 : Shape := ⟨2, ![1024, 512]⟩
abbrev S1x2048x1024 : Shape := ⟨3, ![1, 2048, 1024]⟩
abbrev S1024x1024 : Shape := ⟨2, ![1024, 1024]⟩
abbrev S2048x1024 : Shape := ⟨2, ![2048, 1024]⟩
abbrev S512x1024 : Shape := ⟨2, ![512, 1024]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S2x2048x1024, .f32⟩
  | .hbm, ⟨5, _⟩ => ⟨S16384x1024, .f32⟩
  | .hbm, ⟨6, _⟩ => ⟨S1x1024, .f32⟩
  | .hbm, ⟨7, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x2048x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S2048x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutprojRefIdeal.lean ====
abbrev S16384x512 : Shape := ⟨2, ![16384, 512]⟩
abbrev S2x2048x1024 : Shape := ⟨3, ![2, 2048, 1024]⟩
abbrev S16384x1024 : Shape := ⟨2, ![16384, 1024]⟩
abbrev S1x1024 : Shape := ⟨2, ![1, 1024]⟩
abbrev S16384x2048 : Shape := ⟨2, ![16384, 2048]⟩
abbrev S1x2048x1024 : Shape := ⟨3, ![1, 2048, 1024]⟩
abbrev S2048x1024 : Shape := ⟨2, ![2048, 1024]⟩
abbrev S_ : Shape := ⟨0, ![]⟩
abbrev S16384 : Shape := ⟨1, ![16384]⟩
abbrev S16384x1 : Shape := ⟨2, ![16384, 1]⟩

abbrev nBuf : Space → Nat
  | .hbm => 28
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S2x2048x1024, .f32⟩
  | .hbm, ⟨5, _⟩ => ⟨S16384x1024, .f32⟩
  | .hbm, ⟨6, _⟩ => ⟨S1x1024, .f32⟩
  | .hbm, ⟨7, _⟩ => ⟨S16384x2048, .bf16⟩
  | .hbm, ⟨8, _⟩ => ⟨S16384x2048, .f32⟩
  | .hbm, ⟨9, _⟩ => ⟨S1x2048x1024, .f32⟩
  | .hbm, ⟨10, _⟩ => ⟨S2048x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Inproj.lean ====
abbrev S8 : Shape := ⟨1, ![8]⟩
abbrev S16384x1024 : Shape := ⟨2, ![16384, 1024]⟩
abbrev S1x1024 : Shape := ⟨2, ![1, 1024]⟩
abbrev S1024x1280 : Shape := ⟨2, ![1024, 1280]⟩
abbrev S1024x2048 : Shape := ⟨2, ![1024, 2048]⟩
abbrev S1024x1152 : Shape := ⟨2, ![1024, 1152]⟩
abbrev S1024x1024 : Shape := ⟨2, ![1024, 1024]⟩
abbrev S1024x256 : Shape := ⟨2, ![1024, 256]⟩
abbrev S256x1024 : Shape := ⟨2, ![256, 1024]⟩
abbrev S8x128x256 : Shape := ⟨3, ![8, 128, 256]⟩
abbrev S16384x128 : Shape := ⟨2, ![16384, 128]⟩
abbrev S8x128 : Shape := ⟨2, ![8, 128]⟩
abbrev S1x256 : Shape := ⟨2, ![1, 256]⟩
abbrev S1x128 : Shape := ⟨2, ![1, 128]⟩
abbrev S256x512 : Shape := ⟨2, ![256, 512]⟩
abbrev S512x128 : Shape := ⟨2, ![512, 128]⟩
abbrev S128x512 : Shape := ⟨2, ![128, 512]⟩
abbrev S16384x2048 : Shape := ⟨2, ![16384, 2048]⟩
abbrev S16384x512 : Shape := ⟨2, ![16384, 512]⟩
abbrev S4x16384x256 : Shape := ⟨3, ![4, 16384, 256]⟩
abbrev S4x256x16384 : Shape := ⟨3, ![4, 256, 16384]⟩
abbrev S512x1024 : Shape := ⟨2, ![512, 1024]⟩
abbrev S128x1024 : Shape := ⟨2, ![128, 1024]⟩
abbrev S512x2048 : Shape := ⟨2, ![512, 2048]⟩
abbrev S512x512 : Shape := ⟨2, ![512, 512]⟩
abbrev S4x512x256 : Shape := ⟨3, ![4, 512, 256]⟩
abbrev S4x256x512 : Shape := ⟨3, ![4, 256, 512]⟩
abbrev S512 : Shape := ⟨1, ![512]⟩
abbrev S512x1 : Shape := ⟨2, ![512, 1]⟩
abbrev S128 : Shape := ⟨1, ![128]⟩
abbrev S128x1 : Shape := ⟨2, ![128, 1]⟩
abbrev S128x256 : Shape := ⟨2, ![128, 256]⟩
abbrev S1024x512 : Shape := ⟨2, ![1024, 512]⟩
abbrev S256x128 : Shape := ⟨2, ![256, 128]⟩
abbrev S512x256 : Shape := ⟨2, ![512, 256]⟩
abbrev S128x128 : Shape := ⟨2, ![128, 128]⟩
abbrev S256x64 : Shape := ⟨2, ![256, 64]⟩
abbrev S1x128x256 : Shape := ⟨3, ![1, 128, 256]⟩
abbrev S1024x640 : Shape := ⟨2, ![1024, 640]⟩
abbrev S512x640 : Shape := ⟨2, ![512, 640]⟩
abbrev S1024x128 : Shape := ⟨2, ![1024, 128]⟩
abbrev S1x512x128 : Shape := ⟨3, ![1, 512, 128]⟩
abbrev S1x128x512 : Shape := ⟨3, ![1, 128, 512]⟩
abbrev S1 : Shape := ⟨1, ![1]⟩

abbrev nBuf : Space → Nat
  | .hbm => 27
  | .vmem => 38
  | .smem => 1
  | _ => 0

abbrev bufTy : (tb : Table) → Fin (tcTables nBuf tb) → BufTy
  | .hbm, ⟨0, _⟩ => ⟨S8, .f32⟩
  | .hbm, ⟨1, _⟩ => ⟨S16384x1024, .f32⟩
  | .hbm, ⟨2, _⟩ => ⟨S1x1024, .f32⟩
  | .hbm, ⟨3, _⟩ => ⟨S1024x1280, .bf16⟩
  | .hbm, ⟨4, _⟩ => ⟨S1024x2048, .bf16⟩
  | .hbm, ⟨5, _⟩ => ⟨S1024x1152, .bf16⟩
  | .hbm, ⟨6, _⟩ => ⟨S1024x1024, .bf16⟩
  | .hbm, ⟨7, _⟩ => ⟨S1024x256, .bf16⟩
  | .hbm, ⟨8, _⟩ => ⟨S256x1024, .bf16⟩
  | .hbm, ⟨9, _⟩ => ⟨S8x128x256, .f32⟩
  | .hbm, ⟨10, _⟩ => ⟨S16384x128, .f32⟩
  | .hbm, ⟨11, _⟩ => ⟨S8x128, .f32⟩
  | .hbm, ⟨12, _⟩ => ⟨S1x256, .f32⟩
  | .hbm, ⟨13, _⟩ => ⟨S1x128, .f32⟩
  | .hbm, ⟨14, _⟩ => ⟨S256x512, .bf16⟩
  | .hbm, ⟨15, _⟩ => ⟨S256x512, .bf16⟩
  | .hbm, ⟨16, _⟩ => ⟨S256x512, .bf16⟩
  | .hbm, ⟨17, _⟩ => ⟨S512x128, .bf16⟩
  | .hbm, ⟨18, _⟩ => ⟨S128x512, .bf16⟩
  | .hbm, ⟨19, _⟩ => ⟨S16384x2048, .bf16⟩
  | .hbm, ⟨20, _⟩ => ⟨S16384x512, .bf16⟩
  | .hbm, ⟨21, _⟩ => ⟨S4x16384x256, .bf16⟩
  | .hbm, ⟨22, _⟩ => ⟨S4x256x16384, .bf16⟩
  | .hbm, ⟨23, _⟩ => ⟨S4x16384x256, .bf16⟩
  | .hbm, ⟨24, _⟩ => ⟨S16384x512, .bf16⟩
  | .hbm, ⟨25, _⟩ => ⟨S16384x512, .bf16⟩
  | .hbm, ⟨26, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S1024x1280, .bf16⟩
  | .local _ .vmem, ⟨6, _⟩ => ⟨S1024x2048, .bf16⟩
  | .local _ .vmem, ⟨7, _⟩ => ⟨S1024x1152, .bf16⟩
  | .local _ .vmem, ⟨8, _⟩ => ⟨S1024x1024, .bf16⟩
  | .local _ .vmem, ⟨9, _⟩ => ⟨S1024x256, .bf16⟩
  | .local _ .vmem, ⟨10, _⟩ => ⟨S256x1024, .bf16⟩
  | .local _ .vmem, ⟨11, _⟩ => ⟨S8x128x256, .f32⟩
  | .local _ .vmem, ⟨12, _⟩ => ⟨S512x128, .f32⟩
  | .local _ .vmem, ⟨13, _⟩ => ⟨S512x128, .f32⟩
  | .local _ .vmem, ⟨14, _⟩ => ⟨S8x128, .f32⟩
  | .local _ .vmem, ⟨15, _⟩ => ⟨S1x256, .f32⟩
  | .local _ .vmem, ⟨16, _⟩ => ⟨S1x128, .f32⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S512x128, .bf16⟩
  | .local _ .vmem, ⟨21, _⟩ => ⟨S128x512, .bf16⟩
  | .local _ .vmem, ⟨22, _⟩ => ⟨S512x2048, .bf16⟩
  | .local _ .vmem, ⟨23, _⟩ => ⟨S512x2048, .bf16⟩
  | .local _ .vmem, ⟨24, _⟩ => ⟨S512x512, .bf16⟩
  | .local _ .vmem, ⟨25, _⟩ => ⟨S512x512, .bf16⟩
  | .local _ .vmem, ⟨26, _⟩ => ⟨S4x512x256, .bf16⟩
  | .local _ .vmem, ⟨27, _⟩ => ⟨S4x512x256, .bf16⟩
  | .local _ .vmem, ⟨28, _⟩ => ⟨S4x256x512, .bf16⟩
  | .local _ .vmem, ⟨29, _⟩ => ⟨S4x256x512, .bf16⟩
  | .local _ .vmem, ⟨30, _⟩ => ⟨S4x512x256, .bf16⟩
  | .local _ .vmem, ⟨31, _⟩ => ⟨S4x512x256, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S512x128, .f32⟩
  | .local _ .vmem, ⟨37, _⟩ => ⟨S512x128, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .smem, ⟨0, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0_0 : Ref sig .tc := ⟨.hbm, 19, rfl⟩
abbrev main_v0_1 : Ref sig .tc := ⟨.hbm, 20, rfl⟩
abbrev main_v0_2 : Ref sig .tc := ⟨.hbm, 21, rfl⟩
abbrev main_v0_3 : Ref sig .tc := ⟨.hbm, 22, rfl⟩
abbrev main_v0_4 : Ref sig .tc := ⟨.hbm, 23, rfl⟩
abbrev main_v0_5 : Ref sig .tc := ⟨.hbm, 24, rfl⟩
abbrev main_v0_6 : Ref sig .tc := ⟨.hbm, 25, rfl⟩
abbrev main_v0_7 : Ref sig .tc := ⟨.hbm, 26, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg20_1 : Ref sig .tc := ⟨.vmem, 23, rfl⟩
abbrev cc0_stg21_0 : Ref sig .tc := ⟨.vmem, 24, rfl⟩
abbrev cc0_stg21_1 : Ref sig .tc := ⟨.vmem, 25, rfl⟩
abbrev cc0_stg22_0 : Ref sig .tc := ⟨.vmem, 26, rfl⟩
abbrev cc0_stg22_1 : Ref sig .tc := ⟨.vmem, 27, rfl⟩
abbrev cc0_stg23_0 : Ref sig .tc := ⟨.vmem, 28, rfl⟩
abbrev cc0_stg23_1 : Ref sig .tc := ⟨.vmem, 29, rfl⟩
abbrev cc0_stg24_0 : Ref sig .tc := ⟨.vmem, 30, rfl⟩
abbrev cc0_stg24_1 : Ref sig .tc := ⟨.vmem, 31, rfl⟩
abbrev cc0_stg25_0 : Ref sig .tc := ⟨.vmem, 32, rfl⟩
abbrev cc0_stg25_1 : Ref sig .tc := ⟨.vmem, 33, rfl⟩
abbrev cc0_stg26_0 : Ref sig .tc := ⟨.vmem, 34, rfl⟩
abbrev cc0_stg26_1 : Ref sig .tc := ⟨.vmem, 35, rfl⟩
abbrev cc0_stg27_0 : Ref sig .tc := ⟨.vmem, 36, rfl⟩
abbrev cc0_stg27_1 : Ref sig .tc := ⟨.vmem, 37, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem20_1 : DmaSem sig := 24
abbrev cc0_sem21_0 : DmaSem sig := 25
abbrev cc0_sem21_1 : DmaSem sig := 26
abbrev cc0_sem22_0 : DmaSem sig := 27
abbrev cc0_sem22_1 : DmaSem sig := 28
abbrev cc0_sem23_0 : DmaSem sig := 29
abbrev cc0_sem23_1 : DmaSem sig := 30
abbrev cc0_sem24_0 : DmaSem sig := 31
abbrev cc0_sem24_1 : DmaSem sig := 32
abbrev cc0_sem25_0 : DmaSem sig := 33
abbrev cc0_sem25_1 : DmaSem sig := 34
abbrev cc0_sem26_0 : DmaSem sig := 35
abbrev cc0_sem26_1 : DmaSem sig := 36
abbrev cc0_sem27_0 : DmaSem sig := 37
abbrev cc0_sem27_1 : DmaSem sig := 38

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1152 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x512 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S4x512x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S4x256x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S4x512x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x512 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== InprojRefIdeal.lean ====
abbrev S8 : Shape := ⟨1, ![8]⟩
abbrev S16384x1024 : Shape := ⟨2, ![16384, 1024]⟩
abbrev S1x1024 : Shape := ⟨2, ![1, 1024]⟩
abbrev S1024x1280 : Shape := ⟨2, ![1024, 1280]⟩
abbrev S1024x2048 : Shape := ⟨2, ![1024, 2048]⟩
abbrev S1024x1152 : Shape := ⟨2, ![1024, 1152]⟩
abbrev S1024x1024 : Shape := ⟨2, ![1024, 1024]⟩
abbrev S1024x256 : Shape := ⟨2, ![1024, 256]⟩
abbrev S256x1024 : Shape := ⟨2, ![256, 1024]⟩
abbrev S8x128x256 : Shape := ⟨3, ![8, 128, 256]⟩
abbrev S16384x128 : Shape := ⟨2, ![16384, 128]⟩
abbrev S8x128 : Shape := ⟨2, ![8, 128]⟩
abbrev S1x256 : Shape := ⟨2, ![1, 256]⟩
abbrev S1x128 : Shape := ⟨2, ![1, 128]⟩
abbrev S256x512 : Shape := ⟨2, ![256, 512]⟩
abbrev S512x128 : Shape := ⟨2, ![512, 128]⟩
abbrev S128x512 : Shape := ⟨2, ![128, 512]⟩
abbrev S_ : Shape := ⟨0, ![]⟩
abbrev S16384 : Shape := ⟨1, ![16384]⟩
abbrev S16384x1 : Shape := ⟨2, ![16384, 1]⟩
abbrev S16384x2048 : Shape := ⟨2, ![16384, 2048]⟩
abbrev S1024x512 : Shape := ⟨2, ![1024, 512]⟩
abbrev S16384x512 : Shape := ⟨2, ![16384, 512]⟩
abbrev S1024x640 : Shape := ⟨2, ![1024, 640]⟩
abbrev S16384x640 : Shape := ⟨2, ![16384, 640]⟩
abbrev S16384x256 : Shape := ⟨2, ![16384, 256]⟩
abbrev S16384x64 : Shape := ⟨2, ![16384, 64]⟩
abbrev S16384x4x128 : Shape := ⟨3, ![16384, 4, 128]⟩
abbrev S16384x1x128 : Shape := ⟨3, ![16384, 1, 128]⟩
abbrev S16384x4x256 : Shape := ⟨3, ![16384, 4, 256]⟩
abbrev S16384x4x1 : Shape := ⟨3, ![16384, 4, 1]⟩
abbrev S16384x4x127 : Shape := ⟨3, ![16384, 4, 127]⟩
abbrev S4x16384x256 : Shape := ⟨3, ![4, 16384, 256]⟩
abbrev S4x256x16384 : Shape := ⟨3, ![4, 256, 16384]⟩

abbrev nBuf : Space → Nat
  | .hbm => 132
  | .vmem => 0
  | .smem => 0
  | _ => 0

abbrev hbmTy0_0 (i : Nat) : BufTy := match i % 128 with
  | 0 => ⟨S8, .f32⟩
  | 1 => ⟨S16384x1024, .f32⟩
  | 2 => ⟨S1x1024, .f32⟩
  | 3 => ⟨S1024x1280, .bf16⟩
  | 4 => ⟨S1024x2048, .bf16⟩
  | 5 => ⟨S1024x1152, .bf16⟩
  | 6 => ⟨S1024x1024, .bf16⟩
  | 7 => ⟨S1024x256, .bf16⟩
  | 8 => ⟨S256x1024, .bf16⟩
  | 9 => ⟨S8x128x256, .f32⟩
  | 10 => ⟨S16384x128, .f32⟩
  | 11 => ⟨S8x128, .f32⟩
  | 12 => ⟨S1x256, .f32⟩
  | 13 => ⟨S1x128, .f32⟩
  | 14 => ⟨S256x512, .bf16⟩
  | 15 => ⟨S256x512, .bf16⟩
  | 16 => ⟨S256x512, .bf16⟩
  | 17 => ⟨S512x128, .bf16⟩
  | 18 => ⟨S128x512, .bf16⟩
  | 19 => ⟨S16384x1024, .f32⟩
  | 20 => ⟨S_, .f32⟩
  | 21 => ⟨S16384, .f32⟩
  | 22 => ⟨S16384x1, .f32⟩
  | 23 => ⟨S_, .f32⟩
  | 24 => ⟨S16384x1, .f32⟩
  | 25 => ⟨S16384x1, .f32⟩
  | 26 => ⟨S_, .f32⟩
  | 27 => ⟨S16384x1, .f32⟩
  | 28 => ⟨S16384x1, .f32⟩
  | 29 => ⟨S16384x1, .f32⟩
  | 30 => ⟨S16384x1024, .f32⟩
  | 31 => ⟨S16384x1024, .f32⟩
  | 32 => ⟨S16384x1024, .f32⟩
  | 33 => ⟨S16384x1024, .f32⟩
  | 34 => ⟨S1024x2048, .f32⟩
  | 35 => ⟨S16384x2048, .f32⟩
  | 36 => ⟨S1024x1152, .f32⟩
  | 37 => ⟨S1024x512, .f32⟩
  | 38 => ⟨S16384x512, .f32⟩
  | 39 => ⟨S1024x1152, .f32⟩
  | 40 => ⟨S1024x640, .f32⟩
  | 41 => ⟨S16384x640, .f32⟩
  | 42 => ⟨S16384x256, .f32⟩
  | 43 => ⟨S16384x256, .f32⟩
  | 44 => ⟨S_, .f32⟩
  | 45 => ⟨S16384, .f32⟩
  | 46 => ⟨S16384x1, .f32⟩
  | 47 => ⟨S_, .f32⟩
  | 48 => ⟨S16384x1, .f32⟩
  | 49 => ⟨S16384x1, .f32⟩
  | 50 => ⟨S_, .f32⟩
  | 51 => ⟨S16384x1, .f32⟩
  | 52 => ⟨S16384x1, .f32⟩
  | 53 => ⟨S16384x1, .f32⟩
  | 54 => ⟨S16384x256, .f32⟩
  | 55 => ⟨S16384x256, .f32⟩
  | 56 => ⟨S16384x256, .f32⟩
  | 57 => ⟨S16384x256, .f32⟩
  | 58 => ⟨S16384x128, .f32⟩
  | 59 => ⟨S16384x128, .f32⟩
  | 60 => ⟨S_, .f32⟩
  | 61 => ⟨S16384, .f32⟩
  | 62 => ⟨S16384x1, .f32⟩
  | 63 => ⟨S_, .f32⟩
  | 64 => ⟨S16384x1, .f32⟩
  | 65 => ⟨S16384x1, .f32⟩
  | 66 => ⟨S_, .f32⟩
  | 67 => ⟨S16384x1, .f32⟩
  | 68 => ⟨S16384x1, .f32⟩
  | 69 => ⟨S16384x1, .f32⟩
  | 70 => ⟨S16384x128, .f32⟩
  | 71 => ⟨S16384x128, .f32⟩
  | 72 => ⟨S16384x128, .f32⟩
  | 73 => ⟨S16384x128, .f32⟩
  | 74 => ⟨S1x128, .f32⟩
  | 75 => ⟨S16384x128, .f32⟩
  | 76 => ⟨S16384x128, .f32⟩
  | 77 => ⟨S16384x64, .f32⟩
  | 78 => ⟨S16384x64, .f32⟩
  | 79 => ⟨S16384x128, .f32⟩
  | 80 => ⟨S1x128, .f32⟩
  | 81 => ⟨S16384x128, .f32⟩
  | 82 => ⟨S16384x128, .f32⟩
  | 83 => ⟨S256x512, .f32⟩
  | 84 => ⟨S16384x512, .f32⟩
  | 85 => ⟨S16384x4x128, .f32⟩
  | 86 => ⟨S256x512, .f32⟩
  | 87 => ⟨S16384x512, .f32⟩
  | 88 => ⟨S16384x4x128, .f32⟩
  | 89 => ⟨S16384x1x128, .f32⟩
  | 90 => ⟨S16384x4x128, .f32⟩
  | 91 => ⟨S16384x4x128, .f32⟩
  | 92 => ⟨S256x512, .f32⟩
  | 93 => ⟨S16384x512, .f32⟩
  | 94 => ⟨S16384x4x128, .f32⟩
  | 95 => ⟨S16384x1x128, .f32⟩
  | 96 => ⟨S16384x4x128, .f32⟩
  | 97 => ⟨S16384x4x128, .f32⟩
  | 98 => ⟨S16384x4x128, .f32⟩
  | 99 => ⟨S16384x4x256, .f32⟩
  | 100 => ⟨S_, .f32⟩
  | 101 => ⟨S16384x4x256, .f32⟩
  | 102 => ⟨S16384x4x256, .f32⟩
  | 103 => ⟨S512x128, .f32⟩
  | 104 => ⟨S128x512, .f32⟩
  | 105 => ⟨S16384x512, .f32⟩
  | 106 => ⟨S16384x4x128, .f32⟩
  | 107 => ⟨S16384x128, .f32⟩
  | 108 => ⟨S16384x128, .f32⟩
  | 109 => ⟨S16384x128, .f32⟩
  | 110 => ⟨S16384x128, .f32⟩
  | 111 => ⟨S16384x128, .f32⟩
  | 112 => ⟨S16384x1x128, .f32⟩
  | 113 => ⟨S16384x4x128, .f32⟩
  | 114 => ⟨S16384x4x256, .f32⟩
  | 115 => ⟨S_, .f32⟩
  | 116 => ⟨S16384x4x1, .f32⟩
  | 117 => ⟨S_, .f32⟩
  | 118 => ⟨S16384x4x127, .f32⟩
  | 119 => ⟨S16384x4x128, .f32⟩
  | 120 => ⟨S128x512, .f32⟩
  | 121 => ⟨S16384x512, .f32⟩
  | 122 => ⟨S16384x4x128, .f32⟩
  | 123 => ⟨S16384x4x256, .f32⟩
  | 124 => ⟨S16384x2048, .bf16⟩
  | 125 => ⟨S16384x512, .bf16⟩
  | 126 => ⟨S4x16384x256, .f32⟩
  | 127 => ⟨S4x16384x256, .bf16⟩
  | _ => ⟨S8, .f32⟩

abbrev hbmTy0_1 (i : Nat) : BufTy := match i % 128 with
  | 0 => ⟨S4x256x16384, .f32⟩
  | 1 => ⟨S4x256x16384, .bf16⟩
  | 2 => ⟨S4x16384x256, .f32⟩
  | 3 => ⟨S4x16384x256, .bf16⟩
  | _ => ⟨S8, .f32⟩

abbrev hbmTy (i : Nat) : BufTy := match i / 128 with
  | 0 => hbmTy0_0 i
  | 1 => hbmTy0_1 i
  | _ => ⟨S8, .f32⟩

abbrev bufTy : (tb : Table) → Fin (tcTables nBuf tb) → BufTy
  | .hbm, ⟨i, _⟩ => hbmTy i
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_cst_1 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_8 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_9 : Ref sig .tc := ⟨.hbm, 115, rfl⟩
abbrev main_v86 : Ref sig .tc := ⟨.hbm, 116, rfl⟩
abbrev main_cst_10 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩

abbrev nD : Nat := 1
abbrev τ : Topo := Topo.v7x

variable {F : FTy → Type} [FloatOps F]
-- ==== Proof.Offs.lean ====
/- The trip counts of the key loops and the addresses of their chunks, in closed form. -/
module

public import proofs.«01_k».proof.Proof.Gen.KernelIdeal

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal Cert.KernelIdeal.Gen

theorem word_of_lt {u : BitVec 32} {n : ℕ} (h : u.toNat = n) : u = BitVec.ofNat 32 n := by
  subst h; rw [BitVec.ofNat_toNat, BitVec.setWidth_eq]

/-- Loop 1 takes the pairs four at a time, loop 3 two at a time, loop 5 singly; the other three are empty. -/
theorem trips1 : ∀ i : grid0.Coords, (k0_t1_loop i).trips = (i 1).val / 4 := by decide +kernel
theorem trips2 : ∀ i : grid0.Coords, (k0_t2_loop i).trips = 0 := by decide +kernel
theorem trips3 : ∀ i : grid0.Coords, (k0_t3_loop i).trips = (i 1).val % 4 / 2 := by decide +kernel
theorem trips4 : ∀ i : grid0.Coords, (k0_t4_loop i).trips = 0 := by decide +kernel
theorem trips5 : ∀ i : grid0.Coords, (k0_t5_loop i).trips = (i 1).val % 2 := by decide +kernel
theorem trips6 : ∀ i : grid0.Coords, (k0_t6_loop i).trips = 0 := by decide +kernel

theorem off1_fin : ∀ (i : grid0.Coords) (k : Fin (k0_t1_loop i).trips) (r : Fin 4) (w : Fin 2),
    k0_off1 i k (BitVec.ofNat 32 r.val) (BitVec.ofNat 32 (1 + w.val)) = ![0, 0, 512 * ((2 * (4 * k.val + r.val) + (1 + w.val)) % 32)] := by decide +kernel
/-- The key chunk that unrolled copy `u` of loop 1 scores. -/
theorem off1_word (i : grid0.Coords) (k : Fin (k0_t1_loop i).trips) (u w : BitVec 32) (hu : u.toNat < 4) (hw : 1 ≤ w.toNat) (hw' : w.toNat < 3) :
    k0_off1 i k u w = ![0, 0, 512 * ((2 * (4 * k.val + u.toNat) + w.toNat) % 32)] := by
  have h := off1_fin i k ⟨u.toNat, hu⟩ ⟨w.toNat - 1, by omega⟩
  simp only [Nat.add_sub_cancel' hw] at h
  rwa [← word_of_lt rfl, ← word_of_lt rfl] at h

theorem off2_fin : ∀ (i : grid0.Coords) (k : Fin (k0_t1_loop i).trips) (r : Fin 4),
    k0_off2 i k (BitVec.ofNat 32 r.val) = ![0, 512 * ((2 * (4 * k.val + r.val)) % 32), 0] := by decide +kernel
/-- The value chunk that unrolled copy `u` of loop 1 weighs. -/
theorem off2_word (i : grid0.Coords) (k : Fin (k0_t1_loop i).trips) (u : BitVec 32) (hu : u.toNat < 4) :
    k0_off2 i k u = ![0, 512 * ((2 * (4 * k.val + u.toNat)) % 32), 0] := by
  have h := off2_fin i k ⟨u.toNat, hu⟩
  rwa [← word_of_lt rfl] at h

theorem off3_fin : ∀ (i : grid0.Coords) (k : Fin (k0_t1_loop i).trips) (r : Fin 4),
    k0_off3 i k (BitVec.ofNat 32 r.val) = ![0, 512 * ((2 * (4 * k.val + r.val) + 1) % 32), 0] := by decide +kernel
/-- The value chunk that unrolled copy `u` of loop 1 weighs. -/
theorem off3_word (i : grid0.Coords) (k : Fin (k0_t1_loop i).trips) (u : BitVec 32) (hu : u.toNat < 4) :
    k0_off3 i k u = ![0, 512 * ((2 * (4 * k.val + u.toNat) + 1) % 32), 0] := by
  have h := off3_fin i k ⟨u.toNat, hu⟩
  rwa [← word_of_lt rfl] at h

theorem off7_fin : ∀ (i : grid0.Coords) (k : Fin (k0_t3_loop i).trips) (r : Fin 2) (w : Fin 2),
    k0_off7 i k (BitVec.ofNat 32 r.val) (BitVec.ofNat 32 (1 + w.val)) = ![0, 0, 512 * ((2 * (4 * ((i 1).val / 4) + 2 * k.val + r.val) + (1 + w.val)) % 32)] := by decide +kernel
/-- The key chunk that unrolled copy `u` of loop 3 scores. -/
theorem off7_word (i : grid0.Coords) (k : Fin (k0_t3_loop i).trips) (u w : BitVec 32) (hu : u.toNat < 2) (hw : 1 ≤ w.toNat) (hw' : w.toNat < 3) :
    k0_off7 i k u w = ![0, 0, 512 * ((2 * (4 * ((i 1).val / 4) + 2 * k.val + u.toNat) + w.toNat) % 32)] := by
  have h := off7_fin i k ⟨u.toNat, hu⟩ ⟨w.toNat - 1, by omega⟩
  simp only [Nat.add_sub_cancel' hw] at h
  rwa [← word_of_lt rfl, ← word_of_lt rfl] at h

theorem off8_fin : ∀ (i : grid0.Coords) (k : Fin (k0_t3_loop i).trips) (r : Fin 2),
    k0_off8 i k (BitVec.ofNat 32 r.val) = ![0, 512 * ((2 * (4 * ((i 1).val / 4) + 2 * k.val + r.val)) % 32), 0] := by decide +kernel
/-- The value chunk that unrolled copy `u` of loop 3 weighs. -/
theorem off8_word (i : grid0.Coords) (k : Fin (k0_t3_loop i).trips) (u : BitVec 32) (hu : u.toNat < 2) :
    k0_off8 i k u = ![0, 512 * ((2 * (4 * ((i 1).val / 4) + 2 * k.val + u.toNat)) % 32), 0] := by
  have h := off8_fin i k ⟨u.toNat, hu⟩
  rwa [← word_of_lt rfl] at h

theorem off9_fin : ∀ (i : grid0.Coords) (k : Fin (k0_t3_loop i).trips) (r : Fin 2),
    k0_off9 i k (BitVec.ofNat 32 r.val) = ![0, 512 * ((2 * (4 * ((i 1).val / 4) + 2 * k.val + r.val) + 1) % 32), 0] := by decide +kernel
/-- The value chunk that unrolled copy `u` of loop 3 weighs. -/
theorem off9_word (i : grid0.Coords) (k : Fin (k0_t3_loop i).trips) (u : BitVec 32) (hu : u.toNat < 2) :
    k0_off9 i k u = ![0, 512 * ((2 * (4 * ((i 1).val / 4) + 2 * k.val + u.toNat) + 1) % 32), 0] := by
  have h := off9_fin i k ⟨u.toNat, hu⟩
  rwa [← word_of_lt rfl] at h

theorem off13_fin : ∀ (i : grid0.Coords) (k : Fin (k0_t5_loop i).trips) (w : Fin 2),
    k0_off13 i k (BitVec.ofNat 32 (1 + w.val)) = ![0, 0, 512 * ((2 * (2 * ((i 1).val / 2) + k.val) + (1 + w.val)) % 32)] := by decide +kernel
/-- The key chunk that loop 5 scores. -/
theorem off13_word (i : grid0.Coords) (k : Fin (k0_t5_loop i).trips) (w : BitVec 32) (hw : 1 ≤ w.toNat) (hw' : w.toNat < 3) :
    k0_off13 i k w = ![0, 0, 512 * ((2 * (2 * ((i 1).val / 2) + k.val) + w.toNat) % 32)] := by
  have h := off13_fin i k ⟨w.toNat - 1, by omega⟩
  simp only [Nat.add_sub_cancel' hw] at h
  rwa [← word_of_lt rfl] at h

/-- The value chunk that loop 5 weighs. -/
theorem off14_word : ∀ (i : grid0.Coords) (k : Fin (k0_t5_loop i).trips), k0_off14 i k = ![0, 512 * ((2 * (2 * ((i 1).val / 2) + k.val)) % 32), 0] := by decide +kernel

/-- The value chunk that loop 5 weighs. -/
theorem off15_word : ∀ (i : grid0.Coords) (k : Fin (k0_t5_loop i).trips), k0_off15 i k = ![0, 512 * ((2 * (2 * ((i 1).val / 2) + k.val) + 1) % 32), 0] := by decide +kernel

end Cert.KernelIdeal.Val

end
-- ==== Proof.State.lean ====
/- The value of one pair of key chunks. -/
module

public import proofs.«01_k».proof.Proof.Offs
public import proofs.«01_k».proof.Proof.Gen.KernelIdeal.Frame.Runs
public import Idealize.ShloMosaic.Lib.VecWindow
public import Idealize.ShloMosaic.Lib.Pipeline.Value

@[expose] public section

set_option maxRecDepth 16384
set_option maxHeartbeats 400000
noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal Cert.KernelIdeal.Gen

variable {F : FTy → Type} [FloatOps F] [Named F]

local notation "𝕄" => MT nD τ sig Unit (Elt F) ℕ (UR sig nD τ) ℕ

/-- What the four scratch buffers hold: even scores, odd scores, running maximum, running sums. -/
abbrev St (F : FTy → Type) := Vec F S1024x512 .f32 × Vec F S1024x512 .f32 × Vec F S1024x128 .f32 × Vec F S1024x256 .f32

/-- Chunk `n mod 32` of 512 keys. -/
def kchunk (x2 : Vec F S1x256x16384 .bf16) (n : ℕ) : Vec F S1x256x512 .bf16 :=
  View.ld x2 (Rect.unit (s := S1x256x16384) ![0, 0, 512 * (n % 32)] S1x256x512.size
    (by have h := Nat.mod_lt n (by norm_num : 0 < 32); intro a; fin_cases a <;> simp [S1x256x512, S1x256x16384] <;> omega))

/-- Chunk `n mod 32` of 512 value rows. -/
def vchunk (x3 : Vec F S1x16384x256 .bf16) (n : ℕ) : Vec F S1x512x256 .bf16 :=
  View.ld x3 (Rect.unit (s := S1x16384x256) ![0, 512 * (n % 32), 0] S1x512x256.size
    (by have h := Nat.mod_lt n (by norm_num : 0 < 32); intro a; fin_cases a <;> simp [S1x512x256, S1x16384x256] <;> omega))

/-- One pair: scores of chunk `2j+1`, softmax of chunk `2j`, scores of chunk `2j+2`, softmax of chunk `2j+1`. -/
def pair (x0 : Vec F S1x1024x256 .bf16) (x2 : Vec F S1x256x16384 .bf16) (x3 : Vec F S1x16384x256 .bf16) (j : ℕ) (s : St F) : St F :=
  (k0_pay256 x0 (kchunk x2 (2 * j + 2)),
   k0_pay256 x0 (kchunk x2 (2 * j + 1)),
   k0_pay279 (k0_pay256 x0 (kchunk x2 (2 * j + 1))) (k0_pay279 s.1 s.2.2.1),
   k0_pay278 (k0_pay256 x0 (kchunk x2 (2 * j + 1))) (k0_pay279 s.1 s.2.2.1) (vchunk x3 (2 * j + 1))
     (k0_pay278 s.1 s.2.2.1 (vchunk x3 (2 * j)) s.2.2.2))

/-- The state after the first `n` pairs. -/
def pairs (x0 : Vec F S1x1024x256 .bf16) (x2 : Vec F S1x256x16384 .bf16) (x3 : Vec F S1x16384x256 .bf16) (s : St F) : ℕ → St F
  | 0 => s
  | n + 1 => pair x0 x2 x3 n (pairs x0 x2 x3 s n)

/-- The buffers a pair works on, at given contents. -/
abbrev Res (c : Dev nD) (arg2 : Memref sig .tc .vmem S1x1024x256 .bf16) (harg2 : arg2.IsWhole) (arg4 : Memref sig .tc .vmem S1x256x16384 .bf16) (harg4 : arg4.IsWhole) (arg5 : Memref sig .tc .vmem S1x16384x256 .bf16) (harg5 : arg5.IsWhole) (arg8 : Memref sig .tc .vmem S1024x512 .f32) (harg8 : arg8.IsWhole) (arg9 : Memref sig .tc .vmem S1024x512 .f32) (harg9 : arg9.IsWhole) (arg10 : Memref sig .tc .vmem S1024x128 .f32) (harg10 : arg10.IsWhole) (arg11 : Memref sig .tc .vmem S1024x256 .f32) (harg11 : arg11.IsWhole) (x0 : Vec F S1x1024x256 .bf16) (x2 : Vec F S1x256x16384 .bf16) (x3 : Vec F S1x16384x256 .bf16) (s : St F) : sProp 𝕄 :=
  iprop((arg2.view.loc (c : Thread nD τ) ↦[arg2.view.set]{fullShare} harg2.unread x0)
    ∗ (arg4.view.loc (c : Thread nD τ) ↦[arg4.view.set]{fullShare} harg4.unread x2)
    ∗ (arg5.view.loc (c : Thread nD τ) ↦[arg5.view.set]{fullShare} harg5.unread x3)
    ∗ (arg8.view.loc (c : Thread nD τ) ↦[arg8.view.set]{fullShare} harg8.unread s.1)
    ∗ (arg9.view.loc (c : Thread nD τ) ↦[arg9.view.set]{fullShare} harg9.unread s.2.1)
    ∗ (arg10.view.loc (c : Thread nD τ) ↦[arg10.view.set]{fullShare} harg10.unread s.2.2.1)
    ∗ (arg11.view.loc (c : Thread nD τ) ↦[arg11.view.set]{fullShare} harg11.unread s.2.2.2))

/-- The same, the contents named by equations. -/
abbrev ResE (c : Dev nD) (arg2 : Memref sig .tc .vmem S1x1024x256 .bf16) (harg2 : arg2.IsWhole) (arg4 : Memref sig .tc .vmem S1x256x16384 .bf16) (harg4 : arg4.IsWhole) (arg5 : Memref sig .tc .vmem S1x16384x256 .bf16) (harg5 : arg5.IsWhole) (arg8 : Memref sig .tc .vmem S1024x512 .f32) (harg8 : arg8.IsWhole) (arg9 : Memref sig .tc .vmem S1024x512 .f32) (harg9 : arg9.IsWhole) (arg10 : Memref sig .tc .vmem S1024x128 .f32) (harg10 : arg10.IsWhole) (arg11 : Memref sig .tc .vmem S1024x256 .f32) (harg11 : arg11.IsWhole) (x0 : Vec F S1x1024x256 .bf16) (x2 : Vec F S1x256x16384 .bf16) (x3 : Vec F S1x16384x256 .bf16) (s : St F) : sProp 𝕄 :=
  iprop((arg2.view.loc (c : Thread nD τ) ↦[arg2.view.set]{fullShare} harg2.unread x0)
    ∗ (arg4.view.loc (c : Thread nD τ) ↦[arg4.view.set]{fullShare} harg4.unread x2)
    ∗ (arg5.view.loc (c : Thread nD τ) ↦[arg5.view.set]{fullShare} harg5.unread x3)
    ∗ (∃ f, (arg8.view.loc (c : Thread nD τ) ↦[arg8.view.set]{fullShare} f) ∗ ⌜f = harg8.unread s.1⌝)
    ∗ (∃ f, (arg9.view.loc (c : Thread nD τ) ↦[arg9.view.set]{fullShare} f) ∗ ⌜f = harg9.unread s.2.1⌝)
    ∗ (∃ f, (arg10.view.loc (c : Thread nD τ) ↦[arg10.view.set]{fullShare} f) ∗ ⌜f = harg10.unread s.2.2.1⌝)
    ∗ (∃ f, (arg11.view.loc (c : Thread nD τ) ↦[arg11.view.set]{fullShare} f) ∗ ⌜f = harg11.unread s.2.2.2⌝))

/-- Loading a whole buffer of shape S1x1024x256 gives its contents. -/
theorem whole2 {e : EltTy} (a : Memref sig .tc .vmem S1x1024x256 e) (ha : a.IsWhole) (x : Vec F S1x1024x256 e) {off : Fin S1x1024x256.rank → ℕ}
    (inb : ∀ d, off d + (![1, 1024, 256] : Fin S1x1024x256.rank → ℕ) d ≤ S1x1024x256.size d) :
    View.readAt (Elt F) a.view (Rect.unit (s := S1x1024x256) off ![1, 1024, 256] inb).toLoadRect (ha.unread x) = x :=
  (View.readAt_full a.view _ inb).trans (ha.read_unread x)

/-- A whole load of such a buffer after whole stores gives the last store. -/
theorem cov2 {e : EltTy} (a : Memref sig .tc .vmem S1x1024x256 e) {off off' : Fin S1x1024x256.rank → ℕ}
    (inb : ∀ d, off d + (![1, 1024, 256] : Fin S1x1024x256.rank → ℕ) d ≤ S1x1024x256.size d) (inb' : ∀ d, off' d + (![1, 1024, 256] : Fin S1x1024x256.rank → ℕ) d ≤ S1x1024x256.size d)
    (w : (Rect.unit (s := S1x1024x256) off ![1, 1024, 256] inb).shape.Idx → Elt F e) (L : List (View.Piece (Elt F) S1x1024x256 e)) :
    a.view.readCov (⟨Rect.unit (s := S1x1024x256) off ![1, 1024, 256] inb, w⟩ :: L) (Rect.unit (s := S1x1024x256) off' ![1, 1024, 256] inb').toLoadRect = w :=
  View.readCov_full a.view inb' inb w L

/-- Loading a whole buffer of shape S1024x512 gives its contents. -/
theorem whole8 {e : EltTy} (a : Memref sig .tc .vmem S1024x512 e) (ha : a.IsWhole) (x : Vec F S1024x512 e) {off : Fin S1024x512.rank → ℕ}
    (inb : ∀ d, off d + (![1024, 512] : Fin S1024x512.rank → ℕ) d ≤ S1024x512.size d) :
    View.readAt (Elt F) a.view (Rect.unit (s := S1024x512) off ![1024, 512] inb).toLoadRect (ha.unread x) = x :=
  (View.readAt_full a.view _ inb).trans (ha.read_unread x)

/-- A whole load of such a buffer after whole stores gives the last store. -/
theorem cov8 {e : EltTy} (a : Memref sig .tc .vmem S1024x512 e) {off off' : Fin S1024x512.rank → ℕ}
    (inb : ∀ d, off d + (![1024, 512] : Fin S1024x512.rank → ℕ) d ≤ S1024x512.size d) (inb' : ∀ d, off' d + (![1024, 512] : Fin S1024x512.rank → ℕ) d ≤ S1024x512.size d)
    (w : (Rect.unit (s := S1024x512) off ![1024, 512] inb).shape.Idx → Elt F e) (L : List (View.Piece (Elt F) S1024x512 e)) :
    a.view.readCov (⟨Rect.unit (s := S1024x512) off ![1024, 512] inb, w⟩ :: L) (Rect.unit (s := S1024x512) off' ![1024, 512] inb').toLoadRect = w :=
  View.readCov_full a.view inb' inb w L

/-- Loading a whole buffer of shape S1024x128 gives its contents. -/
theorem whole10 {e : EltTy} (a : Memref sig .tc .vmem S1024x128 e) (ha : a.IsWhole) (x : Vec F S1024x128 e) {off : Fin S1024x128.rank → ℕ}
    (inb : ∀ d, off d + (![1024, 128] : Fin S1024x128.rank → ℕ) d ≤ S1024x128.size d) :
    View.readAt (Elt F) a.view (Rect.unit (s := S1024x128) off ![1024, 128] inb).toLoadRect (ha.unread x) = x :=
  (View.readAt_full a.view _ inb).trans (ha.read_unread x)

/-- A whole load of such a buffer after whole stores gives the last store. -/
theorem cov10 {e : EltTy} (a : Memref sig .tc .vmem S1024x128 e) {off off' : Fin S1024x128.rank → ℕ}
    (inb : ∀ d, off d + (![1024, 128] : Fin S1024x128.rank → ℕ) d ≤ S1024x128.size d) (inb' : ∀ d, off' d + (![1024, 128] : Fin S1024x128.rank → ℕ) d ≤ S1024x128.size d)
    (w : (Rect.unit (s := S1024x128) off ![1024, 128] inb).shape.Idx → Elt F e) (L : List (View.Piece (Elt F) S1024x128 e)) :
    a.view.readCov (⟨Rect.unit (s := S1024x128) off ![1024, 128] inb, w⟩ :: L) (Rect.unit (s := S1024x128) off' ![1024, 128] inb').toLoadRect = w :=
  View.readCov_full a.view inb' inb w L

/-- Loading a whole buffer of shape S1024x256 gives its contents. -/
theorem whole11 {e : EltTy} (a : Memref sig .tc .vmem S1024x256 e) (ha : a.IsWhole) (x : Vec F S1024x256 e) {off : Fin S1024x256.rank → ℕ}
    (inb : ∀ d, off d + (![1024, 256] : Fin S1024x256.rank → ℕ) d ≤ S1024x256.size d) :
    View.readAt (Elt F) a.view (Rect.unit (s := S1024x256) off ![1024, 256] inb).toLoadRect (ha.unread x) = x :=
  (View.readAt_full a.view _ inb).trans (ha.read_unread x)

/-- A whole load of such a buffer after whole stores gives the last store. -/
theorem cov11 {e : EltTy} (a : Memref sig .tc .vmem S1024x256 e) {off off' : Fin S1024x256.rank → ℕ}
    (inb : ∀ d, off d + (![1024, 256] : Fin S1024x256.rank → ℕ) d ≤ S1024x256.size d) (inb' : ∀ d, off' d + (![1024, 256] : Fin S1024x256.rank → ℕ) d ≤ S1024x256.size d)
    (w : (Rect.unit (s := S1024x256) off ![1024, 256] inb).shape.Idx → Elt F e) (L : List (View.Piece (Elt F) S1024x256 e)) :
    a.view.readCov (⟨Rect.unit (s := S1024x256) off ![1024, 256] inb, w⟩ :: L) (Rect.unit (s := S1024x256) off' ![1024, 256] inb').toLoadRect = w :=
  View.readCov_full a.view inb' inb w L

/-- Loading the window of a key chunk gives that chunk. -/
theorem readK (arg4 : Memref sig .tc .vmem S1x256x16384 .bf16) (harg4 : arg4.IsWhole) (x2 : Vec F S1x256x16384 .bf16) (n : ℕ) {off : Fin S1x256x16384.rank → ℕ}
    (inb : ∀ a, off a + (![1, 256, 512] : Fin S1x256x16384.rank → ℕ) a ≤ S1x256x16384.size a) (h : off = ![0, 0, 512 * (n % 32)]) :
    View.readAt (Elt F) arg4.view (Rect.unit (s := S1x256x16384) off ![1, 256, 512] inb).toLoadRect (harg4.unread x2) = kchunk x2 n := by
  subst h
  rw [View.readAt_unit arg4.view _ inb rfl inb, harg4.read_unread]; rfl

/-- Loading the window of a value chunk gives that chunk. -/
theorem readV (arg5 : Memref sig .tc .vmem S1x16384x256 .bf16) (harg5 : arg5.IsWhole) (x3 : Vec F S1x16384x256 .bf16) (n : ℕ) {off : Fin S1x16384x256.rank → ℕ}
    (inb : ∀ a, off a + (![1, 512, 256] : Fin S1x16384x256.rank → ℕ) a ≤ S1x16384x256.size a) (h : off = ![0, 512 * (n % 32), 0]) :
    View.readAt (Elt F) arg5.view (Rect.unit (s := S1x16384x256) off ![1, 512, 256] inb).toLoadRect (harg5.unread x3) = vchunk x3 n := by
  subst h
  rw [View.readAt_unit arg5.view _ inb rfl inb, harg5.read_unread]; rfl

theorem load1 (i : grid0.Coords) (k : Fin (k0_t1_loop i).trips) (u : BitVec 32) (w : BitVec 32) (hu : u.toNat < 4) (hw : 1 ≤ w.toNat) (hw' : w.toNat < 3)
    (arg4 : Memref sig .tc .vmem S1x256x16384 .bf16) (harg4 : arg4.IsWhole) (x2 : Vec F S1x256x16384 .bf16)
    (inb : ∀ a, k0_off1 i k u w a + (![1, 256, 512] : Fin S1x256x16384.rank → ℕ) a ≤ S1x256x16384.size a) :
    View.readAt (Elt F) arg4.view (Rect.unit (s := S1x256x16384) (k0_off1 i k u w) ![1, 256, 512] inb).toLoadRect (harg4.unread x2)
      = kchunk x2 (2 * (4 * k.val + u.toNat) + w.toNat) := readK arg4 harg4 x2 _ inb (off1_word i k u w hu hw hw')

theorem load2 (i : grid0.Coords) (k : Fin (k0_t1_loop i).trips) (u : BitVec 32) (hu : u.toNat < 4)
    (arg5 : Memref sig .tc .vmem S1x16384x256 .bf16) (harg5 : arg5.IsWhole) (x3 : Vec F S1x16384x256 .bf16)
    (inb : ∀ a, k0_off2 i k u a + (![1, 512, 256] : Fin S1x16384x256.rank → ℕ) a ≤ S1x16384x256.size a) :
    View.readAt (Elt F) arg5.view (Rect.unit (s := S1x16384x256) (k0_off2 i k u) ![1, 512, 256] inb).toLoadRect (harg5.unread x3)
      = vchunk x3 (2 * (4 * k.val + u.toNat)) := readV arg5 harg5 x3 _ inb (off2_word i k u hu)

theorem load3 (i : grid0.Coords) (k : Fin (k0_t1_loop i).trips) (u : BitVec 32) (hu : u.toNat < 4)
    (arg5 : Memref sig .tc .vmem S1x16384x256 .bf16) (harg5 : arg5.IsWhole) (x3 : Vec F S1x16384x256 .bf16)
    (inb : ∀ a, k0_off3 i k u a + (![1, 512, 256] : Fin S1x16384x256.rank → ℕ) a ≤ S1x16384x256.size a) :
    View.readAt (Elt F) arg5.view (Rect.unit (s := S1x16384x256) (k0_off3 i k u) ![1, 512, 256] inb).toLoadRect (harg5.unread x3)
      = vchunk x3 (2 * (4 * k.val + u.toNat) + 1) := readV arg5 harg5 x3 _ inb (off3_word i k u hu)

theorem load7 (i : grid0.Coords) (k : Fin (k0_t3_loop i).trips) (u : BitVec 32) (w : BitVec 32) (hu : u.toNat < 2) (hw : 1 ≤ w.toNat) (hw' : w.toNat < 3)
    (arg4 : Memref sig .tc .vmem S1x256x16384 .bf16) (harg4 : arg4.IsWhole) (x2 : Vec F S1x256x16384 .bf16)
    (inb : ∀ a, k0_off7 i k u w a + (![1, 256, 512] : Fin S1x256x16384.rank → ℕ) a ≤ S1x256x16384.size a) :
    View.readAt (Elt F) arg4.view (Rect.unit (s := S1x256x16384) (k0_off7 i k u w) ![1, 256, 512] inb).toLoadRect (harg4.unread x2)
      = kchunk x2 (2 * (4 * ((i 1).val / 4) + 2 * k.val + u.toNat) + w.toNat) := readK arg4 harg4 x2 _ inb (off7_word i k u w hu hw hw')

theorem load8 (i : grid0.Coords) (k : Fin (k0_t3_loop i).trips) (u : BitVec 32) (hu : u.toNat < 2)
    (arg5 : Memref sig .tc .vmem S1x16384x256 .bf16) (harg5 : arg5.IsWhole) (x3 : Vec F S1x16384x256 .bf16)
    (inb : ∀ a, k0_off8 i k u a + (![1, 512, 256] : Fin S1x16384x256.rank → ℕ) a ≤ S1x16384x256.size a) :
    View.readAt (Elt F) arg5.view (Rect.unit (s := S1x16384x256) (k0_off8 i k u) ![1, 512, 256] inb).toLoadRect (harg5.unread x3)
      = vchunk x3 (2 * (4 * ((i 1).val / 4) + 2 * k.val + u.toNat)) := readV arg5 harg5 x3 _ inb (off8_word i k u hu)

theorem load9 (i : grid0.Coords) (k : Fin (k0_t3_loop i).trips) (u : BitVec 32) (hu : u.toNat < 2)
    (arg5 : Memref sig .tc .vmem S1x16384x256 .bf16) (harg5 : arg5.IsWhole) (x3 : Vec F S1x16384x256 .bf16)
    (inb : ∀ a, k0_off9 i k u a + (![1, 512, 256] : Fin S1x16384x256.rank → ℕ) a ≤ S1x16384x256.size a) :
    View.readAt (Elt F) arg5.view (Rect.unit (s := S1x16384x256) (k0_off9 i k u) ![1, 512, 256] inb).toLoadRect (harg5.unread x3)
      = vchunk x3 (2 * (4 * ((i 1).val / 4) + 2 * k.val + u.toNat) + 1) := readV arg5 harg5 x3 _ inb (off9_word i k u hu)

theorem load13 (i : grid0.Coords) (k : Fin (k0_t5_loop i).trips) (w : BitVec 32) (hw : 1 ≤ w.toNat) (hw' : w.toNat < 3)
    (arg4 : Memref sig .tc .vmem S1x256x16384 .bf16) (harg4 : arg4.IsWhole) (x2 : Vec F S1x256x16384 .bf16)
    (inb : ∀ a, k0_off13 i k w a + (![1, 256, 512] : Fin S1x256x16384.rank → ℕ) a ≤ S1x256x16384.size a) :
    View.readAt (Elt F) arg4.view (Rect.unit (s := S1x256x16384) (k0_off13 i k w) ![1, 256, 512] inb).toLoadRect (harg4.unread x2)
      = kchunk x2 (2 * (2 * ((i 1).val / 2) + k.val) + w.toNat) := readK arg4 harg4 x2 _ inb (off13_word i k w hw hw')

theorem load14 (i : grid0.Coords) (k : Fin (k0_t5_loop i).trips)
    (arg5 : Memref sig .tc .vmem S1x16384x256 .bf16) (harg5 : arg5.IsWhole) (x3 : Vec F S1x16384x256 .bf16)
    (inb : ∀ a, k0_off14 i k a + (![1, 512, 256] : Fin S1x16384x256.rank → ℕ) a ≤ S1x16384x256.size a) :
    View.readAt (Elt F) arg5.view (Rect.unit (s := S1x16384x256) (k0_off14 i k) ![1, 512, 256] inb).toLoadRect (harg5.unread x3)
      = vchunk x3 (2 * (2 * ((i 1).val / 2) + k.val)) := readV arg5 harg5 x3 _ inb (off14_word i k)

theorem load15 (i : grid0.Coords) (k : Fin (k0_t5_loop i).trips)
    (arg5 : Memref sig .tc .vmem S1x16384x256 .bf16) (harg5 : arg5.IsWhole) (x3 : Vec F S1x16384x256 .bf16)
    (inb : ∀ a, k0_off15 i k a + (![1, 512, 256] : Fin S1x16384x256.rank → ℕ) a ≤ S1x16384x256.size a) :
    View.readAt (Elt F) arg5.view (Rect.unit (s := S1x16384x256) (k0_off15 i k) ![1, 512, 256] inb).toLoadRect (harg5.unread x3)
      = vchunk x3 (2 * (2 * ((i 1).val / 2) + k.val) + 1) := readV arg5 harg5 x3 _ inb (off15_word i k)

end Cert.KernelIdeal.Val

end
-- ==== Proof.Step1.lean ====
/- One trip of key loop 1. -/
module

public import proofs.«01_k».proof.Proof.State

@[expose] public section

set_option maxRecDepth 16384
set_option maxHeartbeats 4000000
noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal Cert.KernelIdeal.Gen

variable {F : FTy → Type} [FloatOps F] [Named F]

local notation "𝕄" => MT nD τ sig Unit (Elt F) ℕ (UR sig nD τ) ℕ

/-- One trip of loop 1 runs 4 pair(s). -/
theorem step_t1 (c : Dev nD) (i : grid0.Coords) (arg2 : Memref sig .tc .vmem S1x1024x256 .bf16) (harg2 : arg2.IsWhole) (arg3 : Memref sig .tc .vmem S1x1024x256 .bf16) (harg3 : arg3.IsWhole) (arg4 : Memref sig .tc .vmem S1x256x16384 .bf16) (harg4 : arg4.IsWhole) (arg5 : Memref sig .tc .vmem S1x16384x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x128 .f32) (harg10 : arg10.IsWhole) (arg11 : Memref sig .tc .vmem S1024x256 .f32) (harg11 : arg11.IsWhole) (v28 v29 c4_i32 v30 v32 v34 : BitVec 32) (x0 : Vec F S1x1024x256 .bf16) (x2 : Vec F S1x256x16384 .bf16) (x3 : Vec F S1x16384x256 .bf16) (s : St F) (E : Set ℕ) (k : Fin (k0_t1_loop i).trips) :
    Res c arg2 harg2 arg4 harg4 arg5 harg5 arg8 harg8 arg9 harg9 arg10 harg10 arg11 harg11 x0 x2 x3 s
    ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 v28 v29 c4_i32 v30 v32 v34 k PUnit.unit)
        (fun _ => ResE c arg2 harg2 arg4 harg4 arg5 harg5 arg8 harg8 arg9 harg9 arg10 harg10 arg11 harg11 x0 x2 x3 (pair x0 x2 x3 (4 * k.val + 3) (pair x0 x2 x3 (4 * k.val + 2) (pair x0 x2 x3 (4 * k.val + 1) (pair x0 x2 x3 (4 * k.val + 0) s))))) := by
  unfold k0_t1_body
  iintro ⟨H2, H4, H5, H8, H9, H10, H11⟩
  sl_exec
  sl_step
  isplitl [H2]; · iexact H2
  isplitl [H4]; · iexact H4
  isplitl [H5]; · iexact H5
  isplitl [H8]
  · iexists _; isplitl [H8]; · iexact H8
    ipureintro; refine harg8.eq_unread ?_
    sl_unfold_run_names
    rw [View.read_writes_full]
    try rw [whole2 arg2 harg2]
    try rw [whole8 arg8 harg8]
    try rw [whole10 arg10 harg10]
    try rw [whole11 arg11 harg11]
    try rw [load1 i k 0#32 1#32 (by decide) (by decide) (by decide)]
    try rw [load1 i k 0#32 2#32 (by decide) (by decide) (by decide)]
    try rw [load1 i k 1#32 1#32 (by decide) (by decide) (by decide)]
    try rw [load1 i k 1#32 2#32 (by decide) (by decide) (by decide)]
    try rw [load1 i k 2#32 1#32 (by decide) (by decide) (by decide)]
    try rw [load1 i k 2#32 2#32 (by decide) (by decide) (by decide)]
    try rw [load1 i k 3#32 1#32 (by decide) (by decide) (by decide)]
    try rw [load1 i k 3#32 2#32 (by decide) (by decide) (by decide)]
    try rw [load2 i k 0#32 (by decide)]
    try rw [load3 i k 0#32 (by decide)]
    try rw [load2 i k 1#32 (by decide)]
    try rw [load3 i k 1#32 (by decide)]
    try rw [load2 i k 2#32 (by decide)]
    try rw [load3 i k 2#32 (by decide)]
    try rw [load2 i k 3#32 (by decide)]
    try rw [load3 i k 3#32 (by decide)]
    repeat rw [cov8]
    repeat rw [cov10]
    repeat rw [cov11]
    rfl
  isplitl [H9]
  · iexists _; isplitl [H9]; · iexact H9
    ipureintro; refine harg9.eq_unread ?_
    sl_unfold_run_names
    rw [View.read_writes_full]
    try rw [whole2 arg2 harg2]
    try rw [whole8 arg8 harg8]
    try rw [whole10 arg10 harg10]
    try rw [whole11 arg11 harg11]
    try rw [load1 i k 0#32 1#32 (by decide) (by decide) (by decide)]
    try rw [load1 i k 0#32 2#32 (by decide) (by decide) (by decide)]
    try rw [load1 i k 1#32 1#32 (by decide) (by decide) (by decide)]
    try rw [load1 i k 1#32 2#32 (by decide) (by decide) (by decide)]
    try rw [load1 i k 2#32 1#32 (by decide) (by decide) (by decide)]
    try rw [load1 i k 2#32 2#32 (by decide) (by decide) (by decide)]
    try rw [load1 i k 3#32 1#32 (by decide) (by decide) (by decide)]
    try rw [load1 i k 3#32 2#32 (by decide) (by decide) (by decide)]
    try rw [load2 i k 0#32 (by decide)]
    try rw [load3 i k 0#32 (by decide)]
    try rw [load2 i k 1#32 (by decide)]
    try rw [load3 i k 1#32 (by decide)]
    try rw [load2 i k 2#32 (by decide)]
    try rw [load3 i k 2#32 (by decide)]
    try rw [load2 i k 3#32 (by decide)]
    try rw [load3 i k 3#32 (by decide)]
    repeat rw [cov8]
    repeat rw [cov10]
    repeat rw [cov11]
    rfl
  isplitl [H10]
  · iexists _; isplitl [H10]; · iexact H10
    ipureintro; refine harg10.eq_unread ?_
    sl_unfold_run_names
    rw [View.read_writes_full]
    try rw [whole2 arg2 harg2]
    try rw [whole8 arg8 harg8]
    try rw [whole10 arg10 harg10]
    try rw [whole11 arg11 harg11]
    try rw [load1 i k 0#32 1#32 (by decide) (by decide) (by decide)]
    try rw [load1 i k 0#32 2#32 (by decide) (by decide) (by decide)]
    try rw [load1 i k 1#32 1#32 (by decide) (by decide) (by decide)]
    try rw [load1 i k 1#32 2#32 (by decide) (by decide) (by decide)]
    try rw [load1 i k 2#32 1#32 (by decide) (by decide) (by decide)]
    try rw [load1 i k 2#32 2#32 (by decide) (by decide) (by decide)]
    try rw [load1 i k 3#32 1#32 (by decide) (by decide) (by decide)]
    try rw [load1 i k 3#32 2#32 (by decide) (by decide) (by decide)]
    try rw [load2 i k 0#32 (by decide)]
    try rw [load3 i k 0#32 (by decide)]
    try rw [load2 i k 1#32 (by decide)]
    try rw [load3 i k 1#32 (by decide)]
    try rw [load2 i k 2#32 (by decide)]
    try rw [load3 i k 2#32 (by decide)]
    try rw [load2 i k 3#32 (by decide)]
    try rw [load3 i k 3#32 (by decide)]
    repeat rw [cov8]
    repeat rw [cov10]
    repeat rw [cov11]
    rfl
  · iexists _; isplitl [H11]; · iexact H11
    ipureintro; refine harg11.eq_unread ?_
    sl_unfold_run_names
    rw [View.read_writes_full]
    try rw [whole2 arg2 harg2]
    try rw [whole8 arg8 harg8]
    try rw [whole10 arg10 harg10]
    try rw [whole11 arg11 harg11]
    try rw [load1 i k 0#32 1#32 (by decide) (by decide) (by decide)]
    try rw [load1 i k 0#32 2#32 (by decide) (by decide) (by decide)]
    try rw [load1 i k 1#32 1#32 (by decide) (by decide) (by decide)]
    try rw [load1 i k 1#32 2#32 (by decide) (by decide) (by decide)]
    try rw [load1 i k 2#32 1#32 (by decide) (by decide) (by decide)]
    try rw [load1 i k 2#32 2#32 (by decide) (by decide) (by decide)]
    try rw [load1 i k 3#32 1#32 (by decide) (by decide) (by decide)]
    try rw [load1 i k 3#32 2#32 (by decide) (by decide) (by decide)]
    try rw [load2 i k 0#32 (by decide)]
    try rw [load3 i k 0#32 (by decide)]
    try rw [load2 i k 1#32 (by decide)]
    try rw [load3 i k 1#32 (by decide)]
    try rw [load2 i k 2#32 (by decide)]
    try rw [load3 i k 2#32 (by decide)]
    try rw [load2 i k 3#32 (by decide)]
    try rw [load3 i k 3#32 (by decide)]
    repeat rw [cov8]
    repeat rw [cov10]
    repeat rw [cov11]
    rfl

end Cert.KernelIdeal.Val

end
-- ==== Proof.Step3.lean ====
/- One trip of key loop 3. -/
module

public import proofs.«01_k».proof.Proof.State

@[expose] public section

set_option maxRecDepth 16384
set_option maxHeartbeats 400000
noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal Cert.KernelIdeal.Gen

variable {F : FTy → Type} [FloatOps F] [Named F]

local notation "𝕄" => MT nD τ sig Unit (Elt F) ℕ (UR sig nD τ) ℕ

/-- One trip of loop 3 runs 2 pair(s). -/
theorem step_t3 (c : Dev nD) (i : grid0.Coords) (arg2 : Memref sig .tc .vmem S1x1024x256 .bf16) (harg2 : arg2.IsWhole) (arg3 : Memref sig .tc .vmem S1x1024x256 .bf16) (harg3 : arg3.IsWhole) (arg4 : Memref sig .tc .vmem S1x256x16384 .bf16) (harg4 : arg4.IsWhole) (arg5 : Memref sig .tc .vmem S1x16384x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x128 .f32) (harg10 : arg10.IsWhole) (arg11 : Memref sig .tc .vmem S1024x256 .f32) (harg11 : arg11.IsWhole) (v54 v72 c2_i32_33 v89 : BitVec 32) (x0 : Vec F S1x1024x256 .bf16) (x2 : Vec F S1x256x16384 .bf16) (x3 : Vec F S1x16384x256 .bf16) (s : St F) (E : Set ℕ) (k : Fin (k0_t3_loop i).trips) :
    Res c arg2 harg2 arg4 harg4 arg5 harg5 arg8 harg8 arg9 harg9 arg10 harg10 arg11 harg11 x0 x2 x3 s
    ⊢ wp frame (wpE (defs₀ (F := F)) Variants.none (c : Thread nD τ) none) E (k0_t3_body (F := F) i arg2 harg2 arg3 harg3 arg4 harg4 arg5 harg5 arg6 harg6 arg7 harg7 arg8 harg8 arg9 harg9 arg10 harg10 arg11 harg11 v54 v72 c2_i32_33 v89 k PUnit.unit)
        (fun _ => ResE c arg2 harg2 arg4 harg4 arg5 harg5 arg8 harg8 arg9 harg9 arg10 harg10 arg11 harg11 x0 x2 x3 (pair x0 x2 x3 (4 * ((i 1).val / 4) + 2 * k.val + 1) (pair x0 x2 x3 (4 * ((i 1).val / 4) + 2 * k.val + 0) s))) := by
  unfold k0_t3_body
  iintro ⟨H2, H4, H5, H8, H9, H10, H11⟩
  sl_exec
  sl_step
  isplitl [H2]; · iexact H2
  isplitl [H4]; · iexact H4
  isplitl [H5]; · iexact H5
  isplitl [H8]
  · iexists _; isplitl [H8]; · iexact H8
    ipureintro; refine harg8.eq_unread ?_
    sl_unfold_run_names
    rw [View.read_writes_full]
    try rw [whole2 arg2 harg2]
    try rw [whole8 arg8 harg8]
    try rw [whole10 arg10 harg10]
    try rw [whole11 arg11 harg11]
    try rw [load7 i k 0#32 1#32 (by decide) (by decide) (by decide)]
    try rw [load7 i k 0#32 2#32 (by decide) (by decide) (by decide)]
    try rw [load7 i k 1#32 1#32 (by decide) (by decide) (by decide)]
    try rw [load7 i k 1#32 2#32 (by decide) (by decide) (by decide)]
    try rw [load8 i k 0#32 (by decide)]
    try rw [load9 i k 0#32 (by decide)]
    try rw [load8 i k 1#32 (by decide)]
    try rw [load9 i k 1#32 (by decide)]
    repeat rw [cov8]
    repeat rw [cov10]
    repeat rw [cov11]
    rfl
  isplitl [H9]
  · iexists _; isplitl [H9]; · iexact H9
    ipureintro; refine harg9.eq_unread ?_
    sl_unfold_run_names
    rw [View.read_writes_full]
    try rw [whole2 arg2 harg2]
    try rw [whole8 arg8 harg8]
    try rw [whole10 arg10 harg10]
    try rw [whole11 arg11 harg11]
    try rw [load7 i k 0#32 1#32 (by decide) (by decide) (by decide)]
    try rw [load7 i k 0#32 2#32 (by decide) (by decide) (by decide)]
    try rw [load7 i k 1#32 1#32 (by decide) (by decide) (by decide)]
    try rw [load7 i k 1#32 2#32 (by decide) (by decide) (by decide)]
    try rw [load8 i k 0#32 (by decide)]
    try rw [load9 i k 0#32 (by decide)]
    try rw [load8 i k 1#32 (by decide)]
    try rw [load9 i k 1#32 (by decide)]
    repeat rw [cov8]
    repeat rw [cov10]
    repeat rw [cov11]
    rfl
  isplitl [H10]
  · iexists _; isplitl [H10]; · iexact H10
    ipureintro; refine harg10.eq_unread ?_
    sl_unfold_run_names
    rw [View.read_writes_full]
    try rw [whole2 arg2 harg2]
    try rw [whole8 arg8 harg8]
    try rw [whole10 arg10 harg10]
    try rw [whole11 arg11 harg11]
    try rw [load7 i k 0#32 1#32 (by decide) (by decide) (by decide)]
    try rw [load7 i k 0#32 2#32 (by decide) (by decide) (by decide)]
    try rw [load7 i k 1#32 1#32 (by decide) (by decide) (by decide)]
    try rw [load7 i k 1#32 2#32 (by decide) (by decide) (by decide)]
    try rw [load8 i k 0#32 (by decide)]
    try rw [load9 i k 0#32 (by decide)]
    try rw [load8 i k 1#32 (by decide)]
    try rw [load9 i k 1#32 (by decide)]
    repeat rw [cov8]
    repeat rw [cov10]
    repeat rw [cov11]
    rfl
  · iexists _; isplitl [H11]; · iexact H11
    ipureintro; refine harg11.eq_unread ?_
    sl_unfold_run_names
    rw [View.read_writes_full]
    try rw [whole2 arg2 harg2]
    try rw [whole8 arg8 harg8]
    try rw [whole10 arg10 harg10]
    try rw [whole11 arg11 harg11]
    try rw [load7 i k 0#32 1#32 (by decide) (by decide) (by decide)]
    try rw [load7 i k 0#32 2#32 (by decide) (by decide) (by decide)]
    try rw [load7 i k 1#32 1#32 (by decide) (by decide) (by decide)]
    try rw [load7 i k 1#32 2#32 (by decide) (by decide) (by decide)]
    try rw [load8 i k 0#32 (by decide)]
    try rw [load9 i k 0#32 (by decide)]
    try rw [load8 i k 1#32 (by decide)]
    try rw [load9 i k 1#32 (by decide)]
    repeat rw [cov8]
    repeat rw [cov10]
    repeat rw [cov11]
    rfl

end Cert.KernelIdeal.Val

end
-- ==== Proof.Step5.lean ====
/- One trip of key loop 5. -/
module

public import proofs.«01_k».proof.Proof.State

@[expose] public section

set_option maxRecDepth 16384
set_option maxHeartbeats 400000
noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal Cert.KernelIdeal.Gen

variable {F : FTy → Type} [FloatOps F] [Named F]

local notation "𝕄" => MT nD τ sig Unit (Elt F) ℕ (UR sig nD τ) ℕ

/-- One trip of loop 5 runs 1 pair(s). -/
theorem step_t5 (c : Dev nD) (i : grid0.Coords) (arg2 : Memref sig .tc .vmem S1x1024x256 .bf16) (harg2 : arg2.IsWhole) (arg3 : Memref sig .tc .vmem S1x1024x256 .bf16) (harg3 : arg3.IsWhole) (arg4 : Memref sig .tc .vmem S1x256x16384 .bf16) (harg4 : arg4.IsWhole) (arg5 : Memref sig .tc .vmem S1x16384x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x128 .f32) (harg10 : arg10.IsWhole) (arg11 : Memref sig .tc .vmem S1024x256 .f32) (harg11 : arg11.IsWhole) (v11 v114 v132 v149 c1_i32_66 v150 v155 : BitVec 32) (x0 : Vec F S1x1024x256 .bf16) (x2 : Vec F S1x256x16384 .bf16) (x3 : Vec F S1x16384x256 .bf16) (s : St F) (E : Set ℕ) (k : Fin (k0_t5_loop i).trips) :
    Res c arg2 harg2 arg4 harg4 arg5 harg5 arg8 harg8 arg9 harg9 arg10 harg10 arg11 harg11 x0 x2 x3 s
    ⊢ wp frame (wpE (defs₀ (F := F)) Variants.none (c : Thread nD τ) none) E (k0_t5_body (F := F) i arg2 harg2 arg3 harg3 arg4 harg4 arg5 harg5 arg6 harg6 arg7 harg7 arg8 harg8 arg9 harg9 arg10 harg10 arg11 harg11 v11 v114 v132 v149 c1_i32_66 v150 v155 k PUnit.unit)
        (fun _ => ResE c arg2 harg2 arg4 harg4 arg5 harg5 arg8 harg8 arg9 harg9 arg10 harg10 arg11 harg11 x0 x2 x3 (pair x0 x2 x3 (2 * ((i 1).val / 2) + k.val) s)) := by
  unfold k0_t5_body
  iintro ⟨H2, H4, H5, H8, H9, H10, H11⟩
  sl_exec
  sl_step
  isplitl [H2]; · iexact H2
  isplitl [H4]; · iexact H4
  isplitl [H5]; · iexact H5
  isplitl [H8]
  · iexists _; isplitl [H8]; · iexact H8
    ipureintro; refine harg8.eq_unread ?_
    sl_unfold_run_names
    rw [View.read_writes_full]
    try rw [whole2 arg2 harg2]
    try rw [whole8 arg8 harg8]
    try rw [whole10 arg10 harg10]
    try rw [whole11 arg11 harg11]
    try rw [load13 i k 1#32 (by decide) (by decide)]
    try rw [load13 i k 2#32 (by decide) (by decide)]
    try rw [load14 i k]
    try rw [load15 i k]
    repeat rw [cov8]
    repeat rw [cov10]
    repeat rw [cov11]
    rfl
  isplitl [H9]
  · iexists _; isplitl [H9]; · iexact H9
    ipureintro; refine harg9.eq_unread ?_
    sl_unfold_run_names
    rw [View.read_writes_full]
    try rw [whole2 arg2 harg2]
    try rw [whole8 arg8 harg8]
    try rw [whole10 arg10 harg10]
    try rw [whole11 arg11 harg11]
    try rw [load13 i k 1#32 (by decide) (by decide)]
    try rw [load13 i k 2#32 (by decide) (by decide)]
    try rw [load14 i k]
    try rw [load15 i k]
    repeat rw [cov8]
    repeat rw [cov10]
    repeat rw [cov11]
    rfl
  isplitl [H10]
  · iexists _; isplitl [H10]; · iexact H10
    ipureintro; refine harg10.eq_unread ?_
    sl_unfold_run_names
    rw [View.read_writes_full]
    try rw [whole2 arg2 harg2]
    try rw [whole8 arg8 harg8]
    try rw [whole10 arg10 harg10]
    try rw [whole11 arg11 harg11]
    try rw [load13 i k 1#32 (by decide) (by decide)]
    try rw [load13 i k 2#32 (by decide) (by decide)]
    try rw [load14 i k]
    try rw [load15 i k]
    repeat rw [cov8]
    repeat rw [cov10]
    repeat rw [cov11]
    rfl
  · iexists _; isplitl [H11]; · iexact H11
    ipureintro; refine harg11.eq_unread ?_
    sl_unfold_run_names
    rw [View.read_writes_full]
    try rw [whole2 arg2 harg2]
    try rw [whole8 arg8 harg8]
    try rw [whole10 arg10 harg10]
    try rw [whole11 arg11 harg11]
    try rw [load13 i k 1#32 (by decide) (by decide)]
    try rw [load13 i k 2#32 (by decide) (by decide)]
    try rw [load14 i k]
    try rw [load15 i k]
    repeat rw [cov8]
    repeat rw [cov10]
    repeat rw [cov11]
    rfl

end Cert.KernelIdeal.Val

end
-- ==== Proof.LoopsV.lean ====
/- The key loops and the parts of the body that hold them. -/
module

public import proofs.«01_k».proof.Proof.Step1
public import proofs.«01_k».proof.Proof.Step3
public import proofs.«01_k».proof.Proof.Step5

@[expose] public section

set_option maxRecDepth 16384
set_option maxHeartbeats 1000000
noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal Cert.KernelIdeal.Gen

variable {F : FTy → Type} [FloatOps F] [Named F]

local notation "𝕄" => MT nD τ sig Unit (Elt F) ℕ (UR sig nD τ) ℕ

/-- Contents given by equations are the contents. -/
theorem res_of_eq (c : Dev nD) (arg2 : Memref sig .tc .vmem S1x1024x256 .bf16) (harg2 : arg2.IsWhole) (arg4 : Memref sig .tc .vmem S1x256x16384 .bf16) (harg4 : arg4.IsWhole) (arg5 : Memref sig .tc .vmem S1x16384x256 .bf16) (harg5 : arg5.IsWhole) (arg8 : Memref sig .tc .vmem S1024x512 .f32) (harg8 : arg8.IsWhole) (arg9 : Memref sig .tc .vmem S1024x512 .f32) (harg9 : arg9.IsWhole) (arg10 : Memref sig .tc .vmem S1024x128 .f32) (harg10 : arg10.IsWhole) (arg11 : Memref sig .tc .vmem S1024x256 .f32) (harg11 : arg11.IsWhole) (x0 : Vec F S1x1024x256 .bf16) (x2 : Vec F S1x256x16384 .bf16) (x3 : Vec F S1x16384x256 .bf16) (s : St F) :
    ResE c arg2 harg2 arg4 harg4 arg5 harg5 arg8 harg8 arg9 harg9 arg10 harg10 arg11 harg11 x0 x2 x3 s ⊢ Res c arg2 harg2 arg4 harg4 arg5 harg5 arg8 harg8 arg9 harg9 arg10 harg10 arg11 harg11 x0 x2 x3 s := by
  iintro ⟨H2, H4, H5, ⟨%f8, H8, %h8⟩, ⟨%f9, H9, %h9⟩, ⟨%f10, H10, %h10⟩, ⟨%f11, H11, %h11⟩⟩
  subst h8 h9 h10 h11
  isplitl [H2]; · iexact H2
  isplitl [H4]; · iexact H4
  isplitl [H5]; · iexact H5
  isplitl [H8]; · iexact H8
  isplitl [H9]; · iexact H9
  isplitl [H10]; · iexact H10
  iexact H11

/-- Loop 1 takes the pairs it is due. -/
theorem loop_t1 (c : Dev nD) (i : grid0.Coords) (arg2 : Memref sig .tc .vmem S1x1024x256 .bf16) (harg2 : arg2.IsWhole) (arg3 : Memref sig .tc .vmem S1x1024x256 .bf16) (harg3 : arg3.IsWhole) (arg4 : Memref sig .tc .vmem S1x256x16384 .bf16) (harg4 : arg4.IsWhole) (arg5 : Memref sig .tc .vmem S1x16384x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x128 .f32) (harg10 : arg10.IsWhole) (arg11 : Memref sig .tc .vmem S1024x256 .f32) (harg11 : arg11.IsWhole) (v28 v29 c4_i32 v30 v32 v34 : BitVec 32) (x0 : Vec F S1x1024x256 .bf16) (x2 : Vec F S1x256x16384 .bf16) (x3 : Vec F S1x16384x256 .bf16) (s : St F) (E : Set ℕ) :
    Res c arg2 harg2 arg4 harg4 arg5 harg5 arg8 harg8 arg9 harg9 arg10 harg10 arg11 harg11 x0 x2 x3 (pairs x0 x2 x3 s (4 * 0))
    ⊢ wp frame (wpE (defs₀ (F := F)) Variants.none (c : Thread nD τ) none) E (Scf.Loop.for (k0_t1_loop i) (k0_t1_ok i) ⟨⟩ (k0_t1_body (F := F) i arg2 harg2 arg3 harg3 arg4 harg4 arg5 harg5 arg6 harg6 arg7 harg7 arg8 harg8 arg9 harg9 arg10 harg10 arg11 harg11 v28 v29 c4_i32 v30 v32 v34))
        (fun _ => Res c arg2 harg2 arg4 harg4 arg5 harg5 arg8 harg8 arg9 harg9 arg10 harg10 arg11 harg11 x0 x2 x3 (pairs x0 x2 x3 s (4 * ((i 1).val / 4)))) := by
  iintro H
  iapply (Scf.wp_for frame (wpE (defs₀ (F := F)) Variants.none (c : Thread nD τ) none) E _ _ _ _ _ _
    (fun k _ => Res c arg2 harg2 arg4 harg4 arg5 harg5 arg8 harg8 arg9 harg9 arg10 harg10 arg11 harg11 x0 x2 x3 (pairs x0 x2 x3 s (4 * k)))
    (fun k _ => (step_t1 c i arg2 harg2 arg3 harg3 arg4 harg4 arg5 harg5 arg6 harg6 arg7 harg7 arg8 harg8 arg9 harg9 arg10 harg10 arg11 harg11 v28 v29 c4_i32 v30 v32 v34 x0 x2 x3 _ E k).trans (wp_mono frame _ E fun _ => res_of_eq c arg2 harg2 arg4 harg4 arg5 harg5 arg8 harg8 arg9 harg9 arg10 harg10 arg11 harg11 x0 x2 x3 _)))
  isplitl [H]; · iexact H
  iintro %_ H
  have e := trips1 i
  rw [show Scf.trips (k0_t1_loop i).lb (k0_t1_loop i).ub (k0_t1_loop i).st = ((i 1).val / 4) from e]
  iexact H

/-- Loop 3 takes the pairs it is due. -/
theorem loop_t3 (c : Dev nD) (i : grid0.Coords) (arg2 : Memref sig .tc .vmem S1x1024x256 .bf16) (harg2 : arg2.IsWhole) (arg3 : Memref sig .tc .vmem S1x1024x256 .bf16) (harg3 : arg3.IsWhole) (arg4 : Memref sig .tc .vmem S1x256x16384 .bf16) (harg4 : arg4.IsWhole) (arg5 : Memref sig .tc .vmem S1x16384x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x128 .f32) (harg10 : arg10.IsWhole) (arg11 : Memref sig .tc .vmem S1024x256 .f32) (harg11 : arg11.IsWhole) (v54 v72 c2_i32_33 v89 : BitVec 32) (x0 : Vec F S1x1024x256 .bf16) (x2 : Vec F S1x256x16384 .bf16) (x3 : Vec F S1x16384x256 .bf16) (s : St F) (E : Set ℕ) :
    Res c arg2 harg2 arg4 harg4 arg5 harg5 arg8 harg8 arg9 harg9 arg10 harg10 arg11 harg11 x0 x2 x3 (pairs x0 x2 x3 s (4 * ((i 1).val / 4) + 2 * 0))
    ⊢ wp frame (wpE (defs₀ (F := F)) Variants.none (c : Thread nD τ) none) E (Scf.Loop.for (k0_t3_loop i) (k0_t3_ok i) ⟨⟩ (k0_t3_body (F := F) i arg2 harg2 arg3 harg3 arg4 harg4 arg5 harg5 arg6 harg6 arg7 harg7 arg8 harg8 arg9 harg9 arg10 harg10 arg11 harg11 v54 v72 c2_i32_33 v89))
        (fun _ => Res c arg2 harg2 arg4 harg4 arg5 harg5 arg8 harg8 arg9 harg9 arg10 harg10 arg11 harg11 x0 x2 x3 (pairs x0 x2 x3 s (4 * ((i 1).val / 4) + 2 * ((i 1).val % 4 / 2)))) := by
  iintro H
  iapply (Scf.wp_for frame (wpE (defs₀ (F := F)) Variants.none (c : Thread nD τ) none) E _ _ _ _ _ _
    (fun k _ => Res c arg2 harg2 arg4 harg4 arg5 harg5 arg8 harg8 arg9 harg9 arg10 harg10 arg11 harg11 x0 x2 x3 (pairs x0 x2 x3 s (4 * ((i 1).val / 4) + 2 * k)))
    (fun k _ => (step_t3 c i arg2 harg2 arg3 harg3 arg4 harg4 arg5 harg5 arg6 harg6 arg7 harg7 arg8 harg8 arg9 harg9 arg10 harg10 arg11 harg11 v54 v72 c2_i32_33 v89 x0 x2 x3 _ E k).trans (wp_mono frame _ E fun _ => res_of_eq c arg2 harg2 arg4 harg4 arg5 harg5 arg8 harg8 arg9 harg9 arg10 harg10 arg11 harg11 x0 x2 x3 _)))
  isplitl [H]; · iexact H
  iintro %_ H
  have e := trips3 i
  rw [show Scf.trips (k0_t3_loop i).lb (k0_t3_loop i).ub (k0_t3_loop i).st = ((i 1).val % 4 / 2) from e]
  iexact H

/-- Loop 5 takes the pairs it is due. -/
theorem loop_t5 (c : Dev nD) (i : grid0.Coords) (arg2 : Memref sig .tc .vmem S1x1024x256 .bf16) (harg2 : arg2.IsWhole) (arg3 : Memref sig .tc .vmem S1x1024x256 .bf16) (harg3 : arg3.IsWhole) (arg4 : Memref sig .tc .vmem S1x256x16384 .bf16) (harg4 : arg4.IsWhole) (arg5 : Memref sig .tc .vmem S1x16384x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x128 .f32) (harg10 : arg10.IsWhole) (arg11 : Memref sig .tc .vmem S1024x256 .f32) (harg11 : arg11.IsWhole) (v11 v114 v132 v149 c1_i32_66 v150 v155 : BitVec 32) (x0 : Vec F S1x1024x256 .bf16) (x2 : Vec F S1x256x16384 .bf16) (x3 : Vec F S1x16384x256 .bf16) (s : St F) (E : Set ℕ) :
    Res c arg2 harg2 arg4 harg4 arg5 harg5 arg8 harg8 arg9 harg9 arg10 harg10 arg11 harg11 x0 x2 x3 (pairs x0 x2 x3 s (2 * ((i 1).val / 2) + 0))
    ⊢ wp frame (wpE (defs₀ (F := F)) Variants.none (c : Thread nD τ) none) E (Scf.Loop.for (k0_t5_loop i) (k0_t5_ok i) ⟨⟩ (k0_t5_body (F := F) i arg2 harg2 arg3 harg3 arg4 harg4 arg5 harg5 arg6 harg6 arg7 harg7 arg8 harg8 arg9 harg9 arg10 harg10 arg11 harg11 v11 v114 v132 v149 c1_i32_66 v150 v155))
        (fun _ => Res c arg2 harg2 arg4 harg4 arg5 harg5 arg8 harg8 arg9 harg9 arg10 harg10 arg11 harg11 x0 x2 x3 (pairs x0 x2 x3 s (2 * ((i 1).val / 2) + ((i 1).val % 2)))) := by
  iintro H
  iapply (Scf.wp_for frame (wpE (defs₀ (F := F)) Variants.none (c : Thread nD τ) none) E _ _ _ _ _ _
    (fun k _ => Res c arg2 harg2 arg4 harg4 arg5 harg5 arg8 harg8 arg9 harg9 arg10 harg10 arg11 harg11 x0 x2 x3 (pairs x0 x2 x3 s (2 * ((i 1).val / 2) + k)))
    (fun k _ => (step_t5 c i arg2 harg2 arg3 harg3 arg4 harg4 arg5 harg5 arg6 harg6 arg7 harg7 arg8 harg8 arg9 harg9 arg10 harg10 arg11 harg11 v11 v114 v132 v149 c1_i32_66 v150 v155 x0 x2 x3 _ E k).trans (wp_mono frame _ E fun _ => res_of_eq c arg2 harg2 arg4 harg4 arg5 harg5 arg8 harg8 arg9 harg9 arg10 harg10 arg11 harg11 x0 x2 x3 _)))
  isplitl [H]; · iexact H
  iintro %_ H
  have e := trips5 i
  rw [show Scf.trips (k0_t5_loop i).lb (k0_t5_loop i).ub (k0_t5_loop i).st = ((i 1).val % 2) from e]
  iexact H

/-- Loop 2 is empty. -/
theorem loop_t2 (c : Dev nD) (i : grid0.Coords) (arg2 : Memref sig .tc .vmem S1x1024x256 .bf16) (harg2 : arg2.IsWhole) (arg3 : Memref sig .tc .vmem S1x1024x256 .bf16) (harg3 : arg3.IsWhole) (arg4 : Memref sig .tc .vmem S1x256x16384 .bf16) (harg4 : arg4.IsWhole) (arg5 : Memref sig .tc .vmem S1x16384x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x128 .f32) (harg10 : arg10.IsWhole) (arg11 : Memref sig .tc .vmem S1024x256 .f32) (harg11 : arg11.IsWhole) (v28 v29 c4_i32 v30 v32 v34 v52 : BitVec 32) (R : sProp 𝕄) (E : Set ℕ) :
    R ⊢ wp frame (wpE (defs₀ (F := F)) Variants.none (c : Thread nD τ) none) E (Scf.Loop.for (k0_t2_loop i) (k0_t2_ok i) ⟨⟩ (k0_t2_body (F := F) i arg2 harg2 arg3 harg3 arg4 harg4 arg5 harg5 arg6 harg6 arg7 harg7 arg8 harg8 arg9 harg9 arg10 harg10 arg11 harg11 v28 v29 c4_i32 v30 v32 v34 v52))
        (fun _ => R) := by
  iintro H
  iapply (Scf.wp_for frame (wpE (defs₀ (F := F)) Variants.none (c : Thread nD τ) none) E _ _ _ _ _ _ (fun _ _ => R)
    (fun k _ => absurd k.isLt (by have e : Scf.trips (k0_t2_loop i).lb (k0_t2_loop i).ub (k0_t2_loop i).st = 0 := trips2 i; omega)))
  isplitl [H]; · iexact H
  iintro %_ H
  iexact H

/-- Loop 4 is empty. -/
theorem loop_t4 (c : Dev nD) (i : grid0.Coords) (arg2 : Memref sig .tc .vmem S1x1024x256 .bf16) (harg2 : arg2.IsWhole) (arg3 : Memref sig .tc .vmem S1x1024x256 .bf16) (harg3 : arg3.IsWhole) (arg4 : Memref sig .tc .vmem S1x256x16384 .bf16) (harg4 : arg4.IsWhole) (arg5 : Memref sig .tc .vmem S1x16384x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x128 .f32) (harg10 : arg10.IsWhole) (arg11 : Memref sig .tc .vmem S1024x256 .f32) (harg11 : arg11.IsWhole) (v54 v72 c2_i32_33 v112 : BitVec 32) (R : sProp 𝕄) (E : Set ℕ) :
    R ⊢ wp frame (wpE (defs₀ (F := F)) Variants.none (c : Thread nD τ) none) E (Scf.Loop.for (k0_t4_loop i) (k0_t4_ok i) ⟨⟩ (k0_t4_body (F := F) i arg2 harg2 arg3 harg3 arg4 harg4 arg5 harg5 arg6 harg6 arg7 harg7 arg8 harg8 arg9 harg9 arg10 harg10 arg11 harg11 v54 v72 c2_i32_33 v112))
        (fun _ => R) := by
  iintro H
  iapply (Scf.wp_for frame (wpE (defs₀ (F := F)) Variants.none (c : Thread nD τ) none) E _ _ _ _ _ _ (fun _ _ => R)
    (fun k _ => absurd k.isLt (by have e : Scf.trips (k0_t4_loop i).lb (k0_t4_loop i).ub (k0_t4_loop i).st = 0 := trips4 i; omega)))
  isplitl [H]; · iexact H
  iintro %_ H
  iexact H

/-- Loop 6 is empty. -/
theorem loop_t6 (c : Dev nD) (i : grid0.Coords) (arg2 : Memref sig .tc .vmem S1x1024x256 .bf16) (harg2 : arg2.IsWhole) (arg3 : Memref sig .tc .vmem S1x1024x256 .bf16) (harg3 : arg3.IsWhole) (arg4 : Memref sig .tc .vmem S1x256x16384 .bf16) (harg4 : arg4.IsWhole) (arg5 : Memref sig .tc .vmem S1x16384x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x128 .f32) (harg10 : arg10.IsWhole) (arg11 : Memref sig .tc .vmem S1024x256 .f32) (harg11 : arg11.IsWhole) (v11 v114 v132 v149 c1_i32_66 v150 v155 v172 : BitVec 32) (R : sProp 𝕄) (E : Set ℕ) :
    R ⊢ wp frame (wpE (defs₀ (F := F)) Variants.none (c : Thread nD τ) none) E (Scf.Loop.for (k0_t6_loop i) (k0_t6_ok i) ⟨⟩ (k0_t6_body (F := F) i arg2 harg2 arg3 harg3 arg4 harg4 arg5 harg5 arg6 harg6 arg7 harg7 arg8 harg8 arg9 harg9 arg10 harg10 arg11 harg11 v11 v114 v132 v149 c1_i32_66 v150 v155 v172))
        (fun _ => R) := by
  iintro H
  iapply (Scf.wp_for frame (wpE (defs₀ (F := F)) Variants.none (c : Thread nD τ) none) E _ _ _ _ _ _ (fun _ _ => R)
    (fun k _ => absurd k.isLt (by have e : Scf.trips (k0_t6_loop i).lb (k0_t6_loop i).ub (k0_t6_loop i).st = 0 := trips6 i; omega)))
  isplitl [H]; · iexact H
  iintro %_ H
  iexact H

/-- What part 38 does: its two loops. -/
theorem part38 (c : Dev nD) (i : grid0.Coords) (arg2 : Memref sig .tc .vmem S1x1024x256 .bf16) (harg2 : arg2.IsWhole) (arg3 : Memref sig .tc .vmem S1x1024x256 .bf16) (harg3 : arg3.IsWhole) (arg4 : Memref sig .tc .vmem S1x256x16384 .bf16) (harg4 : arg4.IsWhole) (arg5 : Memref sig .tc .vmem S1x16384x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x128 .f32) (harg10 : arg10.IsWhole) (arg11 : Memref sig .tc .vmem S1024x256 .f32) (harg11 : arg11.IsWhole) (v28 v29 c4_i32 v30 v32 v34 : BitVec 32) (x0 : Vec F S1x1024x256 .bf16) (x2 : Vec F S1x256x16384 .bf16) (x3 : Vec F S1x16384x256 .bf16) (s : St F) (E : Set ℕ) :
    Res c arg2 harg2 arg4 harg4 arg5 harg5 arg8 harg8 arg9 harg9 arg10 harg10 arg11 harg11 x0 x2 x3 s
    ⊢ wp frame (wpE (defs₀ (F := F)) Variants.none (c : Thread nD τ) none) E (k0_part38 (F := F) i arg2 harg2 arg3 harg3 arg4 harg4 arg5 harg5 arg6 harg6 arg7 harg7 arg8 harg8 arg9 harg9 arg10 harg10 arg11 harg11 v28 v29 c4_i32 v30 v32 v34)
        (fun _ => Res c arg2 harg2 arg4 harg4 arg5 harg5 arg8 harg8 arg9 harg9 arg10 harg10 arg11 harg11 x0 x2 x3 (pairs x0 x2 x3 s (4 * ((i 1).val / 4)))) := by
  rw [k0_part38_eq_skeleton]
  unfold k0_part38_skel
  extract_lets
  rw [wp_bind]
  iintro H
  iapply (wp_wand_r frame (wpE (defs₀ (F := F)) Variants.none (c : Thread nD τ) none) E)
  isplitl [H]
  · iapply (loop_t1 c i arg2 harg2 arg3 harg3 arg4 harg4 arg5 harg5 arg6 harg6 arg7 harg7 arg8 harg8 arg9 harg9 arg10 harg10 arg11 harg11 _ _ _ _ _ _ x0 x2 x3 s E); iexact H
  iintro %_ H
  rw [wp_bind]
  iapply (wp_wand_r frame (wpE (defs₀ (F := F)) Variants.none (c : Thread nD τ) none) E)
  isplitl [H]
  · iapply (loop_t2 c i arg2 harg2 arg3 harg3 arg4 harg4 arg5 harg5 arg6 harg6 arg7 harg7 arg8 harg8 arg9 harg9 arg10 harg10 arg11 harg11 _ _ _ _ _ _ _ _ E); iexact H
  iintro %_ H
  sl_step

  iexact H

/-- What part 39 does: its two loops. -/
theorem part39 (c : Dev nD) (i : grid0.Coords) (arg2 : Memref sig .tc .vmem S1x1024x256 .bf16) (harg2 : arg2.IsWhole) (arg3 : Memref sig .tc .vmem S1x1024x256 .bf16) (harg3 : arg3.IsWhole) (arg4 : Memref sig .tc .vmem S1x256x16384 .bf16) (harg4 : arg4.IsWhole) (arg5 : Memref sig .tc .vmem S1x16384x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x128 .f32) (harg10 : arg10.IsWhole) (arg11 : Memref sig .tc .vmem S1024x256 .f32) (harg11 : arg11.IsWhole) (v54 v72 c2_i32_33 : BitVec 32) (x0 : Vec F S1x1024x256 .bf16) (x2 : Vec F S1x256x16384 .bf16) (x3 : Vec F S1x16384x256 .bf16) (s : St F) (E : Set ℕ) :
    Res c arg2 harg2 arg4 harg4 arg5 harg5 arg8 harg8 arg9 harg9 arg10 harg10 arg11 harg11 x0 x2 x3 (pairs x0 x2 x3 s (4 * ((i 1).val / 4)))
    ⊢ wp frame (wpE (defs₀ (F := F)) Variants.none (c : Thread nD τ) none) E (k0_part39 (F := F) i arg2 harg2 arg3 harg3 arg4 harg4 arg5 harg5 arg6 harg6 arg7 harg7 arg8 harg8 arg9 harg9 arg10 harg10 arg11 harg11 v54 v72 c2_i32_33)
        (fun _ => Res c arg2 harg2 arg4 harg4 arg5 harg5 arg8 harg8 arg9 harg9 arg10 harg10 arg11 harg11 x0 x2 x3 (pairs x0 x2 x3 s (2 * ((i 1).val / 2)))) := by
  rw [k0_part39_eq_skeleton]
  unfold k0_part39_skel
  extract_lets
  rw [wp_bind]
  iintro H
  iapply (wp_wand_r frame (wpE (defs₀ (F := F)) Variants.none (c : Thread nD τ) none) E)
  isplitl [H]
  · iapply (loop_t3 c i arg2 harg2 arg3 harg3 arg4 harg4 arg5 harg5 arg6 harg6 arg7 harg7 arg8 harg8 arg9 harg9 arg10 harg10 arg11 harg11 _ _ _ _ x0 x2 x3 s E); iexact H
  iintro %_ H
  rw [wp_bind]
  iapply (wp_wand_r frame (wpE (defs₀ (F := F)) Variants.none (c : Thread nD τ) none) E)
  isplitl [H]
  · iapply (loop_t4 c i arg2 harg2 arg3 harg3 arg4 harg4 arg5 harg5 arg6 harg6 arg7 harg7 arg8 harg8 arg9 harg9 arg10 harg10 arg11 harg11 _ _ _ _ _ E); iexact H
  iintro %_ H
  sl_step
  rw [show 2 * ((i 1).val / 2) = 4 * ((i 1).val / 4) + 2 * ((i 1).val % 4 / 2) by omega]
  iexact H

end Cert.KernelIdeal.Val

end
-- ==== Proof.Mid.lean ====
/- The parts before and after the key loops. -/
module

public import proofs.«01_k».proof.Proof.LoopsV

@[expose] public section

set_option maxRecDepth 16384
set_option maxHeartbeats 1000000
noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal Cert.KernelIdeal.Gen

variable {F : FTy → Type} [FloatOps F] [Named F]

local notation "𝕄" => MT nD τ sig Unit (Elt F) ℕ (UR sig nD τ) ℕ

/-- Part 37, case A: the running maximum and the sums start afresh, and so do the scores of chunk 0. -/
theorem part37_A (c : Dev nD) (i : grid0.Coords) (arg2 : Memref sig .tc .vmem S1x1024x256 .bf16) (harg2 : arg2.IsWhole) (arg3 : Memref sig .tc .vmem S1x1024x256 .bf16) (harg3 : arg3.IsWhole) (arg4 : Memref sig .tc .vmem S1x256x16384 .bf16) (harg4 : arg4.IsWhole) (arg5 : Memref sig .tc .vmem S1x16384x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x128 .f32) (harg10 : arg10.IsWhole) (arg11 : Memref sig .tc .vmem S1024x256 .f32) (harg11 : arg11.IsWhole) (hc : k0_cond1 i = 1#1) (x0 : Vec F S1x1024x256 .bf16) (x2 : Vec F S1x256x16384 .bf16) (x3 : Vec F S1x16384x256 .bf16) (f8 : Buf (Elt F) (arg8.view.loc (c : Thread nD τ)))
    (x9 : Vec F S1024x512 .f32) (f10 : Buf (Elt F) (arg10.view.loc (c : Thread nD τ))) (f11 : Buf (Elt F) (arg11.view.loc (c : Thread nD τ))) (E : Set ℕ) :
    iprop((arg2.view.loc (c : Thread nD τ) ↦[arg2.view.set]{fullShare} harg2.unread x0) ∗ (arg4.view.loc (c : Thread nD τ) ↦[arg4.view.set]{fullShare} harg4.unread x2) ∗ (arg5.view.loc (c : Thread nD τ) ↦[arg5.view.set]{fullShare} harg5.unread x3) ∗ (arg8.view.loc (c : Thread nD τ) ↦[arg8.view.set]{fullShare} f8)
      ∗ (arg9.view.loc (c : Thread nD τ) ↦[arg9.view.set]{fullShare} harg9.unread x9) ∗ (arg10.view.loc (c : Thread nD τ) ↦[arg10.view.set]{fullShare} f10) ∗ (arg11.view.loc (c : Thread nD τ) ↦[arg11.view.set]{fullShare} f11))
    ⊢ wp frame (wpE (defs₀ (F := F)) Variants.none (c : Thread nD τ) none) E (k0_part37 (F := F) i arg2 harg2 arg3 harg3 arg4 harg4 arg5 harg5 arg6 harg6 arg7 harg7 arg8 harg8 arg9 harg9 arg10 harg10 arg11 harg11)
        (fun _ => Res c arg2 harg2 arg4 harg4 arg5 harg5 arg8 harg8 arg9 harg9 arg10 harg10 arg11 harg11 x0 x2 x3 ((k0_pay256 x0 (kchunk x2 0)), x9, k0_pay254, k0_pay255)) := by
  iintro ⟨H2, H4, H5, H8, H9, H10, H11⟩
  rw [k0_part37_eq_skeleton]
  unfold k0_part37_skel
  sl_exec (disch := first | sl_exact hc)
  sl_step
  iapply (res_of_eq c arg2 harg2 arg4 harg4 arg5 harg5 arg8 harg8 arg9 harg9 arg10 harg10 arg11 harg11 x0 x2 x3 ((k0_pay256 x0 (kchunk x2 0)), x9, k0_pay254, k0_pay255))
  isplitl [H2]; · iexact H2
  isplitl [H4]; · iexact H4
  isplitl [H5]; · iexact H5
  isplitl [H8]
  · iexists _; isplitl [H8]; · iexact H8
    ipureintro
    refine harg8.eq_unread ?_
    sl_unfold_run_names
    rw [View.read_writes_full]
    rw [whole2 arg2 harg2, readK arg4 harg4 x2 0 _ rfl]
  isplitl [H9]
  · iexists _; isplitl [H9]; · iexact H9
    ipureintro; rfl
  isplitl [H10]
  · iexists _; isplitl [H10]; · iexact H10
    ipureintro; refine harg10.eq_unread ?_
    sl_unfold_run_names
    rw [View.read_writes_full]
  · iexists _; isplitl [H11]; · iexact H11
    ipureintro; refine harg11.eq_unread ?_
    sl_unfold_run_names
    rw [View.read_writes_full]

/-- Part 37, case B: the running maximum and the sums start afresh. -/
theorem part37_B (c : Dev nD) (i : grid0.Coords) (arg2 : Memref sig .tc .vmem S1x1024x256 .bf16) (harg2 : arg2.IsWhole) (arg3 : Memref sig .tc .vmem S1x1024x256 .bf16) (harg3 : arg3.IsWhole) (arg4 : Memref sig .tc .vmem S1x256x16384 .bf16) (harg4 : arg4.IsWhole) (arg5 : Memref sig .tc .vmem S1x16384x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x128 .f32) (harg10 : arg10.IsWhole) (arg11 : Memref sig .tc .vmem S1024x256 .f32) (harg11 : arg11.IsWhole) (hc : ¬ k0_cond1 i = 1#1) (x0 : Vec F S1x1024x256 .bf16) (x2 : Vec F S1x256x16384 .bf16) (x3 : Vec F S1x16384x256 .bf16) (x8 : Vec F S1024x512 .f32)
    (x9 : Vec F S1024x512 .f32) (f10 : Buf (Elt F) (arg10.view.loc (c : Thread nD τ))) (f11 : Buf (Elt F) (arg11.view.loc (c : Thread nD τ))) (E : Set ℕ) :
    iprop((arg2.view.loc (c : Thread nD τ) ↦[arg2.view.set]{fullShare} harg2.unread x0) ∗ (arg4.view.loc (c : Thread nD τ) ↦[arg4.view.set]{fullShare} harg4.unread x2) ∗ (arg5.view.loc (c : Thread nD τ) ↦[arg5.view.set]{fullShare} harg5.unread x3) ∗ (arg8.view.loc (c : Thread nD τ) ↦[arg8.view.set]{fullShare} (harg8.unread x8))
      ∗ (arg9.view.loc (c : Thread nD τ) ↦[arg9.view.set]{fullShare} harg9.unread x9) ∗ (arg10.view.loc (c : Thread nD τ) ↦[arg10.view.set]{fullShare} f10) ∗ (arg11.view.loc (c : Thread nD τ) ↦[arg11.view.set]{fullShare} f11))
    ⊢ wp frame (wpE (defs₀ (F := F)) Variants.none (c : Thread nD τ) none) E (k0_part37 (F := F) i arg2 harg2 arg3 harg3 arg4 harg4 arg5 harg5 arg6 harg6 arg7 harg7 arg8 harg8 arg9 harg9 arg10 harg10 arg11 harg11)
        (fun _ => Res c arg2 harg2 arg4 harg4 arg5 harg5 arg8 harg8 arg9 harg9 arg10 harg10 arg11 harg11 x0 x2 x3 (x8, x9, k0_pay254, k0_pay255)) := by
  iintro ⟨H2, H4, H5, H8, H9, H10, H11⟩
  rw [k0_part37_eq_skeleton]
  unfold k0_part37_skel
  sl_exec (disch := first | sl_exact hc)
  sl_step
  iapply (res_of_eq c arg2 harg2 arg4 harg4 arg5 harg5 arg8 harg8 arg9 harg9 arg10 harg10 arg11 harg11 x0 x2 x3 (x8, x9, k0_pay254, k0_pay255))
  isplitl [H2]; · iexact H2
  isplitl [H4]; · iexact H4
  isplitl [H5]; · iexact H5
  isplitl [H8]
  · iexists _; isplitl [H8]; · iexact H8
    ipureintro
    rfl
  isplitl [H9]
  · iexists _; isplitl [H9]; · iexact H9
    ipureintro; rfl
  isplitl [H10]
  · iexists _; isplitl [H10]; · iexact H10
    ipureintro; refine harg10.eq_unread ?_
    sl_unfold_run_names
    rw [View.read_writes_full]
  · iexists _; isplitl [H11]; · iexact H11
    ipureintro; refine harg11.eq_unread ?_
    sl_unfold_run_names
    rw [View.read_writes_full]

theorem off19_word : ∀ i : grid0.Coords, k0_off19 i = ![0, 0, 512 * ((2 * (i 1).val + 1) % 32)] := by decide +kernel
theorem off20_fin : ∀ (i : grid0.Coords) (r : Fin 2), k0_off20 i (BitVec.ofNat 32 r.val) = ![0, 512 * ((2 * (i 1).val + r.val) % 32), 0] := by decide +kernel

/-- The lower half of a block of queries. -/
def qlow (x0 : Vec F S1x1024x256 .bf16) : Vec F S1x512x256 .bf16 :=
  View.ld x0 (Rect.unit (s := S1x1024x256) ![0, 512, 0] S1x512x256.size inb_S1x1024x256_S1x512x256_0_512_0)

/-- Loading the lower half of the queries. -/
theorem readQ (a : Memref sig .tc .vmem S1x1024x256 .bf16) (ha : a.IsWhole) (x0 : Vec F S1x1024x256 .bf16)
    (inb : ∀ d, (![0, 512, 0] : Fin S1x1024x256.rank → ℕ) d + (![1, 512, 256] : Fin S1x1024x256.rank → ℕ) d ≤ S1x1024x256.size d) :
    View.readAt (Elt F) a.view (Rect.unit (s := S1x1024x256) ![0, 512, 0] ![1, 512, 256] inb).toLoadRect (ha.unread x0) = qlow x0 := by
  rw [View.readAt_unit a.view _ inb rfl inb, ha.read_unread]; rfl

/-- What the buffers hold after the last key loop and the scores of the last chunk, the odd buffer's lower half at its scores. -/
abbrev Mid (c : Dev nD) (i : grid0.Coords) (arg2 : Memref sig .tc .vmem S1x1024x256 .bf16) (harg2 : arg2.IsWhole) (arg4 : Memref sig .tc .vmem S1x256x16384 .bf16) (harg4 : arg4.IsWhole) (arg5 : Memref sig .tc .vmem S1x16384x256 .bf16) (harg5 : arg5.IsWhole) (arg8 : Memref sig .tc .vmem S1024x512 .f32) (harg8 : arg8.IsWhole) (arg9 : Memref sig .tc .vmem S1024x512 .f32) (harg9 : arg9.IsWhole) (arg10 : Memref sig .tc .vmem S1024x128 .f32) (harg10 : arg10.IsWhole) (arg11 : Memref sig .tc .vmem S1024x256 .f32) (harg11 : arg11.IsWhole) (x0 : Vec F S1x1024x256 .bf16) (x2 : Vec F S1x256x16384 .bf16) (x3 : Vec F S1x16384x256 .bf16) (s : St F) : sProp 𝕄 :=
  iprop((arg2.view.loc (c : Thread nD τ) ↦[arg2.view.set]{fullShare} harg2.unread x0) ∗ (arg4.view.loc (c : Thread nD τ) ↦[arg4.view.set]{fullShare} harg4.unread x2) ∗ (arg5.view.loc (c : Thread nD τ) ↦[arg5.view.set]{fullShare} harg5.unread x3) ∗ (arg8.view.loc (c : Thread nD τ) ↦[arg8.view.set]{fullShare} harg8.unread s.1)
      ∗ (∃ f, (arg9.view.loc (c : Thread nD τ) ↦[arg9.view.set]{fullShare} f) ∗ ⌜View.readAt (Elt F) arg9.view (Rect.unit (s := S1024x512) ![512, 0] S512x512.size inb_S1024x512_S512x512_512_0).toLoadRect f
          = k0_pay287 (qlow x0) (kchunk x2 (2 * (i 1).val + 1))⌝) ∗ (arg10.view.loc (c : Thread nD τ) ↦[arg10.view.set]{fullShare} harg10.unread s.2.2.1) ∗ (arg11.view.loc (c : Thread nD τ) ↦[arg11.view.set]{fullShare} harg11.unread s.2.2.2))

/-- What part 41 does: its loops, then the scores of the last chunk for the lower queries; it returns the even scores. -/
theorem part41 (c : Dev nD) (i : grid0.Coords) (arg2 : Memref sig .tc .vmem S1x1024x256 .bf16) (harg2 : arg2.IsWhole) (arg3 : Memref sig .tc .vmem S1x1024x256 .bf16) (harg3 : arg3.IsWhole) (arg4 : Memref sig .tc .vmem S1x256x16384 .bf16) (harg4 : arg4.IsWhole) (arg5 : Memref sig .tc .vmem S1x16384x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x128 .f32) (harg10 : arg10.IsWhole) (arg11 : Memref sig .tc .vmem S1024x256 .f32) (harg11 : arg11.IsWhole) (v11 v114 v132 v149 c1_i32_66 v150 v155 : BitVec 32) (x0 : Vec F S1x1024x256 .bf16) (x2 : Vec F S1x256x16384 .bf16) (x3 : Vec F S1x16384x256 .bf16) (s : St F) (E : Set ℕ) :
    Res c arg2 harg2 arg4 harg4 arg5 harg5 arg8 harg8 arg9 harg9 arg10 harg10 arg11 harg11 x0 x2 x3 (pairs x0 x2 x3 s (2 * ((i 1).val / 2)))
    ⊢ wp frame (wpE (defs₀ (F := F)) Variants.none (c : Thread nD τ) none) E (k0_part41 (F := F) i arg2 harg2 arg3 harg3 arg4 harg4 arg5 harg5 arg6 harg6 arg7 harg7 arg8 harg8 arg9 harg9 arg10 harg10 arg11 harg11 v11 v114 v132 v149 c1_i32_66 v150 v155)
        (fun r => iprop(⌜r.1 = (pairs x0 x2 x3 s (i 1).val).1⌝ ∗ Mid c i arg2 harg2 arg4 harg4 arg5 harg5 arg8 harg8 arg9 harg9 arg10 harg10 arg11 harg11 x0 x2 x3 (pairs x0 x2 x3 s (i 1).val))) := by
  rw [k0_part41_eq_skeleton]
  unfold k0_part41_skel
  extract_lets
  rw [wp_bind]
  iintro H
  iapply (wp_wand_r frame (wpE (defs₀ (F := F)) Variants.none (c : Thread nD τ) none) E)
  isplitl [H]
  · iapply (loop_t5 c i arg2 harg2 arg3 harg3 arg4 harg4 arg5 harg5 arg6 harg6 arg7 harg7 arg8 harg8 arg9 harg9 arg10 harg10 arg11 harg11 _ _ _ _ _ _ _ x0 x2 x3 s E); iexact H
  iintro %_ H
  rw [wp_bind]
  iapply (wp_wand_r frame (wpE (defs₀ (F := F)) Variants.none (c : Thread nD τ) none) E)
  isplitl [H]
  · iapply (loop_t6 c i arg2 harg2 arg3 harg3 arg4 harg4 arg5 harg5 arg6 harg6 arg7 harg7 arg8 harg8 arg9 harg9 arg10 harg10 arg11 harg11 _ _ _ _ _ _ _ _ _ E); iexact H
  iintro %_ H
  rw [show 2 * ((i 1).val / 2) + (i 1).val % 2 = (i 1).val by omega]
  icases H with ⟨H2, H4, H5, H8, H9, H10, H11⟩
  sl_exec
  sl_step
  isplitr
  · ipureintro
    sl_unfold_run_names
    try simp only
    rw [whole8 arg8 harg8]
  isplitl [H2]; · iexact H2
  isplitl [H4]; · iexact H4
  isplitl [H5]; · iexact H5
  isplitl [H8]; · iexact H8
  isplitl [H9]
  · iexists _; isplitl [H9]; · iexact H9
    ipureintro
    sl_unfold_run_names
    rw [View.readAt_unit _ _ inb_S1024x512_S512x512_512_0 rfl inb_S1024x512_S512x512_512_0,
      View.read_writes_cons_put _ _ inb_S1024x512_S512x512_512_0 _ _ rfl, VecWindow.window_put_same]
    exact congrArg₂ k0_pay287 (readQ arg2 harg2 x0 _) (readK arg4 harg4 x2 _ _ (off19_word i))
  isplitl [H10]; · iexact H10
  iexact H11

end Cert.KernelIdeal.Val

end
-- ==== Proof.Run.lean ====
/- The whole body at one grid point. -/
module

public import proofs.«01_k».proof.Proof.Mid

@[expose] public section

set_option maxRecDepth 16384
set_option maxHeartbeats 1000000
noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal Cert.KernelIdeal.Gen

variable {F : FTy → Type} [FloatOps F] [Named F]

local notation "𝕄" => MT nD τ sig Unit (Elt F) ℕ (UR sig nD τ) ℕ

/-- The running maximum and the sums after the masked chunk on the diagonal, all queries. -/
def diag0 (x3 : Vec F S1x16384x256 .bf16) (q : ℕ) (s : St F) : Vec F S1024x128 .f32 × Vec F S1024x256 .f32 :=
  (k0_pay295 (k0_pay293 s.1 s.2.2.1), k0_pay294 s.1 s.2.2.1 (vchunk x3 (2 * q)) s.2.2.2)

/-- The sums of the lower queries after the last chunk. -/
def diag1 (x0 : Vec F S1x1024x256 .bf16) (x2 : Vec F S1x256x16384 .bf16) (x3 : Vec F S1x16384x256 .bf16) (q : ℕ) (m : Vec F S512x128 .f32) (a : Vec F S512x256 .f32) : Vec F S512x256 .f32 :=
  k0_pay303 (k0_pay298 (k0_pay287 (qlow x0) (kchunk x2 (2 * q + 1)))) (k0_pay299 (k0_pay287 (qlow x0) (kchunk x2 (2 * q + 1))))
    (k0_pay300 (k0_pay287 (qlow x0) (kchunk x2 (2 * q + 1)))) (k0_pay301 (k0_pay287 (qlow x0) (kchunk x2 (2 * q + 1)))) m
    (k0_pay302 (k0_pay287 (qlow x0) (kchunk x2 (2 * q + 1))) m) (vchunk x3 (2 * q + 1)) a

/-- The lower half of the running maximum, and of the sums. -/
def mlow (m : Vec F S1024x128 .f32) : Vec F S512x128 .f32 := VecWindow.window m ![512, 0] S512x128.size inb_S1024x128_S512x128_512_0
def alow (a : Vec F S1024x256 .f32) : Vec F S512x256 .f32 := VecWindow.window a ![512, 0] S512x256.size inb_S1024x256_S512x256_512_0

/-- The output block: the sums with their lower half replaced, divided by their last column and gated. -/
def outOf (x0 : Vec F S1x1024x256 .bf16) (x2 : Vec F S1x256x16384 .bf16) (x3 : Vec F S1x16384x256 .bf16) (x4 : Vec F S1024x128 .bf16) (q : ℕ) (s : St F) : Vec F S1024x128 .bf16 :=
  k0_pay1 (k0_pay305 (VecWindow.put (diag0 x3 q s).2 ![512, 0] S512x256.size (diag1 x0 x2 x3 q (mlow (diag0 x3 q s).1) (alow (diag0 x3 q s).2)))) (k0_pay306 x4)

/-- Loading the value chunks on the diagonal. -/
theorem last0 (i : grid0.Coords) (arg5 : Memref sig .tc .vmem S1x16384x256 .bf16) (harg5 : arg5.IsWhole) (x3 : Vec F S1x16384x256 .bf16)
    (inb : ∀ a, k0_off20 i 0#32 a + S1x512x256.size a ≤ S1x16384x256.size a) :
    View.readAt (Elt F) arg5.view (Rect.unit (s := S1x16384x256) (k0_off20 i 0#32) S1x512x256.size inb).toLoadRect (harg5.unread x3)
      = vchunk x3 (2 * (i 1).val) := readV arg5 harg5 x3 _ inb (off20_fin i 0)
theorem last1 (i : grid0.Coords) (arg5 : Memref sig .tc .vmem S1x16384x256 .bf16) (harg5 : arg5.IsWhole) (x3 : Vec F S1x16384x256 .bf16)
    (inb : ∀ a, k0_off20 i 1#32 a + S1x512x256.size a ≤ S1x16384x256.size a) :
    View.readAt (Elt F) arg5.view (Rect.unit (s := S1x16384x256) (k0_off20 i 1#32) S1x512x256.size inb).toLoadRect (harg5.unread x3)
      = vchunk x3 (2 * (i 1).val + 1) := readV arg5 harg5 x3 _ inb (off20_fin i 1)

/-- Loading the lower half after a whole store. -/
theorem covM (a : Memref sig .tc .vmem S1024x128 .f32) (w : Vec F S1024x128 .f32) :
    a.view.readCov [⟨Rect.unit (s := S1024x128) ![0, 0] S1024x128.size inb_S1024x128_S1024x128_0_0, w⟩]
      (Rect.unit (s := S1024x128) ![512, 0] S512x128.size inb_S1024x128_S512x128_512_0).toLoadRect = mlow w :=
  (View.readAt_unit a.view _ inb_S1024x128_S512x128_512_0 rfl inb_S1024x128_S512x128_512_0).trans
    (congrArg mlow (View.read_writes_full a.view a.view.junk inb_S1024x128_S1024x128_0_0 w []))
theorem covA (a : Memref sig .tc .vmem S1024x256 .f32) (w : Vec F S1024x256 .f32) :
    a.view.readCov [⟨Rect.unit (s := S1024x256) ![0, 0] S1024x256.size inb_S1024x256_S1024x256_0_0, w⟩]
      (Rect.unit (s := S1024x256) ![512, 0] S512x256.size inb_S1024x256_S512x256_512_0).toLoadRect = alow w :=
  (View.readAt_unit a.view _ inb_S1024x256_S512x256_512_0 rfl inb_S1024x256_S512x256_512_0).trans
    (congrArg alow (View.read_writes_full a.view a.view.junk inb_S1024x256_S1024x256_0_0 w []))

/-- Loading the whole after a store into the lower half over a whole store. -/
theorem covPut (a : Memref sig .tc .vmem S1024x256 .f32) (u : Vec F S512x256 .f32) (w : Vec F S1024x256 .f32) :
    a.view.readCov [⟨Rect.unit (s := S1024x256) ![512, 0] S512x256.size inb_S1024x256_S512x256_512_0, u⟩,
        ⟨Rect.unit (s := S1024x256) ![0, 0] S1024x256.size inb_S1024x256_S1024x256_0_0, w⟩]
      (Rect.unit (s := S1024x256) ![0, 0] S1024x256.size inb_S1024x256_S1024x256_0_0).toLoadRect = VecWindow.put w ![512, 0] S512x256.size u :=
  (View.readAt_full a.view _ inb_S1024x256_S1024x256_0_0).trans
    ((View.read_writes_cons_put a.view a.view.junk inb_S1024x256_S512x256_512_0 u _ rfl).trans
      (congrArg (fun z : S1024x256.Idx → Elt F .f32 => VecWindow.put (s := S1024x256) z ![512, 0] S512x256.size u) (View.read_writes_full a.view a.view.junk inb_S1024x256_S1024x256_0_0 w [])))

/-- The body at a grid point, from the state that part 37 leaves: it hands its windows back, the output at `outOf`,
    and the even scores at those of chunk 0 for the next block of queries. -/
theorem run (c : Dev nD) (i : grid0.Coords) (arg2 : Memref sig .tc .vmem S1x1024x256 .bf16) (harg2 : arg2.IsWhole) (arg3 : Memref sig .tc .vmem S1x1024x256 .bf16) (harg3 : arg3.IsWhole) (arg4 : Memref sig .tc .vmem S1x256x16384 .bf16) (harg4 : arg4.IsWhole) (arg5 : Memref sig .tc .vmem S1x16384x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x128 .f32) (harg10 : arg10.IsWhole) (arg11 : Memref sig .tc .vmem S1024x256 .f32) (harg11 : arg11.IsWhole) (x0 : Vec F S1x1024x256 .bf16) (x1 : Vec F S1x1024x256 .bf16) (x2 : Vec F S1x256x16384 .bf16) (x3 : Vec F S1x16384x256 .bf16) (x4 : Vec F S1024x128 .bf16) (s : St F) (E : Set ℕ)
    (pre : sProp 𝕄) (h37 : pre ⊢ wp frame (wpE (defs₀ (F := F)) Variants.none (c : Thread nD τ) none) E (k0_part37 (F := F) i arg2 harg2 arg3 harg3 arg4 harg4 arg5 harg5 arg6 harg6 arg7 harg7 arg8 harg8 arg9 harg9 arg10 harg10 arg11 harg11)
      (fun _ => Res c arg2 harg2 arg4 harg4 arg5 harg5 arg8 harg8 arg9 harg9 arg10 harg10 arg11 harg11 x0 x2 x3 s)) (f7 : Buf (Elt F) (arg7.view.loc (c : Thread nD τ))) :
    iprop(pre ∗ (arg3.view.loc (c : Thread nD τ) ↦[arg3.view.set]{fullShare} harg3.unread x1) ∗ (arg6.view.loc (c : Thread nD τ) ↦[arg6.view.set]{fullShare} harg6.unread x4) ∗ (arg7.view.loc (c : Thread nD τ) ↦[arg7.view.set]{fullShare} f7))
    ⊢ wp frame (wpE (defs₀ (F := F)) Variants.none (c : Thread nD τ) none) E (cc0_mla_flash (F := F) i arg2 harg2 arg3 harg3 arg4 harg4 arg5 harg5 arg6 harg6 arg7 harg7 arg8 harg8 arg9 harg9 arg10 harg10 arg11 harg11)
      (fun _ => iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4)
        ∗ (∃ f, (arg7.view.loc (c : Thread nD τ) ↦[arg7.view.set]{fullShare} f) ∗ ⌜f = harg7.unread (outOf x0 x2 x3 x4 (i 1).val (pairs x0 x2 x3 s (i 1).val))⌝)
        ∗ (∃ f, (arg8.view.loc (c : Thread nD τ) ↦[arg8.view.set]{fullShare} f) ∗ ⌜f = harg8.unread (k0_pay296 x1 (kchunk x2 0))⌝)
        ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)))) := by
  have h38 := fun w1 w2 w3 w4 w5 w6 => part38 c i arg2 harg2 arg3 harg3 arg4 harg4 arg5 harg5 arg6 harg6 arg7 harg7 arg8 harg8 arg9 harg9 arg10 harg10 arg11 harg11 w1 w2 w3 w4 w5 w6 x0 x2 x3 s E
  have h39 := fun w1 w2 w3 => part39 c i arg2 harg2 arg3 harg3 arg4 harg4 arg5 harg5 arg6 harg6 arg7 harg7 arg8 harg8 arg9 harg9 arg10 harg10 arg11 harg11 w1 w2 w3 x0 x2 x3 s E
  have h41 := fun w1 w2 w3 w4 w5 w6 w7 => part41 c i arg2 harg2 arg3 harg3 arg4 harg4 arg5 harg5 arg6 harg6 arg7 harg7 arg8 harg8 arg9 harg9 arg10 harg10 arg11 harg11 w1 w2 w3 w4 w5 w6 w7 x0 x2 x3 s E
  rw [cc0_mla_flash_eq_skeleton]; unfold cc0_mla_flash_skel
  iintro ⟨Hpre, H3, H6, H7⟩
  sl_exec
  sl_step
  isplitl [Hk0_part41_1]; · iexact Hk0_part41_1
  isplitl [H3]; · iexact H3
  isplitl [Hk0_part41_2]; · iexact Hk0_part41_2
  isplitl [Hk0_part41_3]; · iexact Hk0_part41_3
  isplitl [H6]; · iexact H6
  isplitl [H7]
  · iexists _; isplitl [H7]; · iexact H7
    ipureintro; refine harg7.eq_unread ?_
    rw [View.read_writes_full]
    have e187 : v187 = (pairs x0 x2 x3 s (i 1).val).1 := hk0_part41_0
    subst e187
    sl_unfold_run_names
    rw [show View.readAt (Elt F) arg10.view (Rect.unit (s := S1024x128) ![0, 0] S1024x128.size inb_S1024x128_S1024x128_0_0).toLoadRect (harg10.unread (pairs x0 x2 x3 s (i 1).val).2.2.1) = _ from whole10 arg10 harg10 _ _,
      show View.readAt (Elt F) arg11.view (Rect.unit (s := S1024x256) ![0, 0] S1024x256.size inb_S1024x256_S1024x256_0_0).toLoadRect (harg11.unread (pairs x0 x2 x3 s (i 1).val).2.2.2) = _ from whole11 arg11 harg11 _ _,
      show View.readAt (Elt F) arg6.view (Rect.unit (s := S1024x128) ![0, 0] S1024x128.size inb_S1024x128_S1024x128_0_0).toLoadRect (harg6.unread x4) = _ from whole10 arg6 harg6 _ _,
      last0 i arg5 harg5 x3, last1 i arg5 harg5 x3]
    rw [covPut]
    repeat rw [covM]
    repeat rw [covA]
    rfl
  isplitl [Hk0_part41_4]
  · iexists _; isplitl [Hk0_part41_4]; · iexact Hk0_part41_4
    ipureintro; refine harg8.eq_unread ?_
    rw [View.read_writes_full]
    exact congrArg₂ k0_pay296 (whole2 arg3 harg3 x1 _) (readK arg4 harg4 x2 0 _ rfl)
  isplitl [Hk0_part41_5]; · iexists _; iexact Hk0_part41_5
  isplitl [Hk0_part41_7]; · iexists _; iexact Hk0_part41_7
  iexists _; iexact Hk0_part41_8

end Cert.KernelIdeal.Val

end
-- ==== Proof.RunAB.lean ====
/- The body at a grid point, over the staging buffers and the scratch. -/
module

public import proofs.«01_k».proof.Proof.Run

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal Cert.KernelIdeal.Gen

variable {F : FTy → Type} [FloatOps F] [Named F]

local notation "𝕄" => MT nD τ sig Unit (Elt F) ℕ (UR sig nD τ) ℕ

/-- The odd scores a point starts from do not enter the result. -/
theorem pairs_odd (x0 : Vec F S1x1024x256 .bf16) (x2 : Vec F S1x256x16384 .bf16) (x3 : Vec F S1x16384x256 .bf16) (a b b' : Vec F S1024x512 .f32) (m : Vec F S1024x128 .f32) (u : Vec F S1024x256 .f32) :
    ∀ n : ℕ, (pairs x0 x2 x3 (a, b, m, u) n).1 = (pairs x0 x2 x3 (a, b', m, u) n).1 ∧ (pairs x0 x2 x3 (a, b, m, u) n).2.2 = (pairs x0 x2 x3 (a, b', m, u) n).2.2
  | 0 => ⟨rfl, rfl⟩
  | n + 1 => by
    obtain ⟨h1, h2⟩ := pairs_odd x0 x2 x3 a b b' m u n
    simp only [pairs, pair, h1, h2, and_self]

/-- The block of the output at a point whose even scores are `a` at its start. -/
def outBlk (x0 : Vec F S1x1024x256 .bf16) (x2 : Vec F S1x256x16384 .bf16) (x3 : Vec F S1x16384x256 .bf16) (x4 : Vec F S1024x128 .bf16) (q : ℕ) (a : Vec F S1024x512 .f32) : Vec F S1024x128 .bf16 :=
  outOf x0 x2 x3 x4 q (pairs x0 x2 x3 (a, a, k0_pay254, k0_pay255) q)

theorem outBlk_eq (x0 : Vec F S1x1024x256 .bf16) (x2 : Vec F S1x256x16384 .bf16) (x3 : Vec F S1x16384x256 .bf16) (x4 : Vec F S1024x128 .bf16) (q : ℕ) (a b : Vec F S1024x512 .f32) :
    outOf x0 x2 x3 x4 q (pairs x0 x2 x3 (a, b, k0_pay254, k0_pay255) q) = outBlk x0 x2 x3 x4 q a := by
  obtain ⟨h1, h2⟩ := pairs_odd x0 x2 x3 a b a k0_pay254 k0_pay255 q
  unfold outBlk outOf diag0
  rw [h1, h2]

/-- The body's triple from that of part 37, everything owned whole afterwards. -/
theorem run_owns (c : Dev nD) (i : grid0.Coords) (arg2 : Memref sig .tc .vmem S1x1024x256 .bf16) (harg2 : arg2.IsWhole) (arg3 : Memref sig .tc .vmem S1x1024x256 .bf16) (harg3 : arg3.IsWhole) (arg4 : Memref sig .tc .vmem S1x256x16384 .bf16) (harg4 : arg4.IsWhole) (arg5 : Memref sig .tc .vmem S1x16384x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x128 .f32) (harg10 : arg10.IsWhole) (arg11 : Memref sig .tc .vmem S1024x256 .f32) (harg11 : arg11.IsWhole) (x0 : Vec F S1x1024x256 .bf16) (x1 : Vec F S1x1024x256 .bf16) (x2 : Vec F S1x256x16384 .bf16) (x3 : Vec F S1x16384x256 .bf16) (x4 : Vec F S1024x128 .bf16)
    (a b : Vec F S1024x512 .f32) (pre : sProp 𝕄)
    (h37 : pre ⊢ wp frame (wpE (defs₀ (F := F)) Variants.none (c : Thread nD τ) none) Set.univ (k0_part37 (F := F) i arg2 harg2 arg3 harg3 arg4 harg4 arg5 harg5 arg6 harg6 arg7 harg7 arg8 harg8 arg9 harg9 arg10 harg10 arg11 harg11)
        (fun _ => Res c arg2 harg2 arg4 harg4 arg5 harg5 arg8 harg8 arg9 harg9 arg10 harg10 arg11 harg11 x0 x2 x3 (a, b, k0_pay254, k0_pay255)))
    (f7 : Buf (Elt F) (arg7.view.loc (c : Thread nD τ))) (K : PUnit → sProp 𝕄) :
    iprop((pre ∗ (arg3.view.loc (c : Thread nD τ) ↦[arg3.view.set]{fullShare} harg3.unread x1) ∗ (arg6.view.loc (c : Thread nD τ) ↦[arg6.view.set]{fullShare} harg6.unread x4) ∗ (arg7.view.loc (c : Thread nD τ) ↦[arg7.view.set]{fullShare} f7))
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outBlk x0 x2 x3 x4 (i 1).val a) ∗ owns (c : Thread nD τ) arg8 fullShare (k0_pay296 x1 (kchunk x2 0)) ∗ (∃ d, owns (c : Thread nD τ) arg9 fullShare d)
    ∗ (∃ d, owns (c : Thread nD τ) arg10 fullShare d)
    ∗ (∃ d, owns (c : Thread nD τ) arg11 fullShare d)) -∗ K ⟨⟩))
    ⊢ wp frame (wpE (defs₀ (F := F)) Variants.none (c : Thread nD τ) none) Set.univ (cc0_mla_flash (F := F) i arg2 harg2 arg3 harg3 arg4 harg4 arg5 harg5 arg6 harg6 arg7 harg7 arg8 harg8 arg9 harg9 arg10 harg10 arg11 harg11)
        (K) := by
  have hr := run c i arg2 harg2 arg3 harg3 arg4 harg4 arg5 harg5 arg6 harg6 arg7 harg7 arg8 harg8 arg9 harg9 arg10 harg10 arg11 harg11 x0 x1 x2 x3 x4 (a, b, k0_pay254, k0_pay255) Set.univ pre h37 f7
  rw [outBlk_eq] at hr
  iintro ⟨H, HK⟩
  iapply (wp_wand_r frame (wpE (defs₀ (F := F)) Variants.none (c : Thread nD τ) none) Set.univ)
  isplitl [H]
  · iapply hr; iexact H
  iintro %_ ⟨H2, H3, H4, H5, H6, ⟨%g7, H7, %e7⟩, ⟨%g8, H8, %e8⟩, ⟨%g9, H9⟩, ⟨%g10, H10⟩, ⟨%g11, H11⟩⟩
  subst e7
  subst e8
  iapply HK
  isplitl [H2]
  · unfold owns; iexists _; isplitr
    · ipureintro; exact harg2.read_unread _
    · iexact H2
  isplitl [H3]
  · unfold owns; iexists _; isplitr
    · ipureintro; exact harg3.read_unread _
    · iexact H3
  isplitl [H4]
  · unfold owns; iexists _; isplitr
    · ipureintro; exact harg4.read_unread _
    · iexact H4
  isplitl [H5]
  · unfold owns; iexists _; isplitr
    · ipureintro; exact harg5.read_unread _
    · iexact H5
  isplitl [H6]
  · unfold owns; iexists _; isplitr
    · ipureintro; exact harg6.read_unread _
    · iexact H6
  isplitl [H7]
  · unfold owns; iexists _; isplitr
    · ipureintro; exact harg7.read_unread _
    · iexact H7
  isplitl [H8]
  · unfold owns; iexists _; isplitr
    · ipureintro; exact harg8.read_unread _
    · iexact H8

  isplitl [H9]
  · iexists _; unfold owns; iexists _; isplitr
    swap; · iexact H9
    ipureintro; exact rfl
  isplitl [H10]
  · iexists _; unfold owns; iexists _; isplitr
    swap; · iexact H10
    ipureintro; exact rfl
  iexists _; unfold owns; iexists _; isplitr
  swap; · iexact H11
  ipureintro; exact rfl

/-- The body where the even scores are computed afresh. -/
theorem runA (c : Dev nD) (i : grid0.Coords) (arg2 : Memref sig .tc .vmem S1x1024x256 .bf16) (harg2 : arg2.IsWhole) (arg3 : Memref sig .tc .vmem S1x1024x256 .bf16) (harg3 : arg3.IsWhole) (arg4 : Memref sig .tc .vmem S1x256x16384 .bf16) (harg4 : arg4.IsWhole) (arg5 : Memref sig .tc .vmem S1x16384x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x128 .f32) (harg10 : arg10.IsWhole) (arg11 : Memref sig .tc .vmem S1024x256 .f32) (harg11 : arg11.IsWhole) (hc : k0_cond1 i = 1#1) (x0 : Vec F S1x1024x256 .bf16) (x1 : Vec F S1x1024x256 .bf16) (x2 : Vec F S1x256x16384 .bf16) (x3 : Vec F S1x16384x256 .bf16) (x4 : Vec F S1024x128 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
    ∗ (∃ d, owns (c : Thread nD τ) arg10 fullShare d)
    ∗ (∃ d, owns (c : Thread nD τ) arg11 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outBlk x0 x2 x3 x4 (i 1).val (k0_pay256 x0 (kchunk x2 0))) ∗ owns (c : Thread nD τ) arg8 fullShare (k0_pay296 x1 (kchunk x2 0)) ∗ (∃ d, owns (c : Thread nD τ) arg9 fullShare d)
    ∗ (∃ d, owns (c : Thread nD τ) arg10 fullShare d)
    ∗ (∃ d, owns (c : Thread nD τ) arg11 fullShare d)) -∗ K ⟨⟩))
    ⊢ wp frame (wpE (defs₀ (F := F)) Variants.none (c : Thread nD τ) none) Set.univ (cc0_mla_flash (F := F) i arg2 harg2 arg3 harg3 arg4 harg4 arg5 harg5 arg6 harg6 arg7 harg7 arg8 harg8 arg9 harg9 arg10 harg10 arg11 harg11)
        (K) := by
  iintro ⟨H2, H3, H4, H5, H6, ⟨%d7, H7⟩, ⟨%d8, H8⟩, ⟨%d9, H9⟩, ⟨%d10, H10⟩, ⟨%d11, H11⟩, HK⟩
  unfold owns
  icases H2 with ⟨%f2, %e2, H2⟩
  icases H3 with ⟨%f3, %e3, H3⟩
  icases H4 with ⟨%f4, %e4, H4⟩
  icases H5 with ⟨%f5, %e5, H5⟩
  icases H6 with ⟨%f6, %e6, H6⟩
  icases H7 with ⟨%f7, %e7, H7⟩
  icases H8 with ⟨%f8, %e8, H8⟩
  icases H9 with ⟨%f9, %e9, H9⟩
  icases H10 with ⟨%f10, %e10, H10⟩
  icases H11 with ⟨%f11, %e11, H11⟩
  obtain rfl := harg2.eq_unread e2
  obtain rfl := harg3.eq_unread e3
  obtain rfl := harg4.eq_unread e4
  obtain rfl := harg5.eq_unread e5
  obtain rfl := harg6.eq_unread e6

  obtain rfl := harg9.eq_unread e9
  iapply (run_owns c i arg2 harg2 arg3 harg3 arg4 harg4 arg5 harg5 arg6 harg6 arg7 harg7 arg8 harg8 arg9 harg9 arg10 harg10 arg11 harg11 x0 x1 x2 x3 x4 (k0_pay256 x0 (kchunk x2 0)) d9 _ (part37_A c i arg2 harg2 arg3 harg3 arg4 harg4 arg5 harg5 arg6 harg6 arg7 harg7 arg8 harg8 arg9 harg9 arg10 harg10 arg11 harg11 hc x0 x2 x3 f8 d9 f10 f11 Set.univ) f7 K)
  isplitl [H2 H3 H4 H5 H6 H7 H8 H9 H10 H11]
  · isplitl [H2 H4 H5 H8 H9 H10 H11]
    · isplitl [H2]; · iexact H2
      isplitl [H4]; · iexact H4
      isplitl [H5]; · iexact H5
      isplitl [H8]; · iexact H8
      isplitl [H9]; · iexact H9
      isplitl [H10]; · iexact H10
      iexact H11
    isplitl [H3]; · iexact H3
    isplitl [H6]; · iexact H6
    iexact H7
  iexact HK

/-- The body where the even scores are those the point before left. -/
theorem runB (c : Dev nD) (i : grid0.Coords) (arg2 : Memref sig .tc .vmem S1x1024x256 .bf16) (harg2 : arg2.IsWhole) (arg3 : Memref sig .tc .vmem S1x1024x256 .bf16) (harg3 : arg3.IsWhole) (arg4 : Memref sig .tc .vmem S1x256x16384 .bf16) (harg4 : arg4.IsWhole) (arg5 : Memref sig .tc .vmem S1x16384x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x128 .f32) (harg10 : arg10.IsWhole) (arg11 : Memref sig .tc .vmem S1024x256 .f32) (harg11 : arg11.IsWhole) (hc : ¬ k0_cond1 i = 1#1) (x0 : Vec F S1x1024x256 .bf16) (x1 : Vec F S1x1024x256 .bf16) (x2 : Vec F S1x256x16384 .bf16) (x3 : Vec F S1x16384x256 .bf16) (x4 : Vec F S1024x128 .bf16) (a : Vec F S1024x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare a ∗ (∃ d, owns (c : Thread nD τ) arg9 fullShare d)
    ∗ (∃ d, owns (c : Thread nD τ) arg10 fullShare d)
    ∗ (∃ d, owns (c : Thread nD τ) arg11 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outBlk x0 x2 x3 x4 (i 1).val a) ∗ owns (c : Thread nD τ) arg8 fullShare (k0_pay296 x1 (kchunk x2 0)) ∗ (∃ d, owns (c : Thread nD τ) arg9 fullShare d)
    ∗ (∃ d, owns (c : Thread nD τ) arg10 fullShare d)
    ∗ (∃ d, owns (c : Thread nD τ) arg11 fullShare d)) -∗ K ⟨⟩))
    ⊢ wp frame (wpE (defs₀ (F := F)) Variants.none (c : Thread nD τ) none) Set.univ (cc0_mla_flash (F := F) i arg2 harg2 arg3 harg3 arg4 harg4 arg5 harg5 arg6 harg6 arg7 harg7 arg8 harg8 arg9 harg9 arg10 harg10 arg11 harg11)
        (K) := by
  iintro ⟨H2, H3, H4, H5, H6, ⟨%d7, H7⟩, H8, ⟨%d9, H9⟩, ⟨%d10, H10⟩, ⟨%d11, H11⟩, HK⟩
  unfold owns
  icases H2 with ⟨%f2, %e2, H2⟩
  icases H3 with ⟨%f3, %e3, H3⟩
  icases H4 with ⟨%f4, %e4, H4⟩
  icases H5 with ⟨%f5, %e5, H5⟩
  icases H6 with ⟨%f6, %e6, H6⟩
  icases H7 with ⟨%f7, %e7, H7⟩
  icases H8 with ⟨%f8, %e8, H8⟩
  icases H9 with ⟨%f9, %e9, H9⟩
  icases H10 with ⟨%f10, %e10, H10⟩
  icases H11 with ⟨%f11, %e11, H11⟩
  obtain rfl := harg2.eq_unread e2
  obtain rfl := harg3.eq_unread e3
  obtain rfl := harg4.eq_unread e4
  obtain rfl := harg5.eq_unread e5
  obtain rfl := harg6.eq_unread e6
  obtain rfl := harg8.eq_unread e8
  obtain rfl := harg9.eq_unread e9
  iapply (run_owns c i arg2 harg2 arg3 harg3 arg4 harg4 arg5 harg5 arg6 harg6 arg7 harg7 arg8 harg8 arg9 harg9 arg10 harg10 arg11 harg11 x0 x1 x2 x3 x4 a d9 _ (part37_B c i arg2 harg2 arg3 harg3 arg4 harg4 arg5 harg5 arg6 harg6 arg7 harg7 arg8 harg8 arg9 harg9 arg10 harg10 arg11 harg11 hc x0 x2 x3 a d9 f10 f11 Set.univ) f7 K)
  isplitl [H2 H3 H4 H5 H6 H7 H8 H9 H10 H11]
  · isplitl [H2 H4 H5 H8 H9 H10 H11]
    · isplitl [H2]; · iexact H2
      isplitl [H4]; · iexact H4
      isplitl [H5]; · iexact H5
      isplitl [H8]; · iexact H8
      isplitl [H9]; · iexact H9
      isplitl [H10]; · iexact H10
      iexact H11
    isplitl [H3]; · iexact H3
    isplitl [H6]; · iexact H6
    iexact H7
  iexact HK
end Cert.KernelIdeal.Val

end
-- ==== Proof.Frame.lean ====
/- The run of the whole program with the array of results named block by block, and the frame. -/
module

public import proofs.«01_k».proof.Proof.RunAB
public import Idealize.ShloMosaic.Lib.Claim

@[expose] public section

set_option maxRecDepth 16384

noncomputable section

namespace Cert.KernelIdeal.Val

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The even scores that point `n` leaves behind: those of the next block of queries against chunk 0. -/
def carry (c : Dev nD) (n : ℕ) (hn : n < cfg0.N) : Vec F S1024x512 .f32 :=
  k0_pay296 (iblk m c 1 ⟨n, hn⟩) (kchunk (iblk m c 2 ⟨n, hn⟩) 0)

/-- The even scores that point `t` starts its loop from. -/
def start (c : Dev nD) (t : Fin cfg0.N) : Vec F S1024x512 .f32 :=
  if t.val % 16 = 0 then k0_pay256 (iblk m c 0 t) (kchunk (iblk m c 2 t) 0)
  else carry m c (t.val - 1) (lt_of_le_of_lt (Nat.sub_le _ _) t.isLt)

/-- The block of results that point `t` writes. -/
def blk5 (c : Dev nD) (t : Fin cfg0.N) : Vec F S1024x128 .bf16 :=
  outBlk (iblk m c 0 t) (iblk m c 2 t) (iblk m c 3 t) (iblk m c 4 t) (grid0.coords t 1).val (start m c t)

/-- What holds of the scratch before position `n`: nothing at first, afterwards the carried scores. -/
def PhiS (c : Dev nD) : (n : ℕ) → n ≤ cfg0.N → sProp 𝕄
  | 0, _ => Pipeline.ΦA spec0 c
  | n + 1, hn => iprop(iprop(owns (c : Thread nD τ) scM0_0 fullShare (carry m c n hn) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_succ (c : Dev nD) (n : ℕ) (hn : n < cfg0.N) :
    PhiS m c (n + 1) hn = iprop(iprop(owns (c : Thread nD τ) scM0_0 fullShare (carry m c n hn) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (carry m c (n - 1) (by omega)) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-- At any position the scratch is there, holding something. -/
theorem PhiS_any (c : Dev nD) : ∀ (n : ℕ) (h : n ≤ cfg0.N), PhiS m c n h ⊢ Pipeline.ΦA spec0 c
  | 0, _ => BIBase.Entails.refl
  | n + 1, h => by
    rw [PhiS_succ, PhiA0_eq]
    iintro ⟨⟨H0, H1, H2, H3⟩, Hg⟩
    isplitl [H0 H1 H2 H3]
    · isplitl [H0]; · iexists _; iexact H0
      isplitl [H1]; · iexact H1
      isplitl [H2]; · iexact H2
      iexact H3
    iexact Hg

theorem weakenL {P P' R Q : sProp 𝕄} (h : P ⊢ P') (h2 : iprop(P' ∗ R) ⊢ Q) : iprop(P ∗ R) ⊢ Q :=
  BIBase.Entails.trans (sep_mono_l h) h2

/-- The proof data of the pipeline on core `c`: each input's staging buffer at its block after every point, the output's
    at `blk5`, the scratch as `PhiS` has it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blk5 m c t
  Φ t := PhiS m c t.val (Nat.le_of_lt_succ t.isLt)
  q w := Pipeline.shareOf spec0 w
  owed _ := 0

/-- The arrays are as the region finds them. -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = blk5 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What the body gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ, PhiS_castSucc m c t]
  by_cases h0 : t.val % 16 = 0
  · have hs : blk5 m c t = outBlk (iblk m c 0 t) (iblk m c 2 t) (iblk m c 3 t) (iblk m c 4 t) (grid0.coords t 1).val (k0_pay256 (iblk m c 0 t) (kchunk (iblk m c 2 t) 0)) := by
      unfold blk5 start; rw [if_pos h0]
    rw [hs]
    refine weakenL (PhiS_any m c _ _) ?_
    rw [PhiA0_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ _ _ _ _ _ _ ((hcond0_0 t).mpr h0) (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun h => h0 (by rw [h])
    have hs : blk5 m c t = outBlk (iblk m c 0 t) (iblk m c 2 t) (iblk m c 3 t) (iblk m c 4 t) (grid0.coords t 1).val (carry m c (t.val - 1) (lt_of_le_of_lt (Nat.sub_le _ _) t.isLt)) := by
      unfold blk5 start; rw [if_neg h0]
    rw [hs, PhiS_pos m c _ _ hz]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (carry m c (t.val - 1) _) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    iexact H5
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c :=
  PhiS_any m c cfg0.N (le_refl _)

set_option backward.isDefEq.respectTransparency.types false in
/-- The launch: every weakly fair execution ends, with the arrays as the proof data has them. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Val

end
-- ==== Proof.Array.lean ====
/- The array of results after the run, index by index. -/
module

public import proofs.«01_k».proof.Proof.Frame
public import Idealize.ShloMosaic.Lib.Pipeline.Value

@[expose] public section

noncomputable section

namespace Cert.KernelIdeal.Val

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- Argument 0 is read through a window and never written. -/
theorem held0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

/-- So is argument 1. -/
theorem held1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- Argument 2 is no window's array. -/
theorem held2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Argument 3 is read through a window and never written. -/
theorem held3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 4).trans (((dats m 0 c).arrAt_in 4 rfl _).trans ((A_eq m c 4).trans (V_main_arg3 m c)))

/-- The grid point whose block holds an index of the results, and the place in that block. -/
abbrev ptOf (i : S16384x512.Idx) : ℕ := (i 0).val / 1024 + 16 * ((i 1).val / 128)
set_option backward.proofsInPublic true in
abbrev locOf (i : S16384x512.Idx) : S1024x128.Idx := fun a => match a with
  | ⟨0, _⟩ => ⟨(i 0).val % 1024, Nat.mod_lt _ (by decide)⟩
  | ⟨1, _⟩ => ⟨(i 1).val % 128, Nat.mod_lt _ (by decide)⟩

theorem ptOf_lt (i : S16384x512.Idx) : ptOf i < cfg0.N := by
  have h0 : (i 0).val < 16384 := (i 0).isLt
  have h1 : (i 1).val < 512 := (i 1).isLt
  rw [show cfg0.N = 64 from N_0]
  show (i 0).val / 1024 + 16 * ((i 1).val / 128) < 64
  omega

/-- What the results end holding. -/
def R5 (c : Dev nD) : Buf (Elt F) ((c : Thread nD τ).loc main_v6) := fun i =>
  blk5 m c ⟨ptOf i, ptOf_lt i⟩ (locOf i)

theorem blk5_congr (c : Dev nD) (t t' : Fin cfg0.N) (h : t = t') : blk5 m c t = blk5 m c t' := by subst h; rfl

/-- Where the output window's block lies at each point. -/
theorem place : ∀ t : Fin cfg0.N, win0_5.index t (0 : Fin 2) = t.val % 16 ∧ win0_5.index t (1 : Fin 2) = t.val / 16 ∧ (cfg0.win 5).flush t = true :=
  (by decide +kernel : ∀ t : Fin grid0.N, win0_5.index t (0 : Fin 2) = t.val % 16 ∧ win0_5.index t (1 : Fin 2) = t.val / 16 ∧ win0_5.flush t = true)

/-- What a point writes back is its block of `R5`. -/
theorem writes5 (c : Dev nD) (t : Fin cfg0.N) :
    (dats m 0 c).flushed 5 t = ((cfg0.win 5).blk t).view.read (Elt F) (R5 m c) := by
  show (cfg0.win 5).cut (grid0.coords t) ((dats m 0 c).after 5 t) = _
  rw [after0_5]
  obtain ⟨e0, e1, -⟩ := place t
  funext y
  have hy0 : (y 0).val < 1024 := (y 0).isLt
  have hy1 : (y 1).val < 128 := (y 1).isLt
  have hb0 : (((cfg0.win 5).blk t).view.emb y 0).val = win0_5.index t (0 : Fin 2) * 1024 + 1 * (y 0).val := rfl
  have hb1 : (((cfg0.win 5).blk t).view.emb y 1).val = win0_5.index t (1 : Fin 2) * 128 + 1 * (y 1).val := rfl
  have hp : ptOf (((cfg0.win 5).blk t).view.emb y) = t.val := by
    show (((cfg0.win 5).blk t).view.emb y 0).val / 1024 + 16 * ((((cfg0.win 5).blk t).view.emb y 1).val / 128) = _
    rw [hb0, hb1, e0, e1]
    omega
  have hl : locOf (((cfg0.win 5).blk t).view.emb y) = (cfg0.win 5).xinj (grid0.coords t) y := by
    funext a; apply Fin.ext
    match a with
    | ⟨0, _⟩ => show (((cfg0.win 5).blk t).view.emb y 0).val % 1024 = (y 0).val; rw [hb0]; omega
    | ⟨1, _⟩ => show (((cfg0.win 5).blk t).view.emb y 1).val % 128 = (y 1).val; rw [hb1]; omega
  show blk5 m c t ((cfg0.win 5).xinj (grid0.coords t) y) = R5 m c (((cfg0.win 5).blk t).view.emb y)
  unfold R5
  rw [hl, blk5_congr m c t ⟨_, ptOf_lt _⟩ (Fin.ext hp.symm)]

/-- Every index of the results is in some point's block. -/
theorem covers (i : S16384x512.Idx) : ∃ t : Fin cfg0.N, (cfg0.win 5).flush t = true ∧ i ∈ ((cfg0.win 5).blk t).view.set := by
  have h0 : (i 0).val < 16384 := (i 0).isLt
  have h1 : (i 1).val < 512 := (i 1).isLt
  obtain ⟨e0, e1, hf⟩ := place ⟨ptOf i, ptOf_lt i⟩
  refine ⟨⟨ptOf i, ptOf_lt i⟩, hf, ?_⟩
  show i ∈ ((View.whole main_v6).slice (win0_5.rect ⟨ptOf i, ptOf_lt i⟩)).set
  rw [View.set_slice_whole, Rect.mem_set_unit]
  intro a
  match a with
  | ⟨0, _⟩ =>
    show win0_5.index ⟨ptOf i, ptOf_lt i⟩ (0 : Fin 2) * 1024 ≤ (i 0).val ∧ (i 0).val < win0_5.index ⟨ptOf i, ptOf_lt i⟩ (0 : Fin 2) * 1024 + 1024
    rw [e0]
    show ((i 0).val / 1024 + 16 * ((i 1).val / 128)) % 16 * 1024 ≤ (i 0).val ∧ (i 0).val < ((i 0).val / 1024 + 16 * ((i 1).val / 128)) % 16 * 1024 + 1024
    omega
  | ⟨1, _⟩ =>
    show win0_5.index ⟨ptOf i, ptOf_lt i⟩ (1 : Fin 2) * 128 ≤ (i 1).val ∧ (i 1).val < win0_5.index ⟨ptOf i, ptOf_lt i⟩ (1 : Fin 2) * 128 + 128
    rw [e1]
    show ((i 0).val / 1024 + 16 * ((i 1).val / 128)) / 16 * 128 ≤ (i 1).val ∧ (i 1).val < ((i 0).val / 1024 + 16 * ((i 1).val / 128)) / 16 * 128 + 128
    omega

/-- The results after the run. -/
theorem array5 (c : Dev nD) : (dats m 0 c).arrAt 5 cfg0.N = R5 m c :=
  (dats m 0 c).arrAt_eq_of_cover 5 _ (fun t _ => writes5 m c t) covers

/-- The run, its results named index by index and its arguments unchanged. -/
theorem run_named : θ_run defs (onTc (τ := τ) (main (F := F))) ⟨m, fun _ => 0, ρ⟩ fun r => ∀ c : Dev nD,
      r.2.mem ((c : Thread nD τ).loc main_v6) = R5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 5).trans (array5 m c), held0 m r h c, held1 m r h c, held2 m r h c, held3 m r h c⟩)
    (run_main m ρ)

end Cert.KernelIdeal.Val

end
-- ==== Proof.Pay.lean ====
/- The kernel's block operations read at an index, over the extended reals. -/
module

public import proofs.«01_k».proof.Proof.State
public import Idealize.ShloMosaic.Lib.MatmulPlain
public import Idealize.ShloMosaic.Lib.ValueIdx
public import Idealize.ShloMosaic.PureOps.Ideal.Laws

@[expose] public section

set_option maxRecDepth 16384
noncomputable section

namespace Cert.KernelIdeal.Val

open Idealize.ShloMosaic Idealize.ShloMosaic.ValueIdx
open Cert.KernelIdeal Cert.KernelIdeal.Gen

/-- The word of minus infinity is the bottom. -/
theorem ninf : Ideal.ofBits .f32 0xFF800000#32 = ⊥ := by simp [Ideal.ofBits, Ideal.ieee]

/-- The named mask is the bottom. -/
theorem mask_eq : (Named.named (F := Ideal) (φ := .f32) κ "mask" 0xF149F2CA#32 : EReal) = ⊥ :=
  IdealRules.named_const.ideal_named_scalar _ _ _ _ rfl

/-- The greatest of four tiles' greatest is the greatest of the row of all four. -/
theorem sup_tiles (f : ℕ → EReal) :
    ((Finset.univ : Finset (Fin 128)).sup fun l => max (max (max (f l.val) (f (128 + l.val))) (f (256 + l.val))) (f (384 + l.val)))
      = (Finset.univ : Finset (Fin 512)).sup fun k => f k.val := by
  have hle : ∀ k (h : k < 512), f k ≤ (Finset.univ : Finset (Fin 512)).sup fun k => f k.val := fun k h =>
    Finset.le_sup (f := fun k : Fin 512 => f k.val) (Finset.mem_univ ⟨k, h⟩)
  apply le_antisymm
  · refine Finset.sup_le fun l _ => ?_
    have := l.isLt
    exact max_le (max_le (max_le (hle _ (by omega)) (hle _ (by omega))) (hle _ (by omega))) (hle _ (by omega))
  · refine Finset.sup_le fun k _ => ?_
    have hk := k.isLt
    have hl : k.val % 128 < 128 := Nat.mod_lt _ (by omega)
    refine le_trans ?_ (Finset.le_sup (f := fun l : Fin 128 => max (max (max (f l.val) (f (128 + l.val))) (f (256 + l.val))) (f (384 + l.val)))
      (Finset.mem_univ ⟨k.val % 128, hl⟩))
    rcases (by omega : k.val / 128 = 0 ∨ k.val / 128 = 1 ∨ k.val / 128 = 2 ∨ k.val / 128 = 3) with h | h | h | h
    · exact le_max_of_le_left (le_max_of_le_left (le_max_of_le_left (le_of_eq (congrArg f (show k.val = k.val % 128 by omega)))))
    · exact le_max_of_le_left (le_max_of_le_left (le_max_of_le_right (le_of_eq (congrArg f (show k.val = 128 + k.val % 128 by omega)))))
    · exact le_max_of_le_left (le_max_of_le_right (le_of_eq (congrArg f (show k.val = 256 + k.val % 128 by omega))))
    · exact le_max_of_le_right (le_of_eq (congrArg f (show k.val = 384 + k.val % 128 by omega)))

/-- A key chunk is a stretch of the keys. -/
theorem kchunk_apply (x2 : Vec Ideal S1x256x16384 .bf16) (n : ℕ) (d : Fin 256) (k : Fin 512) :
    kchunk x2 n (ix3 0 d k) = x2 (ix3 0 d ⟨512 * (n % 32) + k.val, by have := k.isLt; have := Nat.mod_lt n (show 0 < 32 by decide); omega⟩) := by
  show x2 _ = x2 _
  refine congrArg x2 (funext fun a => Fin.ext ?_)
  match a with
  | ⟨0, _⟩ => rfl
  | ⟨1, _⟩ => show 0 + 1 * d.val = d.val; omega
  | ⟨2, _⟩ => show 512 * (n % 32) + 1 * k.val = 512 * (n % 32) + k.val; omega

/-- A value chunk is a stretch of the value rows. -/
theorem vchunk_apply (x3 : Vec Ideal S1x16384x256 .bf16) (n : ℕ) (k : Fin 512) (c : Fin 256) :
    vchunk x3 n (ix3 0 k c) = x3 (ix3 0 ⟨512 * (n % 32) + k.val, by have := k.isLt; have := Nat.mod_lt n (show 0 < 32 by decide); omega⟩ c) := by
  show x3 _ = x3 _
  refine congrArg x3 (funext fun a => Fin.ext ?_)
  match a with
  | ⟨0, _⟩ => rfl
  | ⟨1, _⟩ => show 512 * (n % 32) + 1 * k.val = 512 * (n % 32) + k.val; omega
  | ⟨2, _⟩ => show 0 + 1 * c.val = c.val; omega

/-- Dropping the leading unit axis. -/
theorem drop1 {e : EltTy} {a b : ℕ} (v : Vec Ideal ⟨3, ![1, a, b]⟩ e) (h : (⟨3, ![1, a, b]⟩ : Shape).ShapeCasts ⟨2, ![a, b]⟩) (r : Fin a) (c : Fin b) :
    shapeCast ⟨2, ![a, b]⟩ v h (ix2 r c) = v (ix3 0 r c) := by
  refine (shapeCast_dropUnit_apply ![a, b] v h (ix2 r c)).trans (congrArg v (funext fun x => ?_))
  match x with
  | ⟨0, _⟩ => rfl
  | ⟨1, _⟩ => rfl
  | ⟨2, _⟩ => rfl

/-- The scores of a block of 1024 queries against a chunk of keys. -/
theorem score1024 (x : Vec Ideal S1x1024x256 .bf16) (y : Vec Ideal S1x256x512 .bf16) (r : Fin 1024) (k : Fin 512) :
    k0_pay256 x y (ix2 r k) = ∑ d : Fin 256, x (ix3 0 r d) * y (ix3 0 d k) := by
  show shapeCast S1024x512 (FloatOps.matmul (F := Ideal) (φ₁ := .bf16) (φ₂ := .bf16) (DotDims.plain 1024 256 512) none
    (shapeCast S1024x256 x shapeCasts_S1x1024x256_S1024x256) (shapeCast S256x512 y shapeCasts_S1x256x512_S256x512)
    (constant S1024x512 .f32 0x00000000#32)) shapeCasts_S1024x512_S1024x512 (ix2 r k) = _
  rw [shapeCast_self, Ideal.matmul_plain_apply]
  show Ideal.ofBits .f32 0x00000000#32 + _ = _
  rw [Ideal.ofBits_zero_f32, zero_add]
  refine Finset.sum_congr rfl fun d _ => ?_
  exact congrArg₂ (· * ·) (drop1 (e := .bf16) x shapeCasts_S1x1024x256_S1024x256 r d) (drop1 (e := .bf16) y shapeCasts_S1x256x512_S256x512 d k)

/-- The scores of a block of 512 queries against a chunk of keys. -/
theorem score512 (x : Vec Ideal S1x512x256 .bf16) (y : Vec Ideal S1x256x512 .bf16) (r : Fin 512) (k : Fin 512) :
    k0_pay287 x y (ix2 r k) = ∑ d : Fin 256, x (ix3 0 r d) * y (ix3 0 d k) := by
  show shapeCast S512x512 (FloatOps.matmul (F := Ideal) (φ₁ := .bf16) (φ₂ := .bf16) (DotDims.plain 512 256 512) none
    (shapeCast S512x256 x shapeCasts_S1x512x256_S512x256) (shapeCast S256x512 y shapeCasts_S1x256x512_S256x512)
    (constant S512x512 .f32 0x00000000#32)) shapeCasts_S512x512_S512x512 (ix2 r k) = _
  rw [shapeCast_self, Ideal.matmul_plain_apply]
  show Ideal.ofBits .f32 0x00000000#32 + _ = _
  rw [Ideal.ofBits_zero_f32, zero_add]
  refine Finset.sum_congr rfl fun d _ => ?_
  exact congrArg₂ (· * ·) (drop1 (e := .bf16) x shapeCasts_S1x512x256_S512x256 r d) (drop1 (e := .bf16) y shapeCasts_S1x256x512_S256x512 d k)

/-- A tile of the scores. -/
theorem tile1024 (s : FVec Ideal S1024x512 .f32) (o : ℕ) (h : S1024x512.Slices ![0, o] S1024x128) (r : Fin 1024) (l : Fin 128) (ho : o + l.val < 512) :
    extractStridedSlice S1024x128 ![0, o] s h (ix2 r l) = s (ix2 r ⟨o + l.val, ho⟩) :=
  extractStridedSlice_apply _ s h _ _ fun a => by
    match a with
    | ⟨0, _⟩ => show r.val = 0 + r.val; omega
    | ⟨1, _⟩ => rfl

/-- The running maximum after a chunk. -/
theorem rowmax1024 (s : FVec Ideal S1024x512 .f32) (m : FVec Ideal S1024x128 .f32) (r : Fin 1024) (l : Fin 128) :
    k0_pay277 (F := Ideal) s m (ix2 r l) = max (m (ix2 r l)) ((Finset.univ : Finset (Fin 512)).sup fun k => s (ix2 r k)) := by
  let t : FVec Ideal S1024x128 .f32 := maximumf (maximumf (maximumf (k0_pay273 s) (k0_pay274 s)) (k0_pay275 s)) (k0_pay276 s)
  show max (m (ix2 r l)) (broadcastTo S1024x128 (shapeCast S1024x1 (multiReduction .maximumf [1] S1024 t 0xFF800000#32 reduces_S1024x128_S1024 (.inl rfl) rfl)
    shapeCasts_S1024_S1024x1) broadcasts_S1024x1_S1024x128 (ix2 r l)) = _
  refine congrArg (max (m (ix2 r l))) ?_
  rw [broadcastTo_apply _ broadcasts_S1024x1_S1024x128 (ix2 r l) (ix2 r 0) (fun a => match a with
    | ⟨0, _⟩ => by show r.val = if (1024 : ℕ) = 1 then 0 else r.val; rw [if_neg (by decide)]
    | ⟨1, _⟩ => by show 0 = if (1 : ℕ) = 1 then 0 else l.val; rw [if_pos rfl]),
    shapeCast_apply _ shapeCasts_S1024_S1024x1 (ix2 r 0) (ix1 r) (by
      rw [Shape.rowMajor_val_one, Shape.rowMajor_val_two]; show r.val = r.val * 1 + 0; omega)]
  refine (Ideal.multiReduction_maximumf_single t _ reduces_S1024x128_S1024 (.inl rfl) rfl (ix1 r)).trans ?_
  change Finset.fold max (Ideal.ofBits .f32 0xFF800000#32) (t ∘ reduces_S1024x128_S1024.lift (ix1 r)) Finset.univ = _
  rw [ninf]
  have hf : ∀ l : Fin 128, t (reduces_S1024x128_S1024.lift (ix1 r) l) = (fun n : ℕ => if h : n < 512 then s (ix2 r ⟨n, h⟩) else ⊥) l.val ⊔ (fun n : ℕ => if h : n < 512 then s (ix2 r ⟨n, h⟩) else ⊥) (128 + l.val) ⊔ (fun n : ℕ => if h : n < 512 then s (ix2 r ⟨n, h⟩) else ⊥) (256 + l.val) ⊔ (fun n : ℕ => if h : n < 512 then s (ix2 r ⟨n, h⟩) else ⊥) (384 + l.val) := fun l => by
    have hl := l.isLt
    have hi : reduces_S1024x128_S1024.lift (ix1 r) l = ix2 r l := funext fun a => Fin.ext (by match a with | ⟨0, _⟩ => rfl | ⟨1, _⟩ => rfl)
    rw [hi]
    beta_reduce
    rw [dif_pos (by omega), dif_pos (by omega), dif_pos (by omega), dif_pos (by omega)]
    have h0 := tile1024 s 0 slices_S1024x512_o0_0_S1024x128 r l (by omega)
    simp only [Nat.zero_add] at h0
    exact congrArg₂ max (congrArg₂ max (congrArg₂ max h0 (tile1024 s 128 slices_S1024x512_o0_128_S1024x128 r l (by omega)))
      (tile1024 s 256 slices_S1024x512_o0_256_S1024x128 r l (by omega))) (tile1024 s 384 slices_S1024x512_o0_384_S1024x128 r l (by omega))
  refine (Finset.fold_congr fun l _ => hf l).trans ((sup_tiles fun n : ℕ => if h : n < 512 then s (ix2 r ⟨n, h⟩) else ⊥).trans ?_)
  refine Finset.sup_congr rfl fun k _ => ?_
  exact dif_pos k.isLt

/-- The weights of a chunk, tile after tile, are the row's weights. -/
theorem weights1024 (t0 t1 t2 t3 : FVec Ideal S1024x128 .bf16) (f : ℕ → EReal) (r : Fin 1024)
    (h0 : ∀ l : Fin 128, t0 (ix2 r l) = f l.val) (h1 : ∀ l : Fin 128, t1 (ix2 r l) = f (128 + l.val))
    (h2 : ∀ l : Fin 128, t2 (ix2 r l) = f (256 + l.val)) (h3 : ∀ l : Fin 128, t3 (ix2 r l) = f (384 + l.val)) (k : Fin 512) :
    concatenate S1024x512 1 [⟨S1024x128, t0⟩, ⟨S1024x128, t1⟩, ⟨S1024x128, t2⟩, ⟨S1024x128, t3⟩] concatenates_S1024x128_S1024x128_S1024x128_S1024x128_S1024x512_d1 (ix2 r k) = f k.val := by
  have hk := k.isLt
  have side : ∀ (o : ℕ) (l : Fin 128) (b : Fin 2), b ≠ 1 → ((ix2 r l : S1024x128.Idx) b).val = ((ix2 r k : S1024x512.Idx) b).val := fun o l b hb => by
    match b with
    | ⟨0, _⟩ => rfl
    | ⟨1, _⟩ => exact absurd rfl hb
  rcases (by omega : k.val / 128 = 0 ∨ k.val / 128 = 1 ∨ k.val / 128 = 2 ∨ k.val / 128 = 3) with h | h | h | h
  · rw [concatenate_apply_piece 1 [⟨S1024x128, t0⟩, ⟨S1024x128, t1⟩, ⟨S1024x128, t2⟩, ⟨S1024x128, t3⟩] concatenates_S1024x128_S1024x128_S1024x128_S1024x128_S1024x512_d1 (ix2 r k) 0 (show 0 < 4 by decide) S1024x128 t0 rfl rfl 0 rfl
      (ix2 r ⟨k.val, by omega⟩) (side 0 _) (by show 0 + k.val = k.val; omega), h0]
  · rw [concatenate_apply_piece 1 [⟨S1024x128, t0⟩, ⟨S1024x128, t1⟩, ⟨S1024x128, t2⟩, ⟨S1024x128, t3⟩] concatenates_S1024x128_S1024x128_S1024x128_S1024x128_S1024x512_d1 (ix2 r k) 1 (show 1 < 4 by decide) S1024x128 t1 rfl rfl 128 rfl
      (ix2 r ⟨k.val - 128, by omega⟩) (side 0 _) (by show 128 + (k.val - 128) = k.val; omega), h1]
    exact congrArg f (by show 128 + (k.val - 128) = k.val; omega)
  · rw [concatenate_apply_piece 1 [⟨S1024x128, t0⟩, ⟨S1024x128, t1⟩, ⟨S1024x128, t2⟩, ⟨S1024x128, t3⟩] concatenates_S1024x128_S1024x128_S1024x128_S1024x128_S1024x512_d1 (ix2 r k) 2 (show 2 < 4 by decide) S1024x128 t2 rfl rfl 256 rfl
      (ix2 r ⟨k.val - 256, by omega⟩) (side 0 _) (by show 256 + (k.val - 256) = k.val; omega), h2]
    exact congrArg f (by show 256 + (k.val - 256) = k.val; omega)
  · rw [concatenate_apply_piece 1 [⟨S1024x128, t0⟩, ⟨S1024x128, t1⟩, ⟨S1024x128, t2⟩, ⟨S1024x128, t3⟩] concatenates_S1024x128_S1024x128_S1024x128_S1024x128_S1024x512_d1 (ix2 r k) 3 (show 3 < 4 by decide) S1024x128 t3 rfl rfl 384 rfl
      (ix2 r ⟨k.val - 384, by omega⟩) (side 0 _) (by show 384 + (k.val - 384) = k.val; omega), h3]
    exact congrArg f (by show 384 + (k.val - 384) = k.val; omega)

/-- A column laid twice side by side. -/
theorem twice1024 (t : FVec Ideal S1024x128 .f32) (x : EReal) (r : Fin 1024) (h : ∀ l : Fin 128, t (ix2 r l) = x) (c : Fin 256) :
    concatenate S1024x256 1 [⟨S1024x128, t⟩, ⟨S1024x128, t⟩] concatenates_S1024x128_S1024x128_S1024x256_d1 (ix2 r c) = x := by
  have hc := c.isLt
  rcases Nat.lt_or_ge c.val 128 with hk | hk
  · rw [concatenate_pair_apply_left 1 t t concatenates_S1024x128_S1024x128_S1024x256_d1 (ix2 r c) rfl (ix2 r ⟨c.val, hk⟩) (fun b => by
      match b with
      | ⟨0, _⟩ => rfl
      | ⟨1, _⟩ => rfl), h]
  · rw [concatenate_pair_apply_right 1 t t concatenates_S1024x128_S1024x128_S1024x256_d1 (ix2 r c) rfl rfl (ix2 r ⟨c.val - 128, by omega⟩) (fun b hb => by
      match b with
      | ⟨0, _⟩ => rfl
      | ⟨1, _⟩ => exact absurd rfl hb) (by show c.val - 128 + 128 = c.val; omega), h]

/-- The running sums after a chunk, on a row where the maximum is kept in every lane. -/
theorem sums1024 (s : FVec Ideal S1024x512 .f32) (m : FVec Ideal S1024x128 .f32) (v : Vec Ideal S1x512x256 .bf16) (a : FVec Ideal S1024x256 .f32)
    (r : Fin 1024) (c : Fin 256) (μ μ' : EReal) (hm : ∀ l : Fin 128, m (ix2 r l) = μ)
    (hμ : max μ ((Finset.univ : Finset (Fin 512)).sup fun k => s (ix2 r k)) = μ') :
    k0_pay278 s m v a (ix2 r c) = a (ix2 r c) * Ideal.exp2 (μ - μ')
      + ∑ k : Fin 512, Ideal.exp2 (s (ix2 r k) - μ') * v (ix3 0 k c) := by
  have hM : ∀ l : Fin 128, k0_pay277 (F := Ideal) s m (ix2 r l) = μ' := fun l => by rw [rowmax1024, hm, hμ]
  let w0 : FVec Ideal S1024x128 .bf16 := truncf .bf16 (exp2 (subf (k0_pay273 s) (k0_pay277 (F := Ideal) s m))) bitsLt_bf16_f32
  let w1 : FVec Ideal S1024x128 .bf16 := truncf .bf16 (exp2 (subf (k0_pay274 s) (k0_pay277 (F := Ideal) s m))) bitsLt_bf16_f32
  let w2 : FVec Ideal S1024x128 .bf16 := truncf .bf16 (exp2 (subf (k0_pay275 s) (k0_pay277 (F := Ideal) s m))) bitsLt_bf16_f32
  let w3 : FVec Ideal S1024x128 .bf16 := truncf .bf16 (exp2 (subf (k0_pay276 s) (k0_pay277 (F := Ideal) s m))) bitsLt_bf16_f32
  let al : FVec Ideal S1024x128 .f32 := exp2 (subf m (k0_pay277 (F := Ideal) s m))
  show shapeCast S1024x256 (addf (mulf a (concatenate S1024x256 1 [⟨S1024x128, al⟩, ⟨S1024x128, al⟩] concatenates_S1024x128_S1024x128_S1024x256_d1))
    (FloatOps.matmul (F := Ideal) (φ₁ := .bf16) (φ₂ := .bf16) (DotDims.plain 1024 512 256) none
      (concatenate S1024x512 1 [⟨S1024x128, w0⟩, ⟨S1024x128, w1⟩, ⟨S1024x128, w2⟩, ⟨S1024x128, w3⟩] concatenates_S1024x128_S1024x128_S1024x128_S1024x128_S1024x512_d1)
      (shapeCast S512x256 v shapeCasts_S1x512x256_S512x256) (constant S1024x256 .f32 0x00000000#32))) shapeCasts_S1024x256_S1024x256 (ix2 r c) = _
  rw [shapeCast_self, ValueIdx.addf_apply, ValueIdx.mulf_apply, Ideal.matmul_plain_apply]
  rw [twice1024 al (Ideal.exp2 (μ - μ')) r (fun l => by
    show Ideal.exp2 (m (ix2 r l) - k0_pay277 (F := Ideal) s m (ix2 r l)) = _
    rw [hm, hM])]
  congr 1
  show Ideal.ofBits .f32 0x00000000#32 + _ = _
  rw [Ideal.ofBits_zero_f32, zero_add]
  refine Finset.sum_congr rfl fun k _ => ?_
  have hw : ∀ (o : ℕ) (T : FVec Ideal S1024x128 .f32) (l : Fin 128) (ho : o + l.val < 512), T (ix2 r l) = s (ix2 r ⟨o + l.val, ho⟩) →
      Ideal.exp2 (T (ix2 r l) - k0_pay277 (F := Ideal) s m (ix2 r l))
        = (fun n : ℕ => if h : n < 512 then Ideal.exp2 (s (ix2 r ⟨n, h⟩) - μ') else 0) (o + l.val) := fun o T l ho hT => by
    beta_reduce
    rw [dif_pos ho, hT, hM]
  refine congrArg₂ (· * ·) ((weights1024 w0 w1 w2 w3 (fun n : ℕ => if h : n < 512 then Ideal.exp2 (s (ix2 r ⟨n, h⟩) - μ') else 0) r ?_ ?_ ?_ ?_ k).trans
    (dif_pos k.isLt)) (drop1 (e := .bf16) v shapeCasts_S1x512x256_S512x256 k c)
  · intro l
    have hl := l.isLt
    have h0 := hw 0 (k0_pay273 s) l (by omega) (tile1024 s 0 slices_S1024x512_o0_0_S1024x128 r l (by omega))
    simp only [Nat.zero_add] at h0
    exact h0
  · exact fun l => hw 128 (k0_pay274 s) l (by have := l.isLt; omega) (tile1024 s 128 slices_S1024x512_o0_128_S1024x128 r l _)
  · exact fun l => hw 256 (k0_pay275 s) l (by have := l.isLt; omega) (tile1024 s 256 slices_S1024x512_o0_256_S1024x128 r l _)
  · exact fun l => hw 384 (k0_pay276 s) l (by have := l.isLt; omega) (tile1024 s 384 slices_S1024x512_o0_384_S1024x128 r l _)

/-- The masked scores of the second half of the diagonal. -/
abbrev msk (s : FVec Ideal S512x512 .f32) : FVec Ideal S512x512 .f32 := k0_pay297 (F := Ideal) s

/-- A tile of the scores. -/
theorem tile512 (s : FVec Ideal S512x512 .f32) (o : ℕ) (h : S512x512.Slices ![0, o] S512x128) (r : Fin 512) (l : Fin 128) (ho : o + l.val < 512) :
    extractStridedSlice S512x128 ![0, o] s h (ix2 r l) = s (ix2 r ⟨o + l.val, ho⟩) :=
  extractStridedSlice_apply _ s h _ _ fun a => by
    match a with
    | ⟨0, _⟩ => show r.val = 0 + r.val; omega
    | ⟨1, _⟩ => rfl

/-- The running maximum after a chunk. -/
theorem rowmax512 (s : FVec Ideal S512x512 .f32) (m : FVec Ideal S512x128 .f32) (r : Fin 512) (l : Fin 128) :
    k0_pay302 (F := Ideal) s m (ix2 r l) = max (m (ix2 r l)) ((Finset.univ : Finset (Fin 512)).sup fun k => msk s (ix2 r k)) := by
  let t : FVec Ideal S512x128 .f32 := maximumf (maximumf (maximumf (k0_pay298 s) (k0_pay299 s)) (k0_pay300 s)) (k0_pay301 s)
  show max (m (ix2 r l)) (broadcastTo S512x128 (shapeCast S512x1 (multiReduction .maximumf [1] S512 t 0xFF800000#32 reduces_S512x128_S512 (.inl rfl) rfl)
    shapeCasts_S512_S512x1) broadcasts_S512x1_S512x128 (ix2 r l)) = _
  refine congrArg (max (m (ix2 r l))) ?_
  rw [broadcastTo_apply _ broadcasts_S512x1_S512x128 (ix2 r l) (ix2 r 0) (fun a => match a with
    | ⟨0, _⟩ => by show r.val = if (512 : ℕ) = 1 then 0 else r.val; rw [if_neg (by decide)]
    | ⟨1, _⟩ => by show 0 = if (1 : ℕ) = 1 then 0 else l.val; rw [if_pos rfl]),
    shapeCast_apply _ shapeCasts_S512_S512x1 (ix2 r 0) (ix1 r) (by
      rw [Shape.rowMajor_val_one, Shape.rowMajor_val_two]; show r.val = r.val * 1 + 0; omega)]
  refine (Ideal.multiReduction_maximumf_single t _ reduces_S512x128_S512 (.inl rfl) rfl (ix1 r)).trans ?_
  change Finset.fold max (Ideal.ofBits .f32 0xFF800000#32) (t ∘ reduces_S512x128_S512.lift (ix1 r)) Finset.univ = _
  rw [ninf]
  have hf : ∀ l : Fin 128, t (reduces_S512x128_S512.lift (ix1 r) l) = (fun n : ℕ => if h : n < 512 then (msk s) (ix2 r ⟨n, h⟩) else ⊥) l.val ⊔ (fun n : ℕ => if h : n < 512 then (msk s) (ix2 r ⟨n, h⟩) else ⊥) (128 + l.val) ⊔ (fun n : ℕ => if h : n < 512 then (msk s) (ix2 r ⟨n, h⟩) else ⊥) (256 + l.val) ⊔ (fun n : ℕ => if h : n < 512 then (msk s) (ix2 r ⟨n, h⟩) else ⊥) (384 + l.val) := fun l => by
    have hl := l.isLt
    have hi : reduces_S512x128_S512.lift (ix1 r) l = ix2 r l := funext fun a => Fin.ext (by match a with | ⟨0, _⟩ => rfl | ⟨1, _⟩ => rfl)
    rw [hi]
    beta_reduce
    rw [dif_pos (by omega), dif_pos (by omega), dif_pos (by omega), dif_pos (by omega)]
    have h0 := tile512 (msk s) 0 slices_S512x512_o0_0_S512x128 r l (by omega)
    simp only [Nat.zero_add] at h0
    exact congrArg₂ max (congrArg₂ max (congrArg₂ max h0 (tile512 (msk s) 128 slices_S512x512_o0_128_S512x128 r l (by omega)))
      (tile512 (msk s) 256 slices_S512x512_o0_256_S512x128 r l (by omega))) (tile512 (msk s) 384 slices_S512x512_o0_384_S512x128 r l (by omega))
  refine (Finset.fold_congr fun l _ => hf l).trans ((sup_tiles fun n : ℕ => if h : n < 512 then (msk s) (ix2 r ⟨n, h⟩) else ⊥).trans ?_)
  refine Finset.sup_congr rfl fun k _ => ?_
  exact dif_pos k.isLt

/-- The weights of a chunk, tile after tile, are the row's weights. -/
theorem weights512 (t0 t1 t2 t3 : FVec Ideal S512x128 .bf16) (f : ℕ → EReal) (r : Fin 512)
    (h0 : ∀ l : Fin 128, t0 (ix2 r l) = f l.val) (h1 : ∀ l : Fin 128, t1 (ix2 r l) = f (128 + l.val))
    (h2 : ∀ l : Fin 128, t2 (ix2 r l) = f (256 + l.val)) (h3 : ∀ l : Fin 128, t3 (ix2 r l) = f (384 + l.val)) (k : Fin 512) :
    concatenate S512x512 1 [⟨S512x128, t0⟩, ⟨S512x128, t1⟩, ⟨S512x128, t2⟩, ⟨S512x128, t3⟩] concatenates_S512x128_S512x128_S512x128_S512x128_S512x512_d1 (ix2 r k) = f k.val := by
  have hk := k.isLt
  have side : ∀ (o : ℕ) (l : Fin 128) (b : Fin 2), b ≠ 1 → ((ix2 r l : S512x128.Idx) b).val = ((ix2 r k : S512x512.Idx) b).val := fun o l b hb => by
    match b with
    | ⟨0, _⟩ => rfl
    | ⟨1, _⟩ => exact absurd rfl hb
  rcases (by omega : k.val / 128 = 0 ∨ k.val / 128 = 1 ∨ k.val / 128 = 2 ∨ k.val / 128 = 3) with h | h | h | h
  · rw [concatenate_apply_piece 1 [⟨S512x128, t0⟩, ⟨S512x128, t1⟩, ⟨S512x128, t2⟩, ⟨S512x128, t3⟩] concatenates_S512x128_S512x128_S512x128_S512x128_S512x512_d1 (ix2 r k) 0 (show 0 < 4 by decide) S512x128 t0 rfl rfl 0 rfl
      (ix2 r ⟨k.val, by omega⟩) (side 0 _) (by show 0 + k.val = k.val; omega), h0]
  · rw [concatenate_apply_piece 1 [⟨S512x128, t0⟩, ⟨S512x128, t1⟩, ⟨S512x128, t2⟩, ⟨S512x128, t3⟩] concatenates_S512x128_S512x128_S512x128_S512x128_S512x512_d1 (ix2 r k) 1 (show 1 < 4 by decide) S512x128 t1 rfl rfl 128 rfl
      (ix2 r ⟨k.val - 128, by omega⟩) (side 0 _) (by show 128 + (k.val - 128) = k.val; omega), h1]
    exact congrArg f (by show 128 + (k.val - 128) = k.val; omega)
  · rw [concatenate_apply_piece 1 [⟨S512x128, t0⟩, ⟨S512x128, t1⟩, ⟨S512x128, t2⟩, ⟨S512x128, t3⟩] concatenates_S512x128_S512x128_S512x128_S512x128_S512x512_d1 (ix2 r k) 2 (show 2 < 4 by decide) S512x128 t2 rfl rfl 256 rfl
      (ix2 r ⟨k.val - 256, by omega⟩) (side 0 _) (by show 256 + (k.val - 256) = k.val; omega), h2]
    exact congrArg f (by show 256 + (k.val - 256) = k.val; omega)
  · rw [concatenate_apply_piece 1 [⟨S512x128, t0⟩, ⟨S512x128, t1⟩, ⟨S512x128, t2⟩, ⟨S512x128, t3⟩] concatenates_S512x128_S512x128_S512x128_S512x128_S512x512_d1 (ix2 r k) 3 (show 3 < 4 by decide) S512x128 t3 rfl rfl 384 rfl
      (ix2 r ⟨k.val - 384, by omega⟩) (side 0 _) (by show 384 + (k.val - 384) = k.val; omega), h3]
    exact congrArg f (by show 384 + (k.val - 384) = k.val; omega)

/-- A column laid twice side by side. -/
theorem twice512 (t : FVec Ideal S512x128 .f32) (x : EReal) (r : Fin 512) (h : ∀ l : Fin 128, t (ix2 r l) = x) (c : Fin 256) :
    concatenate S512x256 1 [⟨S512x128, t⟩, ⟨S512x128, t⟩] concatenates_S512x128_S512x128_S512x256_d1 (ix2 r c) = x := by
  have hc := c.isLt
  rcases Nat.lt_or_ge c.val 128 with hk | hk
  · rw [concatenate_pair_apply_left 1 t t concatenates_S512x128_S512x128_S512x256_d1 (ix2 r c) rfl (ix2 r ⟨c.val, hk⟩) (fun b => by
      match b with
      | ⟨0, _⟩ => rfl
      | ⟨1, _⟩ => rfl), h]
  · rw [concatenate_pair_apply_right 1 t t concatenates_S512x128_S512x128_S512x256_d1 (ix2 r c) rfl rfl (ix2 r ⟨c.val - 128, by omega⟩) (fun b hb => by
      match b with
      | ⟨0, _⟩ => rfl
      | ⟨1, _⟩ => exact absurd rfl hb) (by show c.val - 128 + 128 = c.val; omega), h]

/-- The running sums after a chunk, on a row where the maximum is kept in every lane. -/
theorem sums512 (s : FVec Ideal S512x512 .f32) (m : FVec Ideal S512x128 .f32) (v : Vec Ideal S1x512x256 .bf16) (a : FVec Ideal S512x256 .f32)
    (r : Fin 512) (c : Fin 256) (μ μ' : EReal) (hm : ∀ l : Fin 128, m (ix2 r l) = μ)
    (hμ : max μ ((Finset.univ : Finset (Fin 512)).sup fun k => (msk s) (ix2 r k)) = μ') :
    k0_pay303 (k0_pay298 s) (k0_pay299 s) (k0_pay300 s) (k0_pay301 s) m (k0_pay302 s m) v a (ix2 r c) = a (ix2 r c) * Ideal.exp2 (μ - μ')
      + ∑ k : Fin 512, Ideal.exp2 ((msk s) (ix2 r k) - μ') * v (ix3 0 k c) := by
  have hM : ∀ l : Fin 128, k0_pay302 (F := Ideal) s m (ix2 r l) = μ' := fun l => by rw [rowmax512, hm, hμ]
  let w0 : FVec Ideal S512x128 .bf16 := truncf .bf16 (exp2 (subf (k0_pay298 s) (k0_pay302 (F := Ideal) s m))) bitsLt_bf16_f32
  let w1 : FVec Ideal S512x128 .bf16 := truncf .bf16 (exp2 (subf (k0_pay299 s) (k0_pay302 (F := Ideal) s m))) bitsLt_bf16_f32
  let w2 : FVec Ideal S512x128 .bf16 := truncf .bf16 (exp2 (subf (k0_pay300 s) (k0_pay302 (F := Ideal) s m))) bitsLt_bf16_f32
  let w3 : FVec Ideal S512x128 .bf16 := truncf .bf16 (exp2 (subf (k0_pay301 s) (k0_pay302 (F := Ideal) s m))) bitsLt_bf16_f32
  let al : FVec Ideal S512x128 .f32 := exp2 (subf m (k0_pay302 (F := Ideal) s m))
  show shapeCast S512x256 (addf (mulf a (concatenate S512x256 1 [⟨S512x128, al⟩, ⟨S512x128, al⟩] concatenates_S512x128_S512x128_S512x256_d1))
    (FloatOps.matmul (F := Ideal) (φ₁ := .bf16) (φ₂ := .bf16) (DotDims.plain 512 512 256) none
      (concatenate S512x512 1 [⟨S512x128, w0⟩, ⟨S512x128, w1⟩, ⟨S512x128, w2⟩, ⟨S512x128, w3⟩] concatenates_S512x128_S512x128_S512x128_S512x128_S512x512_d1)
      (shapeCast S512x256 v shapeCasts_S1x512x256_S512x256) (constant S512x256 .f32 0x00000000#32))) shapeCasts_S512x256_S512x256 (ix2 r c) = _
  rw [shapeCast_self, ValueIdx.addf_apply, ValueIdx.mulf_apply, Ideal.matmul_plain_apply]
  rw [twice512 al (Ideal.exp2 (μ - μ')) r (fun l => by
    show Ideal.exp2 (m (ix2 r l) - k0_pay302 (F := Ideal) s m (ix2 r l)) = _
    rw [hm, hM])]
  congr 1
  show Ideal.ofBits .f32 0x00000000#32 + _ = _
  rw [Ideal.ofBits_zero_f32, zero_add]
  refine Finset.sum_congr rfl fun k _ => ?_
  have hw : ∀ (o : ℕ) (T : FVec Ideal S512x128 .f32) (l : Fin 128) (ho : o + l.val < 512), T (ix2 r l) = (msk s) (ix2 r ⟨o + l.val, ho⟩) →
      Ideal.exp2 (T (ix2 r l) - k0_pay302 (F := Ideal) s m (ix2 r l))
        = (fun n : ℕ => if h : n < 512 then Ideal.exp2 ((msk s) (ix2 r ⟨n, h⟩) - μ') else 0) (o + l.val) := fun o T l ho hT => by
    beta_reduce
    rw [dif_pos ho, hT, hM]
  refine congrArg₂ (· * ·) ((weights512 w0 w1 w2 w3 (fun n : ℕ => if h : n < 512 then Ideal.exp2 ((msk s) (ix2 r ⟨n, h⟩) - μ') else 0) r ?_ ?_ ?_ ?_ k).trans
    (dif_pos k.isLt)) (drop1 (e := .bf16) v shapeCasts_S1x512x256_S512x256 k c)
  · intro l
    have hl := l.isLt
    have h0 := hw 0 (k0_pay298 s) l (by omega) (tile512 (msk s) 0 slices_S512x512_o0_0_S512x128 r l (by omega))
    simp only [Nat.zero_add] at h0
    exact h0
  · exact fun l => hw 128 (k0_pay299 s) l (by have := l.isLt; omega) (tile512 (msk s) 128 slices_S512x512_o0_128_S512x128 r l _)
  · exact fun l => hw 256 (k0_pay300 s) l (by have := l.isLt; omega) (tile512 (msk s) 256 slices_S512x512_o0_256_S512x128 r l _)
  · exact fun l => hw 384 (k0_pay301 s) l (by have := l.isLt; omega) (tile512 (msk s) 384 slices_S512x512_o0_384_S512x128 r l _)

end Cert.KernelIdeal.Val

end
-- ==== Proof.Online.lean ====
/- The arithmetic of a running softmax over the extended reals: a maximum and a weighted sum kept over a
   growing range of keys, rescaled when the maximum grows, agree with the maximum and the weighted sum over
   the whole range. Nothing here knows of the kernel. -/
module

public import Idealize.ShloMosaic.PureOps.Ideal
public import Idealize.ShloMosaic.PureOps.Ideal.Laws

@[expose] public section

noncomputable section

namespace Cert.Online

open Idealize.ShloMosaic

/-- A nonnegative finite factor goes through a sum of extended reals. -/
theorem sum_mul_fin {ι : Type*} (S : Finset ι) (f : ι → EReal) {c : EReal} (h0 : 0 ≤ c) (ht : c ≠ ⊤) :
    (∑ k ∈ S, f k) * c = ∑ k ∈ S, f k * c := by
  classical
  induction S using Finset.induction_on with
  | empty => simp
  | insert a S ha ih =>
    rw [Finset.sum_insert ha, Finset.sum_insert ha, ← ih, EReal.right_distrib_of_nonneg_of_ne_top h0 ht]

/-- A power of two is nonnegative. -/
theorem exp2_nonneg (x : EReal) : 0 ≤ Ideal.exp2 x := by
  induction x with
  | bot => simp
  | coe r => simp only [Ideal.exp2_coe]; exact_mod_cast (Real.rpow_pos_of_pos two_pos r).le
  | top => simp

/-- From a real maximum to a real maximum, the two exponents add up. -/
theorem exp2_shift (s : EReal) (hs : s ≠ ⊤) (m n : ℝ) :
    Ideal.exp2 (s - m) * Ideal.exp2 ((m : EReal) - n) = Ideal.exp2 (s - n) := by
  induction s with
  | bot => simp [EReal.bot_sub]
  | coe r =>
    rw [← EReal.coe_sub, ← EReal.coe_sub, ← EReal.coe_sub, Ideal.exp2_coe, Ideal.exp2_coe, Ideal.exp2_coe, ← EReal.coe_mul]
    congr 1
    change (2 : ℝ) ^ (r - m) * (2 : ℝ) ^ (m - n) = (2 : ℝ) ^ (r - n)
    rw [← Real.rpow_add two_pos]; congr 1; ring
  | top => exact absurd rfl hs

/-- The greatest score of the keys below `n`. -/
def top (s : ℕ → EReal) (n : ℕ) : EReal := (Finset.range n).sup s

/-- The sum, over the keys below `n`, of the values weighted by the powers of two of the scores less `m`. -/
def wsum (s v : ℕ → EReal) (m : EReal) (n : ℕ) : EReal := ∑ k ∈ Finset.range n, Ideal.exp2 (s k - m) * v k

theorem top_ne_top (s : ℕ → EReal) (hs : ∀ k, s k ≠ ⊤) (n : ℕ) : top s n ≠ ⊤ := by
  have h : top s n < ⊤ := (Finset.sup_lt_iff (by exact bot_lt_top)).2 fun k _ => lt_top_iff_ne_top.2 (hs k)
  exact h.ne

/-- One more stretch of `c` keys: the greatest score. -/
theorem top_add (s : ℕ → EReal) (n c : ℕ) :
    top s (n + c) = max (top s n) ((Finset.univ : Finset (Fin c)).sup fun k => s (n + k.val)) := by
  apply le_antisymm
  · refine Finset.sup_le fun k hk => ?_
    rcases lt_or_ge k n with h | h
    · exact le_max_of_le_left (Finset.le_sup (f := s) (Finset.mem_range.2 h))
    · refine le_max_of_le_right ?_
      have hk' := Finset.mem_range.1 hk
      have := Finset.le_sup (f := fun k : Fin c => s (n + k.val)) (Finset.mem_univ (⟨k - n, by omega⟩ : Fin c))
      simpa [Nat.add_sub_cancel' h] using this
  · refine max_le ?_ ?_
    · exact Finset.sup_mono (Finset.range_mono (by omega))
    · exact Finset.sup_le fun k _ => Finset.le_sup (f := s) (Finset.mem_range.2 (by omega))

/-- A sum over one more stretch of `c` keys. -/
theorem wsum_add (s v : ℕ → EReal) (m : EReal) (n c : ℕ) :
    wsum s v m (n + c) = wsum s v m n + ∑ k : Fin c, Ideal.exp2 (s (n + k.val) - m) * v (n + k.val) := by
  rw [wsum, Finset.sum_range_add, wsum, ← Fin.sum_univ_eq_sum_range (fun k => Ideal.exp2 (s (n + k) - m) * v (n + k))]

/-- Rescaling the sum kept against a maximum to a later, greater one. -/
theorem wsum_rescale (s v : ℕ → EReal) (hs : ∀ k, s k ≠ ⊤) (n : ℕ) (m' : EReal) (hm : top s n ≤ m') (hm' : m' ≠ ⊤) :
    wsum s v (top s n) n * Ideal.exp2 (top s n - m') = wsum s v m' n := by
  rcases eq_or_ne (top s n) ⊥ with hb | hb
  · have hall : ∀ k ∈ Finset.range n, s k = ⊥ := fun k hk =>
      le_bot_iff.1 (hb ▸ Finset.le_sup (f := s) hk)
    have hz : ∀ m, wsum s v m n = 0 := fun m =>
      Finset.sum_eq_zero fun k hk => by rw [hall k hk, EReal.bot_sub, Ideal.exp2_bot, zero_mul]
    rw [hz, hz, zero_mul]
  · have ht := top_ne_top s hs n
    obtain ⟨a, ha⟩ : ∃ a : ℝ, top s n = a := ⟨_, (EReal.coe_toReal ht hb).symm⟩
    have hb' : m' ≠ ⊥ := fun h => hb (le_bot_iff.1 (h ▸ hm))
    obtain ⟨b, hb''⟩ : ∃ b : ℝ, m' = b := ⟨_, (EReal.coe_toReal hm' hb').symm⟩
    rw [ha, hb'']
    have hfin : Ideal.exp2 ((a : EReal) - b) ≠ ⊤ := by
      rw [← EReal.coe_sub, Ideal.exp2_coe]; exact EReal.coe_ne_top _
    rw [wsum, sum_mul_fin _ _ (exp2_nonneg _) hfin, wsum]
    refine Finset.sum_congr rfl fun k _ => ?_
    rw [mul_right_comm, exp2_shift _ (hs k)]

/-- One step of the running softmax: from the maximum and the weighted sum of the keys below `n` to those of the
    keys below `n + c`, by the maximum of the stretch, the rescaled sum, and the stretch's own weighted sum. -/
theorem step (s v : ℕ → EReal) (hs : ∀ k, s k ≠ ⊤) (n c : ℕ) :
    wsum s v (top s n) n * Ideal.exp2 (top s n - top s (n + c))
      + ∑ k : Fin c, Ideal.exp2 (s (n + k.val) - top s (n + c)) * v (n + k.val)
      = wsum s v (top s (n + c)) (n + c) := by
  rw [wsum_rescale s v hs n _ ((top_add s n c).symm ▸ le_max_left _ _) (top_ne_top s hs _), wsum_add]

/-- Keys whose score is the bottom change neither the maximum … -/
theorem top_stop (s : ℕ → EReal) {n N : ℕ} (hn : n ≤ N) (h : ∀ k, n ≤ k → s k = ⊥) : top s N = top s n := by
  apply le_antisymm
  · refine Finset.sup_le fun k _ => ?_
    rcases lt_or_ge k n with hk | hk
    · exact Finset.le_sup (f := s) (Finset.mem_range.2 hk)
    · rw [h k hk]; exact bot_le
  · exact Finset.sup_mono (Finset.range_mono hn)

/-- … nor the weighted sum. -/
theorem wsum_stop (s v : ℕ → EReal) (m : EReal) {n N : ℕ} (hn : n ≤ N) (h : ∀ k, n ≤ k → s k = ⊥) :
    wsum s v m N = wsum s v m n := by
  refine (Finset.sum_subset (Finset.range_mono hn) fun k _ hk => ?_).symm
  rw [h k (by simpa using hk), EReal.bot_sub, Ideal.exp2_bot, zero_mul]

theorem coe_sum (w : ℕ → ℝ) (S : Finset ℕ) : ((∑ k ∈ S, w k : ℝ) : EReal) = ∑ k ∈ S, ((w k : ℝ) : EReal) := by
  classical
  induction S using Finset.induction_on with
  | empty => simp
  | insert a S ha ih => rw [Finset.sum_insert ha, Finset.sum_insert ha, EReal.coe_add, ih]

/-- The weights below `N` sum to a real number that is at least one, when some score there is finite and none is the top. -/
theorem wsum_one (s : ℕ → EReal) (hs : ∀ k, s k ≠ ⊤) (N j : ℕ) (hj : j < N) (hf : s j ≠ ⊥) :
    ∃ d : ℝ, 1 ≤ d ∧ wsum s (fun _ => 1) (top s N) N = d := by
  have hle : s j ≤ top s N := Finset.le_sup (f := s) (Finset.mem_range.2 hj)
  have hb : top s N ≠ ⊥ := fun h => hf (le_bot_iff.1 (h ▸ hle))
  obtain ⟨a, ha⟩ : ∃ a : ℝ, top s N = a := ⟨_, (EReal.coe_toReal (top_ne_top s hs N) hb).symm⟩
  obtain ⟨i, hi, him⟩ := Finset.exists_mem_eq_sup (Finset.range N) ⟨j, Finset.mem_range.2 hj⟩ s
  have hfin : ∀ k, ∃ r : ℝ, 0 ≤ r ∧ Ideal.exp2 (s k - a) * 1 = r := fun k => by
    have h0 := exp2_nonneg (s k - a)
    have hk := hs k
    generalize s k = x at *
    induction x with
    | bot => exact ⟨0, le_refl _, by simp [EReal.bot_sub]⟩
    | coe r =>
      refine ⟨(2 : ℝ) ^ (r - a), (Real.rpow_pos_of_pos two_pos _).le, ?_⟩
      rw [← EReal.coe_sub, Ideal.exp2_coe, mul_one]; rfl
    | top => exact absurd rfl hk
  choose w hw0 hw using hfin
  refine ⟨∑ k ∈ Finset.range N, w k, ?_, ?_⟩
  · have h1 : w i = 1 := by
      have hsi : s i = a := by rw [← ha]; exact him.symm
      have := hw i
      rw [hsi, ← EReal.coe_sub, Ideal.exp2_coe, mul_one, sub_self] at this
      have h2 : ((1 : ℝ) : EReal) = w i := by rw [← this]; congr 1; exact (Real.rpow_zero 2).symm
      exact_mod_cast h2.symm
    calc (1 : ℝ) = w i := h1.symm
      _ ≤ _ := Finset.single_le_sum (fun k _ => hw0 k) hi
  · rw [wsum, ha, coe_sum]
    exact Finset.sum_congr rfl fun k _ => hw k

/-- Dividing the weighted sum by the sum of the weights is weighting by the quotients. -/
theorem normalise (s v : ℕ → EReal) (hs : ∀ k, s k ≠ ⊤) (N j : ℕ) (hj : j < N) (hf : s j ≠ ⊥) :
    Ideal.div (wsum s v (top s N) N) (wsum s (fun _ => 1) (top s N) N)
      = ∑ k ∈ Finset.range N, v k * Ideal.div (Ideal.exp2 (s k - top s N)) (wsum s (fun _ => 1) (top s N) N) := by
  obtain ⟨d, hd, he⟩ := wsum_one s hs N j hj hf
  have hd0 : d ≠ 0 := by linarith
  have hp : (0 : ℝ) ≤ 1 / d := by positivity
  rw [he, Ideal.div_coe hd0, wsum, sum_mul_fin _ _ (by exact_mod_cast hp) (EReal.coe_ne_top _)]
  refine Finset.sum_congr rfl fun k _ => ?_
  rw [Ideal.div_coe hd0, mul_right_comm, mul_comm]

/-- The natural exponential of `log 2` times an exponent is the power of two. -/
theorem exp_log_two (x : EReal) : Ideal.exp (((Real.log 2 : ℝ) : EReal) * x) = Ideal.exp2 x := by
  have hl : 0 < Real.log 2 := Real.log_pos one_lt_two
  induction x with
  | bot => rw [EReal.coe_mul_bot_of_pos hl]; rfl
  | coe r =>
    rw [← EReal.coe_mul, Ideal.exp_coe, Ideal.exp2_coe]
    congr 1
    exact (Real.rpow_def_of_pos two_pos r).symm
  | top => rw [EReal.coe_mul_top_of_pos hl]; rfl

end Cert.Online

end
-- ==== Proof.Spec.lean ====
/- Causal attention with a gate, as one function of the four arrays, over the extended reals. -/
module

public import proofs.«01_k».proof.Proof.Online
public import Idealize.ShloMosaic.Lib.ValueIdx

@[expose] public section

noncomputable section

namespace Cert.Online

open Idealize.ShloMosaic Idealize.ShloMosaic.ValueIdx

/-- Scores with the later keys left out. -/
def causal (s : ℕ → EReal) (R n : ℕ) : EReal := if n ≤ R then s n else ⊥

/-- A query's score with each key of its head, none beyond the last key. -/
def score (Q : (⟨3, ![4, 16384, 256]⟩ : Shape).Idx → EReal) (K : (⟨3, ![4, 256, 16384]⟩ : Shape).Idx → EReal) (h : Fin 4) (R : Fin 16384) (n : ℕ) : EReal :=
  if hn : n < 16384 then ∑ d : Fin 256, Q (ix3 h R d) * K (ix3 h d ⟨n, hn⟩) else ⊥

/-- A head's values in one place. -/
def value (V : (⟨3, ![4, 16384, 128]⟩ : Shape).Idx → EReal) (h : Fin 4) (j : Fin 128) (n : ℕ) : EReal :=
  if hn : n < 16384 then V (ix3 h ⟨n, hn⟩ j) else 0

/-- One entry of the attention of a head: the weighted sum of the values over the sum of the weights. -/
def entry (s v : ℕ → EReal) : EReal :=
  Ideal.div (wsum s v (top s 16384) 16384) (wsum s (fun _ => 1) (top s 16384) 16384)

/-- The attention, its heads side by side, gated. -/
def attend (Q : (⟨3, ![4, 16384, 256]⟩ : Shape).Idx → EReal) (K : (⟨3, ![4, 256, 16384]⟩ : Shape).Idx → EReal)
    (V : (⟨3, ![4, 16384, 128]⟩ : Shape).Idx → EReal) (Z : (⟨2, ![16384, 512]⟩ : Shape).Idx → EReal)
    (R : Fin 16384) (h : Fin 4) (j : Fin 128) : EReal :=
  entry (causal (score Q K h R) R.val) (value V h j)
    * (Z (ix2 R ⟨128 * h.val + j.val, by have := h.isLt; have := j.isLt; omega⟩) * Ideal.logistic (Z (ix2 R ⟨128 * h.val + j.val, by have := h.isLt; have := j.isLt; omega⟩)))

theorem wsum_congr (s s' v v' : ℕ → EReal) (m : EReal) (n : ℕ) (hs : ∀ k, k < n → s k = s' k) (hv : ∀ k, k < n → v k = v' k) : wsum s v m n = wsum s' v' m n :=
  Finset.sum_congr rfl fun k hk => by rw [hs k (Finset.mem_range.1 hk), hv k (Finset.mem_range.1 hk)]

end Cert.Online
-- ==== Proof.Rows.lean ====
/- One row of a query block: what the kernel's state holds after each pair of chunks, after the diagonal, and
   what its output row is, over the extended reals. -/
module

public import proofs.«01_k».proof.Proof.RunAB
public import proofs.«01_k».proof.Proof.Pay
public import proofs.«01_k».proof.Proof.Spec
public import Idealize.ShloMosaic.Lib.WordCmp

@[expose] public section

set_option maxRecDepth 16384
noncomputable section

namespace Cert.KernelIdeal.Val

open Idealize.ShloMosaic Idealize.ShloMosaic.ValueIdx
open Cert.KernelIdeal Cert.KernelIdeal.Gen
open Cert.Online

/-- Comparing two small words and choosing. -/
theorem choose_le (a b : ℕ) (ha : a < 2 ^ 31) (hb : b < 2 ^ 31) (x y : EReal) :
    Scalar.select (IntOp.cmpi .sle (BitVec.ofNat 32 a) (BitVec.ofNat 32 b)) x y = if a ≤ b then x else y := by
  have e : IntOp.cmpi .sle (BitVec.ofNat 32 a) (BitVec.ofNat 32 b) = BitVec.ofBool (decide (a ≤ b)) := WordCmp.cmpi_sle_ofNat ha hb
  rw [e]
  by_cases h : a ≤ b <;> simp [Scalar.select, h]

/-- The mask of the chunk the diagonal starts in. -/
theorem mask1024 (s : FVec Ideal S1024x512 .f32) (r : Fin 1024) (k : Fin 512) :
    k0_pay288 (F := Ideal) s (ix2 r k) = if k.val ≤ r.val then s (ix2 r k) else ⊥ := by
  have hr := r.isLt
  have hk := k.isLt
  rw [← choose_le k.val r.val (by omega) (by omega), ← mask_eq]
  show Scalar.select (IntOp.cmpi .sle (0#32 + BitVec.ofNat 32 (0 * 512 + k.val)) (0#32 + BitVec.ofNat 32 (0 * 1024 + r.val))) _ _ = _
  rw [BitVec.zero_add, BitVec.zero_add, Nat.zero_mul, Nat.zero_add, Nat.zero_add]
  rfl

/-- The mask of the last chunk. -/
theorem mask512 (s : FVec Ideal S512x512 .f32) (r k : Fin 512) :
    msk s (ix2 r k) = if k.val ≤ r.val then s (ix2 r k) else ⊥ := by
  have hr := r.isLt
  have hk := k.isLt
  have e := choose_le (512 + k.val) (512 + r.val) (by omega) (by omega) (s (ix2 r k)) ⊥
  simp only [Nat.add_le_add_iff_left] at e
  rw [← e, ← mask_eq]
  show Scalar.select (IntOp.cmpi .sle (512#32 + BitVec.ofNat 32 (0 * 512 + k.val)) (512#32 + BitVec.ofNat 32 (0 * 512 + r.val))) _ _ = _
  rw [Nat.zero_mul, Nat.zero_add, Nat.zero_add, BitVec.ofNat_add, BitVec.ofNat_add]
  rfl

/-- The sums divided by their last column. -/
theorem quotient_apply (x : FVec Ideal S1024x256 .f32) (r : Fin 1024) (c : Fin 128) :
    k0_pay305 (F := Ideal) x (ix2 r c) = Ideal.div (x (ix2 r ⟨c.val, by have := c.isLt; omega⟩)) (x (ix2 r 128)) := by
  show Ideal.div (extractStridedSlice S1024x128 ![0, 0] x slices_S1024x256_o0_0_S1024x128 (ix2 r c))
    (broadcastTo S1024x128 (extractStridedSlice S1024x1 ![0, 128] x slices_S1024x256_o0_128_S1024x1) broadcasts_S1024x1_S1024x128 (ix2 r c)) = _
  rw [extractStridedSlice_apply ![0, 0] x slices_S1024x256_o0_0_S1024x128 (ix2 r c) (ix2 r ⟨c.val, by have := c.isLt; omega⟩) (fun a => by
        match a with
        | ⟨0, _⟩ => show r.val = 0 + r.val; omega
        | ⟨1, _⟩ => show c.val = 0 + c.val; omega),
    broadcastTo_apply (extractStridedSlice S1024x1 ![0, 128] x slices_S1024x256_o0_128_S1024x1) broadcasts_S1024x1_S1024x128 (ix2 r c) (ix2 r 0) (fun a => by
        match a with
        | ⟨0, _⟩ => rfl
        | ⟨1, _⟩ => rfl),
    extractStridedSlice_apply ![0, 128] x slices_S1024x256_o0_128_S1024x1 (ix2 r 0) (ix2 r 128) (fun a => by
        match a with
        | ⟨0, _⟩ => show r.val = 0 + r.val; omega
        | ⟨1, _⟩ => rfl)]

/-- A query row's score with each key, none beyond the last key. -/
def scores (x0 : Vec Ideal S1x1024x256 .bf16) (x2 : Vec Ideal S1x256x16384 .bf16) (r : Fin 1024) (n : ℕ) : EReal :=
  if h : n < 16384 then ∑ d : Fin 256, x0 (ix3 0 r d) * x2 (ix3 0 d ⟨n, h⟩) else ⊥

/-- A column of the values. -/
def column (x3 : Vec Ideal S1x16384x256 .bf16) (c : Fin 256) (n : ℕ) : EReal :=
  if h : n < 16384 then x3 (ix3 0 ⟨n, h⟩ c) else 0

theorem causal_ne_top {s : ℕ → EReal} (hs : ∀ k, s k ≠ ⊤) (R k : ℕ) : causal s R k ≠ ⊤ := by
  unfold causal; split
  · exact hs k
  · exact bot_ne_top

theorem top_causal (s : ℕ → EReal) {R n : ℕ} (h : n ≤ R + 1) : top (causal s R) n = top s n :=
  Finset.sup_congr rfl fun k hk => if_pos (by have := Finset.mem_range.1 hk; omega)

theorem wsum_causal (s v : ℕ → EReal) (m : EReal) {R n : ℕ} (h : n ≤ R + 1) : wsum (causal s R) v m n = wsum s v m n :=
  Finset.sum_congr rfl fun k hk => by rw [causal, if_pos (by have := Finset.mem_range.1 hk; omega)]

/-- The scores of a chunk. -/
theorem chunk_scores (x0 : Vec Ideal S1x1024x256 .bf16) (x2 : Vec Ideal S1x256x16384 .bf16) (r : Fin 1024) (n : ℕ) (hn : n < 32) (k : Fin 512) :
    k0_pay256 (F := Ideal) x0 (kchunk x2 n) (ix2 r k) = scores x0 x2 r (512 * n + k.val) := by
  have hk := k.isLt
  rw [score1024, scores, dif_pos (by omega)]
  refine Finset.sum_congr rfl fun d _ => ?_
  rw [kchunk_apply]
  congr 4
  show 512 * (n % 32) + k.val = _
  rw [Nat.mod_eq_of_lt hn]

/-- A row of the lower half. -/
abbrev lowRow (r : Fin 512) : Fin 1024 := ⟨512 + r.val, by have := r.isLt; omega⟩

theorem exists_lowRow (r : Fin 1024) (h : 512 ≤ r.val) : ∃ r' : Fin 512, r = lowRow r' := by
  have hr := r.isLt
  exact ⟨⟨r.val - 512, by omega⟩, Fin.ext (by show r.val = 512 + (r.val - 512); omega)⟩

theorem qlow_apply (x0 : Vec Ideal S1x1024x256 .bf16) (r : Fin 512) (d : Fin 256) :
    qlow x0 (ix3 0 r d) = x0 (ix3 0 (lowRow r) d) := by
  show x0 _ = x0 _
  refine congrArg x0 (funext fun a => Fin.ext ?_)
  match a with
  | ⟨0, _⟩ => rfl
  | ⟨1, _⟩ => show 512 + 1 * r.val = 512 + r.val; omega
  | ⟨2, _⟩ => show 0 + 1 * d.val = d.val; omega

/-- The scores of the lower queries with a chunk. -/
theorem chunk_scores_low (x0 : Vec Ideal S1x1024x256 .bf16) (x2 : Vec Ideal S1x256x16384 .bf16) (r : Fin 512) (n : ℕ) (hn : n < 32) (k : Fin 512) :
    k0_pay287 (F := Ideal) (qlow x0) (kchunk x2 n) (ix2 r k) = scores x0 x2 (lowRow r) (512 * n + k.val) := by
  have hk := k.isLt
  rw [score512, scores, dif_pos (by omega)]
  refine Finset.sum_congr rfl fun d _ => ?_
  rw [kchunk_apply, qlow_apply]
  congr 4
  show 512 * (n % 32) + k.val = _
  rw [Nat.mod_eq_of_lt hn]

/-- The values of a chunk. -/
theorem chunk_column (x3 : Vec Ideal S1x16384x256 .bf16) (n : ℕ) (hn : n < 32) (k : Fin 512) (c : Fin 256) :
    vchunk x3 n (ix3 0 k c) = column x3 c (512 * n + k.val) := by
  have hk := k.isLt
  rw [vchunk_apply, column, dif_pos (by omega)]
  congr 2
  exact Fin.ext (show 512 * (n % 32) + k.val = _ by rw [Nat.mod_eq_of_lt hn])

/-- A row of the running maximum and of the running sums, over the keys below `n`. -/
def Holds (s : ℕ → EReal) (v : Fin 256 → ℕ → EReal) (n : ℕ) {R : ℕ} (r : Fin R) (m : (⟨2, ![R, 128]⟩ : Shape).Idx → EReal) (a : (⟨2, ![R, 256]⟩ : Shape).Idx → EReal) : Prop :=
  (∀ l : Fin 128, m (ix2 r l) = top s n) ∧ ∀ c : Fin 256, a (ix2 r c) = wsum s (v c) (top s n) n

/-- One chunk more. -/
theorem more1024 (s : ℕ → EReal) (hs : ∀ k, s k ≠ ⊤) (v : Fin 256 → ℕ → EReal) (n : ℕ) (r : Fin 1024)
    (m : FVec Ideal S1024x128 .f32) (a : FVec Ideal S1024x256 .f32) (h : Holds s v n r m a)
    (sc : FVec Ideal S1024x512 .f32) (vc : Vec Ideal S1x512x256 .bf16)
    (hsc : ∀ k : Fin 512, sc (ix2 r k) = s (n + k.val)) (hvc : ∀ (k : Fin 512) (c : Fin 256), vc (ix3 0 k c) = v c (n + k.val)) :
    Holds s v (n + 512) r (k0_pay277 (F := Ideal) sc m) (k0_pay278 (F := Ideal) sc m vc a) := by
  have ht : max (top s n) ((Finset.univ : Finset (Fin 512)).sup fun k => sc (ix2 r k)) = top s (n + 512) := by
    rw [top_add, show (fun k : Fin 512 => sc (ix2 r k)) = fun k => s (n + k.val) from funext hsc]
  refine ⟨fun l => ?_, fun c => ?_⟩
  · rw [rowmax1024, h.1 l, ht]
  · rw [sums1024 sc m vc a r c _ _ h.1 ht, h.2 c, ← step s (v c) hs n 512]
    refine congrArg (_ + ·) (Finset.sum_congr rfl fun k _ => ?_)
    rw [hsc k, hvc k c]

/-- One chunk more, of the lower queries. -/
theorem more512 (s : ℕ → EReal) (hs : ∀ k, s k ≠ ⊤) (v : Fin 256 → ℕ → EReal) (n : ℕ) (r : Fin 512)
    (m : FVec Ideal S512x128 .f32) (a : FVec Ideal S512x256 .f32) (h : Holds s v n r m a)
    (sc : FVec Ideal S512x512 .f32) (vc : Vec Ideal S1x512x256 .bf16)
    (hsc : ∀ k : Fin 512, msk sc (ix2 r k) = s (n + k.val)) (hvc : ∀ (k : Fin 512) (c : Fin 256), vc (ix3 0 k c) = v c (n + k.val)) (c : Fin 256) :
    k0_pay303 (F := Ideal) (k0_pay298 sc) (k0_pay299 sc) (k0_pay300 sc) (k0_pay301 sc) m (k0_pay302 sc m) vc a (ix2 r c)
      = wsum s (v c) (top s (n + 512)) (n + 512) := by
  have ht : max (top s n) ((Finset.univ : Finset (Fin 512)).sup fun k => msk sc (ix2 r k)) = top s (n + 512) := by
    rw [top_add, show (fun k : Fin 512 => msk sc (ix2 r k)) = fun k => s (n + k.val) from funext hsc]
  rw [sums512 sc m vc a r c _ _ h.1 ht, h.2 c, ← step s (v c) hs n 512]
  refine congrArg (_ + ·) (Finset.sum_congr rfl fun k _ => ?_)
  rw [hsc k, hvc k c]

theorem keep279 (sc : FVec Ideal S1024x512 .f32) (m : FVec Ideal S1024x128 .f32) : k0_pay279 (F := Ideal) sc m = k0_pay277 (F := Ideal) sc m := shapeCast_self _ _
theorem keep295 (m : FVec Ideal S1024x128 .f32) : k0_pay295 (F := Ideal) m = m := shapeCast_self _ _

/-- After `j` pairs of chunks the state holds the keys below `1024 j`, and the scores of the next chunk. -/
theorem pairs_row (x0 : Vec Ideal S1x1024x256 .bf16) (x2 : Vec Ideal S1x256x16384 .bf16) (x3 : Vec Ideal S1x16384x256 .bf16) (r : Fin 1024)
    (hs : ∀ k, scores x0 x2 r k ≠ ⊤) (b : FVec Ideal S1024x512 .f32) (j : ℕ) (hj : j < 16) :
    let st := pairs x0 x2 x3 (k0_pay256 (F := Ideal) x0 (kchunk x2 0), b, k0_pay254 (F := Ideal), k0_pay255 (F := Ideal)) j
    (∀ k : Fin 512, st.1 (ix2 r k) = scores x0 x2 r (1024 * j + k.val)) ∧ Holds (scores x0 x2 r) (column x3) (1024 * j) r st.2.2.1 st.2.2.2 := by
  induction j with
  | zero =>
    refine ⟨fun k => ?_, fun l => ?_, fun c => ?_⟩
    · exact chunk_scores x0 x2 r 0 (by decide) k
    · refine Eq.trans ?_ (show (⊥ : EReal) = _ by simp [top])
      show shapeCast S1024x128 (broadcast S1024x128 (Named.named (F := Ideal) (φ := .f32) κ "mask" 0xF149F2CA#32)) shapeCasts_S1024x128_S1024x128 (ix2 r l) = ⊥
      rw [shapeCast_self]
      exact mask_eq
    · refine Eq.trans ?_ (show (0 : EReal) = _ by simp [wsum])
      show shapeCast S1024x256 (broadcast S1024x256 (Scalar.ofBits (F := Ideal) .f32 0x00000000#32)) shapeCasts_S1024x256_S1024x256 (ix2 r c) = 0
      rw [shapeCast_self]
      exact Ideal.ofBits_zero_f32
  | succ j ih =>
    obtain ⟨hsc, hh⟩ := ih (by omega)
    generalize hst : pairs x0 x2 x3 (k0_pay256 (F := Ideal) x0 (kchunk x2 0), b, k0_pay254 (F := Ideal), k0_pay255 (F := Ideal)) j = st at hsc hh
    intro st'
    have hst' : st' = pair x0 x2 x3 j st := by rw [← hst]; rfl
    rw [hst']
    have h1 := more1024 _ hs _ _ r _ _ hh st.1 (vchunk x3 (2 * j)) hsc (fun k c => by
      rw [chunk_column x3 (2 * j) (by omega) k c]; congr 1; omega)
    have h2 := more1024 _ hs _ _ r _ _ h1 (k0_pay256 x0 (kchunk x2 (2 * j + 1))) (vchunk x3 (2 * j + 1)) (fun k => by
      rw [chunk_scores x0 x2 r (2 * j + 1) (by omega) k]; congr 1; omega) (fun k c => by
      rw [chunk_column x3 (2 * j + 1) (by omega) k c]; congr 1; omega)
    refine ⟨fun k => ?_, ?_⟩
    · show k0_pay256 (F := Ideal) x0 (kchunk x2 (2 * j + 2)) (ix2 r k) = _
      rw [chunk_scores x0 x2 r (2 * j + 2) (by omega) k]; congr 1; omega
    · rw [show 1024 * (j + 1) = 1024 * j + 512 + 512 by omega]
      have e : k0_pay279 (F := Ideal) st.1 st.2.2.1 = k0_pay277 (F := Ideal) st.1 st.2.2.1 := keep279 _ _
      have e' : k0_pay279 (F := Ideal) (k0_pay256 x0 (kchunk x2 (2 * j + 1))) (k0_pay277 (F := Ideal) st.1 st.2.2.1)
        = k0_pay277 (F := Ideal) (k0_pay256 x0 (kchunk x2 (2 * j + 1))) (k0_pay277 (F := Ideal) st.1 st.2.2.1) := keep279 _ _
      unfold pair
      dsimp only
      rw [e, e']
      exact h2

/-- The lower half of the maximum and of the sums. -/
theorem mlow_apply (m : FVec Ideal S1024x128 .f32) (r : Fin 512) (l : Fin 128) :
    mlow (F := Ideal) m (ix2 r l) = m (ix2 (lowRow r) l) := by
  show m _ = m _
  refine congrArg m (funext fun a => Fin.ext ?_)
  match a with
  | ⟨0, _⟩ => show 512 + 1 * r.val = 512 + r.val; omega
  | ⟨1, _⟩ => show 0 + 1 * l.val = l.val; omega
theorem alow_apply (m : FVec Ideal S1024x256 .f32) (r : Fin 512) (l : Fin 256) :
    alow (F := Ideal) m (ix2 r l) = m (ix2 (lowRow r) l) := by
  show m _ = m _
  refine congrArg m (funext fun a => Fin.ext ?_)
  match a with
  | ⟨0, _⟩ => show 512 + 1 * r.val = 512 + r.val; omega
  | ⟨1, _⟩ => show 0 + 1 * l.val = l.val; omega

/-- Replacing the lower half of the sums, read in either half. -/
theorem put_upper (a : FVec Ideal S1024x256 .f32) (w : FVec Ideal S512x256 .f32) (r : Fin 1024) (hr : r.val < 512) (c : Fin 256) :
    VecWindow.put a ![512, 0] S512x256.size w (ix2 r c) = a (ix2 r c) :=
  dif_neg fun h => by
    have h0 : 512 ≤ r.val := (h 0).1
    omega
theorem put_lower (a : FVec Ideal S1024x256 .f32) (w : FVec Ideal S512x256 .f32) (r : Fin 512) (c : Fin 256) :
    VecWindow.put a ![512, 0] S512x256.size w (ix2 (lowRow r) c) = w (ix2 r c) := by
  have hr := r.isLt
  have hc := c.isLt
  have h : ∀ x : Fin S1024x256.rank, (![512, 0] : Fin 2 → ℕ) x ≤ ((ix2 (lowRow r) c : S1024x256.Idx) x).val
      ∧ ((ix2 (lowRow r) c : S1024x256.Idx) x).val < (![512, 0] : Fin 2 → ℕ) x + S512x256.size x := fun x => by
    match x with
    | ⟨0, _⟩ => show 512 ≤ 512 + r.val ∧ 512 + r.val < 512 + 512; omega
    | ⟨1, _⟩ => show 0 ≤ c.val ∧ c.val < 0 + 256; omega
  refine (dif_pos h).trans (congrArg w (funext fun x => Fin.ext ?_))
  match x with
  | ⟨0, _⟩ => show 512 + r.val - 512 = r.val; omega
  | ⟨1, _⟩ => show c.val - 0 = c.val; omega

/-- After the diagonal the sums hold every key a query may look at. -/
theorem sums_row (x0 : Vec Ideal S1x1024x256 .bf16) (x2 : Vec Ideal S1x256x16384 .bf16) (x3 : Vec Ideal S1x16384x256 .bf16) (r : Fin 1024)
    (hs : ∀ k, scores x0 x2 r k ≠ ⊤) (q : ℕ) (hq : q < 16) (st : St Ideal)
    (hsc : ∀ k : Fin 512, st.1 (ix2 r k) = scores x0 x2 r (1024 * q + k.val))
    (hh : Holds (scores x0 x2 r) (column x3) (1024 * q) r st.2.2.1 st.2.2.2) (c : Fin 256) :
    VecWindow.put (diag0 x3 q st).2 ![512, 0] S512x256.size (diag1 x0 x2 x3 q (mlow (diag0 x3 q st).1) (alow (diag0 x3 q st).2)) (ix2 r c)
      = wsum (causal (scores x0 x2 r) (1024 * q + r.val)) (column x3 c) (top (causal (scores x0 x2 r) (1024 * q + r.val)) 16384) 16384 := by
  have hr := r.isLt
  have hC := causal_ne_top hs (1024 * q + r.val)
  have h0 : Holds (causal (scores x0 x2 r) (1024 * q + r.val)) (column x3) (1024 * q) r st.2.2.1 st.2.2.2 :=
    ⟨fun l => by rw [top_causal _ (by omega)]; exact hh.1 l, fun c => by rw [top_causal _ (by omega), wsum_causal _ _ _ (by omega)]; exact hh.2 c⟩
  have h1 := more1024 _ hC _ _ r _ _ h0 (k0_pay288 (F := Ideal) st.1) (vchunk x3 (2 * q)) (fun k => by
      rw [mask1024, hsc k, causal]
      simp only [Nat.add_le_add_iff_left]) (fun k c => by
      rw [chunk_column x3 (2 * q) (by omega) k c]; congr 1; omega)
  have e1 : k0_pay277 (F := Ideal) (k0_pay288 (F := Ideal) st.1) st.2.2.1 = (diag0 x3 q st).1 := (keep295 _).symm
  have e2 : k0_pay278 (F := Ideal) (k0_pay288 (F := Ideal) st.1) st.2.2.1 (vchunk x3 (2 * q)) st.2.2.2 = (diag0 x3 q st).2 := rfl
  rw [e1, e2] at h1
  rcases Nat.lt_or_ge r.val 512 with hlt | hge
  · have hb : ∀ k, 1024 * q + 512 ≤ k → causal (scores x0 x2 r) (1024 * q + r.val) k = ⊥ := fun k hk => if_neg (by omega)
    rw [put_upper _ _ r hlt, top_stop _ (n := 1024 * q + 512) (by omega) hb, wsum_stop _ _ _ (n := 1024 * q + 512) (by omega) hb]
    exact h1.2 c
  · obtain ⟨r', rfl⟩ := exists_lowRow r hge
    have hr' := r'.isLt
    generalize hS : causal (scores x0 x2 (lowRow r')) (1024 * q + (lowRow r').val) = C at hC h1 ⊢
    have h2 : Holds C (column x3) (1024 * q + 512) r' (mlow (diag0 x3 q st).1) (alow (diag0 x3 q st).2) :=
      ⟨fun l => (mlow_apply _ r' l).trans (h1.1 l), fun c => (alow_apply _ r' c).trans (h1.2 c)⟩
    have hb : ∀ k, 1024 * q + 512 + 512 ≤ k → C k = ⊥ := fun k hk => hS ▸ if_neg (by show ¬ k ≤ 1024 * q + (512 + r'.val); omega)
    rw [put_lower, top_stop _ (n := 1024 * q + 512 + 512) (by omega) hb, wsum_stop _ _ _ (n := 1024 * q + 512 + 512) (by omega) hb]
    refine more512 C hC (column x3) (1024 * q + 512) r' _ _ h2 (k0_pay287 (qlow x0) (kchunk x2 (2 * q + 1))) (vchunk x3 (2 * q + 1)) (fun k => ?_) (fun k c => ?_) c
    · rw [mask512, chunk_scores_low x0 x2 r' (2 * q + 1) (by omega) k, ← hS, causal, show 512 * (2 * q + 1) + k.val = 1024 * q + 512 + k.val by omega]
      have : (1024 * q + 512 + k.val ≤ 1024 * q + (lowRow r').val) ↔ k.val ≤ r'.val := by
        show 1024 * q + 512 + k.val ≤ 1024 * q + (512 + r'.val) ↔ _
        omega
      simp only [this]
    · rw [chunk_column x3 (2 * q + 1) (by omega) k c]; congr 1; omega

/-- An output row: the normalised sums, gated. -/
theorem outBlk_row (x0 : Vec Ideal S1x1024x256 .bf16) (x2 : Vec Ideal S1x256x16384 .bf16) (x3 : Vec Ideal S1x16384x256 .bf16) (x4 : Vec Ideal S1024x128 .bf16)
    (r : Fin 1024) (hs : ∀ k, scores x0 x2 r k ≠ ⊤) (q : ℕ) (hq : q < 16) (c : Fin 128) :
    outBlk x0 x2 x3 x4 q (k0_pay256 (F := Ideal) x0 (kchunk x2 0)) (ix2 r c)
      = Ideal.div
          (wsum (causal (scores x0 x2 r) (1024 * q + r.val)) (column x3 ⟨c.val, by have := c.isLt; omega⟩) (top (causal (scores x0 x2 r) (1024 * q + r.val)) 16384) 16384)
          (wsum (causal (scores x0 x2 r) (1024 * q + r.val)) (column x3 128) (top (causal (scores x0 x2 r) (1024 * q + r.val)) 16384) 16384)
        * ((x4 (ix2 r c) : EReal) * Ideal.logistic (x4 (ix2 r c))) := by
  obtain ⟨hsc, hh⟩ := pairs_row x0 x2 x3 r hs (k0_pay256 (F := Ideal) x0 (kchunk x2 0)) q hq
  have hsum := sums_row x0 x2 x3 r hs q hq _ hsc hh
  unfold outBlk outOf
  generalize pairs x0 x2 x3 (k0_pay256 (F := Ideal) x0 (kchunk x2 0), k0_pay256 (F := Ideal) x0 (kchunk x2 0), k0_pay254 (F := Ideal), k0_pay255 (F := Ideal)) q = st at hsum
  show k0_pay305 (F := Ideal) _ (ix2 r c) * k0_pay306 (F := Ideal) x4 (ix2 r c) = _
  rw [quotient_apply, hsum, hsum]
  rfl

end Cert.KernelIdeal.Val
-- ==== Proof.Windows.lean ====
/- What each grid point's blocks hold, index by index, in terms of the arguments. -/
module

public import proofs.«01_k».proof.Proof.Array
public import proofs.«01_k».proof.Proof.Rows
public import Idealize.ShloMosaic.Lib.Claim

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Where the input windows' blocks lie at each point. -/
theorem places : ∀ t : Fin cfg0.N,
    (win0_0.index t (0 : Fin 3) = t.val / 16 ∧ win0_0.index t (1 : Fin 3) = t.val % 16 ∧ win0_0.index t (2 : Fin 3) = 0)
    ∧ (win0_1.index t (0 : Fin 3) = t.val / 16 ∧ win0_1.index t (1 : Fin 3) = min (t.val % 16 + 1) 15 ∧ win0_1.index t (2 : Fin 3) = 0)
    ∧ (win0_2.index t (0 : Fin 3) = t.val / 16 ∧ win0_2.index t (1 : Fin 3) = 0 ∧ win0_2.index t (2 : Fin 3) = 0)
    ∧ (win0_3.index t (0 : Fin 3) = t.val / 16 ∧ win0_3.index t (1 : Fin 3) = 0 ∧ win0_3.index t (2 : Fin 3) = 0)
    ∧ (win0_4.index t (0 : Fin 2) = t.val % 16 ∧ win0_4.index t (1 : Fin 2) = t.val / 16)
    ∧ (grid0.coords t 1).val = t.val % 16 :=
  (by decide +kernel : ∀ t : Fin grid0.N,
    (win0_0.index t (0 : Fin 3) = t.val / 16 ∧ win0_0.index t (1 : Fin 3) = t.val % 16 ∧ win0_0.index t (2 : Fin 3) = 0)
    ∧ (win0_1.index t (0 : Fin 3) = t.val / 16 ∧ win0_1.index t (1 : Fin 3) = min (t.val % 16 + 1) 15 ∧ win0_1.index t (2 : Fin 3) = 0)
    ∧ (win0_2.index t (0 : Fin 3) = t.val / 16 ∧ win0_2.index t (1 : Fin 3) = 0 ∧ win0_2.index t (2 : Fin 3) = 0)
    ∧ (win0_3.index t (0 : Fin 3) = t.val / 16 ∧ win0_3.index t (1 : Fin 3) = 0 ∧ win0_3.index t (2 : Fin 3) = 0)
    ∧ (win0_4.index t (0 : Fin 2) = t.val % 16 ∧ win0_4.index t (1 : Fin 2) = t.val / 16)
    ∧ (grid0.coords t 1).val = t.val % 16)

theorem pt_lt (t : Fin cfg0.N) : t.val < 64 := lt_of_lt_of_eq t.isLt N_0

/-- A point's head, and the row of a block as a row of the whole. -/
abbrev headOf (t : Fin cfg0.N) : Fin 4 := ⟨t.val / 16, by have := pt_lt t; omega⟩
abbrev rowOf (t : Fin cfg0.N) (r : Fin 1024) : Fin 16384 := ⟨1024 * (t.val % 16) + r.val, by have := r.isLt; omega⟩
abbrev nextRowOf (t : Fin cfg0.N) (r : Fin 1024) : Fin 16384 := ⟨1024 * min (t.val % 16 + 1) 15 + r.val, by have := r.isLt; omega⟩

theorem block0 (c : Dev nD) (t : Fin cfg0.N) (r : Fin 1024) (d : Fin 256) :
    (iblk m c 0 t : S1x1024x256.Idx → EReal) (ix3 0 r d) = (m ((c : Thread nD τ).loc main_arg0) : S4x16384x256.Idx → EReal) (ix3 (headOf t) (rowOf t r) d) := by
  obtain ⟨⟨e0, e1, e2⟩, -⟩ := places t
  rw [← V_main_arg0 m c]
  show V m c main_arg0 (((cfg0.win 0).blk t).view.emb (ix3 0 r d)) = _
  refine congrArg (V m c main_arg0) (funext fun a => Fin.ext ?_)
  match a with
  | ⟨0, _⟩ => show win0_0.index t (0 : Fin 3) * 1 + 1 * 0 = t.val / 16; rw [e0]; omega
  | ⟨1, _⟩ => show win0_0.index t (1 : Fin 3) * 1024 + 1 * r.val = 1024 * (t.val % 16) + r.val; rw [e1]; omega
  | ⟨2, _⟩ => show win0_0.index t (2 : Fin 3) * 256 + 1 * d.val = d.val; rw [e2]; omega

theorem block1 (c : Dev nD) (t : Fin cfg0.N) (r : Fin 1024) (d : Fin 256) :
    (iblk m c 1 t : S1x1024x256.Idx → EReal) (ix3 0 r d) = (m ((c : Thread nD τ).loc main_arg0) : S4x16384x256.Idx → EReal) (ix3 (headOf t) (nextRowOf t r) d) := by
  obtain ⟨-, ⟨e0, e1, e2⟩, -⟩ := places t
  rw [← V_main_arg0 m c]
  show V m c main_arg0 (((cfg0.win 1).blk t).view.emb (ix3 0 r d)) = _
  refine congrArg (V m c main_arg0) (funext fun a => Fin.ext ?_)
  match a with
  | ⟨0, _⟩ => show win0_1.index t (0 : Fin 3) * 1 + 1 * 0 = t.val / 16; rw [e0]; omega
  | ⟨1, _⟩ => show win0_1.index t (1 : Fin 3) * 1024 + 1 * r.val = 1024 * min (t.val % 16 + 1) 15 + r.val; rw [e1]; omega
  | ⟨2, _⟩ => show win0_1.index t (2 : Fin 3) * 256 + 1 * d.val = d.val; rw [e2]; omega

theorem block2 (c : Dev nD) (t : Fin cfg0.N) (d : Fin 256) (k : Fin 16384) :
    (iblk m c 2 t : S1x256x16384.Idx → EReal) (ix3 0 d k) = (m ((c : Thread nD τ).loc main_arg1) : S4x256x16384.Idx → EReal) (ix3 (headOf t) d k) := by
  obtain ⟨-, -, ⟨e0, e1, e2⟩, -⟩ := places t
  rw [← V_main_arg1 m c]
  show V m c main_arg1 (((cfg0.win 2).blk t).view.emb (ix3 0 d k)) = _
  refine congrArg (V m c main_arg1) (funext fun a => Fin.ext ?_)
  match a with
  | ⟨0, _⟩ => show win0_2.index t (0 : Fin 3) * 1 + 1 * 0 = t.val / 16; rw [e0]; omega
  | ⟨1, _⟩ => show win0_2.index t (1 : Fin 3) * 256 + 1 * d.val = d.val; rw [e1]; omega
  | ⟨2, _⟩ => show win0_2.index t (2 : Fin 3) * 16384 + 1 * k.val = k.val; rw [e2]; omega

theorem block3 (c : Dev nD) (t : Fin cfg0.N) (k : Fin 16384) (j : Fin 256) :
    (iblk m c 3 t : S1x16384x256.Idx → EReal) (ix3 0 k j) = (V m c main_v5 : S4x16384x256.Idx → EReal) (ix3 (headOf t) k j) := by
  obtain ⟨-, -, -, ⟨e0, e1, e2⟩, -⟩ := places t
  show V m c main_v5 (((cfg0.win 3).blk t).view.emb (ix3 0 k j)) = _
  refine congrArg (V m c main_v5) (funext fun a => Fin.ext ?_)
  match a with
  | ⟨0, _⟩ => show win0_3.index t (0 : Fin 3) * 1 + 1 * 0 = t.val / 16; rw [e0]; omega
  | ⟨1, _⟩ => show win0_3.index t (1 : Fin 3) * 16384 + 1 * k.val = k.val; rw [e1]; omega
  | ⟨2, _⟩ => show win0_3.index t (2 : Fin 3) * 256 + 1 * j.val = j.val; rw [e2]; omega

theorem block4 (c : Dev nD) (t : Fin cfg0.N) (r : Fin 1024) (j : Fin 128) :
    (iblk m c 4 t : S1024x128.Idx → EReal) (ix2 r j) = (m ((c : Thread nD τ).loc main_arg3) : S16384x512.Idx → EReal)
      (ix2 (rowOf t r) ⟨128 * (t.val / 16) + j.val, by have := pt_lt t; have := j.isLt; omega⟩) := by
  obtain ⟨-, -, -, -, ⟨e0, e1⟩, -⟩ := places t
  rw [← V_main_arg3 m c]
  show V m c main_arg3 (((cfg0.win 4).blk t).view.emb (ix2 r j)) = _
  refine congrArg (V m c main_arg3) (funext fun a => Fin.ext ?_)
  match a with
  | ⟨0, _⟩ => show win0_4.index t (0 : Fin 2) * 1024 + 1 * r.val = 1024 * (t.val % 16) + r.val; rw [e0]; omega
  | ⟨1, _⟩ => show win0_4.index t (1 : Fin 2) * 128 + 1 * j.val = 128 * (t.val / 16) + j.val; rw [e1]; omega

/-- The column appended to the values: one in its first place, zero elsewhere. -/
def unitCol : Vec Ideal S128 .bf16 :=
  uitofp (F := Ideal) .bf16 (cmpi .eq (iotaInDim S128 32 0) (broadcastInDim S128 ![] bcast_S_S128 (constantI S_ 32 0#32)))

theorem padded (c : Dev nD) : V m c main_v5 = concatenate S4x16384x256 2
    [⟨S4x16384x128, m ((c : Thread nD τ).loc main_arg2)⟩, ⟨S4x16384x128, broadcastInDim S4x16384x128 ![2] bcast_S128_S4x16384x128_2 unitCol⟩]
    concatenates_S4x16384x128_S4x16384x128_S4x16384x256_d2 := by
  entry_read
  rfl

theorem unitCol_zero : unitCol (ix1 0) = (1 : EReal) := by
  show FloatOps.uitofp (F := Ideal) .bf16 (IntOp.cmpi .eq (BitVec.ofNat 32 0) 0#32) = (1 : EReal)
  rw [show IntOp.cmpi .eq (BitVec.ofNat 32 0) 0#32 = 1#1 from by decide]
  show (((1#1 : BitVec 1).toNat : ℝ) : EReal) = 1
  simp

/-- The padded values: the values, then the column of ones. -/
theorem padded_val (c : Dev nD) (h : Fin 4) (k : Fin 16384) (j : Fin 128) :
    (V m c main_v5 : S4x16384x256.Idx → EReal) (ix3 h k ⟨j.val, by have := j.isLt; omega⟩) = (m ((c : Thread nD τ).loc main_arg2) : S4x16384x128.Idx → EReal) (ix3 h k j) := by
  rw [padded]
  exact concatenate_pair_apply_left 2 _ _ concatenates_S4x16384x128_S4x16384x128_S4x16384x256_d2 (ix3 h k ⟨j.val, by have := j.isLt; omega⟩) rfl (ix3 h k j) (fun b => by
    match b with
    | ⟨0, _⟩ => rfl
    | ⟨1, _⟩ => rfl
    | ⟨2, _⟩ => rfl)

theorem padded_one (c : Dev nD) (h : Fin 4) (k : Fin 16384) :
    @Eq EReal ((V m c main_v5 : S4x16384x256.Idx → EReal) (ix3 h k 128)) 1 := by
  rw [padded]
  refine (concatenate_pair_apply_right 2 _ _ concatenates_S4x16384x128_S4x16384x128_S4x16384x256_d2 (ix3 h k 128) rfl rfl (ix3 h k 0) (fun b hb => by
    match b with
    | ⟨0, _⟩ => rfl
    | ⟨1, _⟩ => rfl
    | ⟨2, _⟩ => exact absurd rfl hb) rfl).trans ?_
  refine (broadcastInDim_apply _ bcast_S128_S4x16384x128_2 unitCol (ix3 h k 0) (ix1 0) (fun a => by
    match a with
    | ⟨0, _⟩ => rfl)).trans unitCol_zero

/-- Two blocks that agree at every row and column are the same. -/
theorem same_block {a b : ℕ} (x y : (⟨3, ![1, a, b]⟩ : Shape).Idx → EReal) (h : ∀ (r : Fin a) (d : Fin b), x (ix3 0 r d) = y (ix3 0 r d)) : x = y :=
  funext fun i => by
    obtain ⟨z, r, d, rfl⟩ : ∃ (z : Fin 1) (r : Fin a) (d : Fin b), i = ix3 z r d := ⟨i 0, i 1, i 2, eq_ix3 i⟩
    rw [Subsingleton.elim z 0]
    exact h r d

/-- Every point starts from its own scores with the first chunk: the scores carried over from the point before
    are those of the same queries and the same keys. -/
theorem start_eq (c : Dev nD) (t : Fin cfg0.N) : start m c t = k0_pay256 (F := Ideal) (iblk m c 0 t) (kchunk (iblk m c 2 t) 0) := by
  have ht := pt_lt t
  unfold start
  split
  · rfl
  · rename_i h0
    have hp : t.val - 1 < cfg0.N := lt_of_le_of_lt (Nat.sub_le _ _) t.isLt
    have e1 : (iblk m c 1 ⟨t.val - 1, hp⟩ : S1x1024x256.Idx → EReal) = iblk m c 0 t := by
      refine same_block _ _ fun r d => ?_
      refine (block1 m c ⟨t.val - 1, hp⟩ r d).trans (Eq.trans ?_ (block0 m c t r d).symm)
      congr 1
      refine congrArg₂ (fun a b => (ix3 a b d : S4x16384x256.Idx)) (Fin.ext ?_) (Fin.ext ?_)
      · show (t.val - 1) / 16 = t.val / 16; omega
      · show 1024 * min ((t.val - 1) % 16 + 1) 15 + r.val = 1024 * (t.val % 16) + r.val; omega
    have e2 : (iblk m c 2 ⟨t.val - 1, hp⟩ : S1x256x16384.Idx → EReal) = iblk m c 2 t := by
      refine same_block _ _ fun r d => ?_
      refine (block2 m c ⟨t.val - 1, hp⟩ r d).trans (Eq.trans ?_ (block2 m c t r d).symm)
      congr 1
      refine congrArg (fun a => (ix3 a r d : S4x256x16384.Idx)) (Fin.ext ?_)
      show (t.val - 1) / 16 = t.val / 16; omega
    show k0_pay256 (F := Ideal) (iblk m c 1 ⟨t.val - 1, hp⟩) (kchunk (iblk m c 2 ⟨t.val - 1, hp⟩) 0) = _
    exact congrArg₂ (fun a b => k0_pay256 (F := Ideal) a (kchunk b 0)) e1 e2

open Cert.Online

/-- The scores of a block's rows are the scores of the whole's. -/
theorem scores_eq (c : Dev nD) (t : Fin cfg0.N) (r : Fin 1024) :
    scores (iblk m c 0 t) (iblk m c 2 t) r = score (m ((c : Thread nD τ).loc main_arg0)) (m ((c : Thread nD τ).loc main_arg1)) (headOf t) (rowOf t r) := by
  funext n
  unfold scores score
  by_cases hn : n < 16384
  · rw [dif_pos hn, dif_pos hn]
    refine Finset.sum_congr rfl fun d _ => ?_
    exact congrArg₂ (· * ·) (block0 m c t r d) (block2 m c t d ⟨n, hn⟩)
  · rw [dif_neg hn, dif_neg hn]

/-- What a point writes, entry by entry. -/
theorem blk5_apply (c : Dev nD) (t : Fin cfg0.N) (r : Fin 1024) (j : Fin 128)
    (hs : ∀ k, score (m ((c : Thread nD τ).loc main_arg0)) (m ((c : Thread nD τ).loc main_arg1)) (headOf t) (rowOf t r) k ≠ ⊤) :
    (blk5 m c t : S1024x128.Idx → EReal) (ix2 r j) = attend (m ((c : Thread nD τ).loc main_arg0)) (m ((c : Thread nD τ).loc main_arg1)) (m ((c : Thread nD τ).loc main_arg2)) (m ((c : Thread nD τ).loc main_arg3))
      (rowOf t r) (headOf t) j := by
  have hq : (grid0.coords t 1).val = t.val % 16 := (places t).2.2.2.2.2
  unfold blk5
  rw [start_eq, hq]
  refine (outBlk_row (iblk m c 0 t) (iblk m c 2 t) (iblk m c 3 t) (iblk m c 4 t) r (by rw [scores_eq]; exact hs) (t.val % 16) (Nat.mod_lt _ (by decide)) j).trans ?_
  rw [scores_eq]
  unfold attend entry
  refine congrArg₂ (· * ·) (congrArg₂ Ideal.div (wsum_congr _ _ _ _ _ _ (fun _ _ => rfl) fun k hk => ?_) (wsum_congr _ _ _ _ _ _ (fun _ _ => rfl) fun k hk => ?_)) ?_
  · rw [column, dif_pos hk, value, dif_pos hk]
    exact (block3 m c t ⟨k, hk⟩ _).trans (padded_val m c _ _ j)
  · rw [column, dif_pos hk]
    exact (block3 m c t ⟨k, hk⟩ _).trans (padded_one m c _ _)
  · exact congrArg (fun z : EReal => z * Ideal.logistic z) (block4 m c t r j)

end Cert.KernelIdeal.Val
-- ==== Proof.Reference.lean ====
/- The reference read entry by entry: it is the gated causal attention of the four arrays. -/
module

public import proofs.«01_k».proof.Proof.Gen.ReferenceIdeal.Read
public import proofs.«01_k».proof.Proof.Spec
public import Idealize.ShloMosaic.Lib.WordCmp

@[expose] public section

set_option maxRecDepth 16384

noncomputable section

namespace Cert.ReferenceIdeal.Val

open Cert.ReferenceIdeal Cert.ReferenceIdeal.Gen Cert.ReferenceIdeal.Read Idealize.ShloMosaic
open Idealize.ShloMosaic.ValueIdx Cert.Online

variable (Q : S4x16384x256.Idx → EReal) (K : S4x256x16384.Idx → EReal) (V : S4x16384x128.Idx → EReal) (Z : S16384x512.Idx → EReal)

theorem low : Ideal.ofBits .f32 0xFF800000#32 = ⊥ := by simp [Ideal.ofBits, Ideal.ieee]

theorem one : Ideal.ofBits .f32 0x3F800000#32 = 1 := by
  simp [Ideal.ofBits, Ideal.ieee]
  rw [← EReal.coe_mul]
  norm_num

theorem two : Ideal.ofBits .f32 0x40000000#32 = ((2 : ℝ) : EReal) := by
  simp [Ideal.ofBits, Ideal.ieee]
  rw [← EReal.coe_mul]
  norm_num

/-- The scores of a query with its keys. -/
theorem dots (h : Fin 4) (R k : Fin 16384) : @Eq EReal (val_main_v2 (F := Ideal) Q K (ix3 h R k)) (score Q K h R k.val) := by
  rw [score, dif_pos k.isLt, val_main_v2_apply]
  refine Finset.sum_congr rfl fun d _ => ?_
  refine congrArg₂ (fun a b => (Q a * K b : EReal)) (funext fun a => ?_) (funext fun a => ?_)
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The later keys left out. -/
theorem masked (h : Fin 4) (R k : Fin 16384) : @Eq EReal (val_main_v9 (F := Ideal) Q K (ix3 h R k)) (causal (score Q K h R) R.val k.val) := by
  have hk := k.isLt
  have hR := R.isLt
  rw [val_main_v9_apply, val_main_call0_v1_apply, val_main_v8_apply, val_main_v6_apply, val_main_v7_apply, val_main_v4_apply, val_main_v5_apply,
    val_main_v3_apply, val_main_v3_apply, val_main_call0_v2_apply, val_main_call0_v0_apply, val_main_cst_apply]
  show Scalar.select (IntOp.cmpi .sle (BitVec.ofNat 32 k.val) (BitVec.ofNat 32 R.val)) (val_main_v2 (F := Ideal) Q K (ix3 h R k)) (Ideal.ofBits .f32 0xFF800000#32) = _
  have e : IntOp.cmpi .sle (BitVec.ofNat 32 k.val) (BitVec.ofNat 32 R.val) = BitVec.ofBool (decide (k.val ≤ R.val)) := WordCmp.cmpi_sle_ofNat (by omega) (by omega)
  rw [e, low, causal, dots]
  by_cases hl : k.val ≤ R.val <;> simp [Scalar.select, hl]

/-- The greatest score of a query. -/
theorem greatest (h : Fin 4) (R : Fin 16384) : @Eq EReal (val_main_v11 (F := Ideal) Q K (ix2 h R)) (top (causal (score Q K h R) R.val) 16384) := by
  have hred : S4x16384x16384.Reduces [2] S4x16384 := by decide
  unfold val_main_v11
  rw [Host.reduce_eq_fold_single FloatOps.maximumf _ _ reducesTo_S4x16384x16384_S4x16384_d2 hred h_S_]
  show Finset.fold max (Ideal.ofBits .f32 0xFF800000#32) (val_main_v9 (F := Ideal) Q K ∘ hred.lift (ix2 h R)) (Finset.univ : Finset (Fin 16384)) = _
  rw [low]
  have hf : ∀ k : Fin 16384, (val_main_v9 (F := Ideal) Q K ∘ hred.lift (ix2 h R)) k = causal (score Q K h R) R.val k.val := fun k => by
    refine Eq.trans (congrArg (val_main_v9 (F := Ideal) Q K) (funext fun a => Fin.ext ?_)) (masked Q K h R k)
    match a with
    | ⟨0, _⟩ => rfl
    | ⟨1, _⟩ => rfl
    | ⟨2, _⟩ => rfl
  rw [show (val_main_v9 (F := Ideal) Q K ∘ hred.lift (ix2 h R)) = fun k : Fin 16384 => causal (score Q K h R) R.val k.val from funext hf]
  have ht := top_add (causal (score Q K h R) R.val) 0 16384
  simp only [Nat.zero_add] at ht
  rw [ht, show top (causal (score Q K h R) R.val) 0 = ⊥ from by simp [top], max_eq_right bot_le]
  rfl

/-- The weight of a key. -/
theorem weight (h : Fin 4) (R k : Fin 16384) : @Eq EReal (val_main_v17 (F := Ideal) Q K (ix3 h R k))
    (Ideal.exp2 (causal (score Q K h R) R.val k.val - top (causal (score Q K h R) R.val) 16384)) := by
  rw [val_main_v17_apply, val_main_v16_apply, val_main_v15_apply, val_main_v10_apply, val_main_cst_0_apply, val_main_v14_apply, val_main_v13_apply, val_main_v12_apply]
  show Ideal.exp (Ideal.log (Ideal.ofBits .f32 0x40000000#32) * (val_main_v9 (F := Ideal) Q K (ix3 h R k) - val_main_v11 (F := Ideal) Q K (idx_main_v12 (idx_main_v13 (ix3 h R k))))) = _
  have e : idx_main_v12 (idx_main_v13 (ix3 h R k)) = ix2 h R := funext fun a => by
    match a with
    | ⟨0, _⟩ => rfl
    | ⟨1, _⟩ => rfl
  rw [e, masked, greatest, two, Ideal.log_coe, if_neg (by norm_num), exp_log_two]

/-- The sum of the weights. -/
theorem total (h : Fin 4) (R : Fin 16384) : @Eq EReal (val_main_v18 (F := Ideal) Q K (ix2 h R))
    (wsum (causal (score Q K h R) R.val) (fun _ => 1) (top (causal (score Q K h R) R.val) 16384) 16384) := by
  rw [val_main_v18_apply, val_main_cst_2_apply]
  show Ideal.ofBits .f32 0x00000000#32 + _ = _
  rw [Ideal.ofBits_zero_f32, zero_add, wsum, ← Fin.sum_univ_eq_sum_range (fun k => Ideal.exp2 (causal (score Q K h R) R.val k - top (causal (score Q K h R) R.val) 16384) * 1)]
  refine Finset.sum_congr rfl fun k _ => ?_
  rw [mul_one, ← weight]
  refine congrArg (val_main_v17 (F := Ideal) Q K) (funext fun a => ?_)
  match a with
  | ⟨0, _⟩ => rfl
  | ⟨1, _⟩ => rfl
  | ⟨2, _⟩ => rfl

/-- The attention of a head. -/
theorem head (h : Fin 4) (R : Fin 16384) (j : Fin 128) (hs : ∀ k, causal (score Q K h R) R.val k ≠ ⊤) (hb : causal (score Q K h R) R.val R.val ≠ ⊥) :
    @Eq EReal (val_main_v23 (F := Ideal) Q K V (ix3 h j R)) (entry (causal (score Q K h R) R.val) (value V h j)) := by
  rw [entry, normalise _ _ hs 16384 R.val R.isLt hb, val_main_v23_apply,
    ← Fin.sum_univ_eq_sum_range (fun k => value V h j k * Ideal.div (Ideal.exp2 (causal (score Q K h R) R.val k - top (causal (score Q K h R) R.val) 16384))
      (wsum (causal (score Q K h R) R.val) (fun _ => 1) (top (causal (score Q K h R) R.val) 16384) 16384))]
  refine Finset.sum_congr rfl fun k _ => ?_
  have e : ridx_main_v23 (ix3 h j R) k = ix3 h R k := funext fun a => by
    match a with
    | ⟨0, _⟩ => rfl
    | ⟨1, _⟩ => rfl
    | ⟨2, _⟩ => rfl
  have e' : idx_main_v19 (idx_main_v20 (ix3 h R k)) = ix2 h R := funext fun a => by
    match a with
    | ⟨0, _⟩ => rfl
    | ⟨1, _⟩ => rfl
  rw [e, val_main_v21_apply, val_main_v20_apply, val_main_v19_apply, e', value, dif_pos k.isLt, ← weight Q K h R k, ← total Q K h R]
  refine congrArg₂ (fun a b => (a * b : EReal)) ?_ rfl
  show V _ = V _
  refine congrArg V (funext fun a => ?_)
  match a with
  | ⟨0, _⟩ => rfl
  | ⟨1, _⟩ => rfl
  | ⟨2, _⟩ => rfl

/-- The reference's result. -/
theorem result (h : Fin 4) (R : Fin 16384) (j : Fin 128) (hs : ∀ k, causal (score Q K h R) R.val k ≠ ⊤) (hb : causal (score Q K h R) R.val R.val ≠ ⊥) :
    @Eq EReal (val_main_v29 (F := Ideal) Q K V Z (ix2 R ⟨128 * h.val + j.val, by have := h.isLt; have := j.isLt; omega⟩)) (attend Q K V Z R h j) := by
  have hh := h.isLt
  have hj := j.isLt
  have hR := R.isLt
  unfold attend
  rw [val_main_v29_apply, val_main_v28_apply, val_main_v25_apply, val_main_v24_apply, val_main_v27_apply, val_main_call1_v5_apply, val_main_call1_v4_apply,
    val_main_call1_cst_0_apply, val_main_call1_v3_apply, val_main_call1_v2_apply, val_main_call1_cst_apply, val_main_call1_v1_apply, val_main_call1_v0_apply, val_main_v26_apply]
  have e : idx_main_v24 (idx_main_v25 (ix2 R ⟨128 * h.val + j.val, by omega⟩)) = ix3 h j R := funext fun a => Fin.ext (by
    match a with
    | ⟨0, _⟩ => show (R.val * 512 + (128 * h.val + j.val)) / 128 % 4 = h.val; omega
    | ⟨1, _⟩ => show (R.val * 512 + (128 * h.val + j.val)) % 128 = j.val; omega
    | ⟨2, _⟩ => show (R.val * 512 + (128 * h.val + j.val)) / 512 = R.val; omega)
  rw [e, ← head Q K V h R j hs hb]
  show (_ : EReal) * (_ * Ideal.div (Ideal.ofBits .f32 0x3F800000#32) (Ideal.ofBits .f32 0x3F800000#32 + Ideal.exp (- _))) = _
  rw [one]
  rfl

end Cert.ReferenceIdeal.Val
-- ==== Proof.Finish.lean ====
/- Finite queries and keys give finite scores; with that the kernel's results are the reference's. -/
module

public import proofs.«01_k».proof.Defs
public import proofs.«01_k».proof.Proof.Windows
public import proofs.«01_k».proof.Proof.Reference
public import proofs.«01_k».proof.Proof.Gen.ReferenceIdeal.Run

@[expose] public section

set_option maxRecDepth 16384

noncomputable section

namespace Cert.Proof

open Idealize.ShloMosaic Idealize.ShloMosaic.TcCoe Idealize.SL.Sem Idealize.ShloMosaic.ValueIdx Cert.Online

/-- The facts of the precondition's function. -/
theorem finiteFacts : Cert.Pre_finite.Facts where
  bcast_S_S4x16384x256 := by decide
  transposes_S4x256x16384_S4x16384x256_0_2_1 := by decide

theorem both_one : ∀ a b : BitVec 1, a &&& b = 1#1 → a = 1#1 ∧ b = 1#1 := by decide

theorem infinity : Ideal.ofBits .bf16 0x7F80#16 = ⊤ := by simp [Ideal.ofBits, Ideal.ieee]

/-- A value whose distance from zero is below infinity is a real number. -/
theorem real_of_lt (x : EReal) (h : Ideal.cmp .olt (max x (-x)) ⊤ = 1#1) : ∃ r : ℝ, x = r := by
  have hlt : max x (-x) < ⊤ := by
    by_contra hc
    simp [Ideal.cmp, hc] at h
  have h1 : x ≠ ⊤ := fun e => by simp [e] at hlt
  have h2 : x ≠ ⊥ := fun e => by simp [e] at hlt
  exact ⟨x.toReal, (EReal.coe_toReal h1 h2).symm⟩

section Finite

variable [Cert.Pre_finite.Facts]
variable (Q : (⟨3, ![4, 16384, 256]⟩ : Shape).Idx → EReal) (K : (⟨3, ![4, 256, 16384]⟩ : Shape).Idx → EReal)
  (V : (⟨3, ![4, 16384, 128]⟩ : Shape).Idx → EReal) (Z : (⟨2, ![16384, 512]⟩ : Shape).Idx → EReal)
  (hpre : Cert.Pre_finite.fn (F := Ideal) Q K V Z = fun _ => 1#1)

include hpre

theorem reals (h : Fin 4) (R : Fin 16384) (d : Fin 256) : (∃ r : ℝ, Q (ix3 h R d) = r) ∧ ∃ r : ℝ, K (ix3 h d R) = r := by
  have e := both_one _ _ (congrFun hpre (ix3 h R d))
  have eq : Ideal.cmp .olt (max (Q (ix3 h R d)) (-Q (ix3 h R d))) (Ideal.ofBits .bf16 0x7F80#16) = 1#1 := e.1
  have ek : Ideal.cmp .olt (max (transpose Cert.Pre_finite.S4x16384x256 [0, 2, 1] K Cert.Pre_finite.Facts.transposes_S4x256x16384_S4x16384x256_0_2_1 (ix3 h R d))
      (-transpose Cert.Pre_finite.S4x16384x256 [0, 2, 1] K Cert.Pre_finite.Facts.transposes_S4x256x16384_S4x16384x256_0_2_1 (ix3 h R d))) (Ideal.ofBits .bf16 0x7F80#16) = 1#1 := e.2
  rw [infinity] at eq ek
  rw [transpose_apply [0, 2, 1] K Cert.Pre_finite.Facts.transposes_S4x256x16384_S4x16384x256_0_2_1 (ix3 h R d) (ix3 h d R) (fun b => by
    match b with
    | ⟨0, _⟩ => rfl
    | ⟨1, _⟩ => rfl
    | ⟨2, _⟩ => rfl)] at ek
  exact ⟨real_of_lt _ eq, real_of_lt _ ek⟩

/-- The score with a key there is. -/
theorem score_real (h : Fin 4) (R : Fin 16384) (n : ℕ) (hn : n < 16384) : ∃ r : ℝ, score Q K h R n = r := by
  rw [score, dif_pos hn]
  refine Finset.sum_induction _ (fun x : EReal => ∃ r : ℝ, x = r) ?_ ⟨0, by simp⟩ ?_
  · rintro _ _ ⟨a, rfl⟩ ⟨b, rfl⟩
    exact ⟨a + b, (EReal.coe_add a b).symm⟩
  · intro d _
    obtain ⟨a, ha⟩ := (reals Q K V Z hpre h R d).1
    obtain ⟨b, hb⟩ := (reals Q K V Z hpre h ⟨n, hn⟩ d).2
    exact ⟨a * b, by rw [ha, hb, EReal.coe_mul]⟩

theorem score_ne_top (h : Fin 4) (R : Fin 16384) (n : ℕ) : score Q K h R n ≠ ⊤ := by
  by_cases hn : n < 16384
  · obtain ⟨r, hr⟩ := score_real Q K V Z hpre h R n hn
    rw [hr]; exact EReal.coe_ne_top r
  · rw [score, dif_neg hn]; exact bot_ne_top

theorem own_ne_bot (h : Fin 4) (R : Fin 16384) : causal (score Q K h R) R.val R.val ≠ ⊥ := by
  obtain ⟨r, hr⟩ := score_real Q K V Z hpre h R R.val R.isLt
  rw [causal, if_pos le_rfl, hr]
  exact EReal.coe_ne_bot r

end Finite

/-- The kernel's array of results is the reference's. -/
theorem same [Cert.Pre_finite.Facts] (m : (ℓ : Loc Cert.KernelIdeal.nD Cert.KernelIdeal.τ Cert.KernelIdeal.sig) → Buf (Elt Ideal) ℓ) (c : Dev Cert.KernelIdeal.nD)
    (hpre : Cert.Pre_finite.fn (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3)) = fun _ => 1#1)
    (i : Cert.KernelIdeal.S16384x512.Idx) :
    @Eq EReal (Cert.ReferenceIdeal.Read.val_main_v29 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3)) i)
      (Cert.KernelIdeal.Val.R5 m c i) := by
  have h0 : (i 0).val < 16384 := (i 0).isLt
  have h1 : (i 1).val < 512 := (i 1).isLt
  have hk := Cert.KernelIdeal.Val.blk5_apply m c ⟨Cert.KernelIdeal.Val.ptOf i, Cert.KernelIdeal.Val.ptOf_lt i⟩ ⟨(i 0).val % 1024, Nat.mod_lt _ (by decide)⟩ ⟨(i 1).val % 128, Nat.mod_lt _ (by decide)⟩
    (score_ne_top _ _ _ _ hpre _ _)
  have hr := Cert.ReferenceIdeal.Val.result (m ((c : Thread Cert.KernelIdeal.nD Cert.KernelIdeal.τ).loc Cert.KernelIdeal.main_arg0)) (m ((c : Thread Cert.KernelIdeal.nD Cert.KernelIdeal.τ).loc Cert.KernelIdeal.main_arg1))
    (m ((c : Thread Cert.KernelIdeal.nD Cert.KernelIdeal.τ).loc Cert.KernelIdeal.main_arg2)) (m ((c : Thread Cert.KernelIdeal.nD Cert.KernelIdeal.τ).loc Cert.KernelIdeal.main_arg3))
    ⟨(i 1).val / 128, by omega⟩ ⟨(i 0).val, h0⟩ ⟨(i 1).val % 128, Nat.mod_lt _ (by decide)⟩
    (Cert.KernelIdeal.Val.causal_ne_top (score_ne_top _ _ _ _ hpre _ _) _) (own_ne_bot _ _ _ _ hpre _ _)
  have er : Cert.KernelIdeal.Val.rowOf ⟨Cert.KernelIdeal.Val.ptOf i, Cert.KernelIdeal.Val.ptOf_lt i⟩ ⟨(i 0).val % 1024, Nat.mod_lt _ (by decide)⟩ = ⟨(i 0).val, h0⟩ :=
    Fin.ext (by show 1024 * (((i 0).val / 1024 + 16 * ((i 1).val / 128)) % 16) + (i 0).val % 1024 = (i 0).val; omega)
  have eh : Cert.KernelIdeal.Val.headOf ⟨Cert.KernelIdeal.Val.ptOf i, Cert.KernelIdeal.Val.ptOf_lt i⟩ = ⟨(i 1).val / 128, by omega⟩ :=
    Fin.ext (by show ((i 0).val / 1024 + 16 * ((i 1).val / 128)) / 16 = (i 1).val / 128; omega)
  rw [er, eh] at hk
  have ei : i = ix2 ⟨(i 0).val, h0⟩ ⟨128 * ((i 1).val / 128) + (i 1).val % 128, by omega⟩ := funext fun a => Fin.ext (by
    match a with
    | ⟨0, _⟩ => rfl
    | ⟨1, _⟩ => show (i 1).val = 128 * ((i 1).val / 128) + (i 1).val % 128; omega)
  have el : Cert.KernelIdeal.Val.locOf i = ix2 ⟨(i 0).val % 1024, Nat.mod_lt _ (by decide)⟩ ⟨(i 1).val % 128, Nat.mod_lt _ (by decide)⟩ := funext fun a => by
    match a with
    | ⟨0, _⟩ => rfl
    | ⟨1, _⟩ => rfl
  refine Eq.trans ?_ (hr.trans ?_)
  · exact congrArg (Cert.ReferenceIdeal.Read.val_main_v29 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3))) ei
  · refine hk.symm.trans ?_
    show _ = Cert.KernelIdeal.Val.blk5 m c ⟨Cert.KernelIdeal.Val.ptOf i, Cert.KernelIdeal.Val.ptOf_lt i⟩ (Cert.KernelIdeal.Val.locOf i)
    exact (congrArg (Cert.KernelIdeal.Val.blk5 m c ⟨Cert.KernelIdeal.Val.ptOf i, Cert.KernelIdeal.Val.ptOf_lt i⟩) el).symm

/-- The kernel and the reference end with the same results. -/
theorem algebraic : Cert.algebraic_KernelIdeal_ReferenceIdeal_pre_finite (hPre_finite := finiteFacts) := by
  intro m g m' g' hpre hagree
  refine ⟨fun c => Cert.KernelIdeal.Val.R5 m c, Cert.KernelIdeal.Val.run_named m g, ?_⟩
  refine (θ_run Cert.ReferenceIdeal.defs _ _).mono (fun _ h c => ⟨(h c).1.trans ?_, (h c).2⟩) (Cert.ReferenceIdeal.Value.run (F := Ideal) m' g')
  obtain ⟨a0, a1, a2, a3⟩ := hagree c
  rw [Cert.ReferenceIdeal.Read.val_main_v29_eq, a0, a1, a2, a3]
  exact funext fun i => @same finiteFacts m c (hpre c) i

end Cert.Proof

end
-- ==== Proof.Mix.lean ====
/- The output projection over the extended reals, entry by entry: the four heads' rows times the weights, the root
   mean square norm of the row, the gain and the residual. -/
module

public import Idealize.ShloMosaic.Lib.ValueIdx
public import Idealize.ShloMosaic.PureOps.Ideal.Laws

@[expose] public section

noncomputable section

namespace Cert.Mix

open Idealize.ShloMosaic Idealize.ShloMosaic.ValueIdx

/-- One head's part of an entry of the product: its row times the 512 rows of the weights that start at `o`. -/
def part (a : (⟨2, ![16384, 512]⟩ : Shape).Idx → EReal) (w : (⟨3, ![2, 2048, 1024]⟩ : Shape).Idx → EReal) (o : ℕ) (ho : o + 512 ≤ 2048)
    (R : Fin 16384) (j : Fin 1024) : EReal :=
  ∑ k : Fin 512, a (ix2 R k) * w (ix3 0 ⟨o + k.val, by have := k.isLt; omega⟩ j)

/-- An entry of the product. -/
def mixed (a b c d : (⟨2, ![16384, 512]⟩ : Shape).Idx → EReal) (w : (⟨3, ![2, 2048, 1024]⟩ : Shape).Idx → EReal)
    (R : Fin 16384) (j : Fin 1024) : EReal :=
  part a w 0 (by omega) R j + part b w 512 (by omega) R j + part c w 1024 (by omega) R j + part d w 1536 (by omega) R j

/-- An entry of a row, normed by the row's root mean square, scaled by the gain and added to the residual. -/
def normed (y : Fin 1024 → EReal) (x g : EReal) (j : Fin 1024) : EReal :=
  x + y j * Ideal.rsqrt (Ideal.div (∑ k : Fin 1024, y k * y k) (Ideal.ofBits .f32 0x44800000#32) + Ideal.ofBits .f32 0x358637BD#32) * g

/-- A sum over 2048 places is the sum of four sums over 512. -/
theorem sum_four (f : ℕ → EReal) :
    ∑ k : Fin 2048, f k.val = (∑ k : Fin 512, f (0 + k.val)) + (∑ k : Fin 512, f (512 + k.val)) + (∑ k : Fin 512, f (1024 + k.val)) + ∑ k : Fin 512, f (1536 + k.val) := by
  rw [Fin.sum_univ_eq_sum_range f 2048, Fin.sum_univ_eq_sum_range (fun k => f (0 + k)) 512, Fin.sum_univ_eq_sum_range (fun k => f (512 + k)) 512,
    Fin.sum_univ_eq_sum_range (fun k => f (1024 + k)) 512, Fin.sum_univ_eq_sum_range (fun k => f (1536 + k)) 512]
  rw [show (2048 : ℕ) = 1536 + 512 from rfl, Finset.sum_range_add, show (1536 : ℕ) = 1024 + 512 from rfl, Finset.sum_range_add,
    show (1024 : ℕ) = 512 + 512 from rfl, Finset.sum_range_add]
  simp only [Nat.zero_add]

end Cert.Mix

end
-- ==== Proof.MixRun.lean ====
/- What the output projection's body leaves in its block and in the weights it keeps, point by point. -/
module

public import proofs.«01_k».proof.Proof.Mix
public import proofs.«01_k».proof.Proof.Gen.OutprojIdeal.Value
public import Idealize.ShloMosaic.Lib.Pipeline.ReadBack
public import Idealize.ShloMosaic.Lib.Tactic

@[expose] public section

set_option maxRecDepth 16384

noncomputable section

namespace Cert.OutprojIdeal.Val

open Cert.OutprojIdeal Cert.OutprojIdeal.Gen Idealize.ShloMosaic Idealize.ShloMosaic.TcCoe Idealize.SL.Sem
open Idealize.ShloMosaic.ValueIdx

theorem hz : (![0, 0] : Fin 2 → Nat) = fun _ => 0 := funext fun a => by fin_cases a <;> rfl
theorem hz3 : (![0, 0, 0] : Fin 3 → Nat) = fun _ => 0 := funext fun a => by fin_cases a <;> rfl

/-- The four stretches of 512 rows of the weights. -/
def rows0 (W : Vec Ideal S2048x1024 .bf16) : Vec Ideal S512x1024 .bf16 :=
  View.ld W (Rect.unit (s := S2048x1024) ![0, 0] S512x1024.size inb_S2048x1024_S512x1024_0_0)
def rows1 (W : Vec Ideal S2048x1024 .bf16) : Vec Ideal S512x1024 .bf16 :=
  View.ld W (Rect.unit (s := S2048x1024) ![512, 0] S512x1024.size inb_S2048x1024_S512x1024_512_0)
def rows2 (W : Vec Ideal S2048x1024 .bf16) : Vec Ideal S512x1024 .bf16 :=
  View.ld W (Rect.unit (s := S2048x1024) ![1024, 0] S512x1024.size inb_S2048x1024_S512x1024_1024_0)
def rows3 (W : Vec Ideal S2048x1024 .bf16) : Vec Ideal S512x1024 .bf16 :=
  View.ld W (Rect.unit (s := S2048x1024) ![1536, 0] S512x1024.size inb_S2048x1024_S512x1024_1536_0)

/-- The block of results from the blocks read and the weights kept. -/
def block (x0 x1 x2 x3 : Vec Ideal S1024x512 .bf16) (x5 : Vec Ideal S1024x1024 .f32) (x6 : Vec Ideal S1x1024 .f32) (W : Vec Ideal S2048x1024 .bf16) :
    Vec Ideal S1024x1024 .f32 :=
  k0_pay1 (k0_pay3 x0 (rows0 W) x1 (rows1 W) x2 (rows2 W) x3 (rows3 W)) x5 x6 (k0_pay4 x0 (rows0 W) x1 (rows1 W) x2 (rows2 W) x3 (rows3 W))

section Cases

variable (c : Dev nD) (i : grid0.Coords) (a1 : Memref sig .tc .vmem S1024x512 .bf16) (h1 : a1.IsWhole) (a2 : Memref sig .tc .vmem S1024x512 .bf16) (h2 : a2.IsWhole)
  (a3 : Memref sig .tc .vmem S1024x512 .bf16) (h3 : a3.IsWhole) (a4 : Memref sig .tc .vmem S1024x512 .bf16) (h4 : a4.IsWhole) (a5 : Memref sig .tc .vmem S1x2048x1024 .f32) (h5 : a5.IsWhole)
  (a6 : Memref sig .tc .vmem S1024x1024 .f32) (h6 : a6.IsWhole) (a7 : Memref sig .tc .vmem S1x1024 .f32) (h7 : a7.IsWhole) (a8 : Memref sig .tc .vmem S1024x1024 .f32) (h8 : a8.IsWhole)
  (a9 : Memref sig .tc .vmem S2048x1024 .bf16) (h9 : a9.IsWhole)
  (x0 x1 x2 x3 : Vec Ideal S1024x512 .bf16) (x4 : Vec Ideal S1x2048x1024 .f32) (x5 : Vec Ideal S1024x1024 .f32) (x6 : Vec Ideal S1x1024 .f32) (W : Vec Ideal S2048x1024 .bf16)

/-- A later point computes from the weights it finds kept. -/
theorem out_B (hc : ¬cond0_0 i) :
    out0_B_7 c i a1 h1 a2 h2 a3 h3 a4 h4 a5 h5 a6 h6 a7 h7 a8 h8 a9 h9 hc x0 x1 x2 x3 x4 x5 x6 W = block x0 x1 x2 x3 x5 x6 W := by
  unfold out0_B_7
  rw [View.read_writes_eq_canon _ _ _ (cover0_B_7 c i a1 h1 a2 h2 a3 h3 a4 h4 a5 h5 a6 h6 a7 h7 a8 h8 a9 h9 hc x0 x1 x2 x3 x4 x5 x6 W)]
  unfold kernelRun0_B
  dsimp only
  sl_unfold_words
  rw [View.canon_unit_zero hz]
  simp only [View.readAt_eq_ld, h1.read_unread, h2.read_unread, h3.read_unread, h4.read_unread, h6.read_unread, h7.read_unread, h9.read_unread,
    View.ld_unit_zero (S := S1024x512) hz, View.ld_unit_zero (S := S1024x1024) hz, View.ld_unit_zero (S := S1x1024) hz]
  rfl

/-- The first point keeps the weights. -/
theorem kept_A (hc : cond0_0 i) :
    sout0_A_0 c i a1 h1 a2 h2 a3 h3 a4 h4 a5 h5 a6 h6 a7 h7 a8 h8 a9 h9 hc x0 x1 x2 x3 x4 x5 x6 = k0_pay2 x4 := by
  unfold sout0_A_0
  rw [View.read_writes_eq_canon _ _ _ (scover0_A_0 c i a1 h1 a2 h2 a3 h3 a4 h4 a5 h5 a6 h6 a7 h7 a8 h8 a9 h9 hc x0 x1 x2 x3 x4 x5 x6)]
  unfold kernelRun0_A
  dsimp only
  sl_unfold_words
  rw [View.canon_unit_zero hz]
  simp only [View.readAt_eq_ld, h5.read_unread, View.ld_unit_zero (S := S1x2048x1024) hz3]

/-- Loading a stretch of the weights just kept. -/
theorem read_back0 (W : Vec Ideal S2048x1024 .bf16) :
    a9.view.readCov [⟨Rect.unit (s := S2048x1024) ![0, 0] S2048x1024.size inb_S2048x1024_S2048x1024_0_0, W⟩]
      (Rect.unit (s := S2048x1024) ![0, 0] S512x1024.size inb_S2048x1024_S512x1024_0_0).toLoadRect = rows0 W :=
  View.readCov_fill a9.view inb_S2048x1024_S2048x1024_0_0 W [] _ (fun a => by fin_cases a <;> rfl)
theorem read_back1 (W : Vec Ideal S2048x1024 .bf16) :
    a9.view.readCov [⟨Rect.unit (s := S2048x1024) ![0, 0] S2048x1024.size inb_S2048x1024_S2048x1024_0_0, W⟩]
      (Rect.unit (s := S2048x1024) ![512, 0] S512x1024.size inb_S2048x1024_S512x1024_512_0).toLoadRect = rows1 W :=
  View.readCov_fill a9.view inb_S2048x1024_S2048x1024_0_0 W [] _ (fun a => by fin_cases a <;> rfl)
theorem read_back2 (W : Vec Ideal S2048x1024 .bf16) :
    a9.view.readCov [⟨Rect.unit (s := S2048x1024) ![0, 0] S2048x1024.size inb_S2048x1024_S2048x1024_0_0, W⟩]
      (Rect.unit (s := S2048x1024) ![1024, 0] S512x1024.size inb_S2048x1024_S512x1024_1024_0).toLoadRect = rows2 W :=
  View.readCov_fill a9.view inb_S2048x1024_S2048x1024_0_0 W [] _ (fun a => by fin_cases a <;> rfl)
theorem read_back3 (W : Vec Ideal S2048x1024 .bf16) :
    a9.view.readCov [⟨Rect.unit (s := S2048x1024) ![0, 0] S2048x1024.size inb_S2048x1024_S2048x1024_0_0, W⟩]
      (Rect.unit (s := S2048x1024) ![1536, 0] S512x1024.size inb_S2048x1024_S512x1024_1536_0).toLoadRect = rows3 W :=
  View.readCov_fill a9.view inb_S2048x1024_S2048x1024_0_0 W [] _ (fun a => by fin_cases a <;> rfl)

/-- The first point computes from the weights it keeps. -/
theorem out_A (hc : cond0_0 i) :
    out0_A_7 c i a1 h1 a2 h2 a3 h3 a4 h4 a5 h5 a6 h6 a7 h7 a8 h8 a9 h9 hc x0 x1 x2 x3 x4 x5 x6 = block x0 x1 x2 x3 x5 x6 (k0_pay2 x4) := by
  unfold out0_A_7
  rw [View.read_writes_eq_canon _ _ _ (cover0_A_7 c i a1 h1 a2 h2 a3 h3 a4 h4 a5 h5 a6 h6 a7 h7 a8 h8 a9 h9 hc x0 x1 x2 x3 x4 x5 x6)]
  unfold kernelRun0_A
  dsimp only
  sl_unfold_words
  rw [View.canon_unit_zero hz]
  have e1 : View.readAt (Elt Ideal) a1.view (Rect.unit (s := S1024x512) ![0, 0] S1024x512.size inb_S1024x512_S1024x512_0_0).toLoadRect (h1.unread x0) = x0 := by
    rw [View.readAt_eq_ld, h1.read_unread, View.ld_unit_zero (S := S1024x512) hz]
  have e2 : View.readAt (Elt Ideal) a2.view (Rect.unit (s := S1024x512) ![0, 0] S1024x512.size inb_S1024x512_S1024x512_0_0).toLoadRect (h2.unread x1) = x1 := by
    rw [View.readAt_eq_ld, h2.read_unread, View.ld_unit_zero (S := S1024x512) hz]
  have e3 : View.readAt (Elt Ideal) a3.view (Rect.unit (s := S1024x512) ![0, 0] S1024x512.size inb_S1024x512_S1024x512_0_0).toLoadRect (h3.unread x2) = x2 := by
    rw [View.readAt_eq_ld, h3.read_unread, View.ld_unit_zero (S := S1024x512) hz]
  have e4 : View.readAt (Elt Ideal) a4.view (Rect.unit (s := S1024x512) ![0, 0] S1024x512.size inb_S1024x512_S1024x512_0_0).toLoadRect (h4.unread x3) = x3 := by
    rw [View.readAt_eq_ld, h4.read_unread, View.ld_unit_zero (S := S1024x512) hz]
  have e5 : View.readAt (Elt Ideal) a5.view (Rect.unit (s := S1x2048x1024) ![0, 0, 0] S1x2048x1024.size inb_S1x2048x1024_S1x2048x1024_0_0_0).toLoadRect (h5.unread x4) = x4 := by
    rw [View.readAt_eq_ld, h5.read_unread, View.ld_unit_zero (S := S1x2048x1024) hz3]
  have e6 : View.readAt (Elt Ideal) a6.view (Rect.unit (s := S1024x1024) ![0, 0] S1024x1024.size inb_S1024x1024_S1024x1024_0_0).toLoadRect (h6.unread x5) = x5 := by
    rw [View.readAt_eq_ld, h6.read_unread, View.ld_unit_zero (S := S1024x1024) hz]
  have e7 : View.readAt (Elt Ideal) a7.view (Rect.unit (s := S1x1024) ![0, 0] S1x1024.size inb_S1x1024_S1x1024_0_0).toLoadRect (h7.unread x6) = x6 := by
    rw [View.readAt_eq_ld, h7.read_unread, View.ld_unit_zero (S := S1x1024) hz]
  rw [e1, e2, e3, e4, e5, e6, e7, read_back0, read_back1, read_back2, read_back3]
  rfl

end Cases

variable (m : (ℓ : Loc nD τ sig) → Buf (Elt Ideal) ℓ)

theorem first_lt : 0 < cfg0.N := lt_of_lt_of_eq (by decide) N_0.symm

/-- The weights kept from the first point on. -/
def keptW (c : Dev nD) : Vec Ideal S2048x1024 .bf16 := k0_pay2 (iblk m c 4 ⟨0, first_lt⟩)

theorem kept_first (c : Dev nD) (t : Fin cfg0.N) (h0 : t.val % 16 = 0) : (outsAt0 m c t.val t.isLt).2 = k0_pay2 (iblk m c 4 t) := by
  rw [outsAt0_A m c t h0]
  dsimp only
  rw [kept_A]

theorem kept_later (c : Dev nD) (t : Fin cfg0.N) (h0 : ¬t.val % 16 = 0) (h' : t.val - 1 < cfg0.N) :
    (outsAt0 m c t.val t.isLt).2 = (outsAt0 m c (t.val - 1) h').2 := by
  rw [outsAt0_B m c t h0]
  rfl

theorem kept_eq (c : Dev nD) (n : ℕ) : ∀ (k : ℕ) (h : k < cfg0.N), k = n → (outsAt0 m c k h).2 = keptW m c := by
  induction n with
  | zero =>
    intro k h e
    subst e
    exact kept_first m c ⟨0, h⟩ rfl
  | succ n ih =>
    intro k h e
    have hN : cfg0.N = 16 := N_0
    have hB : ¬(⟨k, h⟩ : Fin cfg0.N).val % 16 = 0 := by dsimp only; omega
    exact (kept_later m c ⟨k, h⟩ hB (by dsimp only; omega)).trans (ih _ _ (by dsimp only; omega))

theorem out_first (c : Dev nD) (t : Fin cfg0.N) (h0 : t.val % 16 = 0) :
    (outsAt0 m c t.val t.isLt).1 = block (iblk m c 0 t) (iblk m c 1 t) (iblk m c 2 t) (iblk m c 3 t) (iblk m c 5 t) (iblk m c 6 t) (k0_pay2 (iblk m c 4 t)) := by
  rw [outsAt0_A m c t h0]
  dsimp only
  rw [out_A]

theorem out_later (c : Dev nD) (t : Fin cfg0.N) (h0 : ¬t.val % 16 = 0) (h' : t.val - 1 < cfg0.N) :
    (outsAt0 m c t.val t.isLt).1 = block (iblk m c 0 t) (iblk m c 1 t) (iblk m c 2 t) (iblk m c 3 t) (iblk m c 5 t) (iblk m c 6 t) (outsAt0 m c (t.val - 1) h').2 := by
  rw [outsAt0_B m c t h0]
  dsimp only
  rw [out_B]

/-- The block of results after each point. -/
theorem out_eq (c : Dev nD) (t : Fin cfg0.N) :
    (outsAt0 m c t.val t.isLt).1 = block (iblk m c 0 t) (iblk m c 1 t) (iblk m c 2 t) (iblk m c 3 t) (iblk m c 5 t) (iblk m c 6 t) (keptW m c) := by
  have hN : cfg0.N = 16 := N_0
  have ht := t.isLt
  by_cases h0 : t.val % 16 = 0
  · refine (out_first m c t h0).trans ?_
    obtain rfl : t = ⟨0, first_lt⟩ := Fin.ext (by show t.val = 0; omega)
    rfl
  · refine (out_later m c t h0 (by omega)).trans ?_
    rw [kept_eq m c _ _ _ rfl]

end Cert.OutprojIdeal.Val

end
-- ==== Proof.MixRows.lean ====
/- The output projection's block of results, entry by entry, in terms of the arguments. -/
module

public import proofs.«01_k».proof.Proof.MixRun
public import Idealize.ShloMosaic.Lib.MatmulPlain

@[expose] public section

set_option maxRecDepth 16384

noncomputable section

namespace Cert.OutprojIdeal.Val

open Cert.OutprojIdeal Cert.OutprojIdeal.Gen Idealize.ShloMosaic Idealize.ShloMosaic.TcCoe Idealize.SL.Sem
open Idealize.ShloMosaic.ValueIdx Cert.Mix

/-- A product of a head's block and 512 rows of the weights. -/
theorem dot_apply (x : Vec Ideal S1024x512 .bf16) (w : Vec Ideal S512x1024 .bf16) (r j : Fin 1024) :
    @Eq EReal (matmul (F := Ideal) (φ₁ := .bf16) (φ₂ := .bf16) dot_S1024x512_S512x1024_S1024x1024_1_0_0_1_n_n none x w (constant S1024x1024 .f32 0x00000000#32) (ix2 r j))
      (∑ k : Fin 512, (x (ix2 r k) : EReal) * w (ix2 k j)) := by
  show FloatOps.matmul (F := Ideal) (φ₁ := .bf16) (φ₂ := .bf16) (DotDims.plain 1024 512 1024) none x w (constant ⟨2, ![1024, 1024]⟩ .f32 0x00000000#32) (ix2 r j) = _
  rw [Ideal.matmul_plain_apply]
  show Ideal.ofBits .f32 0x00000000#32 + _ = _
  rw [Ideal.ofBits_zero_f32, zero_add]

/-- The product block at an entry. -/
theorem sum_apply (x0 x1 x2 x3 : Vec Ideal S1024x512 .bf16) (w0 w1 w2 w3 : Vec Ideal S512x1024 .bf16) (r j : Fin 1024) :
    @Eq EReal (k0_pay3 (F := Ideal) x0 w0 x1 w1 x2 w2 x3 w3 (ix2 r j))
      ((∑ k : Fin 512, (x0 (ix2 r k) : EReal) * w0 (ix2 k j)) + (∑ k : Fin 512, (x1 (ix2 r k) : EReal) * w1 (ix2 k j))
        + (∑ k : Fin 512, (x2 (ix2 r k) : EReal) * w2 (ix2 k j)) + ∑ k : Fin 512, (x3 (ix2 r k) : EReal) * w3 (ix2 k j)) := by
  unfold k0_pay3
  exact congrArg₂ (fun a b : EReal => a + b) (congrArg₂ (fun a b : EReal => a + b) (congrArg₂ (fun a b : EReal => a + b)
    (dot_apply x0 w0 r j) (dot_apply x1 w1 r j)) (dot_apply x2 w2 r j)) (dot_apply x3 w3 r j)

/-- The factor of a row of the block. -/
theorem factor_apply (x0 x1 x2 x3 : Vec Ideal S1024x512 .bf16) (w0 w1 w2 w3 : Vec Ideal S512x1024 .bf16) (r j : Fin 1024) :
    @Eq EReal (k0_pay4 (F := Ideal) x0 w0 x1 w1 x2 w2 x3 w3 (ix2 r j))
      (Ideal.rsqrt (Ideal.div (∑ k : Fin 1024, (k0_pay3 (F := Ideal) x0 w0 x1 w1 x2 w2 x3 w3 (ix2 r k) : EReal) * k0_pay3 (F := Ideal) x0 w0 x1 w1 x2 w2 x3 w3 (ix2 r k))
        (Ideal.ofBits .f32 0x44800000#32) + Ideal.ofBits .f32 0x358637BD#32)) := by
  unfold k0_pay4
  generalize k0_pay3 (F := Ideal) x0 w0 x1 w1 x2 w2 x3 w3 = y
  dsimp only
  refine (broadcastTo_apply _ broadcasts_S1024x1_S1024x1024 (ix2 r j) (ix2 r 0) (fun a => by
        match a with
        | ⟨0, _⟩ => rfl
        | ⟨1, _⟩ => rfl)).trans ?_
  refine congrArg Ideal.rsqrt (congrArg₂ (fun a b : EReal => a + b) (congrArg₂ Ideal.div ?_ rfl) rfl)
  refine (shapeCast_apply _ shapeCasts_S1024_S1024x1 (ix2 r 0) (ix1 r) (by rewrite [Shape.rowMajor_val_one, Shape.rowMajor_val_two]; show r.val = r.val * 1 + 0; omega)).trans ?_
  refine (Ideal.multiReduction_add_single _ _ reduces_S1024x1024_S1024 (.inl rfl) rfl (ix1 r)).trans ?_
  refine Finset.sum_congr rfl fun k _ => ?_
  have e : (Shape.Reduces.lift reduces_S1024x1024_S1024 (ix1 r) k : S1024x1024.Idx) = ix2 r k := funext fun a => by
    match a with
    | ⟨0, _⟩ => rfl
    | ⟨1, _⟩ => rfl
  rw [e]
  rfl

/-- The block of results at an entry. -/
theorem block_apply (x0 x1 x2 x3 : Vec Ideal S1024x512 .bf16) (x5 : Vec Ideal S1024x1024 .f32) (x6 : Vec Ideal S1x1024 .f32) (W : Vec Ideal S2048x1024 .bf16) (r j : Fin 1024) :
    @Eq EReal (block x0 x1 x2 x3 x5 x6 W (ix2 r j))
      (normed (fun k => k0_pay3 (F := Ideal) x0 (rows0 W) x1 (rows1 W) x2 (rows2 W) x3 (rows3 W) (ix2 r k)) (x5 (ix2 r j)) (x6 (ix2 0 j)) j) := by
  unfold block k0_pay1 normed
  refine congrArg₂ (fun a b : EReal => a + b) rfl (congrArg₂ (fun a b : EReal => a * b) (congrArg₂ (fun a b : EReal => a * b) rfl (factor_apply ..)) ?_)
  exact broadcastTo_apply x6 broadcasts_S1x1024_S1024x1024 (ix2 r j) (ix2 0 j) (fun a => by
        match a with
        | ⟨0, _⟩ => rfl
        | ⟨1, _⟩ => rfl)

/-- The weights kept, at an entry. -/
theorem cast_apply (x4 : Vec Ideal S1x2048x1024 .f32) (n : Fin 2048) (j : Fin 1024) :
    @Eq EReal (k0_pay2 (F := Ideal) x4 (ix2 n j)) (x4 (ix3 0 n j)) := by
  unfold k0_pay2
  refine (congrFun (shapeCast_self _ _) (ix2 n j)).trans ?_
  refine (shapeCast_dropUnit_apply ![2048, 1024] x4 shapeCasts_S1x2048x1024_S2048x1024 (ix2 n j)).trans (congrArg x4 (funext fun x => ?_))
  match x with
  | ⟨0, _⟩ => rfl
  | ⟨1, _⟩ => rfl
  | ⟨2, _⟩ => rfl

variable (m : (ℓ : Loc nD τ sig) → Buf (Elt Ideal) ℓ)

/-- Where the input windows' blocks lie at each point. -/
theorem places : ∀ t : Fin cfg0.N,
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = t.val ∧ win0_5.index t (1 : Fin 2) = 0) ∧ (win0_6.index t (0 : Fin 2) = 0 ∧ win0_6.index t (1 : Fin 2) = 0) :=
  (by decide +kernel : ∀ t : Fin grid0.N,
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = t.val ∧ win0_5.index t (1 : Fin 2) = 0) ∧ (win0_6.index t (0 : Fin 2) = 0 ∧ win0_6.index t (1 : Fin 2) = 0))

theorem pt_lt (t : Fin cfg0.N) : t.val < 16 := lt_of_lt_of_eq t.isLt N_0

/-- The row of a point's block as a row of the whole. -/
abbrev rowOf (t : Fin cfg0.N) (r : Fin 1024) : Fin 16384 := ⟨1024 * t.val + r.val, by have := pt_lt t; have := r.isLt; omega⟩

theorem block0 (c : Dev nD) (t : Fin cfg0.N) (r : Fin 1024) (k : Fin 512) :
    (iblk m c 0 t : S1024x512.Idx → EReal) (ix2 r k) = (m ((c : Thread nD τ).loc main_arg0) : S16384x512.Idx → EReal) (ix2 (rowOf t r) k) := by
  obtain ⟨⟨e0, e1⟩, -⟩ := places t
  rw [← V_main_arg0 m c]
  show V m c main_arg0 (((cfg0.win 0).blk t).view.emb (ix2 r k)) = _
  refine congrArg (V m c main_arg0) (funext fun a => Fin.ext ?_)
  match a with
  | ⟨0, _⟩ => show win0_0.index t (0 : Fin 2) * 1024 + 1 * r.val = 1024 * t.val + r.val; rw [e0]; omega
  | ⟨1, _⟩ => show win0_0.index t (1 : Fin 2) * 512 + 1 * k.val = k.val; rw [e1]; omega

theorem block1 (c : Dev nD) (t : Fin cfg0.N) (r : Fin 1024) (k : Fin 512) :
    (iblk m c 1 t : S1024x512.Idx → EReal) (ix2 r k) = (m ((c : Thread nD τ).loc main_arg1) : S16384x512.Idx → EReal) (ix2 (rowOf t r) k) := by
  obtain ⟨-, ⟨e0, e1⟩, -⟩ := places t
  rw [← V_main_arg1 m c]
  show V m c main_arg1 (((cfg0.win 1).blk t).view.emb (ix2 r k)) = _
  refine congrArg (V m c main_arg1) (funext fun a => Fin.ext ?_)
  match a with
  | ⟨0, _⟩ => show win0_1.index t (0 : Fin 2) * 1024 + 1 * r.val = 1024 * t.val + r.val; rw [e0]; omega
  | ⟨1, _⟩ => show win0_1.index t (1 : Fin 2) * 512 + 1 * k.val = k.val; rw [e1]; omega

theorem block2 (c : Dev nD) (t : Fin cfg0.N) (r : Fin 1024) (k : Fin 512) :
    (iblk m c 2 t : S1024x512.Idx → EReal) (ix2 r k) = (m ((c : Thread nD τ).loc main_arg2) : S16384x512.Idx → EReal) (ix2 (rowOf t r) k) := by
  obtain ⟨-, -, ⟨e0, e1⟩, -⟩ := places t
  rw [← V_main_arg2 m c]
  show V m c main_arg2 (((cfg0.win 2).blk t).view.emb (ix2 r k)) = _
  refine congrArg (V m c main_arg2) (funext fun a => Fin.ext ?_)
  match a with
  | ⟨0, _⟩ => show win0_2.index t (0 : Fin 2) * 1024 + 1 * r.val = 1024 * t.val + r.val; rw [e0]; omega
  | ⟨1, _⟩ => show win0_2.index t (1 : Fin 2) * 512 + 1 * k.val = k.val; rw [e1]; omega

theorem block3 (c : Dev nD) (t : Fin cfg0.N) (r : Fin 1024) (k : Fin 512) :
    (iblk m c 3 t : S1024x512.Idx → EReal) (ix2 r k) = (m ((c : Thread nD τ).loc main_arg3) : S16384x512.Idx → EReal) (ix2 (rowOf t r) k) := by
  obtain ⟨-, -, -, ⟨e0, e1⟩, -⟩ := places t
  rw [← V_main_arg3 m c]
  show V m c main_arg3 (((cfg0.win 3).blk t).view.emb (ix2 r k)) = _
  refine congrArg (V m c main_arg3) (funext fun a => Fin.ext ?_)
  match a with
  | ⟨0, _⟩ => show win0_3.index t (0 : Fin 2) * 1024 + 1 * r.val = 1024 * t.val + r.val; rw [e0]; omega
  | ⟨1, _⟩ => show win0_3.index t (1 : Fin 2) * 512 + 1 * k.val = k.val; rw [e1]; omega

theorem block4 (c : Dev nD) (t : Fin cfg0.N) (n : Fin 2048) (j : Fin 1024) :
    (iblk m c 4 t : S1x2048x1024.Idx → EReal) (ix3 0 n j) = (m ((c : Thread nD τ).loc main_arg4) : S2x2048x1024.Idx → EReal) (ix3 0 n j) := by
  obtain ⟨-, -, -, -, ⟨e0, e1, e2⟩, -⟩ := places t
  rw [← V_main_arg4 m c]
  show V m c main_arg4 (((cfg0.win 4).blk t).view.emb (ix3 0 n j)) = _
  refine congrArg (V m c main_arg4) (funext fun a => Fin.ext ?_)
  match a with
  | ⟨0, _⟩ => show win0_4.index t (0 : Fin 3) * 1 + 1 * 0 = 0; rw [e0]
  | ⟨1, _⟩ => show win0_4.index t (1 : Fin 3) * 2048 + 1 * n.val = n.val; rw [e1]; omega
  | ⟨2, _⟩ => show win0_4.index t (2 : Fin 3) * 1024 + 1 * j.val = j.val; rw [e2]; omega

theorem block5 (c : Dev nD) (t : Fin cfg0.N) (r j : Fin 1024) :
    (iblk m c 5 t : S1024x1024.Idx → EReal) (ix2 r j) = (m ((c : Thread nD τ).loc main_arg5) : S16384x1024.Idx → EReal) (ix2 (rowOf t r) j) := by
  obtain ⟨-, -, -, -, -, ⟨e0, e1⟩, -⟩ := places t
  rw [← V_main_arg5 m c]
  show V m c main_arg5 (((cfg0.win 5).blk t).view.emb (ix2 r j)) = _
  refine congrArg (V m c main_arg5) (funext fun a => Fin.ext ?_)
  match a with
  | ⟨0, _⟩ => show win0_5.index t (0 : Fin 2) * 1024 + 1 * r.val = 1024 * t.val + r.val; rw [e0]; omega
  | ⟨1, _⟩ => show win0_5.index t (1 : Fin 2) * 1024 + 1 * j.val = j.val; rw [e1]; omega

theorem block6 (c : Dev nD) (t : Fin cfg0.N) (j : Fin 1024) :
    (iblk m c 6 t : S1x1024.Idx → EReal) (ix2 0 j) = (m ((c : Thread nD τ).loc main_arg6) : S1x1024.Idx → EReal) (ix2 0 j) := by
  obtain ⟨-, -, -, -, -, -, e0, e1⟩ := places t
  rw [← V_main_arg6 m c]
  show V m c main_arg6 (((cfg0.win 6).blk t).view.emb (ix2 0 j)) = _
  refine congrArg (V m c main_arg6) (funext fun a => Fin.ext ?_)
  match a with
  | ⟨0, _⟩ => show win0_6.index t (0 : Fin 2) * 1 + 1 * 0 = 0; rw [e0]
  | ⟨1, _⟩ => show win0_6.index t (1 : Fin 2) * 1024 + 1 * j.val = j.val; rw [e1]; omega

/-- The weights kept are the first layer's. -/
theorem keptW_apply (c : Dev nD) (n : Fin 2048) (j : Fin 1024) :
    @Eq EReal (keptW m c (ix2 n j)) ((m ((c : Thread nD τ).loc main_arg4) : S2x2048x1024.Idx → EReal) (ix3 0 n j)) :=
  (cast_apply _ n j).trans (block4 m c _ n j)

theorem rows0_apply (c : Dev nD) (k : Fin 512) (j : Fin 1024) (h : 0 + k.val < 2048) :
    @Eq EReal (rows0 (keptW m c) (ix2 k j)) ((m ((c : Thread nD τ).loc main_arg4) : S2x2048x1024.Idx → EReal) (ix3 0 ⟨0 + k.val, h⟩ j)) := by
  refine Eq.trans ?_ (keptW_apply m c ⟨0 + k.val, h⟩ j)
  show keptW m c _ = keptW m c _
  refine congrArg (keptW m c) (funext fun a => Fin.ext ?_)
  match a with
  | ⟨0, _⟩ => show 0 + 1 * k.val = 0 + k.val; omega
  | ⟨1, _⟩ => show 0 + 1 * j.val = j.val; omega

theorem rows1_apply (c : Dev nD) (k : Fin 512) (j : Fin 1024) (h : 512 + k.val < 2048) :
    @Eq EReal (rows1 (keptW m c) (ix2 k j)) ((m ((c : Thread nD τ).loc main_arg4) : S2x2048x1024.Idx → EReal) (ix3 0 ⟨512 + k.val, h⟩ j)) := by
  refine Eq.trans ?_ (keptW_apply m c ⟨512 + k.val, h⟩ j)
  show keptW m c _ = keptW m c _
  refine congrArg (keptW m c) (funext fun a => Fin.ext ?_)
  match a with
  | ⟨0, _⟩ => show 512 + 1 * k.val = 512 + k.val; omega
  | ⟨1, _⟩ => show 0 + 1 * j.val = j.val; omega

theorem rows2_apply (c : Dev nD) (k : Fin 512) (j : Fin 1024) (h : 1024 + k.val < 2048) :
    @Eq EReal (rows2 (keptW m c) (ix2 k j)) ((m ((c : Thread nD τ).loc main_arg4) : S2x2048x1024.Idx → EReal) (ix3 0 ⟨1024 + k.val, h⟩ j)) := by
  refine Eq.trans ?_ (keptW_apply m c ⟨1024 + k.val, h⟩ j)
  show keptW m c _ = keptW m c _
  refine congrArg (keptW m c) (funext fun a => Fin.ext ?_)
  match a with
  | ⟨0, _⟩ => show 1024 + 1 * k.val = 1024 + k.val; omega
  | ⟨1, _⟩ => show 0 + 1 * j.val = j.val; omega

theorem rows3_apply (c : Dev nD) (k : Fin 512) (j : Fin 1024) (h : 1536 + k.val < 2048) :
    @Eq EReal (rows3 (keptW m c) (ix2 k j)) ((m ((c : Thread nD τ).loc main_arg4) : S2x2048x1024.Idx → EReal) (ix3 0 ⟨1536 + k.val, h⟩ j)) := by
  refine Eq.trans ?_ (keptW_apply m c ⟨1536 + k.val, h⟩ j)
  show keptW m c _ = keptW m c _
  refine congrArg (keptW m c) (funext fun a => Fin.ext ?_)
  match a with
  | ⟨0, _⟩ => show 1536 + 1 * k.val = 1536 + k.val; omega
  | ⟨1, _⟩ => show 0 + 1 * j.val = j.val; omega

/-- A point's product, entry by entry. -/
theorem product (c : Dev nD) (t : Fin cfg0.N) (r j : Fin 1024) :
    @Eq EReal (k0_pay3 (F := Ideal) (iblk m c 0 t) (rows0 (keptW m c)) (iblk m c 1 t) (rows1 (keptW m c)) (iblk m c 2 t) (rows2 (keptW m c)) (iblk m c 3 t) (rows3 (keptW m c)) (ix2 r j))
      (mixed (m ((c : Thread nD τ).loc main_arg0)) (m ((c : Thread nD τ).loc main_arg1)) (m ((c : Thread nD τ).loc main_arg2)) (m ((c : Thread nD τ).loc main_arg3))
        (m ((c : Thread nD τ).loc main_arg4)) (rowOf t r) j) := by
  refine (sum_apply _ _ _ _ _ _ _ _ r j).trans ?_
  unfold mixed part
  refine congrArg₂ (fun a b : EReal => a + b) (congrArg₂ (fun a b : EReal => a + b) (congrArg₂ (fun a b : EReal => a + b) ?_ ?_) ?_) ?_ <;>
    refine Finset.sum_congr rfl fun k _ => ?_
  · exact congrArg₂ (fun a b : EReal => a * b) (block0 m c t r k) (rows0_apply m c k j _)
  · exact congrArg₂ (fun a b : EReal => a * b) (block1 m c t r k) (rows1_apply m c k j _)
  · exact congrArg₂ (fun a b : EReal => a * b) (block2 m c t r k) (rows2_apply m c k j _)
  · exact congrArg₂ (fun a b : EReal => a * b) (block3 m c t r k) (rows3_apply m c k j _)

/-- What a point leaves in its block, entry by entry. -/
theorem point_apply (c : Dev nD) (t : Fin cfg0.N) (r j : Fin 1024) :
    @Eq EReal ((outsAt0 m c t.val t.isLt).1 (ix2 r j))
      (normed (fun k => mixed (m ((c : Thread nD τ).loc main_arg0)) (m ((c : Thread nD τ).loc main_arg1)) (m ((c : Thread nD τ).loc main_arg2)) (m ((c : Thread nD τ).loc main_arg3))
          (m ((c : Thread nD τ).loc main_arg4)) (rowOf t r) k)
        ((m ((c : Thread nD τ).loc main_arg5) : S16384x1024.Idx → EReal) (ix2 (rowOf t r) j)) ((m ((c : Thread nD τ).loc main_arg6) : S1x1024.Idx → EReal) (ix2 0 j)) j) := by
  rw [out_eq]
  refine (block_apply _ _ _ _ _ _ _ r j).trans ?_
  rw [show (fun k => k0_pay3 (F := Ideal) (iblk m c 0 t) (rows0 (keptW m c)) (iblk m c 1 t) (rows1 (keptW m c)) (iblk m c 2 t) (rows2 (keptW m c)) (iblk m c 3 t) (rows3 (keptW m c)) (ix2 r k)) = _
    from funext fun k => product m c t r k]
  exact congrArg₂ (fun x g : EReal => normed _ x g j) (block5 m c t r j) (block6 m c t j)

/-- The array of results at an entry. -/
theorem array_apply (c : Dev nD) (R : Fin 16384) (j : Fin 1024) :
    @Eq EReal (Cert.OutprojIdeal.Value.G7 m c (ix2 R j))
      (normed (fun k => mixed (m ((c : Thread nD τ).loc main_arg0)) (m ((c : Thread nD τ).loc main_arg1)) (m ((c : Thread nD τ).loc main_arg2)) (m ((c : Thread nD τ).loc main_arg3))
          (m ((c : Thread nD τ).loc main_arg4)) R k)
        ((m ((c : Thread nD τ).loc main_arg5) : S16384x1024.Idx → EReal) (ix2 R j)) ((m ((c : Thread nD τ).loc main_arg6) : S1x1024.Idx → EReal) (ix2 0 j)) j) := by
  have hR := R.isLt
  have hj := j.isLt
  have hN : cfg0.N = 16 := N_0
  have hp : Cert.OutprojIdeal.Value.pt7Of (ix2 R j) = R.val / 1024 := by
    show 1 * (R.val / 1024 - 0) + 1 * (j.val / 1024 - 0) = R.val / 1024
    omega
  have ht : R.val / 1024 < cfg0.N := by omega
  have hl : Cert.OutprojIdeal.Value.loc7Of (ix2 R j) = ix2 ⟨R.val % 1024, Nat.mod_lt _ (by decide)⟩ j := funext fun a => Fin.ext (by
    match a with
    | ⟨0, _⟩ => rfl
    | ⟨1, _⟩ => show j.val % 1024 = j.val; omega)
  have hr : rowOf ⟨R.val / 1024, ht⟩ ⟨R.val % 1024, Nat.mod_lt _ (by decide)⟩ = R := Fin.ext (by show 1024 * (R.val / 1024) + R.val % 1024 = R.val; omega)
  unfold Cert.OutprojIdeal.Value.G7
  rw [dif_pos (by rw [hp]; exact ht), hl, Cert.OutprojIdeal.Value.fold0_congr m c _ _ (R.val / 1024) (by omega) hp,
    ← Cert.OutprojIdeal.Value.outsAt0_sweep m c (R.val / 1024) ht]
  refine (point_apply m c ⟨R.val / 1024, ht⟩ ⟨R.val % 1024, Nat.mod_lt _ (by decide)⟩ j).trans ?_
  rw [hr]

end Cert.OutprojIdeal.Val

end
-- ==== Proof.MixReference.lean ====
/- The reference of the output projection, entry by entry. -/
module

public import proofs.«01_k».proof.Proof.Mix
public import proofs.«01_k».proof.Proof.Gen.OutprojRefIdeal.Read
public import Idealize.ShloMosaic.Lib.Pipeline.Value

@[expose] public section

noncomputable section

namespace Cert.OutprojRefIdeal.Val

open Cert.OutprojRefIdeal Cert.OutprojRefIdeal.Gen Cert.OutprojRefIdeal.Read Idealize.ShloMosaic Idealize.ShloMosaic.TcCoe Idealize.SL.Sem
open Idealize.ShloMosaic.ValueIdx Cert.Mix

variable (A B C D : (⟨S16384x512, .bf16⟩ : BufTy).Contents (Elt Ideal)) (W : (⟨S2x2048x1024, .f32⟩ : BufTy).Contents (Elt Ideal))
  (X : (⟨S16384x1024, .f32⟩ : BufTy).Contents (Elt Ideal)) (G : (⟨S1x1024, .f32⟩ : BufTy).Contents (Elt Ideal))

/-- The heads side by side, read in each head's place. -/
theorem cat0 (R : Fin 16384) (k : Fin 512) (n : Fin 2048) (hn : n.val = 0 + k.val) :
    @Eq EReal (val_main_v0 (F := Ideal) A B C D (ix2 R n)) (A (ix2 R k)) := by
  unfold val_main_v0
  refine concatenate_apply_piece (t := S16384x2048) 1 _ _ (ix2 R n) 0 (by simp) S16384x512 A rfl rfl 0 rfl (ix2 R k) (fun b hb => ?_) hn.symm
  match b with
  | ⟨0, _⟩ => rfl
  | ⟨1, _⟩ => exact absurd rfl hb

theorem cat1 (R : Fin 16384) (k : Fin 512) (n : Fin 2048) (hn : n.val = 512 + k.val) :
    @Eq EReal (val_main_v0 (F := Ideal) A B C D (ix2 R n)) (B (ix2 R k)) := by
  unfold val_main_v0
  refine concatenate_apply_piece (t := S16384x2048) 1 _ _ (ix2 R n) 1 (by simp) S16384x512 B rfl rfl 512 rfl (ix2 R k) (fun b hb => ?_) hn.symm
  match b with
  | ⟨0, _⟩ => rfl
  | ⟨1, _⟩ => exact absurd rfl hb

theorem cat2 (R : Fin 16384) (k : Fin 512) (n : Fin 2048) (hn : n.val = 1024 + k.val) :
    @Eq EReal (val_main_v0 (F := Ideal) A B C D (ix2 R n)) (C (ix2 R k)) := by
  unfold val_main_v0
  refine concatenate_apply_piece (t := S16384x2048) 1 _ _ (ix2 R n) 2 (by simp) S16384x512 C rfl rfl 1024 rfl (ix2 R k) (fun b hb => ?_) hn.symm
  match b with
  | ⟨0, _⟩ => rfl
  | ⟨1, _⟩ => exact absurd rfl hb

theorem cat3 (R : Fin 16384) (k : Fin 512) (n : Fin 2048) (hn : n.val = 1536 + k.val) :
    @Eq EReal (val_main_v0 (F := Ideal) A B C D (ix2 R n)) (D (ix2 R k)) := by
  unfold val_main_v0
  refine concatenate_apply_piece (t := S16384x2048) 1 _ _ (ix2 R n) 3 (by simp) S16384x512 D rfl rfl 1536 rfl (ix2 R k) (fun b hb => ?_) hn.symm
  match b with
  | ⟨0, _⟩ => rfl
  | ⟨1, _⟩ => exact absurd rfl hb

/-- The first layer's weights. -/
theorem weights (n : Fin 2048) (j : Fin 1024) : @Eq EReal (val_main_v3 (F := Ideal) W (ix2 n j)) (W (ix3 0 n j)) := by
  have hn := n.isLt
  have hj := j.isLt
  refine (val_main_v3_apply (F := Ideal) W (ix2 n j)).trans ((val_main_v2_apply (F := Ideal) W _).trans (congrArg W (funext fun a => Fin.ext ?_)))
  match a with
  | ⟨0, _⟩ => rfl
  | ⟨1, _⟩ => show (n.val * 1024 + j.val) / 1024 % 2048 = n.val; omega
  | ⟨2, _⟩ => show (n.val * 1024 + j.val) % 1024 = j.val; omega

/-- A term of the product, none beyond the last. -/
def term (R : Fin 16384) (j : Fin 1024) (n : ℕ) : EReal :=
  if h : n < 2048 then (val_main_v0 (F := Ideal) A B C D (ix2 R ⟨n, h⟩) : EReal) * W (ix3 0 ⟨n, h⟩ j) else 0

theorem term_eq (R : Fin 16384) (j : Fin 1024) (n : ℕ) (h : n < 2048) :
    term A B C D W R j n = (val_main_v0 (F := Ideal) A B C D (ix2 R ⟨n, h⟩) : EReal) * W (ix3 0 ⟨n, h⟩ j) := dif_pos h

/-- An entry of the product. -/
theorem product (R : Fin 16384) (j : Fin 1024) :
    @Eq EReal (val_main_v4 (F := Ideal) A B C D W (ix2 R j)) (mixed A B C D W R j) := by
  refine (val_main_v4_apply A B C D W (ix2 R j)).trans ?_
  refine Eq.trans (b := ∑ k : Fin 2048, term A B C D W R j k.val) (Finset.sum_congr rfl fun k _ => ?_) ?_
  · rw [term_eq A B C D W R j k.val k.isLt]
    have e1 : lidx_main_v4 (ix2 R j) k = ix2 R k := funext fun a => by
      match a with
      | ⟨0, _⟩ => rfl
      | ⟨1, _⟩ => rfl
    have e2 : ridx_main_v4 (ix2 R j) k = ix2 k j := funext fun a => by
      match a with
      | ⟨0, _⟩ => rfl
      | ⟨1, _⟩ => rfl
    rw [e1, e2]
    exact congrArg₂ (fun a b : EReal => a * b) rfl (weights W k j)
  · rw [sum_four]
    unfold mixed part
    refine congrArg₂ (fun a b : EReal => a + b) (congrArg₂ (fun a b : EReal => a + b) (congrArg₂ (fun a b : EReal => a + b) ?_ ?_) ?_) ?_ <;>
      refine Finset.sum_congr rfl fun k _ => ?_ <;> have hk := k.isLt <;> rw [term_eq A B C D W R j _ (by omega)]
    · exact congrArg₂ (fun a b : EReal => a * b) (cat0 A B C D R k _ rfl) rfl
    · exact congrArg₂ (fun a b : EReal => a * b) (cat1 A B C D R k _ rfl) rfl
    · exact congrArg₂ (fun a b : EReal => a * b) (cat2 A B C D R k _ rfl) rfl
    · exact congrArg₂ (fun a b : EReal => a * b) (cat3 A B C D R k _ rfl) rfl

/-- A row's sum of squares. -/
theorem squares (R : Fin 16384) :
    @Eq EReal (val_main_v6 (F := Ideal) A B C D W (ix1 R)) (∑ k : Fin 1024, mixed A B C D W R k * mixed A B C D W R k) := by
  refine (val_main_v6_apply A B C D W (ix1 R)).trans ?_
  refine (congrArg₂ (fun a b : EReal => a + b) (Ideal.ofBits_zero_f32 : Ideal.ofBits .f32 0x00000000#32 = 0) (Finset.sum_congr rfl fun k _ => ?_)).trans (zero_add _)
  have e : idx_main_v6 (ix1 R) k = ix2 R k := funext fun a => by
    match a with
    | ⟨0, _⟩ => rfl
    | ⟨1, _⟩ => rfl
  rw [e]
  exact congrArg₂ (fun a b : EReal => a * b) (product A B C D W R k) (product A B C D W R k)

/-- The factor of a row. -/
theorem factor (R : Fin 16384) (j : Fin 1024) :
    @Eq EReal (val_main_v13 (F := Ideal) A B C D W (ix2 R j))
      (Ideal.rsqrt (Ideal.div (∑ k : Fin 1024, mixed A B C D W R k * mixed A B C D W R k) (Ideal.ofBits .f32 0x44800000#32) + Ideal.ofBits .f32 0x358637BD#32)) := by
  refine (val_main_v13_apply (F := Ideal) A B C D W (ix2 R j)).trans ?_
  refine congrArg Ideal.rsqrt (congrArg₂ (fun a b : EReal => a + b) (congrArg₂ Ideal.div ?_ ?_) ?_)
  · refine (val_main_v7_apply (F := Ideal) A B C D W _).trans ?_
    refine Eq.trans ?_ (squares A B C D W R)
    exact congrArg (val_main_v6 (F := Ideal) A B C D W) (funext fun a => by
      match a with
      | ⟨0, _⟩ => rfl)
  · exact val_main_v8_apply (F := Ideal) _
  · exact val_main_v10_apply (F := Ideal) _

/-- An entry of the result. -/
theorem result (R : Fin 16384) (j : Fin 1024) :
    @Eq EReal (val_main_v17 (F := Ideal) A B C D W X G (ix2 R j))
      (normed (fun k => mixed A B C D W R k) (X (ix2 R j)) (G (ix2 0 j)) j) := by
  refine (val_main_v17_apply (F := Ideal) A B C D W X G (ix2 R j)).trans ?_
  unfold normed
  refine congrArg₂ (fun a b : EReal => a + b) rfl ?_
  refine (val_main_v16_apply (F := Ideal) A B C D W G (ix2 R j)).trans ?_
  refine congrArg₂ (fun a b : EReal => a * b) ?_ ?_
  · refine (val_main_v14_apply (F := Ideal) A B C D W (ix2 R j)).trans ?_
    exact congrArg₂ (fun a b : EReal => a * b) (product A B C D W R j) (factor A B C D W R j)
  · refine (val_main_v15_apply (F := Ideal) G (ix2 R j)).trans (congrArg G (funext fun a => ?_))
    match a with
    | ⟨0, _⟩ => rfl
    | ⟨1, _⟩ => rfl

end Cert.OutprojRefIdeal.Val

end
-- ==== Proof.MixFinish.lean ====
/- The output projection and its reference end with the same results. -/
module

public import proofs.«01_k».proof.Defs
public import proofs.«01_k».proof.Proof.MixRows
public import proofs.«01_k».proof.Proof.MixReference
public import proofs.«01_k».proof.Proof.Gen.OutprojRefIdeal.Run
public import Idealize.ShloMosaic.Lib.Claim

@[expose] public section

noncomputable section

namespace Cert.Proof

open Idealize.ShloMosaic Idealize.ShloMosaic.TcCoe Idealize.SL.Sem Idealize.ShloMosaic.ValueIdx

theorem algebraic2 : Cert.algebraic_OutprojIdeal_OutprojRefIdeal := by
  intro m g m' g' _ hagree
  refine ⟨fun c => Cert.OutprojIdeal.Value.G7 m c, Cert.OutprojIdeal.Value.run (F := Ideal) m g, ?_⟩
  refine (θ_run Cert.OutprojRefIdeal.defs _ _).mono (fun _ h c => ⟨(h c).1.trans ?_, (h c).2⟩) (Cert.OutprojRefIdeal.Value.run (F := Ideal) m' g')
  obtain ⟨a0, a1, a2, a3, a4, a5, a6⟩ := hagree c
  rw [Cert.OutprojRefIdeal.Read.val_main_v17_eq, a0, a1, a2, a3, a4, a5, a6]
  funext i
  have ei : i = ix2 (i 0) (i 1) := funext fun a => by
    match a with
    | ⟨0, _⟩ => rfl
    | ⟨1, _⟩ => rfl
  rw [ei]
  exact (Cert.OutprojRefIdeal.Val.result _ _ _ _ _ _ _ (i 0) (i 1)).trans (Cert.OutprojIdeal.Val.array_apply m c (i 0) (i 1)).symm

end Cert.Proof

end
-- ==== Proof.InFrameIdeal.lean ====
/- The frame of the call `inproj`, for the idealized program: the stores of each output cover its
   block, what the outputs hold after each block of rows, the body's triple, the run of the call and
   the frame claim. The steps are those of the other calls' frames; the triple is restated window by
   window here, since this call has twenty-eight windows. -/
module

public import proofs.«01_k».proof.Proof.Gen.InprojIdeal.Frame.RunA
public import Idealize.ShloMosaic.Lib.Claim

@[expose] public section

-- membership in a rectangle of production extents (`View.cover_of_tiled`): the elaborator's structural look
-- recurses once per coordinate of the long axes
set_option maxRecDepth 16384

noncomputable section

namespace Cert.InprojIdeal.Frm

open Cert.InprojIdeal Cert.InprojIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section

variable (c : Dev nD) (i : grid0.Coords) (arg1 : Memref sig .tc .smem S8 .f32) (harg1 : arg1.IsWhole)
  (arg2 : Memref sig .tc .vmem S512x1024 .f32) (harg2 : arg2.IsWhole) (arg3 : Memref sig .tc .vmem S128x1024 .f32)
  (harg3 : arg3.IsWhole) (arg4 : Memref sig .tc .vmem S1x1024 .f32) (harg4 : arg4.IsWhole)
  (arg5 : Memref sig .tc .vmem S1024x1280 .bf16) (harg5 : arg5.IsWhole) (arg6 : Memref sig .tc .vmem S1024x2048 .bf16)
  (harg6 : arg6.IsWhole) (arg7 : Memref sig .tc .vmem S1024x1152 .bf16) (harg7 : arg7.IsWhole)
  (arg8 : Memref sig .tc .vmem S1024x1024 .bf16) (harg8 : arg8.IsWhole) (arg9 : Memref sig .tc .vmem S1024x256 .bf16)
  (harg9 : arg9.IsWhole) (arg10 : Memref sig .tc .vmem S256x1024 .bf16) (harg10 : arg10.IsWhole)
  (arg11 : Memref sig .tc .vmem S8x128x256 .f32) (harg11 : arg11.IsWhole) (arg12 : Memref sig .tc .vmem S512x128 .f32)
  (harg12 : arg12.IsWhole) (arg13 : Memref sig .tc .vmem S8x128 .f32) (harg13 : arg13.IsWhole)
  (arg14 : Memref sig .tc .vmem S1x256 .f32) (harg14 : arg14.IsWhole) (arg15 : Memref sig .tc .vmem S1x128 .f32)
  (harg15 : arg15.IsWhole) (arg16 : Memref sig .tc .vmem S256x512 .bf16) (harg16 : arg16.IsWhole)
  (arg17 : Memref sig .tc .vmem S256x512 .bf16) (harg17 : arg17.IsWhole) (arg18 : Memref sig .tc .vmem S256x512 .bf16)
  (harg18 : arg18.IsWhole) (arg19 : Memref sig .tc .vmem S512x128 .bf16) (harg19 : arg19.IsWhole)
  (arg20 : Memref sig .tc .vmem S128x512 .bf16) (harg20 : arg20.IsWhole)
  (arg21 : Memref sig .tc .vmem S512x2048 .bf16) (harg21 : arg21.IsWhole)
  (arg22 : Memref sig .tc .vmem S512x512 .bf16) (harg22 : arg22.IsWhole)
  (arg23 : Memref sig .tc .vmem S4x512x256 .bf16) (harg23 : arg23.IsWhole)
  (arg24 : Memref sig .tc .vmem S4x256x512 .bf16) (harg24 : arg24.IsWhole)
  (arg25 : Memref sig .tc .vmem S4x512x256 .bf16) (harg25 : arg25.IsWhole)
  (arg26 : Memref sig .tc .vmem S512x512 .bf16) (harg26 : arg26.IsWhole) (arg27 : Memref sig .tc .vmem S512x512 .bf16)
  (harg27 : arg27.IsWhole) (arg28 : Memref sig .tc .vmem S512x128 .f32) (harg28 : arg28.IsWhole) (x0 : Vec F S8 .f32)
  (x1 : Vec F S512x1024 .f32) (x2 : Vec F S128x1024 .f32) (x3 : Vec F S1x1024 .f32) (x4 : Vec F S1024x1280 .bf16)
  (x5 : Vec F S1024x2048 .bf16) (x6 : Vec F S1024x1152 .bf16) (x7 : Vec F S1024x1024 .bf16)
  (x8 : Vec F S1024x256 .bf16) (x9 : Vec F S256x1024 .bf16) (x10 : Vec F S8x128x256 .f32) (x11 : Vec F S512x128 .f32)
  (x12 : Vec F S8x128 .f32) (x13 : Vec F S1x256 .f32) (x14 : Vec F S1x128 .f32) (x15 : Vec F S256x512 .bf16)
  (x16 : Vec F S256x512 .bf16) (x17 : Vec F S256x512 .bf16) (x18 : Vec F S512x128 .bf16) (x19 : Vec F S128x512 .bf16)

/-- The stores to output 20 tile its block. -/
theorem cover0_A_20 (y : S512x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).1 S512x512.size (by sl_kernel_rfl) y

/-- What the run leaves in output 20's staging buffer: its pieces read back over junk. -/
def out0_A_20 : Vec F S512x2048 .bf16 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).1)

/-- The stores to output 21 tile its block. -/
theorem cover0_A_21 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).2.1 S512x512.size (by sl_kernel_rfl) y

/-- What the run leaves in output 21's staging buffer: its pieces read back over junk. -/
def out0_A_21 : Vec F S512x512 .bf16 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).2.1)

/-- The stores to output 22 tile its block. -/
theorem cover0_A_22 (y : S4x512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).2.2.1 S1x512x128.size (by sl_kernel_rfl) y

/-- What the run leaves in output 22's staging buffer: its pieces read back over junk. -/
def out0_A_22 : Vec F S4x512x256 .bf16 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).2.2.1)

/-- The stores to output 23 tile its block. -/
theorem cover0_A_23 (y : S4x256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).2.2.2.1 S1x128x512.size (by sl_kernel_rfl) y

/-- What the run leaves in output 23's staging buffer: its pieces read back over junk. -/
def out0_A_23 : Vec F S4x256x512 .bf16 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).2.2.2.1)

/-- The stores to output 24 tile its block. -/
theorem cover0_A_24 (y : S4x512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).2.2.2.2.1 S1x512x128.size (by sl_kernel_rfl) y

/-- What the run leaves in output 24's staging buffer: its pieces read back over junk. -/
def out0_A_24 : Vec F S4x512x256 .bf16 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).2.2.2.2.1)

/-- The stores to output 25 tile its block. -/
theorem cover0_A_25 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).2.2.2.2.2.1 S128x128.size (by sl_kernel_rfl) y

/-- What the run leaves in output 25's staging buffer: its pieces read back over junk. -/
def out0_A_25 : Vec F S512x512 .bf16 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).2.2.2.2.2.1)

/-- The stores to output 26 tile its block. -/
theorem cover0_A_26 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).2.2.2.2.2.2.1 S512x128.size (by sl_kernel_rfl) y

/-- What the run leaves in output 26's staging buffer: its pieces read back over junk. -/
def out0_A_26 : Vec F S512x512 .bf16 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).2.2.2.2.2.2.1)

/-- The stores to output 27 tile its block. -/
theorem cover0_A_27 (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).2.2.2.2.2.2.2.1 S512x128.size (by sl_kernel_rfl) y

/-- What the run leaves in output 27's staging buffer: its pieces read back over junk. -/
def out0_A_27 : Vec F S512x128 .f32 :=
  VO0_27.read (Elt F) (VO0_27.writes (Elt F) VO0_27.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19).2.2.2.2.2.2.2.1)

end

/-! ## What the outputs hold after each point -/

/-- What the outputs' staging buffers hold after the body at point `t` (as a tuple, in window order): the run's contents at
    the point's memrefs and input blocks. -/
def outsAt0 (c : Dev nD) (t : Fin cfg0.N) : Vec F S512x2048 .bf16 × Vec F S512x512 .bf16 × Vec F S4x512x256 .bf16 × Vec F S4x256x512 .bf16 × Vec F S4x512x256 .bf16 × Vec F S512x512 .bf16 × Vec F S512x512 .bf16 × Vec F S512x128 .f32 :=
  (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (outsAt0 m c t).1
    | ⟨21, _⟩ => (outsAt0 m c t).2.1
    | ⟨22, _⟩ => (outsAt0 m c t).2.2.1
    | ⟨23, _⟩ => (outsAt0 m c t).2.2.2.1
    | ⟨24, _⟩ => (outsAt0 m c t).2.2.2.2.1
    | ⟨25, _⟩ => (outsAt0 m c t).2.2.2.2.2.1
    | ⟨26, _⟩ => (outsAt0 m c t).2.2.2.2.2.2.1
    | ⟨27, _⟩ => (outsAt0 m c t).2.2.2.2.2.2.2
    | ⟨_ + 28, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = (outsAt0 m c t).1 := by dsimp only [dats]
theorem after0_21 (c : Dev nD) (t : Fin cfg0.N) : (dats m 0 c).after 21 t = (outsAt0 m c t).2.1 := by dsimp only [dats]
theorem after0_22 (c : Dev nD) (t : Fin cfg0.N) : (dats m 0 c).after 22 t = (outsAt0 m c t).2.2.1 := by dsimp only [dats]
theorem after0_23 (c : Dev nD) (t : Fin cfg0.N) : (dats m 0 c).after 23 t = (outsAt0 m c t).2.2.2.1 := by dsimp only [dats]
theorem after0_24 (c : Dev nD) (t : Fin cfg0.N) : (dats m 0 c).after 24 t = (outsAt0 m c t).2.2.2.2.1 := by dsimp only [dats]
theorem after0_25 (c : Dev nD) (t : Fin cfg0.N) : (dats m 0 c).after 25 t = (outsAt0 m c t).2.2.2.2.2.1 := by dsimp only [dats]
theorem after0_26 (c : Dev nD) (t : Fin cfg0.N) : (dats m 0 c).after 26 t = (outsAt0 m c t).2.2.2.2.2.2.1 := by dsimp only [dats]
theorem after0_27 (c : Dev nD) (t : Fin cfg0.N) : (dats m 0 c).after 27 t = (outsAt0 m c t).2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t))

set_option maxHeartbeats 2800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  unfold outsAt0
  unfold out0_A_20 out0_A_21 out0_A_22 out0_A_23 out0_A_24 out0_A_25 out0_A_26 out0_A_27; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, ⟨%e20, H20⟩, ⟨%e21, H21⟩, ⟨%e22, H22⟩, ⟨%e23, H23⟩, ⟨%e24, H24⟩, ⟨%e25, H25⟩, ⟨%e26, H26⟩, ⟨%e27, H27⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H26]
  · unfold owns; iexists _; isplitr
    swap; · iexact H26
    ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H27
  ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  exact .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- The frame claim at any arithmetic: the run ends, the arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.InprojIdeal.Frm

end
-- ==== Proof.In.lean ====
/- The input projection's products over the extended reals, entry by entry: a row of the activations normed by its
   root mean square, scaled by the gain, times a column of the weights. -/
module

public import Idealize.ShloMosaic.Lib.ValueIdx
public import Idealize.ShloMosaic.PureOps.Ideal.Laws

@[expose] public section

noncomputable section

namespace Cert.In

open Idealize.ShloMosaic

/-- An entry of a row, normed by the row's root mean square and scaled by the gain. -/
def scaled (x g : Fin 1024 → EReal) (k : Fin 1024) : EReal :=
  x k * Ideal.rsqrt (Ideal.div (∑ n : Fin 1024, x n * x n) (Ideal.ofBits .f32 0x44800000#32) + Ideal.ofBits .f32 0x358637BD#32) * g k

/-- The normed row times a column of the weights. -/
def entry (x g w : Fin 1024 → EReal) : EReal := ∑ k : Fin 1024, scaled x g k * w k

end Cert.In

end
-- ==== Proof.InBlock.lean ====
/- What the input projection's body leaves in its first two blocks of results, entry by entry. -/
module

public import proofs.«01_k».proof.Proof.In
public import proofs.«01_k».proof.Proof.InFrameIdeal
public import Idealize.ShloMosaic.Lib.Pipeline.ReadBack
public import Idealize.ShloMosaic.Lib.Pipeline.Value
public import Idealize.ShloMosaic.Lib.MatmulPlain
public import Idealize.ShloMosaic.Lib.Tactic

@[expose] public section

set_option maxRecDepth 16384

noncomputable section

namespace Cert.InprojIdeal.Val

open Cert.InprojIdeal Cert.InprojIdeal.Gen Cert.InprojIdeal.Frm Idealize.ShloMosaic Idealize.ShloMosaic.TcCoe Idealize.SL.Sem
open Idealize.ShloMosaic.ValueIdx Cert.In

theorem hz : (![0, 0] : Fin 2 → Nat) = fun _ => 0 := funext fun a => by fin_cases a <;> rfl

/-- A product of a block of normed rows and 512 columns of weights. -/
theorem dot_apply (x : Vec Ideal S512x1024 .bf16) (w : Vec Ideal S1024x512 .bf16) (r j : Fin 512) :
    @Eq EReal (matmul (F := Ideal) (φ₁ := .bf16) (φ₂ := .bf16) dot_S512x1024_S1024x512_S512x512_1_0_0_1_n_n none x w (constant S512x512 .f32 0x00000000#32) (ix2 r j))
      (∑ k : Fin 1024, (x (ix2 r k) : EReal) * w (ix2 k j)) := by
  show FloatOps.matmul (F := Ideal) (φ₁ := .bf16) (φ₂ := .bf16) (DotDims.plain 512 1024 512) none x w (constant ⟨2, ![512, 512]⟩ .f32 0x00000000#32) (ix2 r j) = _
  rw [Ideal.matmul_plain_apply]
  show Ideal.ofBits .f32 0x00000000#32 + _ = _
  rw [Ideal.ofBits_zero_f32, zero_add]

/-- An entry of the block of normed rows. -/
theorem normed_apply (x : Vec Ideal S512x1024 .f32) (g : Vec Ideal S1x1024 .f32) (r : Fin 512) (k : Fin 1024) :
    @Eq EReal (k0_pay6 (F := Ideal) x g (ix2 r k)) (scaled (fun n => x (ix2 r n)) (fun n => g (ix2 0 n)) k) := by
  unfold k0_pay6 k0_pay5 scaled
  dsimp only
  refine congrArg₂ (fun a b : EReal => a * b) (congrArg₂ (fun a b : EReal => a * b) rfl ?_) ?_
  · refine (broadcastTo_apply _ broadcasts_S512x1_S512x1024 (ix2 r k) (ix2 r 0) (fun a => by
          match a with
          | ⟨0, _⟩ => rfl
          | ⟨1, _⟩ => rfl)).trans ?_
    refine congrArg Ideal.rsqrt (congrArg₂ (fun a b : EReal => a + b) (congrArg₂ Ideal.div ?_ rfl) rfl)
    refine (shapeCast_apply _ shapeCasts_S512_S512x1 (ix2 r 0) (ix1 r) (by rewrite [Shape.rowMajor_val_one, Shape.rowMajor_val_two]; show r.val = r.val * 1 + 0; omega)).trans ?_
    refine (Ideal.multiReduction_add_single _ _ reduces_S512x1024_S512 (.inl rfl) rfl (ix1 r)).trans ?_
    refine Finset.sum_congr rfl fun n _ => ?_
    have e : (Shape.Reduces.lift reduces_S512x1024_S512 (ix1 r) n : S512x1024.Idx) = ix2 r n := funext fun a => by
      match a with
      | ⟨0, _⟩ => rfl
      | ⟨1, _⟩ => rfl
    rw [e]
    rfl
  · exact broadcastTo_apply g broadcasts_S1x1024_S512x1024 (ix2 r k) (ix2 0 k) (fun a => by
          match a with
          | ⟨0, _⟩ => rfl
          | ⟨1, _⟩ => rfl)

/-- An entry of a block of products. -/
theorem product_apply (x : Vec Ideal S512x1024 .f32) (g : Vec Ideal S1x1024 .f32) (w : Vec Ideal S1024x512 .bf16) (r j : Fin 512) :
    @Eq EReal (k0_pay87 (F := Ideal) (k0_pay6 x g) w (ix2 r j))
      (entry (fun n => x (ix2 r n)) (fun n => g (ix2 0 n)) fun k => w (ix2 k j)) := by
  unfold k0_pay87 entry
  refine (dot_apply (k0_pay6 x g) w r j).trans ?_
  exact Finset.sum_congr rfl fun k _ => congrArg₂ (fun a b : EReal => a * b) (normed_apply x g r k) rfl

/-- The two blocks of results from the blocks read. -/
def block20 (x : Vec Ideal S512x1024 .f32) (g : Vec Ideal S1x1024 .f32) (w : Vec Ideal S1024x2048 .bf16) : Vec Ideal S512x2048 .bf16 := fun y =>
  entry (fun n => x (ix2 (y 0 : Fin 512) n)) (fun n => g (ix2 0 n)) fun k => w (ix2 k (y 1 : Fin 2048))
def block21 (x : Vec Ideal S512x1024 .f32) (g : Vec Ideal S1x1024 .f32) (w : Vec Ideal S1024x1152 .bf16) : Vec Ideal S512x512 .bf16 := fun y =>
  entry (fun n => x (ix2 (y 0 : Fin 512) n)) (fun n => g (ix2 0 n)) fun k => w (ix2 k ⟨640 + (y 1).val, by have h : (y 1).val < 512 := (y 1).isLt; omega⟩)

/-- A stretch of 512 columns of the first block is its product. -/
theorem piece20 (x : Vec Ideal S512x1024 .f32) (g : Vec Ideal S1x1024 .f32) (w : Vec Ideal S1024x2048 .bf16) (o : ℕ)
    (inb : ∀ a, (![0, o] : Fin 2 → ℕ) a + (![512, 512] : Fin 2 → ℕ) a ≤ S512x2048.size a)
    (inb' : ∀ a, (![0, o] : Fin 2 → ℕ) a + (![1024, 512] : Fin 2 → ℕ) a ≤ S1024x2048.size a)
    (z : (Rect.unit (s := S512x2048) ![0, o] ![512, 512] inb).shape.Idx) :
    @Eq EReal (k0_pay87 (F := Ideal) (k0_pay6 x g) (View.ld w (Rect.unit (s := S1024x2048) ![0, o] ![1024, 512] inb')) z)
      (block20 x g w ((Rect.unit (s := S512x2048) ![0, o] ![512, 512] inb).emb z)) := by
  have ez : (z : S512x512.Idx) = ix2 (z 0 : Fin 512) (z 1 : Fin 512) := funext fun a => by
    match a with
    | ⟨0, _⟩ => rfl
    | ⟨1, _⟩ => rfl
  refine (congrArg (k0_pay87 (F := Ideal) (k0_pay6 x g) (View.ld w (Rect.unit (s := S1024x2048) ![0, o] ![1024, 512] inb'))) ez).trans ?_
  refine (product_apply x g _ (z 0 : Fin 512) (z 1 : Fin 512)).trans ?_
  unfold block20
  refine congrArg₂ (fun a b => entry a _ b) (funext fun n => congrArg x (funext fun a => Fin.ext ?_)) (funext fun k => congrArg w (funext fun a => Fin.ext ?_))
  · match a with
    | ⟨0, _⟩ => show (z 0).val = 0 + 1 * (z 0).val; omega
    | ⟨1, _⟩ => rfl
  · match a with
    | ⟨0, _⟩ => show 0 + 1 * k.val = k.val; omega
    | ⟨1, _⟩ => rfl

variable (c : Dev nD) (i : grid0.Coords)
  (a1 : Memref sig .tc .smem S8 .f32) (h1 : a1.IsWhole) (a2 : Memref sig .tc .vmem S512x1024 .f32) (h2 : a2.IsWhole)
  (a3 : Memref sig .tc .vmem S128x1024 .f32) (h3 : a3.IsWhole) (a4 : Memref sig .tc .vmem S1x1024 .f32) (h4 : a4.IsWhole)
  (a5 : Memref sig .tc .vmem S1024x1280 .bf16) (h5 : a5.IsWhole) (a6 : Memref sig .tc .vmem S1024x2048 .bf16) (h6 : a6.IsWhole)
  (a7 : Memref sig .tc .vmem S1024x1152 .bf16) (h7 : a7.IsWhole) (a8 : Memref sig .tc .vmem S1024x1024 .bf16) (h8 : a8.IsWhole)
  (a9 : Memref sig .tc .vmem S1024x256 .bf16) (h9 : a9.IsWhole) (a10 : Memref sig .tc .vmem S256x1024 .bf16) (h10 : a10.IsWhole)
  (a11 : Memref sig .tc .vmem S8x128x256 .f32) (h11 : a11.IsWhole) (a12 : Memref sig .tc .vmem S512x128 .f32) (h12 : a12.IsWhole)
  (a13 : Memref sig .tc .vmem S8x128 .f32) (h13 : a13.IsWhole) (a14 : Memref sig .tc .vmem S1x256 .f32) (h14 : a14.IsWhole)
  (a15 : Memref sig .tc .vmem S1x128 .f32) (h15 : a15.IsWhole) (a16 : Memref sig .tc .vmem S256x512 .bf16) (h16 : a16.IsWhole)
  (a17 : Memref sig .tc .vmem S256x512 .bf16) (h17 : a17.IsWhole) (a18 : Memref sig .tc .vmem S256x512 .bf16) (h18 : a18.IsWhole)
  (a19 : Memref sig .tc .vmem S512x128 .bf16) (h19 : a19.IsWhole) (a20 : Memref sig .tc .vmem S128x512 .bf16) (h20 : a20.IsWhole)
  (a21 : Memref sig .tc .vmem S512x2048 .bf16) (h21 : a21.IsWhole) (a22 : Memref sig .tc .vmem S512x512 .bf16) (h22 : a22.IsWhole)
  (a23 : Memref sig .tc .vmem S4x512x256 .bf16) (h23 : a23.IsWhole) (a24 : Memref sig .tc .vmem S4x256x512 .bf16) (h24 : a24.IsWhole)
  (a25 : Memref sig .tc .vmem S4x512x256 .bf16) (h25 : a25.IsWhole) (a26 : Memref sig .tc .vmem S512x512 .bf16) (h26 : a26.IsWhole)
  (a27 : Memref sig .tc .vmem S512x512 .bf16) (h27 : a27.IsWhole) (a28 : Memref sig .tc .vmem S512x128 .f32) (h28 : a28.IsWhole)
  (x0 : Vec Ideal S8 .f32) (x1 : Vec Ideal S512x1024 .f32) (x2 : Vec Ideal S128x1024 .f32) (x3 : Vec Ideal S1x1024 .f32)
  (x4 : Vec Ideal S1024x1280 .bf16) (x5 : Vec Ideal S1024x2048 .bf16) (x6 : Vec Ideal S1024x1152 .bf16) (x7 : Vec Ideal S1024x1024 .bf16)
  (x8 : Vec Ideal S1024x256 .bf16) (x9 : Vec Ideal S256x1024 .bf16) (x10 : Vec Ideal S8x128x256 .f32) (x11 : Vec Ideal S512x128 .f32)
  (x12 : Vec Ideal S8x128 .f32) (x13 : Vec Ideal S1x256 .f32) (x14 : Vec Ideal S1x128 .f32) (x15 : Vec Ideal S256x512 .bf16)
  (x16 : Vec Ideal S256x512 .bf16) (x17 : Vec Ideal S256x512 .bf16) (x18 : Vec Ideal S512x128 .bf16) (x19 : Vec Ideal S128x512 .bf16)

/-- What the body leaves in the first block of results. -/
theorem out_20 : out0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 x15 x16 x17 x18 x19 = block20 x1 x3 x5 := by
  unfold out0_A_20
  rw [View.read_writes_eq_canon _ _ _ (cover0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 x15 x16 x17 x18 x19)]
  funext y
  refine View.canon_apply_of_pieces (block20 x1 x3 x5) _ (View.PiecesOf.mem ?_) y (cover0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 x15 x16 x17 x18 x19 y)
  unfold kernelRun0_A
  dsimp only
  sl_unfold_words
  simp only [View.readAt_eq_ld, h2.read_unread, h4.read_unread, h6.read_unread, View.ld_unit_zero (S := S512x1024) hz, View.ld_unit_zero (S := S1x1024) hz]
  exact ⟨fun z => piece20 x1 x3 x5 1536 inb_S512x2048_S512x512_0_1536 inb_S1024x2048_S1024x512_0_1536 z, fun z => piece20 x1 x3 x5 1024 inb_S512x2048_S512x512_0_1024 inb_S1024x2048_S1024x512_0_1024 z, fun z => piece20 x1 x3 x5 512 inb_S512x2048_S512x512_0_512 inb_S1024x2048_S1024x512_0_512 z,
    fun z => piece20 x1 x3 x5 0 inb_S512x2048_S512x512_0_0 inb_S1024x2048_S1024x512_0_0 z, trivial⟩

/-- What the body leaves in the second block of results. -/
theorem out_21 : out0_A_21 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 x15 x16 x17 x18 x19 = block21 x1 x3 x6 := by
  unfold out0_A_21
  rw [View.read_writes_eq_canon _ _ _ (cover0_A_21 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 x15 x16 x17 x18 x19)]
  unfold kernelRun0_A
  dsimp only
  sl_unfold_words
  rw [View.canon_unit_zero (S := S512x512) hz]
  simp only [View.readAt_eq_ld, h2.read_unread, h4.read_unread, h7.read_unread, View.ld_unit_zero (S := S512x1024) hz, View.ld_unit_zero (S := S1x1024) hz]
  funext y
  have ey : y = ix2 (y 0 : Fin 512) (y 1 : Fin 512) := funext fun a => by
    match a with
    | ⟨0, _⟩ => rfl
    | ⟨1, _⟩ => rfl
  refine (congrArg (k0_pay91 (F := Ideal) (k0_pay6 x1 x3) _) ey).trans ?_
  refine (product_apply x1 x3 _ (y 0 : Fin 512) (y 1 : Fin 512)).trans ?_
  unfold block21
  refine congrArg (entry _ _) (funext fun k => congrArg x6 (funext fun a => Fin.ext ?_))
  match a with
  | ⟨0, _⟩ => show 0 + 1 * k.val = k.val; omega
  | ⟨1, _⟩ => show 640 + 1 * (y 1).val = 640 + (y 1).val; omega

end Cert.InprojIdeal.Val

end
-- ==== Proof.InArray.lean ====
/- The first two arrays of results of the input projection after the run, index by index. -/
module

public import proofs.«01_k».proof.Proof.InBlock

@[expose] public section

noncomputable section

namespace Cert.InprojIdeal.Val

open Cert.InprojIdeal Cert.InprojIdeal.Gen Cert.InprojIdeal.Frm Idealize.ShloMosaic Idealize.ShloMosaic.TcCoe Idealize.SL.Sem
open Idealize.ShloMosaic.ValueIdx Cert.In

variable (m : (ℓ : Loc nD τ sig) → Buf (Elt Ideal) ℓ)

/-- Where the blocks lie at each point. -/
theorem places : ∀ t : Fin cfg0.N,
    (win0_1.index t (0 : Fin 2) = t.val ∧ win0_1.index t (1 : Fin 2) = 0) ∧ (win0_3.index t (0 : Fin 2) = 0 ∧ win0_3.index t (1 : Fin 2) = 0)
    ∧ (win0_5.index t (0 : Fin 2) = 0 ∧ win0_5.index t (1 : Fin 2) = 0) ∧ (win0_6.index t (0 : Fin 2) = 0 ∧ win0_6.index t (1 : Fin 2) = 0)
    ∧ (win0_20.index t (0 : Fin 2) = t.val ∧ win0_20.index t (1 : Fin 2) = 0 ∧ (cfg0.win 20).flush t = true)
    ∧ (win0_21.index t (0 : Fin 2) = t.val ∧ win0_21.index t (1 : Fin 2) = 0 ∧ (cfg0.win 21).flush t = true) :=
  (by decide +kernel : ∀ t : Fin grid0.N,
    (win0_1.index t (0 : Fin 2) = t.val ∧ win0_1.index t (1 : Fin 2) = 0) ∧ (win0_3.index t (0 : Fin 2) = 0 ∧ win0_3.index t (1 : Fin 2) = 0)
    ∧ (win0_5.index t (0 : Fin 2) = 0 ∧ win0_5.index t (1 : Fin 2) = 0) ∧ (win0_6.index t (0 : Fin 2) = 0 ∧ win0_6.index t (1 : Fin 2) = 0)
    ∧ (win0_20.index t (0 : Fin 2) = t.val ∧ win0_20.index t (1 : Fin 2) = 0 ∧ win0_20.flush t = true)
    ∧ (win0_21.index t (0 : Fin 2) = t.val ∧ win0_21.index t (1 : Fin 2) = 0 ∧ win0_21.flush t = true))

theorem pt_lt (t : Fin cfg0.N) : t.val < 32 := lt_of_lt_of_eq t.isLt N_0

/-- The row of a point's block as a row of the whole. -/
abbrev rowOf (t : Fin cfg0.N) (r : Fin 512) : Fin 16384 := ⟨512 * t.val + r.val, by have := pt_lt t; have := r.isLt; omega⟩

/-- The arguments the two results are made of. -/
abbrev X (c : Dev nD) : S16384x1024.Idx → EReal := m ((c : Thread nD τ).loc main_arg1)
abbrev gains (c : Dev nD) : S1x1024.Idx → EReal := m ((c : Thread nD τ).loc main_arg2)
abbrev WB (c : Dev nD) : S1024x2048.Idx → EReal := m ((c : Thread nD τ).loc main_arg4)
abbrev WC (c : Dev nD) : S1024x1152.Idx → EReal := m ((c : Thread nD τ).loc main_arg5)

theorem read1 (c : Dev nD) (t : Fin cfg0.N) (r : Fin 512) (k : Fin 1024) :
    (iblk m c 1 t : S512x1024.Idx → EReal) (ix2 r k) = X m c (ix2 (rowOf t r) k) := by
  obtain ⟨⟨e0, e1⟩, -⟩ := places t
  show V m c main_arg1 (((cfg0.win 1).blk t).view.emb (ix2 r k)) = _
  refine congrArg (V m c main_arg1) (funext fun a => Fin.ext ?_)
  match a with
  | ⟨0, _⟩ => show win0_1.index t (0 : Fin 2) * 512 + 1 * r.val = 512 * t.val + r.val; rw [e0]; omega
  | ⟨1, _⟩ => show win0_1.index t (1 : Fin 2) * 1024 + 1 * k.val = k.val; rw [e1]; omega

theorem read3 (c : Dev nD) (t : Fin cfg0.N) (k : Fin 1024) :
    (iblk m c 3 t : S1x1024.Idx → EReal) (ix2 0 k) = gains m c (ix2 0 k) := by
  obtain ⟨-, ⟨e0, e1⟩, -⟩ := places t
  show V m c main_arg2 (((cfg0.win 3).blk t).view.emb (ix2 0 k)) = _
  refine congrArg (V m c main_arg2) (funext fun a => Fin.ext ?_)
  match a with
  | ⟨0, _⟩ => show win0_3.index t (0 : Fin 2) * 1 + 1 * 0 = 0; rw [e0]
  | ⟨1, _⟩ => show win0_3.index t (1 : Fin 2) * 1024 + 1 * k.val = k.val; rw [e1]; omega

theorem read5 (c : Dev nD) (t : Fin cfg0.N) (k : Fin 1024) (j : Fin 2048) :
    (iblk m c 5 t : S1024x2048.Idx → EReal) (ix2 k j) = WB m c (ix2 k j) := by
  obtain ⟨-, -, ⟨e0, e1⟩, -⟩ := places t
  show V m c main_arg4 (((cfg0.win 5).blk t).view.emb (ix2 k j)) = _
  refine congrArg (V m c main_arg4) (funext fun a => Fin.ext ?_)
  match a with
  | ⟨0, _⟩ => show win0_5.index t (0 : Fin 2) * 1024 + 1 * k.val = k.val; rw [e0]; omega
  | ⟨1, _⟩ => show win0_5.index t (1 : Fin 2) * 2048 + 1 * j.val = j.val; rw [e1]; omega

theorem read6 (c : Dev nD) (t : Fin cfg0.N) (k : Fin 1024) (j : Fin 1152) :
    (iblk m c 6 t : S1024x1152.Idx → EReal) (ix2 k j) = WC m c (ix2 k j) := by
  obtain ⟨-, -, -, ⟨e0, e1⟩, -⟩ := places t
  show V m c main_arg5 (((cfg0.win 6).blk t).view.emb (ix2 k j)) = _
  refine congrArg (V m c main_arg5) (funext fun a => Fin.ext ?_)
  match a with
  | ⟨0, _⟩ => show win0_6.index t (0 : Fin 2) * 1024 + 1 * k.val = k.val; rw [e0]; omega
  | ⟨1, _⟩ => show win0_6.index t (1 : Fin 2) * 1152 + 1 * j.val = j.val; rw [e1]; omega

/-- What the two arrays of results end holding. -/
def R20 (c : Dev nD) : Buf (Elt Ideal) ((c : Thread nD τ).loc main_v0_0) := fun i : S16384x2048.Idx =>
  entry (fun n => X m c (ix2 (i 0 : Fin 16384) n)) (fun n => gains m c (ix2 0 n)) fun k => WB m c (ix2 k (i 1 : Fin 2048))
def R21 (c : Dev nD) : Buf (Elt Ideal) ((c : Thread nD τ).loc main_v0_1) := fun i : S16384x512.Idx =>
  entry (fun n => X m c (ix2 (i 0 : Fin 16384) n)) (fun n => gains m c (ix2 0 n))
    fun k => WC m c (ix2 k ⟨640 + (i 1).val, by have h : (i 1).val < 512 := (i 1).isLt; omega⟩)

theorem outs20 (c : Dev nD) (t : Fin cfg0.N) :
    (outsAt0 m c t).1 = block20 (iblk m c 1 t) (iblk m c 3 t) (iblk m c 5 t) := by
  unfold outsAt0
  dsimp only
  apply out_20

theorem outs21 (c : Dev nD) (t : Fin cfg0.N) :
    (outsAt0 m c t).2.1 = block21 (iblk m c 1 t) (iblk m c 3 t) (iblk m c 6 t) := by
  unfold outsAt0
  dsimp only
  apply out_21

/-- What a point writes back of the first result is its block of `R20`. -/
theorem writes20 (c : Dev nD) (t : Fin cfg0.N) :
    (dats m 0 c).flushed 20 t = ((cfg0.win 20).blk t).view.read (Elt Ideal) (R20 m c) := by
  show (cfg0.win 20).cut (grid0.coords t) ((dats m 0 c).after 20 t) = _
  rw [after0_20, outs20]
  obtain ⟨-, -, -, -, ⟨e0, e1, -⟩, -⟩ := places t
  funext y
  have hb0 : (((cfg0.win 20).blk t).view.emb y 0).val = win0_20.index t (0 : Fin 2) * 512 + 1 * (y 0).val := rfl
  have hb1 : (((cfg0.win 20).blk t).view.emb y 1).val = win0_20.index t (1 : Fin 2) * 2048 + 1 * (y 1).val := rfl
  show block20 (iblk m c 1 t) (iblk m c 3 t) (iblk m c 5 t) ((cfg0.win 20).xinj (grid0.coords t) y) = R20 m c (((cfg0.win 20).blk t).view.emb y)
  unfold block20 R20
  refine congr (congr (congrArg entry (funext fun n => ?_)) (funext fun n => read3 m c t n)) (funext fun k => ?_)
  · refine (read1 m c t _ n).trans (congrArg (fun r => X m c (ix2 r n)) (Fin.ext ?_))
    show 512 * t.val + (y 0).val = (((cfg0.win 20).blk t).view.emb y 0).val
    rw [hb0, e0]; omega
  · refine (read5 m c t k _).trans (congrArg (fun j => WB m c (ix2 k j)) (Fin.ext ?_))
    show (y 1).val = (((cfg0.win 20).blk t).view.emb y 1).val
    rw [hb1, e1]; omega

/-- And of the second its block of `R21`. -/
theorem writes21 (c : Dev nD) (t : Fin cfg0.N) :
    (dats m 0 c).flushed 21 t = ((cfg0.win 21).blk t).view.read (Elt Ideal) (R21 m c) := by
  show (cfg0.win 21).cut (grid0.coords t) ((dats m 0 c).after 21 t) = _
  rw [after0_21, outs21]
  obtain ⟨-, -, -, -, -, ⟨e0, e1, -⟩⟩ := places t
  funext y
  have hb0 : (((cfg0.win 21).blk t).view.emb y 0).val = win0_21.index t (0 : Fin 2) * 512 + 1 * (y 0).val := rfl
  have hb1 : (((cfg0.win 21).blk t).view.emb y 1).val = win0_21.index t (1 : Fin 2) * 512 + 1 * (y 1).val := rfl
  show block21 (iblk m c 1 t) (iblk m c 3 t) (iblk m c 6 t) ((cfg0.win 21).xinj (grid0.coords t) y) = R21 m c (((cfg0.win 21).blk t).view.emb y)
  unfold block21 R21
  refine congr (congr (congrArg entry (funext fun n => ?_)) (funext fun n => read3 m c t n)) (funext fun k => ?_)
  · refine (read1 m c t _ n).trans (congrArg (fun r => X m c (ix2 r n)) (Fin.ext ?_))
    show 512 * t.val + (y 0).val = (((cfg0.win 21).blk t).view.emb y 0).val
    rw [hb0, e0]; omega
  · refine (read6 m c t k _).trans (congrArg (fun j => WC m c (ix2 k j)) (Fin.ext ?_))
    show 640 + (y 1).val = 640 + (((cfg0.win 21).blk t).view.emb y 1).val
    rw [hb1, e1]; omega

/-- The point whose blocks hold a row. -/
abbrev ptOf (r : ℕ) (h : r < 16384) : Fin cfg0.N := ⟨r / 512, by rw [show cfg0.N = 32 from N_0]; omega⟩

/-- Every index of the results is in some point's block. -/
theorem covers20 (i : S16384x2048.Idx) : ∃ t : Fin cfg0.N, (cfg0.win 20).flush t = true ∧ i ∈ ((cfg0.win 20).blk t).view.set := by
  have h0 : (i 0).val < 16384 := (i 0).isLt
  have h1 : (i 1).val < 2048 := (i 1).isLt
  obtain ⟨-, -, -, -, ⟨e0, e1, hf⟩, -⟩ := places (ptOf _ h0)
  refine ⟨ptOf _ h0, hf, ?_⟩
  show i ∈ ((View.whole main_v0_0).slice (win0_20.rect (ptOf _ h0))).set
  rw [View.set_slice_whole, Rect.mem_set_unit]
  intro a
  match a with
  | ⟨0, _⟩ =>
    show win0_20.index (ptOf _ h0) (0 : Fin 2) * 512 ≤ (i 0).val ∧ (i 0).val < win0_20.index (ptOf _ h0) (0 : Fin 2) * 512 + 512
    rw [e0]
    show (i 0).val / 512 * 512 ≤ (i 0).val ∧ (i 0).val < (i 0).val / 512 * 512 + 512
    omega
  | ⟨1, _⟩ =>
    show win0_20.index (ptOf _ h0) (1 : Fin 2) * 2048 ≤ (i 1).val ∧ (i 1).val < win0_20.index (ptOf _ h0) (1 : Fin 2) * 2048 + 2048
    rw [e1]
    omega

theorem covers21 (i : S16384x512.Idx) : ∃ t : Fin cfg0.N, (cfg0.win 21).flush t = true ∧ i ∈ ((cfg0.win 21).blk t).view.set := by
  have h0 : (i 0).val < 16384 := (i 0).isLt
  have h1 : (i 1).val < 512 := (i 1).isLt
  obtain ⟨-, -, -, -, -, ⟨e0, e1, hf⟩⟩ := places (ptOf _ h0)
  refine ⟨ptOf _ h0, hf, ?_⟩
  show i ∈ ((View.whole main_v0_1).slice (win0_21.rect (ptOf _ h0))).set
  rw [View.set_slice_whole, Rect.mem_set_unit]
  intro a
  match a with
  | ⟨0, _⟩ =>
    show win0_21.index (ptOf _ h0) (0 : Fin 2) * 512 ≤ (i 0).val ∧ (i 0).val < win0_21.index (ptOf _ h0) (0 : Fin 2) * 512 + 512
    rw [e0]
    show (i 0).val / 512 * 512 ≤ (i 0).val ∧ (i 0).val < (i 0).val / 512 * 512 + 512
    omega
  | ⟨1, _⟩ =>
    show win0_21.index (ptOf _ h0) (1 : Fin 2) * 512 ≤ (i 1).val ∧ (i 1).val < win0_21.index (ptOf _ h0) (1 : Fin 2) * 512 + 512
    rw [e1]
    omega

/-- The two arrays after the run. -/
theorem array20 (c : Dev nD) : (dats m 0 c).arrAt 20 cfg0.N = R20 m c :=
  (dats m 0 c).arrAt_eq_of_cover 20 _ (fun t _ => writes20 m c t) covers20
theorem array21 (c : Dev nD) : (dats m 0 c).arrAt 21 cfg0.N = R21 m c :=
  (dats m 0 c).arrAt_eq_of_cover 21 _ (fun t _ => writes21 m c t) covers21

end Cert.InprojIdeal.Val

end
-- ==== Proof.InLatent.lean ====
/- The queries, keys and values that the input projection makes, entry by entry: a row's compressed columns, their norm,
   their products with the heads' weights, the rotation by the positions' table. -/
module

public import proofs.«01_k».proof.Proof.In

@[expose] public section

noncomputable section

namespace Cert.In

open Idealize.ShloMosaic Idealize.ShloMosaic.ValueIdx

/-- A row divided by the root of its mean square, times the gain; `N` is its length. -/
def normed {K : ℕ} (N : EReal) (y g : Fin K → EReal) (k : Fin K) : EReal :=
  y k * Ideal.rsqrt (Ideal.div (∑ n, y n * y n) N + Ideal.ofBits .f32 0x358637BD#32) * g k

/-- The normed row times a column of weights. -/
def along {K : ℕ} (N : EReal) (y g w : Fin K → EReal) : EReal := ∑ k, normed N y g k * w k

abbrev N256 : EReal := Ideal.ofBits .f32 0x43800000#32
abbrev N128 : EReal := Ideal.ofBits .f32 0x43000000#32
/-- The factor of the queries. -/
abbrev qscale : EReal := Ideal.ofBits .f32 0x3DD53B95#32

/-- A row's 640 compressed columns. -/
def lat (x g : Fin 1024 → EReal) (W : Fin 1024 → Fin 1152 → EReal) : Fin 640 → EReal :=
  fun j => entry x g fun k => W k ⟨j.val, by have := j.isLt; omega⟩

/-- Those of the queries, of the keys and values, and the two of the rotary key. -/
def latQ (c : Fin 640 → EReal) : Fin 256 → EReal := fun k => c ⟨k.val, by have := k.isLt; omega⟩
def latK (c : Fin 640 → EReal) : Fin 128 → EReal := fun k => c ⟨256 + k.val, by have := k.isLt; omega⟩
def latA (c : Fin 640 → EReal) : Fin 128 → EReal := fun k => c ⟨384 + k.val, by have := k.isLt; omega⟩
def latB (c : Fin 640 → EReal) : Fin 128 → EReal := fun k => c ⟨512 + k.val, by have := k.isLt; omega⟩

/-- A head's column among the four heads'. -/
abbrev col (h : Fin 4) (d : Fin 128) : Fin 512 := ⟨128 * h.val + d.val, by have := h.isLt; have := d.isLt; omega⟩

/-- The table's place half way round. -/
abbrev turn (d : Fin 128) : Fin 128 := ⟨(d.val + 64) % 128, Nat.mod_lt _ (by decide)⟩

/-- The rotation of two columns by a position's table. -/
def rot (a b : EReal) (t s0 s1 : Fin 128 → EReal) (d : Fin 128) : EReal := a * (t d * s0 d) + b * (t (turn d) * s1 d)

/-- Two halves side by side. -/
def both (f g : Fin 128 → EReal) (j : Fin 256) : EReal :=
  if h : j.val < 128 then f ⟨j.val, h⟩ else g ⟨j.val - 128, by have := j.isLt; omega⟩

theorem both_low (f g : Fin 128 → EReal) (j : Fin 256) (d : Fin 128) (h : j.val = d.val) : both f g j = f d := by
  have hj : j.val < 128 := by have := d.isLt; omega
  unfold both
  rw [dif_pos hj]
  exact congrArg f (Fin.ext h)

theorem both_high (f g : Fin 128 → EReal) (j : Fin 256) (d : Fin 128) (h : j.val = 128 + d.val) : both f g j = g d := by
  have hj : ¬ j.val < 128 := by omega
  unfold both
  rw [dif_neg hj]
  exact congrArg g (Fin.ext (by show j.val - 128 = d.val; omega))

def query (c : Fin 640 → EReal) (g : Fin 256 → EReal) (wn wr ws : Fin 256 → Fin 512 → EReal) (t s0 s1 : Fin 128 → EReal) (h : Fin 4) : Fin 256 → EReal :=
  both (fun d => along N256 (latQ c) g (fun k => wn k (col h d)) * qscale)
    (fun d => rot (along N256 (latQ c) g fun k => wr k (col h d)) (along N256 (latQ c) g fun k => ws k (col h d)) t s0 s1 d * qscale)

def key (c : Fin 640 → EReal) (g : Fin 128 → EReal) (wk : Fin 512 → Fin 128 → EReal) (t s0 s1 : Fin 128 → EReal) (h : Fin 4) : Fin 256 → EReal :=
  both (fun d => along N128 (latK c) g fun k => wk (col h d) k) (fun d => rot (latA c d) (latB c d) t s0 s1 d)

def value (c : Fin 640 → EReal) (g : Fin 128 → EReal) (wv : Fin 128 → Fin 512 → EReal) (h : Fin 4) : Fin 256 → EReal :=
  both (fun d => along N128 (latK c) g fun k => wv k (col h d)) (fun d => if d.val = 0 then 1 else 0)

end Cert.In

end
-- ==== Proof.InHeads.lean ====
/- What the input projection's body leaves in its blocks of queries, keys and values, entry by entry. -/
module

public import proofs.«01_k».proof.Proof.InBlock
public import proofs.«01_k».proof.Proof.InLatent
public import Idealize.ShloMosaic.Lib.KernelVsHost

@[expose] public section

set_option maxRecDepth 16384

noncomputable section

namespace Cert.InprojIdeal.Val

open Cert.InprojIdeal Cert.InprojIdeal.Gen Cert.InprojIdeal.Frm Idealize.ShloMosaic Idealize.ShloMosaic.TcCoe Idealize.SL.Sem
open Idealize.ShloMosaic.ValueIdx Cert.In

/-- A row of a block's compressed columns. -/
theorem lat_apply (x : Vec Ideal S512x1024 .f32) (g : Vec Ideal S1x1024 .f32) (w : Vec Ideal S1024x640 .bf16) (r : Fin 512) (j : Fin 640) :
    @Eq EReal (k0_pay86 (F := Ideal) (k0_pay6 x g) w (ix2 r j)) (entry (fun n => x (ix2 r n)) (fun n => g (ix2 0 n)) fun k => w (ix2 k j)) := by
  unfold k0_pay86 entry
  show FloatOps.matmul (F := Ideal) (φ₁ := .bf16) (φ₂ := .bf16) (DotDims.plain 512 1024 640) none (k0_pay6 x g) w (constant ⟨2, ![512, 640]⟩ .f32 0x00000000#32) (ix2 r j) = _
  rw [Ideal.matmul_plain_apply]
  show Ideal.ofBits .f32 0x00000000#32 + _ = _
  rw [Ideal.ofBits_zero_f32, zero_add]
  exact Finset.sum_congr rfl fun k _ => congrArg₂ (fun a b : EReal => a * b) (normed_apply x g r k) rfl

/-- A cut of 256 columns of the compressed row. -/
theorem cutQ_apply (Y : FVec Ideal S512x640 .f32) (r : Fin 512) (k : Fin 256) :
    @Eq EReal (extractStridedSlice S512x256 ![0, 0] Y slices_S512x640_o0_0_S512x256 (ix2 r k)) (latQ (fun j => Y (ix2 r j)) k) :=
  extractStridedSlice_apply ![0, 0] Y slices_S512x640_o0_0_S512x256 (ix2 r k) (ix2 r ⟨k.val, by have := k.isLt; omega⟩) (fun a => by
    match a with
    | ⟨0, _⟩ => show r.val = 0 + r.val; omega
    | ⟨1, _⟩ => show k.val = 0 + k.val; omega)

/-- A cut of 128 columns. -/
theorem cut_apply {n : ℕ} (o : ℕ) (Y : (⟨2, ![512, n]⟩ : Shape).Idx → EReal) (sl : (⟨2, ![512, n]⟩ : Shape).Slices ![0, o] S512x128) (r : Fin 512) (d : Fin 128)
    (ho : o + d.val < n) : extractStridedSlice S512x128 ![0, o] Y sl (ix2 r d) = Y (ix2 r ⟨o + d.val, ho⟩) :=
  extractStridedSlice_apply ![0, o] Y sl (ix2 r d) (ix2 r ⟨o + d.val, ho⟩) (fun a => by
    match a with
    | ⟨0, _⟩ => show r.val = 0 + r.val; omega
    | ⟨1, _⟩ => rfl)

/-- The normed compressed row of the queries. -/
theorem normedQ_apply (Y : FVec Ideal S512x640 .f32) (g : Vec Ideal S1x256 .f32) (r : Fin 512) (k : Fin 256) :
    @Eq EReal (k0_pay97 (F := Ideal) Y g (ix2 r k)) (normed N256 (latQ fun j => Y (ix2 r j)) (fun n => g (ix2 0 n)) k) := by
  unfold k0_pay97 normed
  dsimp only
  refine congrArg₂ (fun a b : EReal => a * b) (congrArg₂ (fun a b : EReal => a * b) (cutQ_apply Y r k) ?_) ?_
  · refine (broadcastTo_apply _ broadcasts_S512x1_S512x256 (ix2 r k) (ix2 r 0) (fun a => by
          match a with
          | ⟨0, _⟩ => rfl
          | ⟨1, _⟩ => rfl)).trans ?_
    refine congrArg Ideal.rsqrt (congrArg₂ (fun a b : EReal => a + b) (congrArg₂ Ideal.div ?_ rfl) rfl)
    refine (shapeCast_apply _ shapeCasts_S512_S512x1 (ix2 r 0) (ix1 r) (by rewrite [Shape.rowMajor_val_one, Shape.rowMajor_val_two]; show r.val = r.val * 1 + 0; omega)).trans ?_
    refine (Ideal.multiReduction_add_single _ _ reduces_S512x256_S512 (.inl rfl) rfl (ix1 r)).trans ?_
    refine Finset.sum_congr rfl fun n _ => ?_
    have e : (Shape.Reduces.lift reduces_S512x256_S512 (ix1 r) n : S512x256.Idx) = ix2 r n := funext fun a => by
      match a with
      | ⟨0, _⟩ => rfl
      | ⟨1, _⟩ => rfl
    rw [e]
    exact congrArg₂ (fun a b : EReal => a * b) (cutQ_apply Y r n) (cutQ_apply Y r n)
  · exact broadcastTo_apply g broadcasts_S1x256_S512x256 (ix2 r k) (ix2 0 k) (fun a => by
          match a with
          | ⟨0, _⟩ => rfl
          | ⟨1, _⟩ => rfl)

/-- The normed compressed row of the keys and values. -/
theorem normedK_apply (Y : FVec Ideal S512x640 .f32) (g : Vec Ideal S1x128 .f32) (r : Fin 512) (k : Fin 128) :
    @Eq EReal (k0_pay113 (F := Ideal) (k0_pay112 Y) g (ix2 r k)) (normed N128 (latK fun j => Y (ix2 r j)) (fun n => g (ix2 0 n)) k) := by
  have hc : ∀ n : Fin 128, @Eq EReal (k0_pay112 (F := Ideal) Y (ix2 r n)) (latK (fun j => Y (ix2 r j)) n) := fun n =>
    cut_apply 256 Y slices_S512x640_o0_256_S512x128 r n (by have := n.isLt; omega)
  unfold k0_pay113 normed
  dsimp only
  refine congrArg₂ (fun a b : EReal => a * b) (congrArg₂ (fun a b : EReal => a * b) (hc k) ?_) ?_
  · refine (broadcastTo_apply _ broadcasts_S512x1_S512x128 (ix2 r k) (ix2 r 0) (fun a => by
          match a with
          | ⟨0, _⟩ => rfl
          | ⟨1, _⟩ => rfl)).trans ?_
    refine congrArg Ideal.rsqrt (congrArg₂ (fun a b : EReal => a + b) (congrArg₂ Ideal.div ?_ rfl) rfl)
    refine (shapeCast_apply _ shapeCasts_S512_S512x1 (ix2 r 0) (ix1 r) (by rewrite [Shape.rowMajor_val_one, Shape.rowMajor_val_two]; show r.val = r.val * 1 + 0; omega)).trans ?_
    refine (Ideal.multiReduction_add_single _ _ reduces_S512x128_S512 (.inl rfl) rfl (ix1 r)).trans ?_
    refine Finset.sum_congr rfl fun n _ => ?_
    have e : (Shape.Reduces.lift reduces_S512x128_S512 (ix1 r) n : S512x128.Idx) = ix2 r n := funext fun a => by
      match a with
      | ⟨0, _⟩ => rfl
      | ⟨1, _⟩ => rfl
    rw [e]
    exact congrArg₂ (fun a b : EReal => a * b) (hc n) (hc n)
  · exact broadcastTo_apply g broadcasts_S1x128_S512x128 (ix2 r k) (ix2 0 k) (fun a => by
          match a with
          | ⟨0, _⟩ => rfl
          | ⟨1, _⟩ => rfl)

/-- The products of the normed rows with the heads' weights. -/
theorem projQ_apply (Y : FVec Ideal S512x640 .f32) (g : Vec Ideal S1x256 .f32) (w : Vec Ideal S256x512 .bf16) (r j : Fin 512) :
    @Eq EReal (k0_pay98 (F := Ideal) Y g w (ix2 r j)) (along N256 (latQ fun j => Y (ix2 r j)) (fun n => g (ix2 0 n)) fun k => w (ix2 k j)) := by
  unfold k0_pay98 along
  show FloatOps.matmul (F := Ideal) (φ₁ := .bf16) (φ₂ := .bf16) (DotDims.plain 512 256 512) none (k0_pay97 Y g) w (constant ⟨2, ![512, 512]⟩ .f32 0x00000000#32) (ix2 r j) = _
  rw [Ideal.matmul_plain_apply]
  show Ideal.ofBits .f32 0x00000000#32 + _ = _
  rw [Ideal.ofBits_zero_f32, zero_add]
  exact Finset.sum_congr rfl fun k _ => congrArg₂ (fun a b : EReal => a * b) (normedQ_apply Y g r k) rfl

theorem projV_apply (Y : FVec Ideal S512x640 .f32) (g : Vec Ideal S1x128 .f32) (w : Vec Ideal S128x512 .bf16) (r j : Fin 512) :
    @Eq EReal (k0_pay115 (F := Ideal) (k0_pay112 Y) g w (ix2 r j)) (along N128 (latK fun j => Y (ix2 r j)) (fun n => g (ix2 0 n)) fun k => w (ix2 k j)) := by
  unfold k0_pay115 along
  show FloatOps.matmul (F := Ideal) (φ₁ := .bf16) (φ₂ := .bf16) (DotDims.plain 512 128 512) none (k0_pay113 (k0_pay112 Y) g) w (constant ⟨2, ![512, 512]⟩ .f32 0x00000000#32) (ix2 r j) = _
  rw [Ideal.matmul_plain_apply]
  show Ideal.ofBits .f32 0x00000000#32 + _ = _
  rw [Ideal.ofBits_zero_f32, zero_add]
  exact Finset.sum_congr rfl fun k _ => congrArg₂ (fun a b : EReal => a * b) (normedK_apply Y g r k) rfl

theorem projK_apply (Y : FVec Ideal S512x640 .f32) (g : Vec Ideal S1x128 .f32) (w : Vec Ideal S512x128 .bf16) (j r : Fin 512) :
    @Eq EReal (k0_pay114 (F := Ideal) (k0_pay112 Y) g w (ix2 j r)) (along N128 (latK fun j => Y (ix2 r j)) (fun n => g (ix2 0 n)) fun k => w (ix2 j k)) := by
  unfold k0_pay114 along
  show FloatOps.matmul (F := Ideal) (φ₁ := .bf16) (φ₂ := .bf16) (DotDims.transposedRhs 512 128 512) none w (k0_pay113 (k0_pay112 Y) g) (constant ⟨2, ![512, 512]⟩ .f32 0x00000000#32) (ix2 j r) = _
  rw [Ideal.matmul_transposedRhs_apply]
  show Ideal.ofBits .f32 0x00000000#32 + _ = _
  rw [Ideal.ofBits_zero_f32, zero_add]
  exact Finset.sum_congr rfl fun k _ => (congrArg₂ (fun a b : EReal => a * b) rfl (normedK_apply Y g r k)).trans (mul_comm _ _)

/-- The two tables of a position. -/
theorem table0_apply (t : Vec Ideal S512x128 .f32) (s : Vec Ideal S1x128 .f32) (r : Fin 512) (d : Fin 128) :
    @Eq EReal (k0_pay95 (F := Ideal) t s (ix2 r d)) (t (ix2 r d) * s (ix2 0 d)) := by
  unfold k0_pay95
  exact congrArg₂ (fun a b : EReal => a * b) rfl (broadcastTo_apply s broadcasts_S1x128_S512x128 (ix2 r d) (ix2 0 d) (fun a => by
          match a with
          | ⟨0, _⟩ => rfl
          | ⟨1, _⟩ => rfl))

theorem table1_apply (t : Vec Ideal S512x128 .f32) (s : Vec Ideal S1x128 .f32) (r : Fin 512) (d : Fin 128) :
    @Eq EReal (k0_pay96 (F := Ideal) t s (ix2 r d)) (t (ix2 r (turn d)) * s (ix2 0 d)) := by
  unfold k0_pay96
  refine congrArg₂ (fun a b : EReal => a * b) (dynamicRotate_apply 1 64#32 t rotates_S512x128_d1 (ix2 r d) (ix2 r (turn d)) (fun b => by
          match b with
          | ⟨0, _⟩ => rfl
          | ⟨1, _⟩ => show (d.val + 64) % 128 = (d.val + 128 - 64 % 128) % 128; omega)) (broadcastTo_apply s broadcasts_S1x128_S512x128 (ix2 r d) (ix2 0 d) (fun a => by
          match a with
          | ⟨0, _⟩ => rfl
          | ⟨1, _⟩ => rfl))

/-- A comparison of two places as a number. -/
theorem unit_apply (a b : ℕ) (ha : a < 512) (hb : b < 512) :
    @Eq EReal (FloatOps.sitofp (F := Ideal) .f32 (BitVec.setWidth 32 (IntOp.cmpi .eq (BitVec.ofNat 32 a) (BitVec.ofNat 32 b)))) (if a = b then 1 else 0) := by
  by_cases h : a = b
  · subst h
    rw [if_pos rfl, show IntOp.cmpi .eq (BitVec.ofNat 32 a) (BitVec.ofNat 32 a) = 1#1 from by simp [IntOp.cmpi]]
    show ((((1#1 : BitVec 1).setWidth 32).toInt : ℝ) : EReal) = 1
    simp
  · have hne : BitVec.ofNat 32 a ≠ BitVec.ofNat 32 b := fun e => h (by
      have := congrArg BitVec.toNat e
      simp only [BitVec.toNat_ofNat] at this
      omega)
    rw [if_neg h, show IntOp.cmpi .eq (BitVec.ofNat 32 a) (BitVec.ofNat 32 b) = 0#1 from congrArg BitVec.ofBool (beq_eq_false_iff_ne.mpr hne)]
    show ((((0#1 : BitVec 1).setWidth 32).toInt : ℝ) : EReal) = 0
    simp

/-- The column of ones beside the values. -/
theorem ones_apply (r : Fin 512) (d : Fin 128) : @Eq EReal (k0_pay117 (F := Ideal) (ix2 r d)) (if d.val = 0 then 1 else 0) := by
  have h := unit_apply d.val 0 (by have := d.isLt; omega) (by omega)
  have e : iota .tc S512x128 32 [1] iota_S512x128_d1_w32 (ix2 r d) = BitVec.ofNat 32 d.val := by
    show BitVec.ofNat 32 (0 * 128 + d.val) = _
    rw [Nat.zero_mul, Nat.zero_add]
  unfold k0_pay117
  refine Eq.trans ?_ h
  show FloatOps.sitofp (F := Ideal) .f32 (BitVec.setWidth 32 (IntOp.cmpi .eq (iota .tc S512x128 32 [1] iota_S512x128_d1_w32 (ix2 r d)) 0#32)) = _
  rw [e]

/-- The rotary key, turned on its side. -/
theorem rotary_apply (Y : FVec Ideal S512x640 .f32) (t0 t1 : FVec Ideal S512x128 .f32) (d : Fin 128) (r : Fin 512) :
    @Eq EReal (k0_pay116 (F := Ideal) Y t0 t1 (ix2 d r))
      (latA (fun j => Y (ix2 r j)) d * t0 (ix2 r d) + latB (fun j => Y (ix2 r j)) d * t1 (ix2 r d)) := by
  unfold k0_pay116
  dsimp only
  refine (show @Eq EReal _ (FloatOps.matmul (F := Ideal) (φ₁ := .bf16) (φ₂ := .bf16) (DotDims.transposedRhs 128 128 512) none _ _ (constant ⟨2, ![128, 512]⟩ .f32 0x00000000#32) (ix2 d r)) from rfl).trans ?_
  rw [Ideal.matmul_transposedRhs_apply]
  show Ideal.ofBits .f32 0x00000000#32 + _ = _
  rw [Ideal.ofBits_zero_f32, zero_add]
  refine (Finset.sum_eq_single d (fun k _ hk => ?_) (fun h => absurd (Finset.mem_univ d) h)).trans ?_
  · refine (congrArg₂ (fun a b : EReal => a * b) ?_ rfl).trans (zero_mul _)
    have h := unit_apply d.val k.val (by have := d.isLt; omega) (by have := k.isLt; omega)
    rw [if_neg (fun e => hk (Fin.ext e.symm))] at h
    refine Eq.trans ?_ h
    show FloatOps.sitofp (F := Ideal) .f32 (BitVec.setWidth 32 (IntOp.cmpi .eq (BitVec.ofNat 32 (0 * 128 + d.val)) (BitVec.ofNat 32 (0 * 128 + k.val)))) = _
    rw [Nat.zero_mul, Nat.zero_add, Nat.zero_add]
  · refine (congrArg₂ (fun a b : EReal => a * b) ?_ ?_).trans (one_mul _)
    · have h := unit_apply d.val d.val (by have := d.isLt; omega) (by have := d.isLt; omega)
      rw [if_pos rfl] at h
      refine Eq.trans ?_ h
      show FloatOps.sitofp (F := Ideal) .f32 (BitVec.setWidth 32 (IntOp.cmpi .eq (BitVec.ofNat 32 (0 * 128 + d.val)) (BitVec.ofNat 32 (0 * 128 + d.val)))) = _
      rw [Nat.zero_mul, Nat.zero_add]
    · exact congrArg₂ (fun a b : EReal => a + b)
        (congrArg₂ (fun a b : EReal => a * b) (cut_apply 384 Y slices_S512x640_o0_384_S512x128 r d (by have := d.isLt; omega)) rfl)
        (congrArg₂ (fun a b : EReal => a * b) (cut_apply 512 Y slices_S512x640_o0_512_S512x128 r d (by have := d.isLt; omega)) rfl)

section pieces

variable (x1 : Vec Ideal S512x1024 .f32) (x3 : Vec Ideal S1x1024 .f32) (x6 : Vec Ideal S1024x1152 .bf16) (x11 : Vec Ideal S512x128 .f32)
  (x12 : Vec Ideal S8x128 .f32) (x13 : Vec Ideal S1x256 .f32) (x14 : Vec Ideal S1x128 .f32) (x15 x16 x17 : Vec Ideal S256x512 .bf16)
  (x18 : Vec Ideal S512x128 .bf16) (x19 : Vec Ideal S128x512 .bf16)

/-- A row of a block, compressed. -/
abbrev latRow (r : Fin 512) : Fin 640 → EReal :=
  lat (fun n => x1 (ix2 r n)) (fun n => x3 (ix2 0 n)) fun k j => x6 (ix2 k j)

/-- The three results of a block, by head, row and column. -/
def qAt (h : Fin 4) (r : Fin 512) : Fin 256 → EReal :=
  query (latRow x1 x3 x6 r) (fun n => x13 (ix2 0 n)) (fun k j => x15 (ix2 k j)) (fun k j => x16 (ix2 k j)) (fun k j => x17 (ix2 k j))
    (fun d => x11 (ix2 r d)) (fun d => x12 (ix2 0 d)) (fun d => x12 (ix2 1 d)) h
def kAt (h : Fin 4) (r : Fin 512) : Fin 256 → EReal :=
  key (latRow x1 x3 x6 r) (fun n => x14 (ix2 0 n)) (fun j k => x18 (ix2 j k)) (fun d => x11 (ix2 r d)) (fun d => x12 (ix2 0 d)) (fun d => x12 (ix2 1 d)) h
def vAt (h : Fin 4) (r : Fin 512) : Fin 256 → EReal :=
  value (latRow x1 x3 x6 r) (fun n => x14 (ix2 0 n)) (fun k j => x19 (ix2 k j)) h

/-- As blocks. -/
abbrev rowsOf (A : Fin 4 → Fin 512 → Fin 256 → EReal) : S4x512x256.Idx → EReal := fun y => A (y 0 : Fin 4) (y 1 : Fin 512) (y 2 : Fin 256)
abbrev colsOf (A : Fin 4 → Fin 512 → Fin 256 → EReal) : S4x256x512.Idx → EReal := fun y => A (y 0 : Fin 4) (y 2 : Fin 512) (y 1 : Fin 256)

/-- The block's compressed columns, and the two tables. -/
abbrev comp : FVec Ideal S512x640 .f32 := k0_pay86 (F := Ideal) (k0_pay6 x1 x3) (View.ld x6 (Rect.unit (s := S1024x1152) ![0, 0] ![1024, 640] inb_S1024x1152_S1024x640_0_0))
abbrev tab0 : FVec Ideal S512x128 .f32 := k0_pay95 (F := Ideal) x11 (View.ld x12 (Rect.unit (s := S8x128) ![0, 0] ![1, 128] inb_S8x128_S1x128_0_0))
abbrev tab1 : FVec Ideal S512x128 .f32 := k0_pay96 (F := Ideal) x11 (View.ld x12 (Rect.unit (s := S8x128) ![1, 0] ![1, 128] inb_S8x128_S1x128_1_0))

theorem comp_row (r : Fin 512) : (fun j : Fin 640 => (comp x1 x3 x6 (ix2 r j) : EReal)) = latRow x1 x3 x6 r := by
  funext j
  refine (lat_apply x1 x3 _ r j).trans (congrArg (entry _ _) (funext fun k => congrArg x6 (funext fun a => Fin.ext ?_)))
  match a with
  | ⟨0, _⟩ => show 0 + 1 * k.val = k.val; omega
  | ⟨1, _⟩ => show 0 + 1 * j.val = j.val; omega

theorem tab0_apply (r : Fin 512) (d : Fin 128) : @Eq EReal (tab0 x11 x12 (ix2 r d)) (x11 (ix2 r d) * x12 (ix2 0 d)) := by
  refine (table0_apply x11 _ r d).trans (congrArg₂ (fun a b : EReal => a * b) rfl (congrArg x12 (funext fun a => Fin.ext ?_)))
  match a with
  | ⟨0, _⟩ => rfl
  | ⟨1, _⟩ => show 0 + 1 * d.val = d.val; omega

theorem tab1_apply (r : Fin 512) (d : Fin 128) : @Eq EReal (tab1 x11 x12 (ix2 r d)) (x11 (ix2 r (turn d)) * x12 (ix2 1 d)) := by
  refine (table1_apply x11 _ r d).trans (congrArg₂ (fun a b : EReal => a * b) rfl (congrArg x12 (funext fun a => Fin.ext ?_)))
  match a with
  | ⟨0, _⟩ => rfl
  | ⟨1, _⟩ => show 0 + 1 * d.val = d.val; omega

/-- A half of one head's rows, laid in its block. -/
theorem side (A : Fin 4 → Fin 512 → Fin 256 → EReal) (V : Vec Ideal S512x128 .bf16) (n : Fin 4) (p : ℕ)
    (inb : ∀ a, ![n.val, 0, p] a + ![1, 512, 128] a ≤ S4x512x256.size a)
    (hV : ∀ (r : Fin 512) (d : Fin 128) (j : Fin 256), j.val = p + d.val → @Eq EReal (V (ix2 r d)) (A n r j))
    (z : (⟨3, ![1, 512, 128]⟩ : Shape).Idx) :
    @Eq EReal (shapeCast S1x512x128 V shapeCasts_S512x128_S1x512x128 z) (rowsOf A ((Rect.unit (s := S4x512x256) ![n.val, 0, p] ![1, 512, 128] inb).emb z)) := by
  have hz0 : (z 0).val < 1 := (z 0).isLt
  refine (shapeCast_apply V shapeCasts_S512x128_S1x512x128 z (ix2 (z 1 : Fin 512) (z 2 : Fin 128)) (by
    rewrite [Shape.rowMajor_val_two, Shape.rowMajor_val_three]
    show (z 1).val * 128 + (z 2).val = ((z 0).val * 512 + (z 1).val) * 128 + (z 2).val
    omega)).trans ?_
  have e0 : ((Rect.unit (s := S4x512x256) ![n.val, 0, p] ![1, 512, 128] inb).emb z 0 : Fin 4) = n := Fin.ext (by show n.val + 1 * (z 0).val = n.val; omega)
  have e1 : ((Rect.unit (s := S4x512x256) ![n.val, 0, p] ![1, 512, 128] inb).emb z 1 : Fin 512) = (z 1 : Fin 512) := Fin.ext (by show 0 + 1 * (z 1).val = (z 1).val; omega)
  refine (hV (z 1) (z 2) ((Rect.unit (s := S4x512x256) ![n.val, 0, p] ![1, 512, 128] inb).emb z 2 : Fin 256) (by show p + 1 * (z 2).val = p + (z 2).val; omega)).trans ?_
  exact (congrFun (congr (congrArg A e0) e1) _).symm

/-- The same with the rows as columns. -/
theorem upright (A : Fin 4 → Fin 512 → Fin 256 → EReal) (V : Vec Ideal S128x512 .bf16) (n : Fin 4) (p : ℕ)
    (inb : ∀ a, ![n.val, p, 0] a + ![1, 128, 512] a ≤ S4x256x512.size a)
    (hV : ∀ (r : Fin 512) (d : Fin 128) (j : Fin 256), j.val = p + d.val → @Eq EReal (V (ix2 d r)) (A n r j))
    (z : (⟨3, ![1, 128, 512]⟩ : Shape).Idx) :
    @Eq EReal (shapeCast S1x128x512 V shapeCasts_S128x512_S1x128x512 z) (colsOf A ((Rect.unit (s := S4x256x512) ![n.val, p, 0] ![1, 128, 512] inb).emb z)) := by
  have hz0 : (z 0).val < 1 := (z 0).isLt
  refine (shapeCast_apply V shapeCasts_S128x512_S1x128x512 z (ix2 (z 1 : Fin 128) (z 2 : Fin 512)) (by
    rewrite [Shape.rowMajor_val_two, Shape.rowMajor_val_three]
    show (z 1).val * 512 + (z 2).val = ((z 0).val * 128 + (z 1).val) * 512 + (z 2).val
    omega)).trans ?_
  have e0 : ((Rect.unit (s := S4x256x512) ![n.val, p, 0] ![1, 128, 512] inb).emb z 0 : Fin 4) = n := Fin.ext (by show n.val + 1 * (z 0).val = n.val; omega)
  have e2 : ((Rect.unit (s := S4x256x512) ![n.val, p, 0] ![1, 128, 512] inb).emb z 2 : Fin 512) = (z 2 : Fin 512) := Fin.ext (by show 0 + 1 * (z 2).val = (z 2).val; omega)
  refine (hV (z 2) (z 1) ((Rect.unit (s := S4x256x512) ![n.val, p, 0] ![1, 128, 512] inb).emb z 1 : Fin 256) (by show p + 1 * (z 1).val = p + (z 1).val; omega)).trans ?_
  exact (congrFun (congr (congrArg A e0) e2) _).symm

/-- A head's columns of a product. -/
theorem head_apply (P : FVec Ideal S512x512 .f32) (n : Fin 4) (sl : S512x512.Slices ![0, 128 * n.val] S512x128) (r : Fin 512) (d : Fin 128) :
    @Eq EReal (extractStridedSlice S512x128 ![0, 128 * n.val] P sl (ix2 r d)) (P (ix2 r (col n d))) :=
  cut_apply (128 * n.val) P sl r d (by have := n.isLt; have := d.isLt; omega)

theorem qlow (n : Fin 4) (sl : S512x512.Slices ![0, 128 * n.val] S512x128) (r : Fin 512) (d : Fin 128) (j : Fin 256) (hj : j.val = 0 + d.val) :
    @Eq EReal (truncf .bf16 (mulf (extractStridedSlice S512x128 ![0, 128 * n.val] (k0_pay98 (F := Ideal) (comp x1 x3 x6) x13 x15) sl) (broadcast S512x128 (Scalar.ofBits .f32 0x3DD53B95#32))) bitsLt_bf16_f32 (ix2 r d))
      (qAt x1 x3 x6 x11 x12 x13 x15 x16 x17 n r j) := by
  unfold qAt query
  rw [both_low _ _ j d (by omega), ← comp_row]
  exact congrArg₂ (fun a b : EReal => a * b) ((head_apply _ n sl r d).trans (projQ_apply _ _ _ _ _)) rfl

theorem qhigh (n : Fin 4) (sl : S512x512.Slices ![0, 128 * n.val] S512x128) (r : Fin 512) (d : Fin 128) (j : Fin 256) (hj : j.val = 128 + d.val) :
    @Eq EReal (truncf .bf16 (mulf (addf (mulf (extractStridedSlice S512x128 ![0, 128 * n.val] (k0_pay99 (F := Ideal) (comp x1 x3 x6) x13 x16) sl) (tab0 x11 x12))
        (mulf (extractStridedSlice S512x128 ![0, 128 * n.val] (k0_pay100 (F := Ideal) (comp x1 x3 x6) x13 x17) sl) (tab1 x11 x12))) (broadcast S512x128 (Scalar.ofBits .f32 0x3DD53B95#32))) bitsLt_bf16_f32 (ix2 r d))
      (qAt x1 x3 x6 x11 x12 x13 x15 x16 x17 n r j) := by
  unfold qAt query rot
  rw [both_high _ _ j d hj, ← comp_row]
  exact congrArg₂ (fun a b : EReal => a * b) (congrArg₂ (fun a b : EReal => a + b)
    (congrArg₂ (fun a b : EReal => a * b) ((head_apply _ n sl r d).trans (projQ_apply _ _ x16 _ _)) (tab0_apply x11 x12 r d))
    (congrArg₂ (fun a b : EReal => a * b) ((head_apply _ n sl r d).trans (projQ_apply _ _ x17 _ _)) (tab1_apply x11 x12 r d))) rfl

theorem klow (n : Fin 4) (sl : S512x512.Slices ![128 * n.val, 0] S128x512) (r : Fin 512) (d : Fin 128) (j : Fin 256) (hj : j.val = 0 + d.val) :
    @Eq EReal (truncf .bf16 (extractStridedSlice S128x512 ![128 * n.val, 0] (k0_pay114 (F := Ideal) (k0_pay112 (comp x1 x3 x6)) x14 x18) sl) bitsLt_bf16_f32 (ix2 d r))
      (kAt x1 x3 x6 x11 x12 x14 x18 n r j) := by
  unfold kAt key
  rw [both_low _ _ j d (by omega), ← comp_row]
  refine (show @Eq EReal _ (extractStridedSlice S128x512 ![128 * n.val, 0] (k0_pay114 (F := Ideal) (k0_pay112 (comp x1 x3 x6)) x14 x18) sl (ix2 d r)) from rfl).trans ?_
  refine (extractStridedSlice_apply ![128 * n.val, 0] _ sl (ix2 d r) (ix2 (col n d) r) (fun a => by
    match a with
    | ⟨0, _⟩ => rfl
    | ⟨1, _⟩ => show r.val = 0 + r.val; omega)).trans ?_
  exact projK_apply _ _ _ _ _

theorem khigh (n : Fin 4) (r : Fin 512) (d : Fin 128) (j : Fin 256) (hj : j.val = 128 + d.val) :
    @Eq EReal (k0_pay116 (F := Ideal) (comp x1 x3 x6) (tab0 x11 x12) (tab1 x11 x12) (ix2 d r)) (kAt x1 x3 x6 x11 x12 x14 x18 n r j) := by
  unfold kAt key rot
  rw [both_high _ _ j d hj, ← comp_row]
  exact (rotary_apply _ _ _ d r).trans (congrArg₂ (fun a b : EReal => a + b)
    (congrArg₂ (fun a b : EReal => a * b) rfl (tab0_apply x11 x12 r d)) (congrArg₂ (fun a b : EReal => a * b) rfl (tab1_apply x11 x12 r d)))

theorem vlow (n : Fin 4) (sl : S512x512.Slices ![0, 128 * n.val] S512x128) (r : Fin 512) (d : Fin 128) (j : Fin 256) (hj : j.val = 0 + d.val) :
    @Eq EReal (truncf .bf16 (extractStridedSlice S512x128 ![0, 128 * n.val] (k0_pay115 (F := Ideal) (k0_pay112 (comp x1 x3 x6)) x14 x19) sl) bitsLt_bf16_f32 (ix2 r d))
      (vAt x1 x3 x6 x14 x19 n r j) := by
  unfold vAt value
  rw [both_low _ _ j d (by omega), ← comp_row]
  exact (head_apply _ n sl r d).trans (projV_apply _ _ _ _ _)

theorem vhigh (n : Fin 4) (r : Fin 512) (d : Fin 128) (j : Fin 256) (hj : j.val = 128 + d.val) :
    @Eq EReal (k0_pay117 (F := Ideal) (ix2 r d)) (vAt x1 x3 x6 x14 x19 n r j) := by
  unfold vAt value
  rw [both_high _ _ j d hj]
  exact ones_apply r d

end pieces

section blocks

variable (c : Dev nD) (i : grid0.Coords)
  (a1 : Memref sig .tc .smem S8 .f32) (h1 : a1.IsWhole) (a2 : Memref sig .tc .vmem S512x1024 .f32) (h2 : a2.IsWhole)
  (a3 : Memref sig .tc .vmem S128x1024 .f32) (h3 : a3.IsWhole) (a4 : Memref sig .tc .vmem S1x1024 .f32) (h4 : a4.IsWhole)
  (a5 : Memref sig .tc .vmem S1024x1280 .bf16) (h5 : a5.IsWhole) (a6 : Memref sig .tc .vmem S1024x2048 .bf16) (h6 : a6.IsWhole)
  (a7 : Memref sig .tc .vmem S1024x1152 .bf16) (h7 : a7.IsWhole) (a8 : Memref sig .tc .vmem S1024x1024 .bf16) (h8 : a8.IsWhole)
  (a9 : Memref sig .tc .vmem S1024x256 .bf16) (h9 : a9.IsWhole) (a10 : Memref sig .tc .vmem S256x1024 .bf16) (h10 : a10.IsWhole)
  (a11 : Memref sig .tc .vmem S8x128x256 .f32) (h11 : a11.IsWhole) (a12 : Memref sig .tc .vmem S512x128 .f32) (h12 : a12.IsWhole)
  (a13 : Memref sig .tc .vmem S8x128 .f32) (h13 : a13.IsWhole) (a14 : Memref sig .tc .vmem S1x256 .f32) (h14 : a14.IsWhole)
  (a15 : Memref sig .tc .vmem S1x128 .f32) (h15 : a15.IsWhole) (a16 : Memref sig .tc .vmem S256x512 .bf16) (h16 : a16.IsWhole)
  (a17 : Memref sig .tc .vmem S256x512 .bf16) (h17 : a17.IsWhole) (a18 : Memref sig .tc .vmem S256x512 .bf16) (h18 : a18.IsWhole)
  (a19 : Memref sig .tc .vmem S512x128 .bf16) (h19 : a19.IsWhole) (a20 : Memref sig .tc .vmem S128x512 .bf16) (h20 : a20.IsWhole)
  (a21 : Memref sig .tc .vmem S512x2048 .bf16) (h21 : a21.IsWhole) (a22 : Memref sig .tc .vmem S512x512 .bf16) (h22 : a22.IsWhole)
  (a23 : Memref sig .tc .vmem S4x512x256 .bf16) (h23 : a23.IsWhole) (a24 : Memref sig .tc .vmem S4x256x512 .bf16) (h24 : a24.IsWhole)
  (a25 : Memref sig .tc .vmem S4x512x256 .bf16) (h25 : a25.IsWhole) (a26 : Memref sig .tc .vmem S512x512 .bf16) (h26 : a26.IsWhole)
  (a27 : Memref sig .tc .vmem S512x512 .bf16) (h27 : a27.IsWhole) (a28 : Memref sig .tc .vmem S512x128 .f32) (h28 : a28.IsWhole)
  (x0 : Vec Ideal S8 .f32) (x1 : Vec Ideal S512x1024 .f32) (x2 : Vec Ideal S128x1024 .f32) (x3 : Vec Ideal S1x1024 .f32)
  (x4 : Vec Ideal S1024x1280 .bf16) (x5 : Vec Ideal S1024x2048 .bf16) (x6 : Vec Ideal S1024x1152 .bf16) (x7 : Vec Ideal S1024x1024 .bf16)
  (x8 : Vec Ideal S1024x256 .bf16) (x9 : Vec Ideal S256x1024 .bf16) (x10 : Vec Ideal S8x128x256 .f32) (x11 : Vec Ideal S512x128 .f32)
  (x12 : Vec Ideal S8x128 .f32) (x13 : Vec Ideal S1x256 .f32) (x14 : Vec Ideal S1x128 .f32) (x15 : Vec Ideal S256x512 .bf16)
  (x16 : Vec Ideal S256x512 .bf16) (x17 : Vec Ideal S256x512 .bf16) (x18 : Vec Ideal S512x128 .bf16) (x19 : Vec Ideal S128x512 .bf16)

/-- What the body leaves in the block of queries. -/
theorem out_22 : out0_A_22 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 x15 x16 x17 x18 x19 = rowsOf (qAt x1 x3 x6 x11 x12 x13 x15 x16 x17) := by
  unfold out0_A_22
  rw [View.read_writes_eq_canon _ _ _ (cover0_A_22 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 x15 x16 x17 x18 x19)]
  funext y
  refine View.canon_apply_of_pieces (rowsOf (qAt x1 x3 x6 x11 x12 x13 x15 x16 x17)) _ (View.PiecesOf.mem ?_) y (cover0_A_22 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 x15 x16 x17 x18 x19 y)
  unfold kernelRun0_A
  dsimp only
  sl_unfold_words
  simp only [View.readAt_eq_ld, h2.read_unread, h4.read_unread, h7.read_unread, h12.read_unread, h13.read_unread, h14.read_unread, h16.read_unread, h17.read_unread, h18.read_unread, View.ld_unit_zero (S := S512x1024) hz, View.ld_unit_zero (S := S1x1024) hz, View.ld_unit_zero (S := S512x128) hz, View.ld_unit_zero (S := S1x256) hz, View.ld_unit_zero (S := S256x512) hz]
  exact ⟨fun z => side (qAt x1 x3 x6 x11 x12 x13 x15 x16 x17) _ 3 128 inb_S4x512x256_S1x512x128_3_0_128 (qhigh x1 x3 x6 x11 x12 x13 x15 x16 x17 3 slices_S512x512_o0_384_S512x128) z,
    fun z => side (qAt x1 x3 x6 x11 x12 x13 x15 x16 x17) _ 3 0 inb_S4x512x256_S1x512x128_3_0_0 (qlow x1 x3 x6 x11 x12 x13 x15 x16 x17 3 slices_S512x512_o0_384_S512x128) z,
    fun z => side (qAt x1 x3 x6 x11 x12 x13 x15 x16 x17) _ 2 128 inb_S4x512x256_S1x512x128_2_0_128 (qhigh x1 x3 x6 x11 x12 x13 x15 x16 x17 2 slices_S512x512_o0_256_S512x128) z,
    fun z => side (qAt x1 x3 x6 x11 x12 x13 x15 x16 x17) _ 2 0 inb_S4x512x256_S1x512x128_2_0_0 (qlow x1 x3 x6 x11 x12 x13 x15 x16 x17 2 slices_S512x512_o0_256_S512x128) z,
    fun z => side (qAt x1 x3 x6 x11 x12 x13 x15 x16 x17) _ 1 128 inb_S4x512x256_S1x512x128_1_0_128 (qhigh x1 x3 x6 x11 x12 x13 x15 x16 x17 1 slices_S512x512_o0_128_S512x128) z,
    fun z => side (qAt x1 x3 x6 x11 x12 x13 x15 x16 x17) _ 1 0 inb_S4x512x256_S1x512x128_1_0_0 (qlow x1 x3 x6 x11 x12 x13 x15 x16 x17 1 slices_S512x512_o0_128_S512x128) z,
    fun z => side (qAt x1 x3 x6 x11 x12 x13 x15 x16 x17) _ 0 128 inb_S4x512x256_S1x512x128_0_0_128 (qhigh x1 x3 x6 x11 x12 x13 x15 x16 x17 0 slices_S512x512_o0_0_S512x128) z,
    fun z => side (qAt x1 x3 x6 x11 x12 x13 x15 x16 x17) _ 0 0 inb_S4x512x256_S1x512x128_0_0_0 (qlow x1 x3 x6 x11 x12 x13 x15 x16 x17 0 slices_S512x512_o0_0_S512x128) z, trivial⟩

/-- What the body leaves in the block of keys. -/
theorem out_23 : out0_A_23 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 x15 x16 x17 x18 x19 = colsOf (kAt x1 x3 x6 x11 x12 x14 x18) := by
  unfold out0_A_23
  rw [View.read_writes_eq_canon _ _ _ (cover0_A_23 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 x15 x16 x17 x18 x19)]
  funext y
  refine View.canon_apply_of_pieces (colsOf (kAt x1 x3 x6 x11 x12 x14 x18)) _ (View.PiecesOf.mem ?_) y (cover0_A_23 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 x15 x16 x17 x18 x19 y)
  unfold kernelRun0_A
  dsimp only
  sl_unfold_words
  simp only [View.readAt_eq_ld, h2.read_unread, h4.read_unread, h7.read_unread, h12.read_unread, h13.read_unread, h15.read_unread, h19.read_unread, View.ld_unit_zero (S := S512x1024) hz, View.ld_unit_zero (S := S1x1024) hz, View.ld_unit_zero (S := S512x128) hz, View.ld_unit_zero (S := S1x128) hz]
  exact ⟨fun z => upright (kAt x1 x3 x6 x11 x12 x14 x18) _ 3 128 inb_S4x256x512_S1x128x512_3_128_0 (khigh x1 x3 x6 x11 x12 x14 x18 3) z,
    fun z => upright (kAt x1 x3 x6 x11 x12 x14 x18) _ 3 0 inb_S4x256x512_S1x128x512_3_0_0 (klow x1 x3 x6 x11 x12 x14 x18 3 slices_S512x512_o384_0_S128x512) z,
    fun z => upright (kAt x1 x3 x6 x11 x12 x14 x18) _ 2 128 inb_S4x256x512_S1x128x512_2_128_0 (khigh x1 x3 x6 x11 x12 x14 x18 2) z,
    fun z => upright (kAt x1 x3 x6 x11 x12 x14 x18) _ 2 0 inb_S4x256x512_S1x128x512_2_0_0 (klow x1 x3 x6 x11 x12 x14 x18 2 slices_S512x512_o256_0_S128x512) z,
    fun z => upright (kAt x1 x3 x6 x11 x12 x14 x18) _ 1 128 inb_S4x256x512_S1x128x512_1_128_0 (khigh x1 x3 x6 x11 x12 x14 x18 1) z,
    fun z => upright (kAt x1 x3 x6 x11 x12 x14 x18) _ 1 0 inb_S4x256x512_S1x128x512_1_0_0 (klow x1 x3 x6 x11 x12 x14 x18 1 slices_S512x512_o128_0_S128x512) z,
    fun z => upright (kAt x1 x3 x6 x11 x12 x14 x18) _ 0 128 inb_S4x256x512_S1x128x512_0_128_0 (khigh x1 x3 x6 x11 x12 x14 x18 0) z,
    fun z => upright (kAt x1 x3 x6 x11 x12 x14 x18) _ 0 0 inb_S4x256x512_S1x128x512_0_0_0 (klow x1 x3 x6 x11 x12 x14 x18 0 slices_S512x512_o0_0_S128x512) z, trivial⟩

/-- What the body leaves in the block of values. -/
theorem out_24 : out0_A_24 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 x15 x16 x17 x18 x19 = rowsOf (vAt x1 x3 x6 x14 x19) := by
  unfold out0_A_24
  rw [View.read_writes_eq_canon _ _ _ (cover0_A_24 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 x15 x16 x17 x18 x19)]
  funext y
  refine View.canon_apply_of_pieces (rowsOf (vAt x1 x3 x6 x14 x19)) _ (View.PiecesOf.mem ?_) y (cover0_A_24 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 x15 x16 x17 x18 x19 y)
  unfold kernelRun0_A
  dsimp only
  sl_unfold_words
  simp only [View.readAt_eq_ld, h2.read_unread, h4.read_unread, h7.read_unread, h15.read_unread, h20.read_unread, View.ld_unit_zero (S := S512x1024) hz, View.ld_unit_zero (S := S1x1024) hz, View.ld_unit_zero (S := S1x128) hz, View.ld_unit_zero (S := S128x512) hz]
  exact ⟨fun z => side (vAt x1 x3 x6 x14 x19) _ 3 128 inb_S4x512x256_S1x512x128_3_0_128 (vhigh x1 x3 x6 x14 x19 3) z,
    fun z => side (vAt x1 x3 x6 x14 x19) _ 3 0 inb_S4x512x256_S1x512x128_3_0_0 (vlow x1 x3 x6 x14 x19 3 slices_S512x512_o0_384_S512x128) z,
    fun z => side (vAt x1 x3 x6 x14 x19) _ 2 128 inb_S4x512x256_S1x512x128_2_0_128 (vhigh x1 x3 x6 x14 x19 2) z,
    fun z => side (vAt x1 x3 x6 x14 x19) _ 2 0 inb_S4x512x256_S1x512x128_2_0_0 (vlow x1 x3 x6 x14 x19 2 slices_S512x512_o0_256_S512x128) z,
    fun z => side (vAt x1 x3 x6 x14 x19) _ 1 128 inb_S4x512x256_S1x512x128_1_0_128 (vhigh x1 x3 x6 x14 x19 1) z,
    fun z => side (vAt x1 x3 x6 x14 x19) _ 1 0 inb_S4x512x256_S1x512x128_1_0_0 (vlow x1 x3 x6 x14 x19 1 slices_S512x512_o0_128_S512x128) z,
    fun z => side (vAt x1 x3 x6 x14 x19) _ 0 128 inb_S4x512x256_S1x512x128_0_0_128 (vhigh x1 x3 x6 x14 x19 0) z,
    fun z => side (vAt x1 x3 x6 x14 x19) _ 0 0 inb_S4x512x256_S1x512x128_0_0_0 (vlow x1 x3 x6 x14 x19 0 slices_S512x512_o0_0_S512x128) z, trivial⟩

end blocks

end Cert.InprojIdeal.Val

end
-- ==== Proof.InHeadsArray.lean ====
/- The arrays of queries, keys and values of the input projection after the run, index by index. -/
module

public import proofs.«01_k».proof.Proof.InArray
public import proofs.«01_k».proof.Proof.InHeads

@[expose] public section

noncomputable section

namespace Cert.InprojIdeal.Val

open Cert.InprojIdeal Cert.InprojIdeal.Gen Cert.InprojIdeal.Frm Idealize.ShloMosaic Idealize.ShloMosaic.TcCoe Idealize.SL.Sem
open Idealize.ShloMosaic.ValueIdx Cert.In

variable (m : (ℓ : Loc nD τ sig) → Buf (Elt Ideal) ℓ)

/-- Where the blocks lie at each point. -/
theorem placed : ∀ t : Fin cfg0.N,
    (win0_11.index t (0 : Fin 2) = t.val ∧ win0_11.index t (1 : Fin 2) = 0) ∧ (win0_12.index t (0 : Fin 2) = 0 ∧ win0_12.index t (1 : Fin 2) = 0) ∧ (win0_13.index t (0 : Fin 2) = 0 ∧ win0_13.index t (1 : Fin 2) = 0)
    ∧ (win0_14.index t (0 : Fin 2) = 0 ∧ win0_14.index t (1 : Fin 2) = 0) ∧ (win0_15.index t (0 : Fin 2) = 0 ∧ win0_15.index t (1 : Fin 2) = 0) ∧ (win0_16.index t (0 : Fin 2) = 0 ∧ win0_16.index t (1 : Fin 2) = 0)
    ∧ (win0_17.index t (0 : Fin 2) = 0 ∧ win0_17.index t (1 : Fin 2) = 0) ∧ (win0_18.index t (0 : Fin 2) = 0 ∧ win0_18.index t (1 : Fin 2) = 0) ∧ (win0_19.index t (0 : Fin 2) = 0 ∧ win0_19.index t (1 : Fin 2) = 0)
    ∧ (win0_22.index t (0 : Fin 3) = 0 ∧ win0_22.index t (1 : Fin 3) = t.val ∧ win0_22.index t (2 : Fin 3) = 0 ∧ (cfg0.win 22).flush t = true)
    ∧ (win0_23.index t (0 : Fin 3) = 0 ∧ win0_23.index t (1 : Fin 3) = 0 ∧ win0_23.index t (2 : Fin 3) = t.val ∧ (cfg0.win 23).flush t = true)
    ∧ (win0_24.index t (0 : Fin 3) = 0 ∧ win0_24.index t (1 : Fin 3) = t.val ∧ win0_24.index t (2 : Fin 3) = 0 ∧ (cfg0.win 24).flush t = true) :=
  (by decide +kernel : ∀ t : Fin grid0.N,
    (win0_11.index t (0 : Fin 2) = t.val ∧ win0_11.index t (1 : Fin 2) = 0) ∧ (win0_12.index t (0 : Fin 2) = 0 ∧ win0_12.index t (1 : Fin 2) = 0) ∧ (win0_13.index t (0 : Fin 2) = 0 ∧ win0_13.index t (1 : Fin 2) = 0)
    ∧ (win0_14.index t (0 : Fin 2) = 0 ∧ win0_14.index t (1 : Fin 2) = 0) ∧ (win0_15.index t (0 : Fin 2) = 0 ∧ win0_15.index t (1 : Fin 2) = 0) ∧ (win0_16.index t (0 : Fin 2) = 0 ∧ win0_16.index t (1 : Fin 2) = 0)
    ∧ (win0_17.index t (0 : Fin 2) = 0 ∧ win0_17.index t (1 : Fin 2) = 0) ∧ (win0_18.index t (0 : Fin 2) = 0 ∧ win0_18.index t (1 : Fin 2) = 0) ∧ (win0_19.index t (0 : Fin 2) = 0 ∧ win0_19.index t (1 : Fin 2) = 0)
    ∧ (win0_22.index t (0 : Fin 3) = 0 ∧ win0_22.index t (1 : Fin 3) = t.val ∧ win0_22.index t (2 : Fin 3) = 0 ∧ win0_22.flush t = true)
    ∧ (win0_23.index t (0 : Fin 3) = 0 ∧ win0_23.index t (1 : Fin 3) = 0 ∧ win0_23.index t (2 : Fin 3) = t.val ∧ win0_23.flush t = true)
    ∧ (win0_24.index t (0 : Fin 3) = 0 ∧ win0_24.index t (1 : Fin 3) = t.val ∧ win0_24.index t (2 : Fin 3) = 0 ∧ win0_24.flush t = true))

theorem at0 (i n k : ℕ) (h : i = 0) : i * n + 1 * k = k := by subst h; omega

theorem eq2 {a b : ℕ} (x y : (⟨2, ![a, b]⟩ : Shape).Idx) (h0 : (x 0).val = (y 0).val) (h1 : (x 1).val = (y 1).val) : x = y :=
  funext fun i => Fin.ext (by
    match i with
    | ⟨0, _⟩ => exact h0
    | ⟨1, _⟩ => exact h1)

/-- The further arguments. -/
abbrev Tab (c : Dev nD) : S16384x128.Idx → EReal := m ((c : Thread nD τ).loc main_arg10)
abbrev Sgn (c : Dev nD) : S8x128.Idx → EReal := m ((c : Thread nD τ).loc main_arg11)
abbrev QN (c : Dev nD) : S1x256.Idx → EReal := m ((c : Thread nD τ).loc main_arg12)
abbrev KN (c : Dev nD) : S1x128.Idx → EReal := m ((c : Thread nD τ).loc main_arg13)
abbrev WN (c : Dev nD) : S256x512.Idx → EReal := m ((c : Thread nD τ).loc main_arg14)
abbrev WR (c : Dev nD) : S256x512.Idx → EReal := m ((c : Thread nD τ).loc main_arg15)
abbrev WS (c : Dev nD) : S256x512.Idx → EReal := m ((c : Thread nD τ).loc main_arg16)
abbrev WK (c : Dev nD) : S512x128.Idx → EReal := m ((c : Thread nD τ).loc main_arg17)
abbrev WV (c : Dev nD) : S128x512.Idx → EReal := m ((c : Thread nD τ).loc main_arg18)

theorem read11 (c : Dev nD) (t : Fin cfg0.N) (r : Fin 512) (d : Fin 128) :
    (iblk m c 11 t : S512x128.Idx → EReal) (ix2 r d) = Tab m c (ix2 (rowOf t r) d) := by
  obtain ⟨⟨e0, e1⟩, -⟩ := placed t
  show V m c main_arg10 (((cfg0.win 11).blk t).view.emb (ix2 r d)) = _
  refine congrArg (V m c main_arg10) (eq2 _ _ ?_ (at0 _ 128 _ e1))
  show win0_11.index t (0 : Fin 2) * 512 + 1 * r.val = 512 * t.val + r.val
  rw [e0]; omega
theorem read12 (c : Dev nD) (t : Fin cfg0.N) (i : Fin 8) (j : Fin 128) : (iblk m c 12 t : S8x128.Idx → EReal) (ix2 i j) = Sgn m c (ix2 i j) :=
  congrArg (V m c main_arg11) (eq2 (((cfg0.win 12).blk t).view.emb (ix2 i j)) (ix2 i j) (at0 _ 8 _ (placed t).2.1.1) (at0 _ 128 _ (placed t).2.1.2))
theorem read13 (c : Dev nD) (t : Fin cfg0.N) (i : Fin 1) (j : Fin 256) : (iblk m c 13 t : S1x256.Idx → EReal) (ix2 i j) = QN m c (ix2 i j) :=
  congrArg (V m c main_arg12) (eq2 (((cfg0.win 13).blk t).view.emb (ix2 i j)) (ix2 i j) (at0 _ 1 _ (placed t).2.2.1.1) (at0 _ 256 _ (placed t).2.2.1.2))
theorem read14 (c : Dev nD) (t : Fin cfg0.N) (i : Fin 1) (j : Fin 128) : (iblk m c 14 t : S1x128.Idx → EReal) (ix2 i j) = KN m c (ix2 i j) :=
  congrArg (V m c main_arg13) (eq2 (((cfg0.win 14).blk t).view.emb (ix2 i j)) (ix2 i j) (at0 _ 1 _ (placed t).2.2.2.1.1) (at0 _ 128 _ (placed t).2.2.2.1.2))
theorem read15 (c : Dev nD) (t : Fin cfg0.N) (i : Fin 256) (j : Fin 512) : (iblk m c 15 t : S256x512.Idx → EReal) (ix2 i j) = WN m c (ix2 i j) :=
  congrArg (V m c main_arg14) (eq2 (((cfg0.win 15).blk t).view.emb (ix2 i j)) (ix2 i j) (at0 _ 256 _ (placed t).2.2.2.2.1.1) (at0 _ 512 _ (placed t).2.2.2.2.1.2))
theorem read16 (c : Dev nD) (t : Fin cfg0.N) (i : Fin 256) (j : Fin 512) : (iblk m c 16 t : S256x512.Idx → EReal) (ix2 i j) = WR m c (ix2 i j) :=
  congrArg (V m c main_arg15) (eq2 (((cfg0.win 16).blk t).view.emb (ix2 i j)) (ix2 i j) (at0 _ 256 _ (placed t).2.2.2.2.2.1.1) (at0 _ 512 _ (placed t).2.2.2.2.2.1.2))
theorem read17 (c : Dev nD) (t : Fin cfg0.N) (i : Fin 256) (j : Fin 512) : (iblk m c 17 t : S256x512.Idx → EReal) (ix2 i j) = WS m c (ix2 i j) :=
  congrArg (V m c main_arg16) (eq2 (((cfg0.win 17).blk t).view.emb (ix2 i j)) (ix2 i j) (at0 _ 256 _ (placed t).2.2.2.2.2.2.1.1) (at0 _ 512 _ (placed t).2.2.2.2.2.2.1.2))
theorem read18 (c : Dev nD) (t : Fin cfg0.N) (i : Fin 512) (j : Fin 128) : (iblk m c 18 t : S512x128.Idx → EReal) (ix2 i j) = WK m c (ix2 i j) :=
  congrArg (V m c main_arg17) (eq2 (((cfg0.win 18).blk t).view.emb (ix2 i j)) (ix2 i j) (at0 _ 512 _ (placed t).2.2.2.2.2.2.2.1.1) (at0 _ 128 _ (placed t).2.2.2.2.2.2.2.1.2))
theorem read19 (c : Dev nD) (t : Fin cfg0.N) (i : Fin 128) (j : Fin 512) : (iblk m c 19 t : S128x512.Idx → EReal) (ix2 i j) = WV m c (ix2 i j) :=
  congrArg (V m c main_arg18) (eq2 (((cfg0.win 19).blk t).view.emb (ix2 i j)) (ix2 i j) (at0 _ 128 _ (placed t).2.2.2.2.2.2.2.2.1.1) (at0 _ 512 _ (placed t).2.2.2.2.2.2.2.2.1.2))

/-- The three results, by head, row and column. -/
abbrev lats (c : Dev nD) (R : Fin 16384) : Fin 640 → EReal := lat (fun n => X m c (ix2 R n)) (fun n => gains m c (ix2 0 n)) fun k j => WC m c (ix2 k j)
def queries (c : Dev nD) (h : Fin 4) (R : Fin 16384) : Fin 256 → EReal :=
  query (lats m c R) (fun n => QN m c (ix2 0 n)) (fun k j => WN m c (ix2 k j)) (fun k j => WR m c (ix2 k j)) (fun k j => WS m c (ix2 k j))
    (fun d => Tab m c (ix2 R d)) (fun d => Sgn m c (ix2 0 d)) (fun d => Sgn m c (ix2 1 d)) h
def keys (c : Dev nD) (h : Fin 4) (R : Fin 16384) : Fin 256 → EReal :=
  key (lats m c R) (fun n => KN m c (ix2 0 n)) (fun j k => WK m c (ix2 j k)) (fun d => Tab m c (ix2 R d)) (fun d => Sgn m c (ix2 0 d)) (fun d => Sgn m c (ix2 1 d)) h
def values (c : Dev nD) (h : Fin 4) (R : Fin 16384) : Fin 256 → EReal :=
  value (lats m c R) (fun n => KN m c (ix2 0 n)) (fun k j => WV m c (ix2 k j)) h

theorem lats_eq (c : Dev nD) (t : Fin cfg0.N) (r : Fin 512) : latRow (iblk m c 1 t) (iblk m c 3 t) (iblk m c 6 t) r = lats m c (rowOf t r) :=
  congr (congr (congrArg lat (funext fun n => read1 m c t r n)) (funext fun n => read3 m c t n)) (funext fun k => funext fun j => read6 m c t k j)

theorem queries_eq (c : Dev nD) (t : Fin cfg0.N) (h : Fin 4) (r : Fin 512) :
    qAt (iblk m c 1 t) (iblk m c 3 t) (iblk m c 6 t) (iblk m c 11 t) (iblk m c 12 t) (iblk m c 13 t) (iblk m c 15 t) (iblk m c 16 t) (iblk m c 17 t) h r = queries m c h (rowOf t r) :=
  congrFun (congr (congr (congr (congr (congr (congr (congr (congrArg query (lats_eq m c t r)) (funext fun n => read13 m c t 0 n)) (funext fun k => funext fun j => read15 m c t k j))
    (funext fun k => funext fun j => read16 m c t k j)) (funext fun k => funext fun j => read17 m c t k j)) (funext fun d => read11 m c t r d)) (funext fun d => read12 m c t 0 d)) (funext fun d => read12 m c t 1 d)) h

theorem keys_eq (c : Dev nD) (t : Fin cfg0.N) (h : Fin 4) (r : Fin 512) :
    kAt (iblk m c 1 t) (iblk m c 3 t) (iblk m c 6 t) (iblk m c 11 t) (iblk m c 12 t) (iblk m c 14 t) (iblk m c 18 t) h r = keys m c h (rowOf t r) :=
  congrFun (congr (congr (congr (congr (congr (congrArg key (lats_eq m c t r)) (funext fun n => read14 m c t 0 n)) (funext fun j => funext fun k => read18 m c t j k))
    (funext fun d => read11 m c t r d)) (funext fun d => read12 m c t 0 d)) (funext fun d => read12 m c t 1 d)) h

theorem values_eq (c : Dev nD) (t : Fin cfg0.N) (h : Fin 4) (r : Fin 512) :
    vAt (iblk m c 1 t) (iblk m c 3 t) (iblk m c 6 t) (iblk m c 14 t) (iblk m c 19 t) h r = values m c h (rowOf t r) :=
  congrFun (congr (congr (congrArg value (lats_eq m c t r)) (funext fun n => read14 m c t 0 n)) (funext fun k => funext fun j => read19 m c t k j)) h

/-- What the arrays end holding. -/
def R22 (c : Dev nD) : Buf (Elt Ideal) ((c : Thread nD τ).loc main_v0_2) := fun i : S4x16384x256.Idx => queries m c (i 0 : Fin 4) (i 1 : Fin 16384) (i 2 : Fin 256)
def R23 (c : Dev nD) : Buf (Elt Ideal) ((c : Thread nD τ).loc main_v0_3) := fun i : S4x256x16384.Idx => keys m c (i 0 : Fin 4) (i 2 : Fin 16384) (i 1 : Fin 256)
def R24 (c : Dev nD) : Buf (Elt Ideal) ((c : Thread nD τ).loc main_v0_4) := fun i : S4x16384x256.Idx => values m c (i 0 : Fin 4) (i 1 : Fin 16384) (i 2 : Fin 256)

theorem writes22 (c : Dev nD) (t : Fin cfg0.N) :
    (dats m 0 c).flushed 22 t = ((cfg0.win 22).blk t).view.read (Elt Ideal) (R22 m c) := by
  have ho : (outsAt0 m c t).2.2.1 = rowsOf (qAt (iblk m c 1 t) (iblk m c 3 t) (iblk m c 6 t) (iblk m c 11 t) (iblk m c 12 t) (iblk m c 13 t) (iblk m c 15 t) (iblk m c 16 t) (iblk m c 17 t)) := by
    unfold outsAt0
    dsimp only
    apply out_22
  show (cfg0.win 22).cut (grid0.coords t) ((dats m 0 c).after 22 t) = _
  rw [after0_22, ho]
  obtain ⟨-, -, -, -, -, -, -, -, -, ⟨e0, e1, e2, -⟩, -⟩ := placed t
  funext y
  show rowsOf (qAt (iblk m c 1 t) (iblk m c 3 t) (iblk m c 6 t) (iblk m c 11 t) (iblk m c 12 t) (iblk m c 13 t) (iblk m c 15 t) (iblk m c 16 t) (iblk m c 17 t)) ((cfg0.win 22).xinj (grid0.coords t) y) = R22 m c (((cfg0.win 22).blk t).view.emb y)
  refine (congrFun (queries_eq m c t _ _) _).trans ?_
  unfold R22
  exact congr (congr (congrArg (queries m c) (Fin.ext (by show (y 0).val = win0_22.index t (0 : Fin 3) * 4 + 1 * (y 0).val; rw [e0]; omega)))
    (Fin.ext (by show 512 * t.val + (y 1).val = win0_22.index t (1 : Fin 3) * 512 + 1 * (y 1).val; rw [e1]; omega)))
    (Fin.ext (by show (y 2).val = win0_22.index t (2 : Fin 3) * 256 + 1 * (y 2).val; rw [e2]; omega))

theorem covers22 (i : S4x16384x256.Idx) : ∃ t : Fin cfg0.N, (cfg0.win 22).flush t = true ∧ i ∈ ((cfg0.win 22).blk t).view.set := by
  have h0 : (i 0).val < 4 := (i 0).isLt
  have h1 : (i 1).val < 16384 := (i 1).isLt
  have h2 : (i 2).val < 256 := (i 2).isLt
  obtain ⟨-, -, -, -, -, -, -, -, -, ⟨e0, e1, e2, hf⟩, -⟩ := placed (ptOf _ h1)
  refine ⟨ptOf _ h1, hf, ?_⟩
  show i ∈ ((View.whole main_v0_2).slice (win0_22.rect (ptOf _ h1))).set
  rw [View.set_slice_whole, Rect.mem_set_unit]
  intro a
  match a with
  | ⟨0, _⟩ =>
    show win0_22.index (ptOf _ h1) (0 : Fin 3) * 4 ≤ (i 0).val ∧ (i 0).val < win0_22.index (ptOf _ h1) (0 : Fin 3) * 4 + 4
    rw [e0]
    omega
  | ⟨1, _⟩ =>
    show win0_22.index (ptOf _ h1) (1 : Fin 3) * 512 ≤ (i 1).val ∧ (i 1).val < win0_22.index (ptOf _ h1) (1 : Fin 3) * 512 + 512
    rw [e1]
    show (i 1).val / 512 * 512 ≤ (i 1).val ∧ (i 1).val < (i 1).val / 512 * 512 + 512
    omega
  | ⟨2, _⟩ =>
    show win0_22.index (ptOf _ h1) (2 : Fin 3) * 256 ≤ (i 2).val ∧ (i 2).val < win0_22.index (ptOf _ h1) (2 : Fin 3) * 256 + 256
    rw [e2]
    omega

theorem array22 (c : Dev nD) : (dats m 0 c).arrAt 22 cfg0.N = R22 m c :=
  (dats m 0 c).arrAt_eq_of_cover 22 _ (fun t _ => writes22 m c t) covers22

theorem writes23 (c : Dev nD) (t : Fin cfg0.N) :
    (dats m 0 c).flushed 23 t = ((cfg0.win 23).blk t).view.read (Elt Ideal) (R23 m c) := by
  have ho : (outsAt0 m c t).2.2.2.1 = colsOf (kAt (iblk m c 1 t) (iblk m c 3 t) (iblk m c 6 t) (iblk m c 11 t) (iblk m c 12 t) (iblk m c 14 t) (iblk m c 18 t)) := by
    unfold outsAt0
    dsimp only
    apply out_23
  show (cfg0.win 23).cut (grid0.coords t) ((dats m 0 c).after 23 t) = _
  rw [after0_23, ho]
  obtain ⟨-, -, -, -, -, -, -, -, -, -, ⟨e0, e1, e2, -⟩, -⟩ := placed t
  funext y
  show colsOf (kAt (iblk m c 1 t) (iblk m c 3 t) (iblk m c 6 t) (iblk m c 11 t) (iblk m c 12 t) (iblk m c 14 t) (iblk m c 18 t)) ((cfg0.win 23).xinj (grid0.coords t) y) = R23 m c (((cfg0.win 23).blk t).view.emb y)
  refine (congrFun (keys_eq m c t _ _) _).trans ?_
  unfold R23
  exact congr (congr (congrArg (keys m c) (Fin.ext (by show (y 0).val = win0_23.index t (0 : Fin 3) * 4 + 1 * (y 0).val; rw [e0]; omega)))
    (Fin.ext (by show 512 * t.val + (y 2).val = win0_23.index t (2 : Fin 3) * 512 + 1 * (y 2).val; rw [e2]; omega)))
    (Fin.ext (by show (y 1).val = win0_23.index t (1 : Fin 3) * 256 + 1 * (y 1).val; rw [e1]; omega))

theorem covers23 (i : S4x256x16384.Idx) : ∃ t : Fin cfg0.N, (cfg0.win 23).flush t = true ∧ i ∈ ((cfg0.win 23).blk t).view.set := by
  have h0 : (i 0).val < 4 := (i 0).isLt
  have h1 : (i 1).val < 256 := (i 1).isLt
  have h2 : (i 2).val < 16384 := (i 2).isLt
  obtain ⟨-, -, -, -, -, -, -, -, -, -, ⟨e0, e1, e2, hf⟩, -⟩ := placed (ptOf _ h2)
  refine ⟨ptOf _ h2, hf, ?_⟩
  show i ∈ ((View.whole main_v0_3).slice (win0_23.rect (ptOf _ h2))).set
  rw [View.set_slice_whole, Rect.mem_set_unit]
  intro a
  match a with
  | ⟨0, _⟩ =>
    show win0_23.index (ptOf _ h2) (0 : Fin 3) * 4 ≤ (i 0).val ∧ (i 0).val < win0_23.index (ptOf _ h2) (0 : Fin 3) * 4 + 4
    rw [e0]
    omega
  | ⟨1, _⟩ =>
    show win0_23.index (ptOf _ h2) (1 : Fin 3) * 256 ≤ (i 1).val ∧ (i 1).val < win0_23.index (ptOf _ h2) (1 : Fin 3) * 256 + 256
    rw [e1]
    omega
  | ⟨2, _⟩ =>
    show win0_23.index (ptOf _ h2) (2 : Fin 3) * 512 ≤ (i 2).val ∧ (i 2).val < win0_23.index (ptOf _ h2) (2 : Fin 3) * 512 + 512
    rw [e2]
    show (i 2).val / 512 * 512 ≤ (i 2).val ∧ (i 2).val < (i 2).val / 512 * 512 + 512
    omega

theorem array23 (c : Dev nD) : (dats m 0 c).arrAt 23 cfg0.N = R23 m c :=
  (dats m 0 c).arrAt_eq_of_cover 23 _ (fun t _ => writes23 m c t) covers23

theorem writes24 (c : Dev nD) (t : Fin cfg0.N) :
    (dats m 0 c).flushed 24 t = ((cfg0.win 24).blk t).view.read (Elt Ideal) (R24 m c) := by
  have ho : (outsAt0 m c t).2.2.2.2.1 = rowsOf (vAt (iblk m c 1 t) (iblk m c 3 t) (iblk m c 6 t) (iblk m c 14 t) (iblk m c 19 t)) := by
    unfold outsAt0
    dsimp only
    apply out_24
  show (cfg0.win 24).cut (grid0.coords t) ((dats m 0 c).after 24 t) = _
  rw [after0_24, ho]
  obtain ⟨-, -, -, -, -, -, -, -, -, -, -, e0, e1, e2, -⟩ := placed t
  funext y
  show rowsOf (vAt (iblk m c 1 t) (iblk m c 3 t) (iblk m c 6 t) (iblk m c 14 t) (iblk m c 19 t)) ((cfg0.win 24).xinj (grid0.coords t) y) = R24 m c (((cfg0.win 24).blk t).view.emb y)
  refine (congrFun (values_eq m c t _ _) _).trans ?_
  unfold R24
  exact congr (congr (congrArg (values m c) (Fin.ext (by show (y 0).val = win0_24.index t (0 : Fin 3) * 4 + 1 * (y 0).val; rw [e0]; omega)))
    (Fin.ext (by show 512 * t.val + (y 1).val = win0_24.index t (1 : Fin 3) * 512 + 1 * (y 1).val; rw [e1]; omega)))
    (Fin.ext (by show (y 2).val = win0_24.index t (2 : Fin 3) * 256 + 1 * (y 2).val; rw [e2]; omega))

theorem covers24 (i : S4x16384x256.Idx) : ∃ t : Fin cfg0.N, (cfg0.win 24).flush t = true ∧ i ∈ ((cfg0.win 24).blk t).view.set := by
  have h0 : (i 0).val < 4 := (i 0).isLt
  have h1 : (i 1).val < 16384 := (i 1).isLt
  have h2 : (i 2).val < 256 := (i 2).isLt
  obtain ⟨-, -, -, -, -, -, -, -, -, -, -, e0, e1, e2, hf⟩ := placed (ptOf _ h1)
  refine ⟨ptOf _ h1, hf, ?_⟩
  show i ∈ ((View.whole main_v0_4).slice (win0_24.rect (ptOf _ h1))).set
  rw [View.set_slice_whole, Rect.mem_set_unit]
  intro a
  match a with
  | ⟨0, _⟩ =>
    show win0_24.index (ptOf _ h1) (0 : Fin 3) * 4 ≤ (i 0).val ∧ (i 0).val < win0_24.index (ptOf _ h1) (0 : Fin 3) * 4 + 4
    rw [e0]
    omega
  | ⟨1, _⟩ =>
    show win0_24.index (ptOf _ h1) (1 : Fin 3) * 512 ≤ (i 1).val ∧ (i 1).val < win0_24.index (ptOf _ h1) (1 : Fin 3) * 512 + 512
    rw [e1]
    show (i 1).val / 512 * 512 ≤ (i 1).val ∧ (i 1).val < (i 1).val / 512 * 512 + 512
    omega
  | ⟨2, _⟩ =>
    show win0_24.index (ptOf _ h1) (2 : Fin 3) * 256 ≤ (i 2).val ∧ (i 2).val < win0_24.index (ptOf _ h1) (2 : Fin 3) * 256 + 256
    rw [e2]
    omega

theorem array24 (c : Dev nD) : (dats m 0 c).arrAt 24 cfg0.N = R24 m c :=
  (dats m 0 c).arrAt_eq_of_cover 24 _ (fun t _ => writes24 m c t) covers24

end Cert.InprojIdeal.Val

end
-- ==== Proof.InReference.lean ====
/- The reference of the input projection, entry by entry. -/
module

public import proofs.«01_k».proof.Proof.In
public import proofs.«01_k».proof.Proof.Gen.InprojRefIdeal.Read

@[expose] public section

noncomputable section

namespace Cert.InprojRefIdeal.Val

open Cert.InprojRefIdeal Cert.InprojRefIdeal.Gen Cert.InprojRefIdeal.Read Idealize.ShloMosaic Idealize.ShloMosaic.TcCoe Idealize.SL.Sem
open Idealize.ShloMosaic.ValueIdx Cert.In

variable (X : (⟨S16384x1024, .f32⟩ : BufTy).Contents (Elt Ideal)) (G : (⟨S1x1024, .f32⟩ : BufTy).Contents (Elt Ideal))
  (B : (⟨S1024x2048, .bf16⟩ : BufTy).Contents (Elt Ideal)) (C : (⟨S1024x1152, .bf16⟩ : BufTy).Contents (Elt Ideal))

/-- A row of the activations, and the gain. -/
abbrev row (R : Fin 16384) : Fin 1024 → EReal := fun k => X (ix2 R k)
abbrev gain : Fin 1024 → EReal := fun k => G (ix2 0 k)

/-- A row's sum of squares. -/
theorem squares (R : Fin 16384) :
    @Eq EReal (val_main_v1 (F := Ideal) X (ix1 R)) (∑ k : Fin 1024, row X R k * row X R k) := by
  refine (val_main_v1_apply X (ix1 R)).trans ?_
  refine (congrArg₂ (fun a b : EReal => a + b) (Ideal.ofBits_zero_f32 : Ideal.ofBits .f32 0x00000000#32 = 0) (Finset.sum_congr rfl fun k _ => ?_)).trans (zero_add _)
  have e : idx_main_v1 (ix1 R) k = ix2 R k := funext fun a => by
    match a with
    | ⟨0, _⟩ => rfl
    | ⟨1, _⟩ => rfl
  rw [e]
  rfl

/-- The factor of a row. -/
theorem factor (R : Fin 16384) (j : Fin 1024) :
    @Eq EReal (val_main_v8 (F := Ideal) X (ix2 R j))
      (Ideal.rsqrt (Ideal.div (∑ k : Fin 1024, row X R k * row X R k) (Ideal.ofBits .f32 0x44800000#32) + Ideal.ofBits .f32 0x358637BD#32)) := by
  refine (val_main_v8_apply (F := Ideal) X (ix2 R j)).trans ?_
  refine congrArg Ideal.rsqrt (congrArg₂ (fun a b : EReal => a + b) (congrArg₂ Ideal.div ?_ ?_) ?_)
  · refine (val_main_v2_apply (F := Ideal) X _).trans ?_
    refine Eq.trans ?_ (squares X R)
    exact congrArg (val_main_v1 (F := Ideal) X) (funext fun a => by
      match a with
      | ⟨0, _⟩ => rfl)
  · exact val_main_v3_apply (F := Ideal) _
  · exact val_main_v5_apply (F := Ideal) _

/-- An entry of the normed activations. -/
theorem normed (R : Fin 16384) (k : Fin 1024) :
    @Eq EReal (val_main_v11 (F := Ideal) X G (ix2 R k)) (scaled (row X R) (gain G) k) := by
  refine (val_main_v11_apply (F := Ideal) X G (ix2 R k)).trans ?_
  unfold scaled
  refine congrArg₂ (fun a b : EReal => a * b) ?_ ?_
  · refine (val_main_v9_apply (F := Ideal) X (ix2 R k)).trans ?_
    exact congrArg₂ (fun a b : EReal => a * b) rfl (factor X R k)
  · refine (val_main_v10_apply (F := Ideal) G (ix2 R k)).trans (congrArg G (funext fun a => ?_))
    match a with
    | ⟨0, _⟩ => rfl
    | ⟨1, _⟩ => rfl

/-- An entry of the first result. -/
theorem result0 (R : Fin 16384) (j : Fin 2048) :
    @Eq EReal (val_main_v93 (F := Ideal) X G B (ix2 R j)) (entry (row X R) (gain G) fun k => B (ix2 k j)) := by
  refine (val_main_v13_apply X G B (ix2 R j)).trans ?_
  unfold entry
  refine Finset.sum_congr rfl fun k _ => ?_
  have e1 : lidx_main_v13 (ix2 R j) k = ix2 R k := funext fun a => by
    match a with
    | ⟨0, _⟩ => rfl
    | ⟨1, _⟩ => rfl
  have e2 : ridx_main_v13 (ix2 R j) k = ix2 k j := funext fun a => by
    match a with
    | ⟨0, _⟩ => rfl
    | ⟨1, _⟩ => rfl
  rw [e1, e2]
  exact congrArg₂ (fun a b : EReal => a * b) (normed X G R k) rfl

/-- An entry of the second result. -/
theorem result1 (R : Fin 16384) (j : Fin 512) :
    @Eq EReal (val_main_v94 (F := Ideal) X G C (ix2 R j))
      (entry (row X R) (gain G) fun k => C (ix2 k ⟨640 + j.val, by have := j.isLt; omega⟩)) := by
  refine (val_main_v16_apply X G C (ix2 R j)).trans ?_
  unfold entry
  refine Finset.sum_congr rfl fun k _ => ?_
  have e1 : lidx_main_v16 (ix2 R j) k = ix2 R k := funext fun a => by
    match a with
    | ⟨0, _⟩ => rfl
    | ⟨1, _⟩ => rfl
  rw [e1]
  refine congrArg₂ (fun a b : EReal => a * b) (normed X G R k) ?_
  refine (val_main_v15_apply (F := Ideal) C _).trans (congrArg C (funext fun a => ?_))
  match a with
  | ⟨0, _⟩ => rfl
  | ⟨1, _⟩ => rfl

end Cert.InprojRefIdeal.Val

end
-- ==== Proof.InHeadsReference.lean ====
/- The queries, keys and values of the input projection's reference, entry by entry. -/
module

public import proofs.«01_k».proof.Proof.InReference
public import proofs.«01_k».proof.Proof.InLatent
public import Idealize.ShloMosaic.Lib.IdealHost

@[expose] public section

noncomputable section

namespace Cert.InprojRefIdeal.Val

open Cert.InprojRefIdeal Cert.InprojRefIdeal.Gen Cert.InprojRefIdeal.Read Idealize.ShloMosaic Idealize.ShloMosaic.TcCoe Idealize.SL.Sem
open Idealize.ShloMosaic.ValueIdx Cert.In

variable (X : (⟨S16384x1024, .f32⟩ : BufTy).Contents (Elt Ideal)) (G : (⟨S1x1024, .f32⟩ : BufTy).Contents (Elt Ideal))
  (C : (⟨S1024x1152, .bf16⟩ : BufTy).Contents (Elt Ideal)) (T : (⟨S16384x128, .f32⟩ : BufTy).Contents (Elt Ideal))
  (S : (⟨S8x128, .f32⟩ : BufTy).Contents (Elt Ideal)) (Q : (⟨S1x256, .f32⟩ : BufTy).Contents (Elt Ideal))
  (K : (⟨S1x128, .f32⟩ : BufTy).Contents (Elt Ideal)) (WN WR WS : (⟨S256x512, .bf16⟩ : BufTy).Contents (Elt Ideal))
  (WK : (⟨S512x128, .bf16⟩ : BufTy).Contents (Elt Ideal)) (WV : (⟨S128x512, .bf16⟩ : BufTy).Contents (Elt Ideal))

/-- A row, compressed. -/
abbrev crow (R : Fin 16384) : Fin 640 → EReal := lat (row X R) (gain G) fun k j => C (ix2 k j)

/-- Indices with the same places are the same. -/
theorem same2 {a b : ℕ} (x y : (⟨2, ![a, b]⟩ : Shape).Idx) (h0 : (x 0).val = (y 0).val) (h1 : (x 1).val = (y 1).val) : x = y :=
  funext fun i => Fin.ext (by
    match i with
    | ⟨0, _⟩ => exact h0
    | ⟨1, _⟩ => exact h1)
theorem same3 {a b c : ℕ} (x y : (⟨3, ![a, b, c]⟩ : Shape).Idx) (h0 : (x 0).val = (y 0).val) (h1 : (x 1).val = (y 1).val) (h2 : (x 2).val = (y 2).val) : x = y :=
  funext fun i => Fin.ext (by
    match i with
    | ⟨0, _⟩ => exact h0
    | ⟨1, _⟩ => exact h1
    | ⟨2, _⟩ => exact h2)

theorem compressed (R : Fin 16384) (j : Fin 640) : @Eq EReal (val_main_v19 (F := Ideal) X G C (ix2 R j)) (crow X G C R j) := by
  refine (val_main_v19_apply X G C (ix2 R j)).trans ?_
  unfold crow lat entry
  refine Finset.sum_congr rfl fun k _ => ?_
  rw [show lidx_main_v19 (ix2 R j) k = ix2 R k from same2 _ _ rfl rfl]
  refine congrArg₂ (fun a b : EReal => a * b) (normed X G R k) ?_
  exact (val_main_v18_apply (F := Ideal) C _).trans (congrArg C (same2 _ _ rfl rfl))

/-- The normed compressed rows of the queries. -/
theorem normedQ (R : Fin 16384) (k : Fin 256) :
    @Eq EReal (val_main_v32 (F := Ideal) X G C Q (ix2 R k)) (In.normed N256 (latQ (crow X G C R)) (fun n => Q (ix2 0 n)) k) := by
  have hc : ∀ n : Fin 256, @Eq EReal (val_main_v20 (F := Ideal) X G C (ix2 R n)) (latQ (crow X G C R) n) := fun n =>
    ((val_main_v20_apply (F := Ideal) X G C (ix2 R n)).trans (congrArg (val_main_v19 (F := Ideal) X G C) (same2 _ (ix2 R ⟨n.val, by have := n.isLt; omega⟩) rfl (by first | rfl | exact Nat.add_comm _ _)))).trans (compressed X G C R _)
  refine (val_main_v32_apply (F := Ideal) X G C Q (ix2 R k)).trans ?_
  unfold In.normed
  refine congrArg₂ (fun a b : EReal => a * b) ((val_main_v30_apply (F := Ideal) X G C (ix2 R k)).trans (congrArg₂ (fun a b : EReal => a * b) (hc k) ?_)) ?_
  · refine (val_main_v29_apply (F := Ideal) X G C (ix2 R k)).trans ?_
    refine congrArg Ideal.rsqrt (congrArg₂ (fun a b : EReal => a + b) (congrArg₂ Ideal.div ?_ ?_) ?_)
    · refine (val_main_v23_apply (F := Ideal) X G C _).trans ?_
      refine (congrArg (val_main_v22 (F := Ideal) X G C) (funext fun a => by
        match a with
        | ⟨0, _⟩ => rfl : _ = (ix1 R : S16384.Idx))).trans ?_
      refine (val_main_v22_apply X G C (ix1 R)).trans ?_
      refine (congrArg₂ (fun a b : EReal => a + b) (Ideal.ofBits_zero_f32 : Ideal.ofBits .f32 0x00000000#32 = 0) (Finset.sum_congr rfl fun n _ => ?_)).trans (zero_add _)
      rw [show idx_main_v22 (ix1 R) n = ix2 R n from same2 _ _ rfl rfl]
      exact congrArg₂ (fun a b : EReal => a * b) (hc n) (hc n)
    · exact val_main_v24_apply (F := Ideal) _
    · exact val_main_v26_apply (F := Ideal) _
  · exact (val_main_v31_apply (F := Ideal) Q (ix2 R k)).trans (congrArg Q (same2 _ _ rfl rfl))

/-- Those of the keys and values. -/
theorem normedK (R : Fin 16384) (k : Fin 128) :
    @Eq EReal (val_main_v45 (F := Ideal) X G C K (ix2 R k)) (In.normed N128 (latK (crow X G C R)) (fun n => K (ix2 0 n)) k) := by
  have hc : ∀ n : Fin 128, @Eq EReal (val_main_v33 (F := Ideal) X G C (ix2 R n)) (latK (crow X G C R) n) := fun n =>
    ((val_main_v33_apply (F := Ideal) X G C (ix2 R n)).trans (congrArg (val_main_v19 (F := Ideal) X G C) (same2 _ (ix2 R ⟨256 + n.val, by have := n.isLt; omega⟩) rfl (by first | rfl | exact Nat.add_comm _ _)))).trans (compressed X G C R _)
  refine (val_main_v45_apply (F := Ideal) X G C K (ix2 R k)).trans ?_
  unfold In.normed
  refine congrArg₂ (fun a b : EReal => a * b) ((val_main_v43_apply (F := Ideal) X G C (ix2 R k)).trans (congrArg₂ (fun a b : EReal => a * b) (hc k) ?_)) ?_
  · refine (val_main_v42_apply (F := Ideal) X G C (ix2 R k)).trans ?_
    refine congrArg Ideal.rsqrt (congrArg₂ (fun a b : EReal => a + b) (congrArg₂ Ideal.div ?_ ?_) ?_)
    · refine (val_main_v36_apply (F := Ideal) X G C _).trans ?_
      refine (congrArg (val_main_v35 (F := Ideal) X G C) (funext fun a => by
        match a with
        | ⟨0, _⟩ => rfl : _ = (ix1 R : S16384.Idx))).trans ?_
      refine (val_main_v35_apply X G C (ix1 R)).trans ?_
      refine (congrArg₂ (fun a b : EReal => a + b) (Ideal.ofBits_zero_f32 : Ideal.ofBits .f32 0x00000000#32 = 0) (Finset.sum_congr rfl fun n _ => ?_)).trans (zero_add _)
      rw [show idx_main_v35 (ix1 R) n = ix2 R n from same2 _ _ rfl rfl]
      exact congrArg₂ (fun a b : EReal => a * b) (hc n) (hc n)
    · exact val_main_v37_apply (F := Ideal) _
    · exact val_main_v39_apply (F := Ideal) _
  · exact (val_main_v44_apply (F := Ideal) K (ix2 R k)).trans (congrArg K (same2 _ _ rfl rfl))

/-- The products with the weights of the plain queries. -/
theorem plainQ (R : Fin 16384) (h : Fin 4) (d : Fin 128) :
    @Eq EReal (val_main_v57 (F := Ideal) X G C Q WN (ix3 R h d)) (along N256 (latQ (crow X G C R)) (fun n => Q (ix2 0 n)) fun k => WN (ix2 k (col h d))) := by
  refine (val_main_v57_apply (F := Ideal) X G C Q WN (ix3 R h d)).trans ?_
  rw [show idx_main_v57 (ix3 R h d) = ix2 R (col h d) from same2 _ _
    (by have := h.isLt; have := d.isLt; show ((R.val * 4 + h.val) * 128 + d.val) / 512 = R.val; omega)
    (by have := h.isLt; have := d.isLt; show ((R.val * 4 + h.val) * 128 + d.val) % 512 = 128 * h.val + d.val; omega)]
  refine (val_main_v56_apply X G C Q WN (ix2 R (col h d))).trans ?_
  unfold along
  refine Finset.sum_congr rfl fun k _ => ?_
  rw [show lidx_main_v56 (ix2 R (col h d)) k = ix2 R k from same2 _ _ rfl rfl]
  exact congrArg₂ (fun a b : EReal => a * b) (normedQ X G C Q R k) (congrArg WN (same2 _ _ rfl rfl))

/-- Of the rotary queries. -/
theorem rotaryQ (R : Fin 16384) (h : Fin 4) (d : Fin 128) :
    @Eq EReal (val_main_v60 (F := Ideal) X G C Q WR (ix3 R h d)) (along N256 (latQ (crow X G C R)) (fun n => Q (ix2 0 n)) fun k => WR (ix2 k (col h d))) := by
  refine (val_main_v60_apply (F := Ideal) X G C Q WR (ix3 R h d)).trans ?_
  rw [show idx_main_v60 (ix3 R h d) = ix2 R (col h d) from same2 _ _
    (by have := h.isLt; have := d.isLt; show ((R.val * 4 + h.val) * 128 + d.val) / 512 = R.val; omega)
    (by have := h.isLt; have := d.isLt; show ((R.val * 4 + h.val) * 128 + d.val) % 512 = 128 * h.val + d.val; omega)]
  refine (val_main_v59_apply X G C Q WR (ix2 R (col h d))).trans ?_
  unfold along
  refine Finset.sum_congr rfl fun k _ => ?_
  rw [show lidx_main_v59 (ix2 R (col h d)) k = ix2 R k from same2 _ _ rfl rfl]
  exact congrArg₂ (fun a b : EReal => a * b) (normedQ X G C Q R k) (congrArg WR (same2 _ _ rfl rfl))

/-- Of the rotary queries with their halves swapped. -/
theorem swappedQ (R : Fin 16384) (h : Fin 4) (d : Fin 128) :
    @Eq EReal (val_main_v66 (F := Ideal) X G C Q WS (ix3 R h d)) (along N256 (latQ (crow X G C R)) (fun n => Q (ix2 0 n)) fun k => WS (ix2 k (col h d))) := by
  refine (val_main_v66_apply (F := Ideal) X G C Q WS (ix3 R h d)).trans ?_
  rw [show idx_main_v66 (ix3 R h d) = ix2 R (col h d) from same2 _ _
    (by have := h.isLt; have := d.isLt; show ((R.val * 4 + h.val) * 128 + d.val) / 512 = R.val; omega)
    (by have := h.isLt; have := d.isLt; show ((R.val * 4 + h.val) * 128 + d.val) % 512 = 128 * h.val + d.val; omega)]
  refine (val_main_v65_apply X G C Q WS (ix2 R (col h d))).trans ?_
  unfold along
  refine Finset.sum_congr rfl fun k _ => ?_
  rw [show lidx_main_v65 (ix2 R (col h d)) k = ix2 R k from same2 _ _ rfl rfl]
  exact congrArg₂ (fun a b : EReal => a * b) (normedQ X G C Q R k) (congrArg WS (same2 _ _ rfl rfl))

/-- Of the keys. -/
theorem plainK (R : Fin 16384) (h : Fin 4) (d : Fin 128) :
    @Eq EReal (val_main_v77 (F := Ideal) X G C K WK (ix3 R h d)) (along N128 (latK (crow X G C R)) (fun n => K (ix2 0 n)) fun k => WK (ix2 (col h d) k)) := by
  refine (val_main_v77_apply (F := Ideal) X G C K WK (ix3 R h d)).trans ?_
  rw [show idx_main_v77 (ix3 R h d) = ix2 R (col h d) from same2 _ _
    (by have := h.isLt; have := d.isLt; show ((R.val * 4 + h.val) * 128 + d.val) / 512 = R.val; omega)
    (by have := h.isLt; have := d.isLt; show ((R.val * 4 + h.val) * 128 + d.val) % 512 = 128 * h.val + d.val; omega)]
  refine (val_main_v76_apply X G C K WK (ix2 R (col h d))).trans ?_
  unfold along
  refine Finset.sum_congr rfl fun k _ => ?_
  rw [show lidx_main_v76 (ix2 R (col h d)) k = ix2 R k from same2 _ _ rfl rfl]
  exact congrArg₂ (fun a b : EReal => a * b) (normedK X G C K R k) ((val_main_v75_apply (F := Ideal) WK _).trans (congrArg WK (same2 _ _ rfl rfl)))

/-- Of the values. -/
theorem plainV (R : Fin 16384) (h : Fin 4) (d : Fin 128) :
    @Eq EReal (val_main_v91 (F := Ideal) X G C K WV (ix3 R h d)) (along N128 (latK (crow X G C R)) (fun n => K (ix2 0 n)) fun k => WV (ix2 k (col h d))) := by
  refine (val_main_v91_apply (F := Ideal) X G C K WV (ix3 R h d)).trans ?_
  rw [show idx_main_v91 (ix3 R h d) = ix2 R (col h d) from same2 _ _
    (by have := h.isLt; have := d.isLt; show ((R.val * 4 + h.val) * 128 + d.val) / 512 = R.val; omega)
    (by have := h.isLt; have := d.isLt; show ((R.val * 4 + h.val) * 128 + d.val) % 512 = 128 * h.val + d.val; omega)]
  refine (val_main_v90_apply X G C K WV (ix2 R (col h d))).trans ?_
  unfold along
  refine Finset.sum_congr rfl fun k _ => ?_
  rw [show lidx_main_v90 (ix2 R (col h d)) k = ix2 R k from same2 _ _ rfl rfl]
  exact congrArg₂ (fun a b : EReal => a * b) (normedK X G C K R k) (congrArg WV (same2 _ _ rfl rfl))

/-- The two tables. -/
theorem table0 (R : Fin 16384) (d : Fin 128) : @Eq EReal (val_main_v48 (F := Ideal) T S (ix2 R d)) (T (ix2 R d) * S (ix2 0 d)) := by
  refine (val_main_v48_apply (F := Ideal) T S (ix2 R d)).trans (congrArg₂ (fun a b : EReal => a * b) rfl ?_)
  exact (val_main_v47_apply (F := Ideal) S (ix2 R d)).trans ((val_main_v46_apply (F := Ideal) S _).trans (congrArg S (same2 _ _ rfl rfl)))

theorem swapped (R : Fin 16384) (d : Fin 128) : @Eq EReal (val_main_v51 (F := Ideal) T (ix2 R d)) (T (ix2 R (turn d))) := by
  unfold val_main_v51
  have hd := d.isLt
  by_cases h : d.val < 64
  · refine (concatenate_pair_apply_left 1 _ _ concatenates_S16384x64_S16384x64_S16384x128_d1 (ix2 R d) rfl (ix2 R ⟨d.val, h⟩) (fun b => by
      match b with
      | ⟨0, _⟩ => rfl
      | ⟨1, _⟩ => rfl)).trans ?_
    refine (val_main_v49_apply (F := Ideal) T _).trans (congrArg T (same2 _ _ rfl ?_))
    show 64 + d.val = (d.val + 64) % 128
    omega
  · refine (concatenate_pair_apply_right 1 _ _ concatenates_S16384x64_S16384x64_S16384x128_d1 (ix2 R d) rfl rfl (ix2 R ⟨d.val - 64, by omega⟩) (fun b hb => by
      match b with
      | ⟨0, _⟩ => rfl
      | ⟨1, _⟩ => exact absurd rfl hb) (by show d.val - 64 + 64 = d.val; omega)).trans ?_
    refine (val_main_v50_apply (F := Ideal) T _).trans (congrArg T (same2 _ _ rfl ?_))
    show d.val - 64 = (d.val + 64) % 128
    omega

theorem table1 (R : Fin 16384) (d : Fin 128) : @Eq EReal (val_main_v54 (F := Ideal) T S (ix2 R d)) (T (ix2 R (turn d)) * S (ix2 1 d)) := by
  refine (val_main_v54_apply (F := Ideal) T S (ix2 R d)).trans (congrArg₂ (fun a b : EReal => a * b) (swapped T R d) ?_)
  exact (val_main_v53_apply (F := Ideal) S (ix2 R d)).trans ((val_main_v52_apply (F := Ideal) S _).trans (congrArg S (same2 _ _ rfl rfl)))

/-- The rotated queries and the rotated key. -/
theorem turnedQ (R : Fin 16384) (h : Fin 4) (d : Fin 128) :
    @Eq EReal (val_main_v70 (F := Ideal) X G C T S Q WR WS (ix3 R h d))
      (rot (along N256 (latQ (crow X G C R)) (fun n => Q (ix2 0 n)) fun k => WR (ix2 k (col h d))) (along N256 (latQ (crow X G C R)) (fun n => Q (ix2 0 n)) fun k => WS (ix2 k (col h d)))
        (fun d => T (ix2 R d)) (fun d => S (ix2 0 d)) (fun d => S (ix2 1 d)) d) := by
  refine (val_main_v70_apply (F := Ideal) X G C T S Q WR WS (ix3 R h d)).trans ?_
  unfold rot
  refine congrArg₂ (fun a b : EReal => a + b) ((val_main_v63_apply (F := Ideal) X G C T S Q WR (ix3 R h d)).trans (congrArg₂ (fun a b : EReal => a * b) (rotaryQ X G C Q WR R h d) ?_))
    ((val_main_v69_apply (F := Ideal) X G C T S Q WS (ix3 R h d)).trans (congrArg₂ (fun a b : EReal => a * b) (swappedQ X G C Q WS R h d) ?_))
  · exact ((val_main_v62_apply (F := Ideal) T S (ix3 R h d)).trans ((val_main_v61_apply (F := Ideal) T S _).trans (congrArg (val_main_v48 (F := Ideal) T S) (same2 _ (ix2 R d) rfl rfl)))).trans (table0 T S R d)
  · exact ((val_main_v68_apply (F := Ideal) T S (ix3 R h d)).trans ((val_main_v67_apply (F := Ideal) T S _).trans (congrArg (val_main_v54 (F := Ideal) T S) (same2 _ (ix2 R d) rfl rfl)))).trans (table1 T S R d)

theorem turnedK (R : Fin 16384) (h : Fin 4) (d : Fin 128) :
    @Eq EReal (val_main_v84 (F := Ideal) X G C T S (ix3 R h d))
      (rot (latA (crow X G C R) d) (latB (crow X G C R) d) (fun d => T (ix2 R d)) (fun d => S (ix2 0 d)) (fun d => S (ix2 1 d)) d) := by
  refine ((val_main_v84_apply (F := Ideal) X G C T S (ix3 R h d)).trans ((val_main_v83_apply (F := Ideal) X G C T S _).trans (congrArg (val_main_v82 (F := Ideal) X G C T S) (same2 _ (ix2 R d) rfl rfl)))).trans ?_
  refine (val_main_v82_apply (F := Ideal) X G C T S (ix2 R d)).trans ?_
  unfold rot
  refine congrArg₂ (fun a b : EReal => a + b) ((val_main_v79_apply (F := Ideal) X G C T S (ix2 R d)).trans (congrArg₂ (fun a b : EReal => a * b) ?_ (table0 T S R d)))
    ((val_main_v81_apply (F := Ideal) X G C T S (ix2 R d)).trans (congrArg₂ (fun a b : EReal => a * b) ?_ (table1 T S R d)))
  · exact ((val_main_v78_apply (F := Ideal) X G C (ix2 R d)).trans (congrArg (val_main_v19 (F := Ideal) X G C) (same2 _ (ix2 R ⟨384 + d.val, by have := d.isLt; omega⟩) rfl (by first | rfl | exact Nat.add_comm _ _)))).trans (compressed X G C R _)
  · exact ((val_main_v80_apply (F := Ideal) X G C (ix2 R d)).trans (congrArg (val_main_v19 (F := Ideal) X G C) (same2 _ (ix2 R ⟨512 + d.val, by have := d.isLt; omega⟩) rfl (by first | rfl | exact Nat.add_comm _ _)))).trans (compressed X G C R _)

/-- The column of ones beside the values. -/
theorem unitCol (R : Fin 16384) (h : Fin 4) (d : Fin 128) : @Eq EReal (val_main_v88 (F := Ideal) (ix3 R h d)) (if d.val = 0 then 1 else 0) := by
  unfold val_main_v88
  have hd := d.isLt
  by_cases h0 : d.val = 0
  · rw [if_pos h0]
    refine (concatenate_pair_apply_left 2 _ _ concatenates_S16384x4x1_S16384x4x127_S16384x4x128_d2 (ix3 R h d) rfl (ix3 R h 0) (fun b => by
      match b with
      | ⟨0, _⟩ => rfl
      | ⟨1, _⟩ => rfl
      | ⟨2, _⟩ => exact h0.symm)).trans ?_
    exact (val_main_v86_apply (F := Ideal) _).trans Ideal.ofBits_one_f32
  · rw [if_neg h0]
    refine (concatenate_pair_apply_right 2 _ _ concatenates_S16384x4x1_S16384x4x127_S16384x4x128_d2 (ix3 R h d) rfl rfl (ix3 R h ⟨d.val - 1, by omega⟩) (fun b hb => by
      match b with
      | ⟨0, _⟩ => rfl
      | ⟨1, _⟩ => rfl
      | ⟨2, _⟩ => exact absurd rfl hb) (by show d.val - 1 + 1 = d.val; omega)).trans ?_
    exact (val_main_v87_apply (F := Ideal) _).trans Ideal.ofBits_zero_f32

/-- Two halves joined along the last axis. -/
theorem joined (f g : S16384x4x128.Idx → EReal) (R : Fin 16384) (h : Fin 4) (j : Fin 256) :
    concatenate S16384x4x256 2 [⟨S16384x4x128, f⟩, ⟨S16384x4x128, g⟩] concatenates_S16384x4x128_S16384x4x128_S16384x4x256_d2 (ix3 R h j)
      = both (fun d => f (ix3 R h d)) (fun d => g (ix3 R h d)) j := by
  have hj := j.isLt
  by_cases h0 : j.val < 128
  · rw [both_low _ _ j ⟨j.val, h0⟩ rfl]
    exact concatenate_pair_apply_left 2 _ _ concatenates_S16384x4x128_S16384x4x128_S16384x4x256_d2 (ix3 R h j) rfl (ix3 R h ⟨j.val, h0⟩) (fun b => by
      match b with
      | ⟨0, _⟩ => rfl
      | ⟨1, _⟩ => rfl
      | ⟨2, _⟩ => rfl)
  · rw [both_high _ _ j ⟨j.val - 128, by omega⟩ (by show j.val = 128 + (j.val - 128); omega)]
    exact concatenate_pair_apply_right 2 _ _ concatenates_S16384x4x128_S16384x4x128_S16384x4x256_d2 (ix3 R h j) rfl rfl (ix3 R h ⟨j.val - 128, by omega⟩) (fun b hb => by
      match b with
      | ⟨0, _⟩ => rfl
      | ⟨1, _⟩ => rfl
      | ⟨2, _⟩ => exact absurd rfl hb) (by show j.val - 128 + 128 = j.val; omega)

/-- Both halves times a factor. -/
theorem both_mul (f g : Fin 128 → EReal) (s : EReal) (j : Fin 256) : both f g j * s = both (fun d => f d * s) (fun d => g d * s) j := by
  unfold both
  split <;> rfl

/-- An entry of the queries. -/
theorem result2 (h : Fin 4) (R : Fin 16384) (j : Fin 256) :
    @Eq EReal (val_main_v96 (F := Ideal) X G C T S Q WN WR WS (ix3 h R j))
      (query (crow X G C R) (fun n => Q (ix2 0 n)) (fun k j => WN (ix2 k j)) (fun k j => WR (ix2 k j)) (fun k j => WS (ix2 k j))
        (fun d => T (ix2 R d)) (fun d => S (ix2 0 d)) (fun d => S (ix2 1 d)) h j) := by
  refine ((val_main_v96_apply (F := Ideal) X G C T S Q WN WR WS (ix3 h R j)).trans ((val_main_v95_apply (F := Ideal) X G C T S Q WN WR WS (ix3 h R j)).trans
    (congrArg (val_main_v73 (F := Ideal) X G C T S Q WN WR WS) (same3 _ (ix3 R h j) rfl rfl rfl)))).trans ?_
  refine (val_main_v73_apply (F := Ideal) X G C T S Q WN WR WS (ix3 R h j)).trans ?_
  refine (congrArg₂ (fun a b : EReal => a * b) (joined _ _ R h j) (val_main_v72_apply (F := Ideal) _)).trans ?_
  refine (both_mul _ _ qscale j).trans ?_
  unfold query
  exact congrFun (congrArg₂ both (funext fun d => congrArg (fun a : EReal => a * qscale) (plainQ X G C Q WN R h d)) (funext fun d => congrArg (fun a : EReal => a * qscale) (turnedQ X G C T S Q WR WS R h d))) j

/-- An entry of the keys. -/
theorem result3 (h : Fin 4) (j : Fin 256) (R : Fin 16384) :
    @Eq EReal (val_main_v98 (F := Ideal) X G C T S K WK (ix3 h j R))
      (key (crow X G C R) (fun n => K (ix2 0 n)) (fun j k => WK (ix2 j k)) (fun d => T (ix2 R d)) (fun d => S (ix2 0 d)) (fun d => S (ix2 1 d)) h j) := by
  refine ((val_main_v98_apply (F := Ideal) X G C T S K WK (ix3 h j R)).trans ((val_main_v97_apply (F := Ideal) X G C T S K WK (ix3 h j R)).trans
    (congrArg (val_main_v85 (F := Ideal) X G C T S K WK) (same3 _ (ix3 R h j) rfl rfl rfl)))).trans ?_
  refine (joined _ _ R h j).trans ?_
  unfold key
  exact congrFun (congrArg₂ both (funext fun d => plainK X G C K WK R h d) (funext fun d => turnedK X G C T S R h d)) j

/-- An entry of the values. -/
theorem result4 (h : Fin 4) (R : Fin 16384) (j : Fin 256) :
    @Eq EReal (val_main_v100 (F := Ideal) X G C K WV (ix3 h R j)) (value (crow X G C R) (fun n => K (ix2 0 n)) (fun k j => WV (ix2 k j)) h j) := by
  refine ((val_main_v100_apply (F := Ideal) X G C K WV (ix3 h R j)).trans ((val_main_v99_apply (F := Ideal) X G C K WV (ix3 h R j)).trans
    (congrArg (val_main_v92 (F := Ideal) X G C K WV) (same3 _ (ix3 R h j) rfl rfl rfl)))).trans ?_
  refine (joined _ _ R h j).trans ?_
  unfold value
  exact congrFun (congrArg₂ both (funext fun d => plainV X G C K WV R h d) (funext fun d => unitCol R h d)) j

end Cert.InprojRefIdeal.Val

end
-- ==== Proof.InFinish.lean ====
/- The input projection and its reference end with the same first five results. -/
module

public import proofs.«01_k».proof.Defs
public import proofs.«01_k».proof.Proof.InHeadsArray
public import proofs.«01_k».proof.Proof.InHeadsReference
public import proofs.«01_k».proof.Proof.Gen.InprojRefIdeal.Run
public import Idealize.ShloMosaic.Lib.Claim

@[expose] public section

noncomputable section

namespace Cert.Proof

open Idealize.ShloMosaic Idealize.ShloMosaic.TcCoe Idealize.SL.Sem Idealize.ShloMosaic.ValueIdx

theorem algebraic3 : Cert.algebraic_InprojIdeal_InprojRefIdeal := by
  intro m g m' g' _ hagree
  refine ⟨fun c => Cert.InprojIdeal.Val.R20 m c, fun c => Cert.InprojIdeal.Val.R21 m c, fun c => Cert.InprojIdeal.Val.R22 m c,
    fun c => Cert.InprojIdeal.Val.R23 m c, fun c => Cert.InprojIdeal.Val.R24 m c,
    (θ_run Cert.InprojIdeal.defs _ _).mono (fun r h c => ⟨((h.1 c).1 20).trans (Cert.InprojIdeal.Val.array20 m c),
      ((h.1 c).1 21).trans (Cert.InprojIdeal.Val.array21 m c),
      ((h.1 c).1 22).trans (Cert.InprojIdeal.Val.array22 m c), ((h.1 c).1 23).trans (Cert.InprojIdeal.Val.array23 m c), ((h.1 c).1 24).trans (Cert.InprojIdeal.Val.array24 m c), h.2 c⟩)
      (θ_run_and (Cert.InprojIdeal.Frm.run_main m g) (Cert.InprojIdeal.Frm.unchanged m g)), ?_⟩
  refine (θ_run Cert.InprojRefIdeal.defs _ _).mono (fun _ h c => ⟨(h c).1.trans ?_, (h c).2.1.trans ?_, (h c).2.2.1.trans ?_, (h c).2.2.2.1.trans ?_,
    (h c).2.2.2.2.1.trans ?_, (h c).2.2.2.2.2⟩) (Cert.InprojRefIdeal.Value.run (F := Ideal) m' g')
  · obtain ⟨-, a1, a2, -, a4, -⟩ := hagree c
    rw [Cert.InprojRefIdeal.Read.val_main_v93_eq, a1, a2, a4]
    funext i
    have ei : i = ix2 (i 0) (i 1) := funext fun a => by
      match a with
      | ⟨0, _⟩ => rfl
      | ⟨1, _⟩ => rfl
    rw [ei]
    exact Cert.InprojRefIdeal.Val.result0 _ _ _ (i 0) (i 1)
  · obtain ⟨-, a1, a2, -, -, a5, -⟩ := hagree c
    rw [Cert.InprojRefIdeal.Read.val_main_v94_eq, a1, a2, a5]
    funext i
    have ei : i = ix2 (i 0) (i 1) := funext fun a => by
      match a with
      | ⟨0, _⟩ => rfl
      | ⟨1, _⟩ => rfl
    rw [ei]
    exact Cert.InprojRefIdeal.Val.result1 _ _ _ (i 0) (i 1)
  · obtain ⟨-, a1, a2, -, -, a5, -, -, -, -, a10, a11, a12, -, a14, a15, a16, -⟩ := hagree c
    rw [Cert.InprojRefIdeal.Read.val_main_v96_eq, a1, a2, a5, a10, a11, a12, a14, a15, a16]
    funext i
    have ei : i = ix3 (i 0) (i 1) (i 2) := funext fun a => by
      match a with
      | ⟨0, _⟩ => rfl
      | ⟨1, _⟩ => rfl
      | ⟨2, _⟩ => rfl
    rw [ei]
    exact Cert.InprojRefIdeal.Val.result2 _ _ _ _ _ _ _ _ _ (i 0) (i 1) (i 2)
  · obtain ⟨-, a1, a2, -, -, a5, -, -, -, -, a10, a11, -, a13, -, -, -, a17, -⟩ := hagree c
    rw [Cert.InprojRefIdeal.Read.val_main_v98_eq, a1, a2, a5, a10, a11, a13, a17]
    funext i
    have ei : i = ix3 (i 0) (i 1) (i 2) := funext fun a => by
      match a with
      | ⟨0, _⟩ => rfl
      | ⟨1, _⟩ => rfl
      | ⟨2, _⟩ => rfl
    rw [ei]
    exact Cert.InprojRefIdeal.Val.result3 _ _ _ _ _ _ _ (i 0) (i 1) (i 2)
  · obtain ⟨-, a1, a2, -, -, a5, -, -, -, -, -, -, -, a13, -, -, -, -, a18⟩ := hagree c
    rw [Cert.InprojRefIdeal.Read.val_main_v100_eq, a1, a2, a5, a13, a18]
    funext i
    have ei : i = ix3 (i 0) (i 1) (i 2) := funext fun a => by
      match a with
      | ⟨0, _⟩ => rfl
      | ⟨1, _⟩ => rfl
      | ⟨2, _⟩ => rfl
    rw [ei]
    exact Cert.InprojRefIdeal.Val.result4 _ _ _ _ _ (i 0) (i 1) (i 2)

end Cert.Proof

end
-- ==== Proof.lean ====
/- The certificate: the kernel runs and leaves its arguments alone, so does the reference, the idealized kernel
   differs from the kernel by the named constant only, and over the extended reals kernel and reference give the
   same results whenever the queries and the keys are finite. The same of the output projection, and of the input
   projection's first two results, which need no condition and no rewrite. -/
module

public import proofs.«01_k».proof.Defs
public import proofs.«01_k».proof.Proof.PlainFrame
public import proofs.«01_k».proof.Proof.Finish
public import proofs.«01_k».proof.Proof.MixFinish
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojIdeal.Value
public import proofs.«01_k».proof.Proof.Gen.OutprojRefIdeal
public import proofs.«01_k».proof.Proof.Gen.OutprojRefIdeal.Run
public import proofs.«01_k».proof.Proof.Gen.OutprojRefIdeal.Read
public import proofs.«01_k».proof.Proof.Gen.Inproj
public import proofs.«01_k».proof.Proof.InFrame
public import proofs.«01_k».proof.Proof.Gen.InprojIdeal
public import proofs.«01_k».proof.Proof.InFrameIdeal
public import proofs.«01_k».proof.Proof.InFinish
public import proofs.«01_k».proof.Proof.Gen.InprojRefIdeal
public import proofs.«01_k».proof.Proof.Gen.InprojRefIdeal.Run
public import proofs.«01_k».proof.Proof.Gen.InprojRefIdeal.Read
public import Idealize.ShloMosaic.Adequacy
public import Idealize.ShloMosaic.Init

@[expose] public section

noncomputable section

namespace Cert.Proof

open Idealize.ShloMosaic Idealize.SL.Sem

/-- The reference's frame: it is a straight line of host operations and has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The frame of the output projection's reference. -/
theorem frame_reference2 : Cert.quiescent_OutprojRefIdeal := fun m g _ =>
  (θ_run Cert.OutprojRefIdeal.defs _ _).mono (fun r h => ⟨fun c => (h c).2, sem_eq_zero_of_no_sems (by decide) r.2⟩)
    (Cert.OutprojRefIdeal.Value.run (F := Ideal) m g)

/-- The frame of the input projection's reference. -/
theorem frame_reference3 : Cert.quiescent_InprojRefIdeal := fun m g _ =>
  (θ_run Cert.InprojRefIdeal.defs _ _).mono (fun r h => ⟨fun c => (h c).2.2.2.2.2, sem_eq_zero_of_no_sems (by decide) r.2⟩)
    (Cert.InprojRefIdeal.Value.run (F := Ideal) m g)

theorem claim : Cert.Claim := by
  refine ⟨Cert.Kernel.Gen.facts, Cert.KernelIdeal.Gen.facts, Cert.ReferenceIdeal.Gen.facts, Cert.Outproj.Gen.facts, Cert.OutprojIdeal.Gen.facts,
    Cert.OutprojRefIdeal.Gen.facts, Cert.Inproj.Gen.facts, Cert.InprojIdeal.Gen.facts, Cert.InprojRefIdeal.Gen.facts, finiteFacts,
    ?_, ?_, ?_, ?_, ?_, ?_, ?_, ?_, ?_, ?_, ?_, ?_, ?_, ?_, ?_, ?_, ?_⟩
  · exact fun m g _ => Cert.Kernel.Val.frame m g
  · exact fun m g _ => Cert.KernelIdeal.Val.frame m g
  · exact fun m g _ => Cert.KernelIdeal.Val.frame m g
  · exact frame_reference
  · exact fun m g _ => frame_reference m g trivial
  · exact fun m g _ => Cert.Outproj.Gen.frame m g
  · exact fun m g _ => Cert.OutprojIdeal.Gen.frame m g
  · exact frame_reference2
  · exact fun m g _ => Cert.Inproj.Frm.frame m g
  · exact fun m g _ => Cert.InprojIdeal.Frm.frame m g
  · exact frame_reference3
  · exact IdealRules.named_const.statement Cert.KernelIdeal.κ "mask" .f32 0xF149F2CA#32 ⊥ rfl
  · exact algebraic
  · exact trivial
  · exact algebraic2
  · exact trivial
  · exact algebraic3

end Cert.Proof

end
